-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbRefIdeal (m : (ℓ : Loc Cert.ProjAbRefIdeal.nD Cert.ProjAbRefIdeal.τ Cert.ProjAbRefIdeal.sig) → Buf (Elt Ideal) ℓ) : Prop :=
  True

def Pre_ProjCd (m : (ℓ : Loc Cert.ProjCd.nD Cert.ProjCd.τ Cert.ProjCd.sig) → Buf (Elt Bits) ℓ) : Prop :=
  True

def Pre_ProjCdIdeal (m : (ℓ : Loc Cert.ProjCdIdeal.nD Cert.ProjCdIdeal.τ Cert.ProjCdIdeal.sig) → Buf (Elt Ideal) ℓ) : Prop :=
  True

def Pre_ProjCdRefIdeal (m : (ℓ : Loc Cert.ProjCdRefIdeal.nD Cert.ProjCdRefIdeal.τ Cert.ProjCdRefIdeal.sig) → Buf (Elt Ideal) ℓ) : Prop :=
  True

def Pre_FfnUpS (m : (ℓ : Loc Cert.FfnUpS.nD Cert.FfnUpS.τ Cert.FfnUpS.sig) → Buf (Elt Bits) ℓ) : Prop :=
  True

def Pre_FfnUpSIdeal (m : (ℓ : Loc Cert.FfnUpSIdeal.nD Cert.FfnUpSIdeal.τ Cert.FfnUpSIdeal.sig) → Buf (Elt Ideal) ℓ) : Prop :=
  True

def Pre_FfnUpSRefIdeal (m : (ℓ : Loc Cert.FfnUpSRefIdeal.nD Cert.FfnUpSRefIdeal.τ Cert.FfnUpSRefIdeal.sig) → Buf (Elt Ideal) ℓ) : Prop :=
  True

def Pre_FfnDownS (m : (ℓ : Loc Cert.FfnDownS.nD Cert.FfnDownS.τ Cert.FfnDownS.sig) → Buf (Elt Bits) ℓ) : Prop :=
  True

def Pre_FfnDownSIdeal (m : (ℓ : Loc Cert.FfnDownSIdeal.nD Cert.FfnDownSIdeal.τ Cert.FfnDownSIdeal.sig) → Buf (Elt Ideal) ℓ) : Prop :=
  True

def Pre_FfnDownSRefIdeal (m : (ℓ : Loc Cert.FfnDownSRefIdeal.nD Cert.FfnDownSRefIdeal.τ Cert.FfnDownSRefIdeal.sig) → Buf (Elt Ideal) ℓ) : Prop :=
  True

def Pre_ProjAbS (m : (ℓ : Loc Cert.ProjAbS.nD Cert.ProjAbS.τ Cert.ProjAbS.sig) → Buf (Elt Bits) ℓ) : Prop :=
  True

def Pre_ProjAbSIdeal (m : (ℓ : Loc Cert.ProjAbSIdeal.nD Cert.ProjAbSIdeal.τ Cert.ProjAbSIdeal.sig) → Buf (Elt Ideal) ℓ) : Prop :=
  True

def Pre_ProjAbSRefIdeal (m : (ℓ : Loc Cert.ProjAbSRefIdeal.nD Cert.ProjAbSRefIdeal.τ Cert.ProjAbSRefIdeal.sig) → Buf (Elt Ideal) ℓ) : Prop :=
  True

def Pre_RglruS (m : (ℓ : Loc Cert.RglruS.nD Cert.RglruS.τ Cert.RglruS.sig) → Buf (Elt Bits) ℓ) : Prop :=
  True

def Pre_RglruSIdeal (m : (ℓ : Loc Cert.RglruSIdeal.nD Cert.RglruSIdeal.τ Cert.RglruSIdeal.sig) → Buf (Elt Ideal) ℓ) : Prop :=
  True

def Pre_RglruSRefIdeal (m : (ℓ : Loc Cert.RglruSRefIdeal.nD Cert.RglruSRefIdeal.τ Cert.RglruSRefIdeal.sig) → Buf (Elt Ideal) ℓ) : Prop :=
  True

def Pre_S5S (m : (ℓ : Loc Cert.S5S.nD Cert.S5S.τ Cert.S5S.sig) → Buf (Elt Bits) ℓ) : Prop :=
  True

def Pre_S5SIdeal (m : (ℓ : Loc Cert.S5SIdeal.nD Cert.S5SIdeal.τ Cert.S5SIdeal.sig) → Buf (Elt Ideal) ℓ) : Prop :=
  True

def Pre_S5SRefIdeal (m : (ℓ : Loc Cert.S5SRefIdeal.nD Cert.S5SRefIdeal.τ Cert.S5SRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3)
      ∧ r.2.mem ((c.tc : Thread Cert.FfnUp.nD Cert.FfnUp.τ).loc Cert.FfnUp.main_arg4) = m ((c.tc : Thread Cert.FfnUp.nD Cert.FfnUp.τ).loc Cert.FfnUp.main_arg4)
      ∧ r.2.mem ((c.tc : Thread Cert.FfnUp.nD Cert.FfnUp.τ).loc Cert.FfnUp.main_arg5) = m ((c.tc : Thread Cert.FfnUp.nD Cert.FfnUp.τ).loc Cert.FfnUp.main_arg5)
      ∧ r.2.mem ((c.tc : Thread Cert.FfnUp.nD Cert.FfnUp.τ).loc Cert.FfnUp.main_arg6) = m ((c.tc : Thread Cert.FfnUp.nD Cert.FfnUp.τ).loc Cert.FfnUp.main_arg6))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
      ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
      ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
      ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4)
      ∧ r.2.mem ((c.tc : Thread Cert.FfnDown.nD Cert.FfnDown.τ).loc Cert.FfnDown.main_arg5) = m ((c.tc : Thread Cert.FfnDown.nD Cert.FfnDown.τ).loc Cert.FfnDown.main_arg5))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
      ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1)
      ∧ r.2.mem ((c.tc : Thread Cert.ProjAb.nD Cert.ProjAb.τ).loc Cert.ProjAb.main_arg2) = m ((c.tc : Thread Cert.ProjAb.nD Cert.ProjAb.τ).loc Cert.ProjAb.main_arg2)
      ∧ r.2.mem ((c.tc : Thread Cert.ProjAb.nD Cert.ProjAb.τ).loc Cert.ProjAb.main_arg3) = m ((c.tc : Thread Cert.ProjAb.nD Cert.ProjAb.τ).loc Cert.ProjAb.main_arg3))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1)
      ∧ r.2.mem ((c.tc : Thread Cert.ProjAbIdeal.nD Cert.ProjAbIdeal.τ).loc Cert.ProjAbIdeal.main_arg2) = m ((c.tc : Thread Cert.ProjAbIdeal.nD Cert.ProjAbIdeal.τ).loc Cert.ProjAbIdeal.main_arg2)
      ∧ r.2.mem ((c.tc : Thread Cert.ProjAbIdeal.nD Cert.ProjAbIdeal.τ).loc Cert.ProjAbIdeal.main_arg3) = m ((c.tc : Thread Cert.ProjAbIdeal.nD Cert.ProjAbIdeal.τ).loc Cert.ProjAbIdeal.main_arg3))
      ∧ r.2.sem = fun _ => 0)

def quiescent_ProjAbRefIdeal [hProjAbRefIdeal : Cert.ProjAbRefIdeal.Facts] : Prop :=
  ∀ (m : (ℓ : Loc Cert.ProjAbRefIdeal.nD Cert.ProjAbRefIdeal.τ Cert.ProjAbRefIdeal.sig) → Buf (Elt Ideal) ℓ) (g : Dev Cert.ProjAbRefIdeal.nD → PrngReg), Pre_ProjAbRefIdeal m →
    θ_run (Cert.ProjAbRefIdeal.defs (F := Ideal)) (onTc (τ := Cert.ProjAbRefIdeal.τ) (Cert.ProjAbRefIdeal.main (F := Ideal))) ⟨m, fun _ => 0, g⟩ (fun r => (∀ c : Dev Cert.ProjAbRefIdeal.nD,
      r.2.mem ((c.tc : Thread Cert.ProjAbRefIdeal.nD Cert.ProjAbRefIdeal.τ).loc Cert.ProjAbRefIdeal.main_arg0) = m ((c.tc : Thread Cert.ProjAbRefIdeal.nD Cert.ProjAbRefIdeal.τ).loc Cert.ProjAbRefIdeal.main_arg0)
      ∧ r.2.mem ((c.tc : Thread Cert.ProjAbRefIdeal.nD Cert.ProjAbRefIdeal.τ).loc Cert.ProjAbRefIdeal.main_arg1) = m ((c.tc : Thread Cert.ProjAbRefIdeal.nD Cert.ProjAbRefIdeal.τ).loc Cert.ProjAbRefIdeal.main_arg1)
      ∧ r.2.mem ((c.tc : Thread Cert.ProjAbRefIdeal.nD Cert.ProjAbRefIdeal.τ).loc Cert.ProjAbRefIdeal.main_arg2) = m ((c.tc : Thread Cert.ProjAbRefIdeal.nD Cert.ProjAbRefIdeal.τ).loc Cert.ProjAbRefIdeal.main_arg2)
      ∧ r.2.mem ((c.tc : Thread Cert.ProjAbRefIdeal.nD Cert.ProjAbRefIdeal.τ).loc Cert.ProjAbRefIdeal.main_arg3) = m ((c.tc : Thread Cert.ProjAbRefIdeal.nD Cert.ProjAbRefIdeal.τ).loc Cert.ProjAbRefIdeal.main_arg3))
      ∧ r.2.sem = fun _ => 0)

def quiescent_ProjCd [hProjCd : Cert.ProjCd.Facts] : Prop :=
  ∀ (m : (ℓ : Loc Cert.ProjCd.nD Cert.ProjCd.τ Cert.ProjCd.sig) → Buf (Elt Bits) ℓ) (g : Dev Cert.ProjCd.nD → PrngReg), Pre_ProjCd m →
    θ_run (Cert.ProjCd.defs (F := Bits)) (onTc (τ := Cert.ProjCd.τ) (Cert.ProjCd.main (F := Bits))) ⟨m, fun _ => 0, g⟩ (fun r => (∀ c : Dev Cert.ProjCd.nD,
      r.2.mem ((c.tc : Thread Cert.ProjCd.nD Cert.ProjCd.τ).loc Cert.ProjCd.main_arg0) = m ((c.tc : Thread Cert.ProjCd.nD Cert.ProjCd.τ).loc Cert.ProjCd.main_arg0)
      ∧ r.2.mem ((c.tc : Thread Cert.ProjCd.nD Cert.ProjCd.τ).loc Cert.ProjCd.main_arg1) = m ((c.tc : Thread Cert.ProjCd.nD Cert.ProjCd.τ).loc Cert.ProjCd.main_arg1)
      ∧ r.2.mem ((c.tc : Thread Cert.ProjCd.nD Cert.ProjCd.τ).loc Cert.ProjCd.main_arg2) = m ((c.tc : Thread Cert.ProjCd.nD Cert.ProjCd.τ).loc Cert.ProjCd.main_arg2)
      ∧ r.2.mem ((c.tc : Thread Cert.ProjCd.nD Cert.ProjCd.τ).loc Cert.ProjCd.main_arg3) = m ((c.tc : Thread Cert.ProjCd.nD Cert.ProjCd.τ).loc Cert.ProjCd.main_arg3))
      ∧ r.2.sem = fun _ => 0)

def quiescent_ProjCdIdeal [hProjCdIdeal : Cert.ProjCdIdeal.Facts] : Prop :=
  ∀ (m : (ℓ : Loc Cert.ProjCdIdeal.nD Cert.ProjCdIdeal.τ Cert.ProjCdIdeal.sig) → Buf (Elt Ideal) ℓ) (g : Dev Cert.ProjCdIdeal.nD → PrngReg), Pre_ProjCdIdeal m →
    θ_run (Cert.ProjCdIdeal.defs (F := Ideal)) (onTc (τ := Cert.ProjCdIdeal.τ) (Cert.ProjCdIdeal.main (F := Ideal))) ⟨m, fun _ => 0, g⟩ (fun r => (∀ c : Dev Cert.ProjCdIdeal.nD,
      r.2.mem ((c.tc : Thread Cert.ProjCdIdeal.nD Cert.ProjCdIdeal.τ).loc Cert.ProjCdIdeal.main_arg0) = m ((c.tc : Thread Cert.ProjCdIdeal.nD Cert.ProjCdIdeal.τ).loc Cert.ProjCdIdeal.main_arg0)
      ∧ r.2.mem ((c.tc : Thread Cert.ProjCdIdeal.nD Cert.ProjCdIdeal.τ).loc Cert.ProjCdIdeal.main_arg1) = m ((c.tc : Thread Cert.ProjCdIdeal.nD Cert.ProjCdIdeal.τ).loc Cert.ProjCdIdeal.main_arg1)
      ∧ r.2.mem ((c.tc : Thread Cert.ProjCdIdeal.nD Cert.ProjCdIdeal.τ).loc Cert.ProjCdIdeal.main_arg2) = m ((c.tc : Thread Cert.ProjCdIdeal.nD Cert.ProjCdIdeal.τ).loc Cert.ProjCdIdeal.main_arg2)
      ∧ r.2.mem ((c.tc : Thread Cert.ProjCdIdeal.nD Cert.ProjCdIdeal.τ).loc Cert.ProjCdIdeal.main_arg3) = m ((c.tc : Thread Cert.ProjCdIdeal.nD Cert.ProjCdIdeal.τ).loc Cert.ProjCdIdeal.main_arg3))
      ∧ r.2.sem = fun _ => 0)

def quiescent_ProjCdRefIdeal [hProjCdRefIdeal : Cert.ProjCdRefIdeal.Facts] : Prop :=
  ∀ (m : (ℓ : Loc Cert.ProjCdRefIdeal.nD Cert.ProjCdRefIdeal.τ Cert.ProjCdRefIdeal.sig) → Buf (Elt Ideal) ℓ) (g : Dev Cert.ProjCdRefIdeal.nD → PrngReg), Pre_ProjCdRefIdeal m →
    θ_run (Cert.ProjCdRefIdeal.defs (F := Ideal)) (onTc (τ := Cert.ProjCdRefIdeal.τ) (Cert.ProjCdRefIdeal.main (F := Ideal))) ⟨m, fun _ => 0, g⟩ (fun r => (∀ c : Dev Cert.ProjCdRefIdeal.nD,
      r.2.mem ((c.tc : Thread Cert.ProjCdRefIdeal.nD Cert.ProjCdRefIdeal.τ).loc Cert.ProjCdRefIdeal.main_arg0) = m ((c.tc : Thread Cert.ProjCdRefIdeal.nD Cert.ProjCdRefIdeal.τ).loc Cert.ProjCdRefIdeal.main_arg0)
      ∧ r.2.mem ((c.tc : Thread Cert.ProjCdRefIdeal.nD Cert.ProjCdRefIdeal.τ).loc Cert.ProjCdRefIdeal.main_arg1) = m ((c.tc : Thread Cert.ProjCdRefIdeal.nD Cert.ProjCdRefIdeal.τ).loc Cert.ProjCdRefIdeal.main_arg1)
      ∧ r.2.mem ((c.tc : Thread Cert.ProjCdRefIdeal.nD Cert.ProjCdRefIdeal.τ).loc Cert.ProjCdRefIdeal.main_arg2) = m ((c.tc : Thread Cert.ProjCdRefIdeal.nD Cert.ProjCdRefIdeal.τ).loc Cert.ProjCdRefIdeal.main_arg2)
      ∧ r.2.mem ((c.tc : Thread Cert.ProjCdRefIdeal.nD Cert.ProjCdRefIdeal.τ).loc Cert.ProjCdRefIdeal.main_arg3) = m ((c.tc : Thread Cert.ProjCdRefIdeal.nD Cert.ProjCdRefIdeal.τ).loc Cert.ProjCdRefIdeal.main_arg3))
      ∧ r.2.sem = fun _ => 0)

def quiescent_FfnUpS [hFfnUpS : Cert.FfnUpS.Facts] : Prop :=
  ∀ (m : (ℓ : Loc Cert.FfnUpS.nD Cert.FfnUpS.τ Cert.FfnUpS.sig) → Buf (Elt Bits) ℓ) (g : Dev Cert.FfnUpS.nD → PrngReg), Pre_FfnUpS m →
    θ_run (Cert.FfnUpS.defs (F := Bits)) (onTc (τ := Cert.FfnUpS.τ) (Cert.FfnUpS.main (F := Bits))) ⟨m, fun _ => 0, g⟩ (fun r => (∀ c : Dev Cert.FfnUpS.nD,
      r.2.mem ((c.tc : Thread Cert.FfnUpS.nD Cert.FfnUpS.τ).loc Cert.FfnUpS.main_arg0) = m ((c.tc : Thread Cert.FfnUpS.nD Cert.FfnUpS.τ).loc Cert.FfnUpS.main_arg0)
      ∧ r.2.mem ((c.tc : Thread Cert.FfnUpS.nD Cert.FfnUpS.τ).loc Cert.FfnUpS.main_arg1) = m ((c.tc : Thread Cert.FfnUpS.nD Cert.FfnUpS.τ).loc Cert.FfnUpS.main_arg1)
      ∧ r.2.mem ((c.tc : Thread Cert.FfnUpS.nD Cert.FfnUpS.τ).loc Cert.FfnUpS.main_arg2) = m ((c.tc : Thread Cert.FfnUpS.nD Cert.FfnUpS.τ).loc Cert.FfnUpS.main_arg2)
      ∧ r.2.mem ((c.tc : Thread Cert.FfnUpS.nD Cert.FfnUpS.τ).loc Cert.FfnUpS.main_arg3) = m ((c.tc : Thread Cert.FfnUpS.nD Cert.FfnUpS.τ).loc Cert.FfnUpS.main_arg3)
      ∧ r.2.mem ((c.tc : Thread Cert.FfnUpS.nD Cert.FfnUpS.τ).loc Cert.FfnUpS.main_arg4) = m ((c.tc : Thread Cert.FfnUpS.nD Cert.FfnUpS.τ).loc Cert.FfnUpS.main_arg4)
      ∧ r.2.mem ((c.tc : Thread Cert.FfnUpS.nD Cert.FfnUpS.τ).loc Cert.FfnUpS.main_arg5) = m ((c.tc : Thread Cert.FfnUpS.nD Cert.FfnUpS.τ).loc Cert.FfnUpS.main_arg5)
      ∧ r.2.mem ((c.tc : Thread Cert.FfnUpS.nD Cert.FfnUpS.τ).loc Cert.FfnUpS.main_arg6) = m ((c.tc : Thread Cert.FfnUpS.nD Cert.FfnUpS.τ).loc Cert.FfnUpS.main_arg6))
      ∧ r.2.sem = fun _ => 0)

def quiescent_FfnUpSIdeal [hFfnUpSIdeal : Cert.FfnUpSIdeal.Facts] : Prop :=
  ∀ (m : (ℓ : Loc Cert.FfnUpSIdeal.nD Cert.FfnUpSIdeal.τ Cert.FfnUpSIdeal.sig) → Buf (Elt Ideal) ℓ) (g : Dev Cert.FfnUpSIdeal.nD → PrngReg), Pre_FfnUpSIdeal m →
    θ_run (Cert.FfnUpSIdeal.defs (F := Ideal)) (onTc (τ := Cert.FfnUpSIdeal.τ) (Cert.FfnUpSIdeal.main (F := Ideal))) ⟨m, fun _ => 0, g⟩ (fun r => (∀ c : Dev Cert.FfnUpSIdeal.nD,
      r.2.mem ((c.tc : Thread Cert.FfnUpSIdeal.nD Cert.FfnUpSIdeal.τ).loc Cert.FfnUpSIdeal.main_arg0) = m ((c.tc : Thread Cert.FfnUpSIdeal.nD Cert.FfnUpSIdeal.τ).loc Cert.FfnUpSIdeal.main_arg0)
      ∧ r.2.mem ((c.tc : Thread Cert.FfnUpSIdeal.nD Cert.FfnUpSIdeal.τ).loc Cert.FfnUpSIdeal.main_arg1) = m ((c.tc : Thread Cert.FfnUpSIdeal.nD Cert.FfnUpSIdeal.τ).loc Cert.FfnUpSIdeal.main_arg1)
      ∧ r.2.mem ((c.tc : Thread Cert.FfnUpSIdeal.nD Cert.FfnUpSIdeal.τ).loc Cert.FfnUpSIdeal.main_arg2) = m ((c.tc : Thread Cert.FfnUpSIdeal.nD Cert.FfnUpSIdeal.τ).loc Cert.FfnUpSIdeal.main_arg2)
      ∧ r.2.mem ((c.tc : Thread Cert.FfnUpSIdeal.nD Cert.FfnUpSIdeal.τ).loc Cert.FfnUpSIdeal.main_arg3) = m ((c.tc : Thread Cert.FfnUpSIdeal.nD Cert.FfnUpSIdeal.τ).loc Cert.FfnUpSIdeal.main_arg3)
      ∧ r.2.mem ((c.tc : Thread Cert.FfnUpSIdeal.nD Cert.FfnUpSIdeal.τ).loc Cert.FfnUpSIdeal.main_arg4) = m ((c.tc : Thread Cert.FfnUpSIdeal.nD Cert.FfnUpSIdeal.τ).loc Cert.FfnUpSIdeal.main_arg4)
      ∧ r.2.mem ((c.tc : Thread Cert.FfnUpSIdeal.nD Cert.FfnUpSIdeal.τ).loc Cert.FfnUpSIdeal.main_arg5) = m ((c.tc : Thread Cert.FfnUpSIdeal.nD Cert.FfnUpSIdeal.τ).loc Cert.FfnUpSIdeal.main_arg5)
      ∧ r.2.mem ((c.tc : Thread Cert.FfnUpSIdeal.nD Cert.FfnUpSIdeal.τ).loc Cert.FfnUpSIdeal.main_arg6) = m ((c.tc : Thread Cert.FfnUpSIdeal.nD Cert.FfnUpSIdeal.τ).loc Cert.FfnUpSIdeal.main_arg6))
      ∧ r.2.sem = fun _ => 0)

def quiescent_FfnUpSRefIdeal [hFfnUpSRefIdeal : Cert.FfnUpSRefIdeal.Facts] : Prop :=
  ∀ (m : (ℓ : Loc Cert.FfnUpSRefIdeal.nD Cert.FfnUpSRefIdeal.τ Cert.FfnUpSRefIdeal.sig) → Buf (Elt Ideal) ℓ) (g : Dev Cert.FfnUpSRefIdeal.nD → PrngReg), Pre_FfnUpSRefIdeal m →
    θ_run (Cert.FfnUpSRefIdeal.defs (F := Ideal)) (onTc (τ := Cert.FfnUpSRefIdeal.τ) (Cert.FfnUpSRefIdeal.main (F := Ideal))) ⟨m, fun _ => 0, g⟩ (fun r => (∀ c : Dev Cert.FfnUpSRefIdeal.nD,
      r.2.mem ((c.tc : Thread Cert.FfnUpSRefIdeal.nD Cert.FfnUpSRefIdeal.τ).loc Cert.FfnUpSRefIdeal.main_arg0) = m ((c.tc : Thread Cert.FfnUpSRefIdeal.nD Cert.FfnUpSRefIdeal.τ).loc Cert.FfnUpSRefIdeal.main_arg0)
      ∧ r.2.mem ((c.tc : Thread Cert.FfnUpSRefIdeal.nD Cert.FfnUpSRefIdeal.τ).loc Cert.FfnUpSRefIdeal.main_arg1) = m ((c.tc : Thread Cert.FfnUpSRefIdeal.nD Cert.FfnUpSRefIdeal.τ).loc Cert.FfnUpSRefIdeal.main_arg1)
      ∧ r.2.mem ((c.tc : Thread Cert.FfnUpSRefIdeal.nD Cert.FfnUpSRefIdeal.τ).loc Cert.FfnUpSRefIdeal.main_arg2) = m ((c.tc : Thread Cert.FfnUpSRefIdeal.nD Cert.FfnUpSRefIdeal.τ).loc Cert.FfnUpSRefIdeal.main_arg2)
      ∧ r.2.mem ((c.tc : Thread Cert.FfnUpSRefIdeal.nD Cert.FfnUpSRefIdeal.τ).loc Cert.FfnUpSRefIdeal.main_arg3) = m ((c.tc : Thread Cert.FfnUpSRefIdeal.nD Cert.FfnUpSRefIdeal.τ).loc Cert.FfnUpSRefIdeal.main_arg3)
      ∧ r.2.mem ((c.tc : Thread Cert.FfnUpSRefIdeal.nD Cert.FfnUpSRefIdeal.τ).loc Cert.FfnUpSRefIdeal.main_arg4) = m ((c.tc : Thread Cert.FfnUpSRefIdeal.nD Cert.FfnUpSRefIdeal.τ).loc Cert.FfnUpSRefIdeal.main_arg4)
      ∧ r.2.mem ((c.tc : Thread Cert.FfnUpSRefIdeal.nD Cert.FfnUpSRefIdeal.τ).loc Cert.FfnUpSRefIdeal.main_arg5) = m ((c.tc : Thread Cert.FfnUpSRefIdeal.nD Cert.FfnUpSRefIdeal.τ).loc Cert.FfnUpSRefIdeal.main_arg5)
      ∧ r.2.mem ((c.tc : Thread Cert.FfnUpSRefIdeal.nD Cert.FfnUpSRefIdeal.τ).loc Cert.FfnUpSRefIdeal.main_arg6) = m ((c.tc : Thread Cert.FfnUpSRefIdeal.nD Cert.FfnUpSRefIdeal.τ).loc Cert.FfnUpSRefIdeal.main_arg6))
      ∧ r.2.sem = fun _ => 0)

def quiescent_FfnDownS [hFfnDownS : Cert.FfnDownS.Facts] : Prop :=
  ∀ (m : (ℓ : Loc Cert.FfnDownS.nD Cert.FfnDownS.τ Cert.FfnDownS.sig) → Buf (Elt Bits) ℓ) (g : Dev Cert.FfnDownS.nD → PrngReg), Pre_FfnDownS m →
    θ_run (Cert.FfnDownS.defs (F := Bits)) (onTc (τ := Cert.FfnDownS.τ) (Cert.FfnDownS.main (F := Bits))) ⟨m, fun _ => 0, g⟩ (fun r => (∀ c : Dev Cert.FfnDownS.nD,
      r.2.mem ((c.tc : Thread Cert.FfnDownS.nD Cert.FfnDownS.τ).loc Cert.FfnDownS.main_arg0) = m ((c.tc : Thread Cert.FfnDownS.nD Cert.FfnDownS.τ).loc Cert.FfnDownS.main_arg0)
      ∧ r.2.mem ((c.tc : Thread Cert.FfnDownS.nD Cert.FfnDownS.τ).loc Cert.FfnDownS.main_arg1) = m ((c.tc : Thread Cert.FfnDownS.nD Cert.FfnDownS.τ).loc Cert.FfnDownS.main_arg1)
      ∧ r.2.mem ((c.tc : Thread Cert.FfnDownS.nD Cert.FfnDownS.τ).loc Cert.FfnDownS.main_arg2) = m ((c.tc : Thread Cert.FfnDownS.nD Cert.FfnDownS.τ).loc Cert.FfnDownS.main_arg2)
      ∧ r.2.mem ((c.tc : Thread Cert.FfnDownS.nD Cert.FfnDownS.τ).loc Cert.FfnDownS.main_arg3) = m ((c.tc : Thread Cert.FfnDownS.nD Cert.FfnDownS.τ).loc Cert.FfnDownS.main_arg3)
      ∧ r.2.mem ((c.tc : Thread Cert.FfnDownS.nD Cert.FfnDownS.τ).loc Cert.FfnDownS.main_arg4) = m ((c.tc : Thread Cert.FfnDownS.nD Cert.FfnDownS.τ).loc Cert.FfnDownS.main_arg4)
      ∧ r.2.mem ((c.tc : Thread Cert.FfnDownS.nD Cert.FfnDownS.τ).loc Cert.FfnDownS.main_arg5) = m ((c.tc : Thread Cert.FfnDownS.nD Cert.FfnDownS.τ).loc Cert.FfnDownS.main_arg5))
      ∧ r.2.sem = fun _ => 0)

def quiescent_FfnDownSIdeal [hFfnDownSIdeal : Cert.FfnDownSIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg), Pre_FfnDownSIdeal m →
    θ_run (Cert.FfnDownSIdeal.defs (F := Ideal)) (onTc (τ := Cert.FfnDownSIdeal.τ) (Cert.FfnDownSIdeal.main (F := Ideal))) ⟨m, fun _ => 0, g⟩ (fun r => (∀ c : Dev Cert.FfnDownSIdeal.nD,
      r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
      ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
      ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2)
      ∧ r.2.mem ((c.tc : Thread Cert.FfnDownSIdeal.nD Cert.FfnDownSIdeal.τ).loc Cert.FfnDownSIdeal.main_arg3) = m ((c.tc : Thread Cert.FfnDownSIdeal.nD Cert.FfnDownSIdeal.τ).loc Cert.FfnDownSIdeal.main_arg3)
      ∧ r.2.mem ((c.tc : Thread Cert.FfnDownSIdeal.nD Cert.FfnDownSIdeal.τ).loc Cert.FfnDownSIdeal.main_arg4) = m ((c.tc : Thread Cert.FfnDownSIdeal.nD Cert.FfnDownSIdeal.τ).loc Cert.FfnDownSIdeal.main_arg4)
      ∧ r.2.mem ((c.tc : Thread Cert.FfnDownSIdeal.nD Cert.FfnDownSIdeal.τ).loc Cert.FfnDownSIdeal.main_arg5) = m ((c.tc : Thread Cert.FfnDownSIdeal.nD Cert.FfnDownSIdeal.τ).loc Cert.FfnDownSIdeal.main_arg5))
      ∧ r.2.sem = fun _ => 0)

def quiescent_FfnDownSRefIdeal [hFfnDownSRefIdeal : Cert.FfnDownSRefIdeal.Facts] : Prop :=
  ∀ (m : (ℓ : Loc Cert.FfnDownSRefIdeal.nD Cert.FfnDownSRefIdeal.τ Cert.FfnDownSRefIdeal.sig) → Buf (Elt Ideal) ℓ) (g : Dev Cert.FfnDownSRefIdeal.nD → PrngReg), Pre_FfnDownSRefIdeal m →
    θ_run (Cert.FfnDownSRefIdeal.defs (F := Ideal)) (onTc (τ := Cert.FfnDownSRefIdeal.τ) (Cert.FfnDownSRefIdeal.main (F := Ideal))) ⟨m, fun _ => 0, g⟩ (fun r => (∀ c : Dev Cert.FfnDownSRefIdeal.nD,
      r.2.mem ((c.tc : Thread Cert.FfnDownSRefIdeal.nD Cert.FfnDownSRefIdeal.τ).loc Cert.FfnDownSRefIdeal.main_arg0) = m ((c.tc : Thread Cert.FfnDownSRefIdeal.nD Cert.FfnDownSRefIdeal.τ).loc Cert.FfnDownSRefIdeal.main_arg0)
      ∧ r.2.mem ((c.tc : Thread Cert.FfnDownSRefIdeal.nD Cert.FfnDownSRefIdeal.τ).loc Cert.FfnDownSRefIdeal.main_arg1) = m ((c.tc : Thread Cert.FfnDownSRefIdeal.nD Cert.FfnDownSRefIdeal.τ).loc Cert.FfnDownSRefIdeal.main_arg1)
      ∧ r.2.mem ((c.tc : Thread Cert.FfnDownSRefIdeal.nD Cert.FfnDownSRefIdeal.τ).loc Cert.FfnDownSRefIdeal.main_arg2) = m ((c.tc : Thread Cert.FfnDownSRefIdeal.nD Cert.FfnDownSRefIdeal.τ).loc Cert.FfnDownSRefIdeal.main_arg2)
      ∧ r.2.mem ((c.tc : Thread Cert.FfnDownSRefIdeal.nD Cert.FfnDownSRefIdeal.τ).loc Cert.FfnDownSRefIdeal.main_arg3) = m ((c.tc : Thread Cert.FfnDownSRefIdeal.nD Cert.FfnDownSRefIdeal.τ).loc Cert.FfnDownSRefIdeal.main_arg3)
      ∧ r.2.mem ((c.tc : Thread Cert.FfnDownSRefIdeal.nD Cert.FfnDownSRefIdeal.τ).loc Cert.FfnDownSRefIdeal.main_arg4) = m ((c.tc : Thread Cert.FfnDownSRefIdeal.nD Cert.FfnDownSRefIdeal.τ).loc Cert.FfnDownSRefIdeal.main_arg4)
      ∧ r.2.mem ((c.tc : Thread Cert.FfnDownSRefIdeal.nD Cert.FfnDownSRefIdeal.τ).loc Cert.FfnDownSRefIdeal.main_arg5) = m ((c.tc : Thread Cert.FfnDownSRefIdeal.nD Cert.FfnDownSRefIdeal.τ).loc Cert.FfnDownSRefIdeal.main_arg5))
      ∧ r.2.sem = fun _ => 0)

def quiescent_ProjAbS [hProjAbS : Cert.ProjAbS.Facts] : Prop :=
  ∀ (m : (ℓ : Loc Cert.ProjAbS.nD Cert.ProjAbS.τ Cert.ProjAbS.sig) → Buf (Elt Bits) ℓ) (g : Dev Cert.ProjAbS.nD → PrngReg), Pre_ProjAbS m →
    θ_run (Cert.ProjAbS.defs (F := Bits)) (onTc (τ := Cert.ProjAbS.τ) (Cert.ProjAbS.main (F := Bits))) ⟨m, fun _ => 0, g⟩ (fun r => (∀ c : Dev Cert.ProjAbS.nD,
      r.2.mem ((c.tc : Thread Cert.ProjAbS.nD Cert.ProjAbS.τ).loc Cert.ProjAbS.main_arg0) = m ((c.tc : Thread Cert.ProjAbS.nD Cert.ProjAbS.τ).loc Cert.ProjAbS.main_arg0)
      ∧ r.2.mem ((c.tc : Thread Cert.ProjAbS.nD Cert.ProjAbS.τ).loc Cert.ProjAbS.main_arg1) = m ((c.tc : Thread Cert.ProjAbS.nD Cert.ProjAbS.τ).loc Cert.ProjAbS.main_arg1)
      ∧ r.2.mem ((c.tc : Thread Cert.ProjAbS.nD Cert.ProjAbS.τ).loc Cert.ProjAbS.main_arg2) = m ((c.tc : Thread Cert.ProjAbS.nD Cert.ProjAbS.τ).loc Cert.ProjAbS.main_arg2)
      ∧ r.2.mem ((c.tc : Thread Cert.ProjAbS.nD Cert.ProjAbS.τ).loc Cert.ProjAbS.main_arg3) = m ((c.tc : Thread Cert.ProjAbS.nD Cert.ProjAbS.τ).loc Cert.ProjAbS.main_arg3))
      ∧ r.2.sem = fun _ => 0)

def quiescent_ProjAbSIdeal [hProjAbSIdeal : Cert.ProjAbSIdeal.Facts] : Prop :=
  ∀ (m : (ℓ : Loc Cert.ProjAbSIdeal.nD Cert.ProjAbSIdeal.τ Cert.ProjAbSIdeal.sig) → Buf (Elt Ideal) ℓ) (g : Dev Cert.ProjAbSIdeal.nD → PrngReg), Pre_ProjAbSIdeal m →
    θ_run (Cert.ProjAbSIdeal.defs (F := Ideal)) (onTc (τ := Cert.ProjAbSIdeal.τ) (Cert.ProjAbSIdeal.main (F := Ideal))) ⟨m, fun _ => 0, g⟩ (fun r => (∀ c : Dev Cert.ProjAbSIdeal.nD,
      r.2.mem ((c.tc : Thread Cert.ProjAbSIdeal.nD Cert.ProjAbSIdeal.τ).loc Cert.ProjAbSIdeal.main_arg0) = m ((c.tc : Thread Cert.ProjAbSIdeal.nD Cert.ProjAbSIdeal.τ).loc Cert.ProjAbSIdeal.main_arg0)
      ∧ r.2.mem ((c.tc : Thread Cert.ProjAbSIdeal.nD Cert.ProjAbSIdeal.τ).loc Cert.ProjAbSIdeal.main_arg1) = m ((c.tc : Thread Cert.ProjAbSIdeal.nD Cert.ProjAbSIdeal.τ).loc Cert.ProjAbSIdeal.main_arg1)
      ∧ r.2.mem ((c.tc : Thread Cert.ProjAbSIdeal.nD Cert.ProjAbSIdeal.τ).loc Cert.ProjAbSIdeal.main_arg2) = m ((c.tc : Thread Cert.ProjAbSIdeal.nD Cert.ProjAbSIdeal.τ).loc Cert.ProjAbSIdeal.main_arg2)
      ∧ r.2.mem ((c.tc : Thread Cert.ProjAbSIdeal.nD Cert.ProjAbSIdeal.τ).loc Cert.ProjAbSIdeal.main_arg3) = m ((c.tc : Thread Cert.ProjAbSIdeal.nD Cert.ProjAbSIdeal.τ).loc Cert.ProjAbSIdeal.main_arg3))
      ∧ r.2.sem = fun _ => 0)

def quiescent_ProjAbSRefIdeal [hProjAbSRefIdeal : Cert.ProjAbSRefIdeal.Facts] : Prop :=
  ∀ (m : (ℓ : Loc Cert.ProjAbSRefIdeal.nD Cert.ProjAbSRefIdeal.τ Cert.ProjAbSRefIdeal.sig) → Buf (Elt Ideal) ℓ) (g : Dev Cert.ProjAbSRefIdeal.nD → PrngReg), Pre_ProjAbSRefIdeal m →
    θ_run (Cert.ProjAbSRefIdeal.defs (F := Ideal)) (onTc (τ := Cert.ProjAbSRefIdeal.τ) (Cert.ProjAbSRefIdeal.main (F := Ideal))) ⟨m, fun _ => 0, g⟩ (fun r => (∀ c : Dev Cert.ProjAbSRefIdeal.nD,
      r.2.mem ((c.tc : Thread Cert.ProjAbSRefIdeal.nD Cert.ProjAbSRefIdeal.τ).loc Cert.ProjAbSRefIdeal.main_arg0) = m ((c.tc : Thread Cert.ProjAbSRefIdeal.nD Cert.ProjAbSRefIdeal.τ).loc Cert.ProjAbSRefIdeal.main_arg0)
      ∧ r.2.mem ((c.tc : Thread Cert.ProjAbSRefIdeal.nD Cert.ProjAbSRefIdeal.τ).loc Cert.ProjAbSRefIdeal.main_arg1) = m ((c.tc : Thread Cert.ProjAbSRefIdeal.nD Cert.ProjAbSRefIdeal.τ).loc Cert.ProjAbSRefIdeal.main_arg1)
      ∧ r.2.mem ((c.tc : Thread Cert.ProjAbSRefIdeal.nD Cert.ProjAbSRefIdeal.τ).loc Cert.ProjAbSRefIdeal.main_arg2) = m ((c.tc : Thread Cert.ProjAbSRefIdeal.nD Cert.ProjAbSRefIdeal.τ).loc Cert.ProjAbSRefIdeal.main_arg2)
      ∧ r.2.mem ((c.tc : Thread Cert.ProjAbSRefIdeal.nD Cert.ProjAbSRefIdeal.τ).loc Cert.ProjAbSRefIdeal.main_arg3) = m ((c.tc : Thread Cert.ProjAbSRefIdeal.nD Cert.ProjAbSRefIdeal.τ).loc Cert.ProjAbSRefIdeal.main_arg3))
      ∧ r.2.sem = fun _ => 0)

def quiescent_RglruS [hRglruS : Cert.RglruS.Facts] : Prop :=
  ∀ (m : (ℓ : Loc Cert.RglruS.nD Cert.RglruS.τ Cert.RglruS.sig) → Buf (Elt Bits) ℓ) (g : Dev Cert.RglruS.nD → PrngReg), Pre_RglruS m →
    θ_run (Cert.RglruS.defs (F := Bits)) (onTc (τ := Cert.RglruS.τ) (Cert.RglruS.main (F := Bits))) ⟨m, fun _ => 0, g⟩ (fun r => (∀ c : Dev Cert.RglruS.nD,
      r.2.mem ((c.tc : Thread Cert.RglruS.nD Cert.RglruS.τ).loc Cert.RglruS.main_arg0) = m ((c.tc : Thread Cert.RglruS.nD Cert.RglruS.τ).loc Cert.RglruS.main_arg0)
      ∧ r.2.mem ((c.tc : Thread Cert.RglruS.nD Cert.RglruS.τ).loc Cert.RglruS.main_arg1) = m ((c.tc : Thread Cert.RglruS.nD Cert.RglruS.τ).loc Cert.RglruS.main_arg1)
      ∧ r.2.mem ((c.tc : Thread Cert.RglruS.nD Cert.RglruS.τ).loc Cert.RglruS.main_arg2) = m ((c.tc : Thread Cert.RglruS.nD Cert.RglruS.τ).loc Cert.RglruS.main_arg2)
      ∧ r.2.mem ((c.tc : Thread Cert.RglruS.nD Cert.RglruS.τ).loc Cert.RglruS.main_arg3) = m ((c.tc : Thread Cert.RglruS.nD Cert.RglruS.τ).loc Cert.RglruS.main_arg3)
      ∧ r.2.mem ((c.tc : Thread Cert.RglruS.nD Cert.RglruS.τ).loc Cert.RglruS.main_arg4) = m ((c.tc : Thread Cert.RglruS.nD Cert.RglruS.τ).loc Cert.RglruS.main_arg4)
      ∧ r.2.mem ((c.tc : Thread Cert.RglruS.nD Cert.RglruS.τ).loc Cert.RglruS.main_arg5) = m ((c.tc : Thread Cert.RglruS.nD Cert.RglruS.τ).loc Cert.RglruS.main_arg5)
      ∧ r.2.mem ((c.tc : Thread Cert.RglruS.nD Cert.RglruS.τ).loc Cert.RglruS.main_arg6) = m ((c.tc : Thread Cert.RglruS.nD Cert.RglruS.τ).loc Cert.RglruS.main_arg6)
      ∧ r.2.mem ((c.tc : Thread Cert.RglruS.nD Cert.RglruS.τ).loc Cert.RglruS.main_arg7) = m ((c.tc : Thread Cert.RglruS.nD Cert.RglruS.τ).loc Cert.RglruS.main_arg7)
      ∧ r.2.mem ((c.tc : Thread Cert.RglruS.nD Cert.RglruS.τ).loc Cert.RglruS.main_arg8) = m ((c.tc : Thread Cert.RglruS.nD Cert.RglruS.τ).loc Cert.RglruS.main_arg8)
      ∧ r.2.mem ((c.tc : Thread Cert.RglruS.nD Cert.RglruS.τ).loc Cert.RglruS.main_arg9) = m ((c.tc : Thread Cert.RglruS.nD Cert.RglruS.τ).loc Cert.RglruS.main_arg9)
      ∧ r.2.mem ((c.tc : Thread Cert.RglruS.nD Cert.RglruS.τ).loc Cert.RglruS.main_arg10) = m ((c.tc : Thread Cert.RglruS.nD Cert.RglruS.τ).loc Cert.RglruS.main_arg10))
      ∧ r.2.sem = fun _ => 0)

def quiescent_RglruSIdeal [hRglruSIdeal : Cert.RglruSIdeal.Facts] : Prop :=
  ∀ (m : (ℓ : Loc Cert.RglruSIdeal.nD Cert.RglruSIdeal.τ Cert.RglruSIdeal.sig) → Buf (Elt Ideal) ℓ) (g : Dev Cert.RglruSIdeal.nD → PrngReg), Pre_RglruSIdeal m →
    θ_run (Cert.RglruSIdeal.defs (F := Ideal)) (onTc (τ := Cert.RglruSIdeal.τ) (Cert.RglruSIdeal.main (F := Ideal))) ⟨m, fun _ => 0, g⟩ (fun r => (∀ c : Dev Cert.RglruSIdeal.nD,
      r.2.mem ((c.tc : Thread Cert.RglruSIdeal.nD Cert.RglruSIdeal.τ).loc Cert.RglruSIdeal.main_arg0) = m ((c.tc : Thread Cert.RglruSIdeal.nD Cert.RglruSIdeal.τ).loc Cert.RglruSIdeal.main_arg0)
      ∧ r.2.mem ((c.tc : Thread Cert.RglruSIdeal.nD Cert.RglruSIdeal.τ).loc Cert.RglruSIdeal.main_arg1) = m ((c.tc : Thread Cert.RglruSIdeal.nD Cert.RglruSIdeal.τ).loc Cert.RglruSIdeal.main_arg1)
      ∧ r.2.mem ((c.tc : Thread Cert.RglruSIdeal.nD Cert.RglruSIdeal.τ).loc Cert.RglruSIdeal.main_arg2) = m ((c.tc : Thread Cert.RglruSIdeal.nD Cert.RglruSIdeal.τ).loc Cert.RglruSIdeal.main_arg2)
      ∧ r.2.mem ((c.tc : Thread Cert.RglruSIdeal.nD Cert.RglruSIdeal.τ).loc Cert.RglruSIdeal.main_arg3) = m ((c.tc : Thread Cert.RglruSIdeal.nD Cert.RglruSIdeal.τ).loc Cert.RglruSIdeal.main_arg3)
      ∧ r.2.mem ((c.tc : Thread Cert.RglruSIdeal.nD Cert.RglruSIdeal.τ).loc Cert.RglruSIdeal.main_arg4) = m ((c.tc : Thread Cert.RglruSIdeal.nD Cert.RglruSIdeal.τ).loc Cert.RglruSIdeal.main_arg4)
      ∧ r.2.mem ((c.tc : Thread Cert.RglruSIdeal.nD Cert.RglruSIdeal.τ).loc Cert.RglruSIdeal.main_arg5) = m ((c.tc : Thread Cert.RglruSIdeal.nD Cert.RglruSIdeal.τ).loc Cert.RglruSIdeal.main_arg5)
      ∧ r.2.mem ((c.tc : Thread Cert.RglruSIdeal.nD Cert.RglruSIdeal.τ).loc Cert.RglruSIdeal.main_arg6) = m ((c.tc : Thread Cert.RglruSIdeal.nD Cert.RglruSIdeal.τ).loc Cert.RglruSIdeal.main_arg6)
      ∧ r.2.mem ((c.tc : Thread Cert.RglruSIdeal.nD Cert.RglruSIdeal.τ).loc Cert.RglruSIdeal.main_arg7) = m ((c.tc : Thread Cert.RglruSIdeal.nD Cert.RglruSIdeal.τ).loc Cert.RglruSIdeal.main_arg7)
      ∧ r.2.mem ((c.tc : Thread Cert.RglruSIdeal.nD Cert.RglruSIdeal.τ).loc Cert.RglruSIdeal.main_arg8) = m ((c.tc : Thread Cert.RglruSIdeal.nD Cert.RglruSIdeal.τ).loc Cert.RglruSIdeal.main_arg8)
      ∧ r.2.mem ((c.tc : Thread Cert.RglruSIdeal.nD Cert.RglruSIdeal.τ).loc Cert.RglruSIdeal.main_arg9) = m ((c.tc : Thread Cert.RglruSIdeal.nD Cert.RglruSIdeal.τ).loc Cert.RglruSIdeal.main_arg9)
      ∧ r.2.mem ((c.tc : Thread Cert.RglruSIdeal.nD Cert.RglruSIdeal.τ).loc Cert.RglruSIdeal.main_arg10) = m ((c.tc : Thread Cert.RglruSIdeal.nD Cert.RglruSIdeal.τ).loc Cert.RglruSIdeal.main_arg10))
      ∧ r.2.sem = fun _ => 0)

def quiescent_RglruSRefIdeal [hRglruSRefIdeal : Cert.RglruSRefIdeal.Facts] : Prop :=
  ∀ (m : (ℓ : Loc Cert.RglruSRefIdeal.nD Cert.RglruSRefIdeal.τ Cert.RglruSRefIdeal.sig) → Buf (Elt Ideal) ℓ) (g : Dev Cert.RglruSRefIdeal.nD → PrngReg), Pre_RglruSRefIdeal m →
    θ_run (Cert.RglruSRefIdeal.defs (F := Ideal)) (onTc (τ := Cert.RglruSRefIdeal.τ) (Cert.RglruSRefIdeal.main (F := Ideal))) ⟨m, fun _ => 0, g⟩ (fun r => (∀ c : Dev Cert.RglruSRefIdeal.nD,
      r.2.mem ((c.tc : Thread Cert.RglruSRefIdeal.nD Cert.RglruSRefIdeal.τ).loc Cert.RglruSRefIdeal.main_arg0) = m ((c.tc : Thread Cert.RglruSRefIdeal.nD Cert.RglruSRefIdeal.τ).loc Cert.RglruSRefIdeal.main_arg0)
      ∧ r.2.mem ((c.tc : Thread Cert.RglruSRefIdeal.nD Cert.RglruSRefIdeal.τ).loc Cert.RglruSRefIdeal.main_arg1) = m ((c.tc : Thread Cert.RglruSRefIdeal.nD Cert.RglruSRefIdeal.τ).loc Cert.RglruSRefIdeal.main_arg1)
      ∧ r.2.mem ((c.tc : Thread Cert.RglruSRefIdeal.nD Cert.RglruSRefIdeal.τ).loc Cert.RglruSRefIdeal.main_arg2) = m ((c.tc : Thread Cert.RglruSRefIdeal.nD Cert.RglruSRefIdeal.τ).loc Cert.RglruSRefIdeal.main_arg2)
      ∧ r.2.mem ((c.tc : Thread Cert.RglruSRefIdeal.nD Cert.RglruSRefIdeal.τ).loc Cert.RglruSRefIdeal.main_arg3) = m ((c.tc : Thread Cert.RglruSRefIdeal.nD Cert.RglruSRefIdeal.τ).loc Cert.RglruSRefIdeal.main_arg3)
      ∧ r.2.mem ((c.tc : Thread Cert.RglruSRefIdeal.nD Cert.RglruSRefIdeal.τ).loc Cert.RglruSRefIdeal.main_arg4) = m ((c.tc : Thread Cert.RglruSRefIdeal.nD Cert.RglruSRefIdeal.τ).loc Cert.RglruSRefIdeal.main_arg4)
      ∧ r.2.mem ((c.tc : Thread Cert.RglruSRefIdeal.nD Cert.RglruSRefIdeal.τ).loc Cert.RglruSRefIdeal.main_arg5) = m ((c.tc : Thread Cert.RglruSRefIdeal.nD Cert.RglruSRefIdeal.τ).loc Cert.RglruSRefIdeal.main_arg5)
      ∧ r.2.mem ((c.tc : Thread Cert.RglruSRefIdeal.nD Cert.RglruSRefIdeal.τ).loc Cert.RglruSRefIdeal.main_arg6) = m ((c.tc : Thread Cert.RglruSRefIdeal.nD Cert.RglruSRefIdeal.τ).loc Cert.RglruSRefIdeal.main_arg6)
      ∧ r.2.mem ((c.tc : Thread Cert.RglruSRefIdeal.nD Cert.RglruSRefIdeal.τ).loc Cert.RglruSRefIdeal.main_arg7) = m ((c.tc : Thread Cert.RglruSRefIdeal.nD Cert.RglruSRefIdeal.τ).loc Cert.RglruSRefIdeal.main_arg7)
      ∧ r.2.mem ((c.tc : Thread Cert.RglruSRefIdeal.nD Cert.RglruSRefIdeal.τ).loc Cert.RglruSRefIdeal.main_arg8) = m ((c.tc : Thread Cert.RglruSRefIdeal.nD Cert.RglruSRefIdeal.τ).loc Cert.RglruSRefIdeal.main_arg8)
      ∧ r.2.mem ((c.tc : Thread Cert.RglruSRefIdeal.nD Cert.RglruSRefIdeal.τ).loc Cert.RglruSRefIdeal.main_arg9) = m ((c.tc : Thread Cert.RglruSRefIdeal.nD Cert.RglruSRefIdeal.τ).loc Cert.RglruSRefIdeal.main_arg9)
      ∧ r.2.mem ((c.tc : Thread Cert.RglruSRefIdeal.nD Cert.RglruSRefIdeal.τ).loc Cert.RglruSRefIdeal.main_arg10) = m ((c.tc : Thread Cert.RglruSRefIdeal.nD Cert.RglruSRefIdeal.τ).loc Cert.RglruSRefIdeal.main_arg10))
      ∧ r.2.sem = fun _ => 0)

def quiescent_S5S [hS5S : Cert.S5S.Facts] : Prop :=
  ∀ (m : (ℓ : Loc Cert.S5S.nD Cert.S5S.τ Cert.S5S.sig) → Buf (Elt Bits) ℓ) (g : Dev Cert.S5S.nD → PrngReg), Pre_S5S m →
    θ_run (Cert.S5S.defs (F := Bits)) (onTc (τ := Cert.S5S.τ) (Cert.S5S.main (F := Bits))) ⟨m, fun _ => 0, g⟩ (fun r => (∀ c : Dev Cert.S5S.nD,
      r.2.mem ((c.tc : Thread Cert.S5S.nD Cert.S5S.τ).loc Cert.S5S.main_arg0) = m ((c.tc : Thread Cert.S5S.nD Cert.S5S.τ).loc Cert.S5S.main_arg0)
      ∧ r.2.mem ((c.tc : Thread Cert.S5S.nD Cert.S5S.τ).loc Cert.S5S.main_arg1) = m ((c.tc : Thread Cert.S5S.nD Cert.S5S.τ).loc Cert.S5S.main_arg1)
      ∧ r.2.mem ((c.tc : Thread Cert.S5S.nD Cert.S5S.τ).loc Cert.S5S.main_arg2) = m ((c.tc : Thread Cert.S5S.nD Cert.S5S.τ).loc Cert.S5S.main_arg2)
      ∧ r.2.mem ((c.tc : Thread Cert.S5S.nD Cert.S5S.τ).loc Cert.S5S.main_arg3) = m ((c.tc : Thread Cert.S5S.nD Cert.S5S.τ).loc Cert.S5S.main_arg3)
      ∧ r.2.mem ((c.tc : Thread Cert.S5S.nD Cert.S5S.τ).loc Cert.S5S.main_arg4) = m ((c.tc : Thread Cert.S5S.nD Cert.S5S.τ).loc Cert.S5S.main_arg4)
      ∧ r.2.mem ((c.tc : Thread Cert.S5S.nD Cert.S5S.τ).loc Cert.S5S.main_arg5) = m ((c.tc : Thread Cert.S5S.nD Cert.S5S.τ).loc Cert.S5S.main_arg5)
      ∧ r.2.mem ((c.tc : Thread Cert.S5S.nD Cert.S5S.τ).loc Cert.S5S.main_arg6) = m ((c.tc : Thread Cert.S5S.nD Cert.S5S.τ).loc Cert.S5S.main_arg6)
      ∧ r.2.mem ((c.tc : Thread Cert.S5S.nD Cert.S5S.τ).loc Cert.S5S.main_arg7) = m ((c.tc : Thread Cert.S5S.nD Cert.S5S.τ).loc Cert.S5S.main_arg7)
      ∧ r.2.mem ((c.tc : Thread Cert.S5S.nD Cert.S5S.τ).loc Cert.S5S.main_arg8) = m ((c.tc : Thread Cert.S5S.nD Cert.S5S.τ).loc Cert.S5S.main_arg8)
      ∧ r.2.mem ((c.tc : Thread Cert.S5S.nD Cert.S5S.τ).loc Cert.S5S.main_arg9) = m ((c.tc : Thread Cert.S5S.nD Cert.S5S.τ).loc Cert.S5S.main_arg9)
      ∧ r.2.mem ((c.tc : Thread Cert.S5S.nD Cert.S5S.τ).loc Cert.S5S.main_arg10) = m ((c.tc : Thread Cert.S5S.nD Cert.S5S.τ).loc Cert.S5S.main_arg10)
      ∧ r.2.mem ((c.tc : Thread Cert.S5S.nD Cert.S5S.τ).loc Cert.S5S.main_arg11) = m ((c.tc : Thread Cert.S5S.nD Cert.S5S.τ).loc Cert.S5S.main_arg11))
      ∧ r.2.sem = fun _ => 0)

def quiescent_S5SIdeal [hS5SIdeal : Cert.S5SIdeal.Facts] : Prop :=
  ∀ (m : (ℓ : Loc Cert.S5SIdeal.nD Cert.S5SIdeal.τ Cert.S5SIdeal.sig) → Buf (Elt Ideal) ℓ) (g : Dev Cert.S5SIdeal.nD → PrngReg), Pre_S5SIdeal m →
    θ_run (Cert.S5SIdeal.defs (F := Ideal)) (onTc (τ := Cert.S5SIdeal.τ) (Cert.S5SIdeal.main (F := Ideal))) ⟨m, fun _ => 0, g⟩ (fun r => (∀ c : Dev Cert.S5SIdeal.nD,
      r.2.mem ((c.tc : Thread Cert.S5SIdeal.nD Cert.S5SIdeal.τ).loc Cert.S5SIdeal.main_arg0) = m ((c.tc : Thread Cert.S5SIdeal.nD Cert.S5SIdeal.τ).loc Cert.S5SIdeal.main_arg0)
      ∧ r.2.mem ((c.tc : Thread Cert.S5SIdeal.nD Cert.S5SIdeal.τ).loc Cert.S5SIdeal.main_arg1) = m ((c.tc : Thread Cert.S5SIdeal.nD Cert.S5SIdeal.τ).loc Cert.S5SIdeal.main_arg1)
      ∧ r.2.mem ((c.tc : Thread Cert.S5SIdeal.nD Cert.S5SIdeal.τ).loc Cert.S5SIdeal.main_arg2) = m ((c.tc : Thread Cert.S5SIdeal.nD Cert.S5SIdeal.τ).loc Cert.S5SIdeal.main_arg2)
      ∧ r.2.mem ((c.tc : Thread Cert.S5SIdeal.nD Cert.S5SIdeal.τ).loc Cert.S5SIdeal.main_arg3) = m ((c.tc : Thread Cert.S5SIdeal.nD Cert.S5SIdeal.τ).loc Cert.S5SIdeal.main_arg3)
      ∧ r.2.mem ((c.tc : Thread Cert.S5SIdeal.nD Cert.S5SIdeal.τ).loc Cert.S5SIdeal.main_arg4) = m ((c.tc : Thread Cert.S5SIdeal.nD Cert.S5SIdeal.τ).loc Cert.S5SIdeal.main_arg4)
      ∧ r.2.mem ((c.tc : Thread Cert.S5SIdeal.nD Cert.S5SIdeal.τ).loc Cert.S5SIdeal.main_arg5) = m ((c.tc : Thread Cert.S5SIdeal.nD Cert.S5SIdeal.τ).loc Cert.S5SIdeal.main_arg5)
      ∧ r.2.mem ((c.tc : Thread Cert.S5SIdeal.nD Cert.S5SIdeal.τ).loc Cert.S5SIdeal.main_arg6) = m ((c.tc : Thread Cert.S5SIdeal.nD Cert.S5SIdeal.τ).loc Cert.S5SIdeal.main_arg6)
      ∧ r.2.mem ((c.tc : Thread Cert.S5SIdeal.nD Cert.S5SIdeal.τ).loc Cert.S5SIdeal.main_arg7) = m ((c.tc : Thread Cert.S5SIdeal.nD Cert.S5SIdeal.τ).loc Cert.S5SIdeal.main_arg7)
      ∧ r.2.mem ((c.tc : Thread Cert.S5SIdeal.nD Cert.S5SIdeal.τ).loc Cert.S5SIdeal.main_arg8) = m ((c.tc : Thread Cert.S5SIdeal.nD Cert.S5SIdeal.τ).loc Cert.S5SIdeal.main_arg8)
      ∧ r.2.mem ((c.tc : Thread Cert.S5SIdeal.nD Cert.S5SIdeal.τ).loc Cert.S5SIdeal.main_arg9) = m ((c.tc : Thread Cert.S5SIdeal.nD Cert.S5SIdeal.τ).loc Cert.S5SIdeal.main_arg9)
      ∧ r.2.mem ((c.tc : Thread Cert.S5SIdeal.nD Cert.S5SIdeal.τ).loc Cert.S5SIdeal.main_arg10) = m ((c.tc : Thread Cert.S5SIdeal.nD Cert.S5SIdeal.τ).loc Cert.S5SIdeal.main_arg10)
      ∧ r.2.mem ((c.tc : Thread Cert.S5SIdeal.nD Cert.S5SIdeal.τ).loc Cert.S5SIdeal.main_arg11) = m ((c.tc : Thread Cert.S5SIdeal.nD Cert.S5SIdeal.τ).loc Cert.S5SIdeal.main_arg11))
      ∧ r.2.sem = fun _ => 0)

def quiescent_S5SRefIdeal [hS5SRefIdeal : Cert.S5SRefIdeal.Facts] : Prop :=
  ∀ (m : (ℓ : Loc Cert.S5SRefIdeal.nD Cert.S5SRefIdeal.τ Cert.S5SRefIdeal.sig) → Buf (Elt Ideal) ℓ) (g : Dev Cert.S5SRefIdeal.nD → PrngReg), Pre_S5SRefIdeal m →
    θ_run (Cert.S5SRefIdeal.defs (F := Ideal)) (onTc (τ := Cert.S5SRefIdeal.τ) (Cert.S5SRefIdeal.main (F := Ideal))) ⟨m, fun _ => 0, g⟩ (fun r => (∀ c : Dev Cert.S5SRefIdeal.nD,
      r.2.mem ((c.tc : Thread Cert.S5SRefIdeal.nD Cert.S5SRefIdeal.τ).loc Cert.S5SRefIdeal.main_arg0) = m ((c.tc : Thread Cert.S5SRefIdeal.nD Cert.S5SRefIdeal.τ).loc Cert.S5SRefIdeal.main_arg0)
      ∧ r.2.mem ((c.tc : Thread Cert.S5SRefIdeal.nD Cert.S5SRefIdeal.τ).loc Cert.S5SRefIdeal.main_arg1) = m ((c.tc : Thread Cert.S5SRefIdeal.nD Cert.S5SRefIdeal.τ).loc Cert.S5SRefIdeal.main_arg1)
      ∧ r.2.mem ((c.tc : Thread Cert.S5SRefIdeal.nD Cert.S5SRefIdeal.τ).loc Cert.S5SRefIdeal.main_arg2) = m ((c.tc : Thread Cert.S5SRefIdeal.nD Cert.S5SRefIdeal.τ).loc Cert.S5SRefIdeal.main_arg2)
      ∧ r.2.mem ((c.tc : Thread Cert.S5SRefIdeal.nD Cert.S5SRefIdeal.τ).loc Cert.S5SRefIdeal.main_arg3) = m ((c.tc : Thread Cert.S5SRefIdeal.nD Cert.S5SRefIdeal.τ).loc Cert.S5SRefIdeal.main_arg3)
      ∧ r.2.mem ((c.tc : Thread Cert.S5SRefIdeal.nD Cert.S5SRefIdeal.τ).loc Cert.S5SRefIdeal.main_arg4) = m ((c.tc : Thread Cert.S5SRefIdeal.nD Cert.S5SRefIdeal.τ).loc Cert.S5SRefIdeal.main_arg4)
      ∧ r.2.mem ((c.tc : Thread Cert.S5SRefIdeal.nD Cert.S5SRefIdeal.τ).loc Cert.S5SRefIdeal.main_arg5) = m ((c.tc : Thread Cert.S5SRefIdeal.nD Cert.S5SRefIdeal.τ).loc Cert.S5SRefIdeal.main_arg5)
      ∧ r.2.mem ((c.tc : Thread Cert.S5SRefIdeal.nD Cert.S5SRefIdeal.τ).loc Cert.S5SRefIdeal.main_arg6) = m ((c.tc : Thread Cert.S5SRefIdeal.nD Cert.S5SRefIdeal.τ).loc Cert.S5SRefIdeal.main_arg6)
      ∧ r.2.mem ((c.tc : Thread Cert.S5SRefIdeal.nD Cert.S5SRefIdeal.τ).loc Cert.S5SRefIdeal.main_arg7) = m ((c.tc : Thread Cert.S5SRefIdeal.nD Cert.S5SRefIdeal.τ).loc Cert.S5SRefIdeal.main_arg7)
      ∧ r.2.mem ((c.tc : Thread Cert.S5SRefIdeal.nD Cert.S5SRefIdeal.τ).loc Cert.S5SRefIdeal.main_arg8) = m ((c.tc : Thread Cert.S5SRefIdeal.nD Cert.S5SRefIdeal.τ).loc Cert.S5SRefIdeal.main_arg8)
      ∧ r.2.mem ((c.tc : Thread Cert.S5SRefIdeal.nD Cert.S5SRefIdeal.τ).loc Cert.S5SRefIdeal.main_arg9) = m ((c.tc : Thread Cert.S5SRefIdeal.nD Cert.S5SRefIdeal.τ).loc Cert.S5SRefIdeal.main_arg9)
      ∧ r.2.mem ((c.tc : Thread Cert.S5SRefIdeal.nD Cert.S5SRefIdeal.τ).loc Cert.S5SRefIdeal.main_arg10) = m ((c.tc : Thread Cert.S5SRefIdeal.nD Cert.S5SRefIdeal.τ).loc Cert.S5SRefIdeal.main_arg10)
      ∧ r.2.mem ((c.tc : Thread Cert.S5SRefIdeal.nD Cert.S5SRefIdeal.τ).loc Cert.S5SRefIdeal.main_arg11) = m ((c.tc : Thread Cert.S5SRefIdeal.nD Cert.S5SRefIdeal.τ).loc Cert.S5SRefIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v79_3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)
      ∧ m' ((c.tc : Thread Cert.FfnUpRefIdeal.nD Cert.FfnUpRefIdeal.τ).loc Cert.FfnUpRefIdeal.main_arg4) = m ((c.tc : Thread Cert.FfnUpIdeal.nD Cert.FfnUpIdeal.τ).loc Cert.FfnUpIdeal.main_arg4)
      ∧ m' ((c.tc : Thread Cert.FfnUpRefIdeal.nD Cert.FfnUpRefIdeal.τ).loc Cert.FfnUpRefIdeal.main_arg5) = m ((c.tc : Thread Cert.FfnUpIdeal.nD Cert.FfnUpIdeal.τ).loc Cert.FfnUpIdeal.main_arg5)
      ∧ m' ((c.tc : Thread Cert.FfnUpRefIdeal.nD Cert.FfnUpRefIdeal.τ).loc Cert.FfnUpRefIdeal.main_arg6) = m ((c.tc : Thread Cert.FfnUpIdeal.nD Cert.FfnUpIdeal.τ).loc Cert.FfnUpIdeal.main_arg6)) →
    ∃ (v0 : (c : Dev Cert.FfnUpIdeal.nD) → Buf (Elt Ideal) ((c.tc : Thread Cert.FfnUpIdeal.nD Cert.FfnUpIdeal.τ).loc Cert.FfnUpIdeal.main_v2_0)) (v1 : (c : Dev Cert.FfnUpIdeal.nD) → Buf (Elt Ideal) ((c.tc : Thread Cert.FfnUpIdeal.nD Cert.FfnUpIdeal.τ).loc Cert.FfnUpIdeal.main_v2_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2_0) = v0 c
          ∧ r.2.mem ((c.tc : Thread Cert.FfnUpIdeal.nD Cert.FfnUpIdeal.τ).loc Cert.FfnUpIdeal.main_v2_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3)
          ∧ r.2.mem ((c.tc : Thread Cert.FfnUpIdeal.nD Cert.FfnUpIdeal.τ).loc Cert.FfnUpIdeal.main_arg4) = m ((c.tc : Thread Cert.FfnUpIdeal.nD Cert.FfnUpIdeal.τ).loc Cert.FfnUpIdeal.main_arg4)
          ∧ r.2.mem ((c.tc : Thread Cert.FfnUpIdeal.nD Cert.FfnUpIdeal.τ).loc Cert.FfnUpIdeal.main_arg5) = m ((c.tc : Thread Cert.FfnUpIdeal.nD Cert.FfnUpIdeal.τ).loc Cert.FfnUpIdeal.main_arg5)
          ∧ r.2.mem ((c.tc : Thread Cert.FfnUpIdeal.nD Cert.FfnUpIdeal.τ).loc Cert.FfnUpIdeal.main_arg6) = m ((c.tc : Thread Cert.FfnUpIdeal.nD Cert.FfnUpIdeal.τ).loc Cert.FfnUpIdeal.main_arg6))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v49) = v0 c
          ∧ r.2.mem ((c.tc : Thread Cert.FfnUpRefIdeal.nD Cert.FfnUpRefIdeal.τ).loc Cert.FfnUpRefIdeal.main_v50) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)
      ∧ m' ((c.tc : Thread Cert.FfnDownRefIdeal.nD Cert.FfnDownRefIdeal.τ).loc Cert.FfnDownRefIdeal.main_arg5) = m ((c.tc : Thread Cert.FfnDownIdeal.nD Cert.FfnDownIdeal.τ).loc Cert.FfnDownIdeal.main_arg5)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4)
          ∧ r.2.mem ((c.tc : Thread Cert.FfnDownIdeal.nD Cert.FfnDownIdeal.τ).loc Cert.FfnDownIdeal.main_arg5) = m ((c.tc : Thread Cert.FfnDownIdeal.nD Cert.FfnDownIdeal.τ).loc Cert.FfnDownIdeal.main_arg5))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v36) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v36) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_ProjAb_ProjAbIdeal : Prop :=
  True

def algebraic_ProjAbIdeal_ProjAbRefIdeal [hProjAbIdeal : Cert.ProjAbIdeal.Facts] [hProjAbRefIdeal : Cert.ProjAbRefIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbRefIdeal.nD Cert.ProjAbRefIdeal.τ Cert.ProjAbRefIdeal.sig) → Buf (Elt Ideal) ℓ) (g' : Dev Cert.ProjAbRefIdeal.nD → PrngReg), Pre_ProjAbIdeal m →
    (∀ c : Dev Cert.ProjAbIdeal.nD,
      m' ((c.tc : Thread Cert.ProjAbRefIdeal.nD Cert.ProjAbRefIdeal.τ).loc Cert.ProjAbRefIdeal.main_arg0) = m ((c.tc : Thread Cert.ProjAbIdeal.nD Cert.ProjAbIdeal.τ).loc Cert.ProjAbIdeal.main_arg0)
      ∧ m' ((c.tc : Thread Cert.ProjAbRefIdeal.nD Cert.ProjAbRefIdeal.τ).loc Cert.ProjAbRefIdeal.main_arg1) = m ((c.tc : Thread Cert.ProjAbIdeal.nD Cert.ProjAbIdeal.τ).loc Cert.ProjAbIdeal.main_arg1)
      ∧ m' ((c.tc : Thread Cert.ProjAbRefIdeal.nD Cert.ProjAbRefIdeal.τ).loc Cert.ProjAbRefIdeal.main_arg2) = m ((c.tc : Thread Cert.ProjAbIdeal.nD Cert.ProjAbIdeal.τ).loc Cert.ProjAbIdeal.main_arg2)
      ∧ m' ((c.tc : Thread Cert.ProjAbRefIdeal.nD Cert.ProjAbRefIdeal.τ).loc Cert.ProjAbRefIdeal.main_arg3) = m ((c.tc : Thread Cert.ProjAbIdeal.nD Cert.ProjAbIdeal.τ).loc Cert.ProjAbIdeal.main_arg3)) →
    ∃ (v0 : (c : Dev Cert.ProjAbIdeal.nD) → Buf (Elt Ideal) ((c.tc : Thread Cert.ProjAbIdeal.nD Cert.ProjAbIdeal.τ).loc Cert.ProjAbIdeal.main_v10_0)) (v1 : (c : Dev Cert.ProjAbIdeal.nD) → Buf (Elt Ideal) ((c.tc : Thread Cert.ProjAbIdeal.nD Cert.ProjAbIdeal.τ).loc Cert.ProjAbIdeal.main_v10_1)) (v2 : (c : Dev Cert.ProjAbIdeal.nD) → Buf (Elt Ideal) ((c.tc : Thread Cert.ProjAbIdeal.nD Cert.ProjAbIdeal.τ).loc Cert.ProjAbIdeal.main_v10_2)) (v3 : (c : Dev Cert.ProjAbIdeal.nD) → Buf (Elt Ideal) ((c.tc : Thread Cert.ProjAbIdeal.nD Cert.ProjAbIdeal.τ).loc Cert.ProjAbIdeal.main_v10_3)) (v4 : (c : Dev Cert.ProjAbIdeal.nD) → Buf (Elt Ideal) ((c.tc : Thread Cert.ProjAbIdeal.nD Cert.ProjAbIdeal.τ).loc Cert.ProjAbIdeal.main_v10_4)) (v5 : (c : Dev Cert.ProjAbIdeal.nD) → Buf (Elt Ideal) ((c.tc : Thread Cert.ProjAbIdeal.nD Cert.ProjAbIdeal.τ).loc Cert.ProjAbIdeal.main_v10_5)) (v6 : (c : Dev Cert.ProjAbIdeal.nD) → Buf (Elt Ideal) ((c.tc : Thread Cert.ProjAbIdeal.nD Cert.ProjAbIdeal.τ).loc Cert.ProjAbIdeal.main_v10_6)) (v7 : (c : Dev Cert.ProjAbIdeal.nD) → Buf (Elt Ideal) ((c.tc : Thread Cert.ProjAbIdeal.nD Cert.ProjAbIdeal.τ).loc Cert.ProjAbIdeal.main_v10_7)) (v8 : (c : Dev Cert.ProjAbIdeal.nD) → Buf (Elt Ideal) ((c.tc : Thread Cert.ProjAbIdeal.nD Cert.ProjAbIdeal.τ).loc Cert.ProjAbIdeal.main_v10_8)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          r.2.mem ((c.tc : Thread Cert.ProjAbIdeal.nD Cert.ProjAbIdeal.τ).loc Cert.ProjAbIdeal.main_v10_0) = v0 c
          ∧ r.2.mem ((c.tc : Thread Cert.ProjAbIdeal.nD Cert.ProjAbIdeal.τ).loc Cert.ProjAbIdeal.main_v10_1) = v1 c
          ∧ r.2.mem ((c.tc : Thread Cert.ProjAbIdeal.nD Cert.ProjAbIdeal.τ).loc Cert.ProjAbIdeal.main_v10_2) = v2 c
          ∧ r.2.mem ((c.tc : Thread Cert.ProjAbIdeal.nD Cert.ProjAbIdeal.τ).loc Cert.ProjAbIdeal.main_v10_3) = v3 c
          ∧ r.2.mem ((c.tc : Thread Cert.ProjAbIdeal.nD Cert.ProjAbIdeal.τ).loc Cert.ProjAbIdeal.main_v10_4) = v4 c
          ∧ r.2.mem ((c.tc : Thread Cert.ProjAbIdeal.nD Cert.ProjAbIdeal.τ).loc Cert.ProjAbIdeal.main_v10_5) = v5 c
          ∧ r.2.mem ((c.tc : Thread Cert.ProjAbIdeal.nD Cert.ProjAbIdeal.τ).loc Cert.ProjAbIdeal.main_v10_6) = v6 c
          ∧ r.2.mem ((c.tc : Thread Cert.ProjAbIdeal.nD Cert.ProjAbIdeal.τ).loc Cert.ProjAbIdeal.main_v10_7) = v7 c
          ∧ r.2.mem ((c.tc : Thread Cert.ProjAbIdeal.nD Cert.ProjAbIdeal.τ).loc Cert.ProjAbIdeal.main_v10_8) = v8 c
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1)
          ∧ r.2.mem ((c.tc : Thread Cert.ProjAbIdeal.nD Cert.ProjAbIdeal.τ).loc Cert.ProjAbIdeal.main_arg2) = m ((c.tc : Thread Cert.ProjAbIdeal.nD Cert.ProjAbIdeal.τ).loc Cert.ProjAbIdeal.main_arg2)
          ∧ r.2.mem ((c.tc : Thread Cert.ProjAbIdeal.nD Cert.ProjAbIdeal.τ).loc Cert.ProjAbIdeal.main_arg3) = m ((c.tc : Thread Cert.ProjAbIdeal.nD Cert.ProjAbIdeal.τ).loc Cert.ProjAbIdeal.main_arg3))
      ∧ θ_run (Cert.ProjAbRefIdeal.defs (F := Ideal)) (onTc (τ := Cert.ProjAbRefIdeal.τ) (Cert.ProjAbRefIdeal.main (F := Ideal))) ⟨m', fun _ => 0, g'⟩ (fun r => ∀ c : Dev Cert.ProjAbRefIdeal.nD,
          r.2.mem ((c.tc : Thread Cert.ProjAbRefIdeal.nD Cert.ProjAbRefIdeal.τ).loc Cert.ProjAbRefIdeal.main_v8) = v0 c
          ∧ r.2.mem ((c.tc : Thread Cert.ProjAbRefIdeal.nD Cert.ProjAbRefIdeal.τ).loc Cert.ProjAbRefIdeal.main_v15) = v1 c
          ∧ r.2.mem ((c.tc : Thread Cert.ProjAbRefIdeal.nD Cert.ProjAbRefIdeal.τ).loc Cert.ProjAbRefIdeal.main_v10) = v2 c
          ∧ r.2.mem ((c.tc : Thread Cert.ProjAbRefIdeal.nD Cert.ProjAbRefIdeal.τ).loc Cert.ProjAbRefIdeal.main_v17) = v3 c
          ∧ r.2.mem ((c.tc : Thread Cert.ProjAbRefIdeal.nD Cert.ProjAbRefIdeal.τ).loc Cert.ProjAbRefIdeal.main_v11) = v4 c
          ∧ r.2.mem ((c.tc : Thread Cert.ProjAbRefIdeal.nD Cert.ProjAbRefIdeal.τ).loc Cert.ProjAbRefIdeal.main_v19) = v5 c
          ∧ r.2.mem ((c.tc : Thread Cert.ProjAbRefIdeal.nD Cert.ProjAbRefIdeal.τ).loc Cert.ProjAbRefIdeal.main_v13) = v6 c
          ∧ r.2.mem ((c.tc : Thread Cert.ProjAbRefIdeal.nD Cert.ProjAbRefIdeal.τ).loc Cert.ProjAbRefIdeal.main_v22) = v7 c
          ∧ r.2.mem ((c.tc : Thread Cert.ProjAbRefIdeal.nD Cert.ProjAbRefIdeal.τ).loc Cert.ProjAbRefIdeal.main_v25) = v8 c
          ∧ r.2.mem ((c.tc : Thread Cert.ProjAbRefIdeal.nD Cert.ProjAbRefIdeal.τ).loc Cert.ProjAbRefIdeal.main_arg0) = m' ((c.tc : Thread Cert.ProjAbRefIdeal.nD Cert.ProjAbRefIdeal.τ).loc Cert.ProjAbRefIdeal.main_arg0)
          ∧ r.2.mem ((c.tc : Thread Cert.ProjAbRefIdeal.nD Cert.ProjAbRefIdeal.τ).loc Cert.ProjAbRefIdeal.main_arg1) = m' ((c.tc : Thread Cert.ProjAbRefIdeal.nD Cert.ProjAbRefIdeal.τ).loc Cert.ProjAbRefIdeal.main_arg1)
          ∧ r.2.mem ((c.tc : Thread Cert.ProjAbRefIdeal.nD Cert.ProjAbRefIdeal.τ).loc Cert.ProjAbRefIdeal.main_arg2) = m' ((c.tc : Thread Cert.ProjAbRefIdeal.nD Cert.ProjAbRefIdeal.τ).loc Cert.ProjAbRefIdeal.main_arg2)
          ∧ r.2.mem ((c.tc : Thread Cert.ProjAbRefIdeal.nD Cert.ProjAbRefIdeal.τ).loc Cert.ProjAbRefIdeal.main_arg3) = m' ((c.tc : Thread Cert.ProjAbRefIdeal.nD Cert.ProjAbRefIdeal.τ).loc Cert.ProjAbRefIdeal.main_arg3))

def preserves_ProjCd_ProjCdIdeal : Prop :=
  True

def algebraic_ProjCdIdeal_ProjCdRefIdeal [hProjCdIdeal : Cert.ProjCdIdeal.Facts] [hProjCdRefIdeal : Cert.ProjCdRefIdeal.Facts] : Prop :=
  ∀ (m : (ℓ : Loc Cert.ProjCdIdeal.nD Cert.ProjCdIdeal.τ Cert.ProjCdIdeal.sig) → Buf (Elt Ideal) ℓ) (g : Dev Cert.ProjCdIdeal.nD → PrngReg)
    (m' : (ℓ : Loc Cert.ProjCdRefIdeal.nD Cert.ProjCdRefIdeal.τ Cert.ProjCdRefIdeal.sig) → Buf (Elt Ideal) ℓ) (g' : Dev Cert.ProjCdRefIdeal.nD → PrngReg), Pre_ProjCdIdeal m →
    (∀ c : Dev Cert.ProjCdIdeal.nD,
      m' ((c.tc : Thread Cert.ProjCdRefIdeal.nD Cert.ProjCdRefIdeal.τ).loc Cert.ProjCdRefIdeal.main_arg0) = m ((c.tc : Thread Cert.ProjCdIdeal.nD Cert.ProjCdIdeal.τ).loc Cert.ProjCdIdeal.main_arg0)
      ∧ m' ((c.tc : Thread Cert.ProjCdRefIdeal.nD Cert.ProjCdRefIdeal.τ).loc Cert.ProjCdRefIdeal.main_arg1) = m ((c.tc : Thread Cert.ProjCdIdeal.nD Cert.ProjCdIdeal.τ).loc Cert.ProjCdIdeal.main_arg1)
      ∧ m' ((c.tc : Thread Cert.ProjCdRefIdeal.nD Cert.ProjCdRefIdeal.τ).loc Cert.ProjCdRefIdeal.main_arg2) = m ((c.tc : Thread Cert.ProjCdIdeal.nD Cert.ProjCdIdeal.τ).loc Cert.ProjCdIdeal.main_arg2)
      ∧ m' ((c.tc : Thread Cert.ProjCdRefIdeal.nD Cert.ProjCdRefIdeal.τ).loc Cert.ProjCdRefIdeal.main_arg3) = m ((c.tc : Thread Cert.ProjCdIdeal.nD Cert.ProjCdIdeal.τ).loc Cert.ProjCdIdeal.main_arg3)) →
    ∃ (v0 : (c : Dev Cert.ProjCdIdeal.nD) → Buf (Elt Ideal) ((c.tc : Thread Cert.ProjCdIdeal.nD Cert.ProjCdIdeal.τ).loc Cert.ProjCdIdeal.main_v5_0)) (v1 : (c : Dev Cert.ProjCdIdeal.nD) → Buf (Elt Ideal) ((c.tc : Thread Cert.ProjCdIdeal.nD Cert.ProjCdIdeal.τ).loc Cert.ProjCdIdeal.main_v5_1)) (v2 : (c : Dev Cert.ProjCdIdeal.nD) → Buf (Elt Ideal) ((c.tc : Thread Cert.ProjCdIdeal.nD Cert.ProjCdIdeal.τ).loc Cert.ProjCdIdeal.main_v5_2)) (v3 : (c : Dev Cert.ProjCdIdeal.nD) → Buf (Elt Ideal) ((c.tc : Thread Cert.ProjCdIdeal.nD Cert.ProjCdIdeal.τ).loc Cert.ProjCdIdeal.main_v5_3)),
      θ_run (Cert.ProjCdIdeal.defs (F := Ideal)) (onTc (τ := Cert.ProjCdIdeal.τ) (Cert.ProjCdIdeal.main (F := Ideal))) ⟨m, fun _ => 0, g⟩ (fun r => ∀ c : Dev Cert.ProjCdIdeal.nD,
          r.2.mem ((c.tc : Thread Cert.ProjCdIdeal.nD Cert.ProjCdIdeal.τ).loc Cert.ProjCdIdeal.main_v5_0) = v0 c
          ∧ r.2.mem ((c.tc : Thread Cert.ProjCdIdeal.nD Cert.ProjCdIdeal.τ).loc Cert.ProjCdIdeal.main_v5_1) = v1 c
          ∧ r.2.mem ((c.tc : Thread Cert.ProjCdIdeal.nD Cert.ProjCdIdeal.τ).loc Cert.ProjCdIdeal.main_v5_2) = v2 c
          ∧ r.2.mem ((c.tc : Thread Cert.ProjCdIdeal.nD Cert.ProjCdIdeal.τ).loc Cert.ProjCdIdeal.main_v5_3) = v3 c
          ∧ r.2.mem ((c.tc : Thread Cert.ProjCdIdeal.nD Cert.ProjCdIdeal.τ).loc Cert.ProjCdIdeal.main_arg0) = m ((c.tc : Thread Cert.ProjCdIdeal.nD Cert.ProjCdIdeal.τ).loc Cert.ProjCdIdeal.main_arg0)
          ∧ r.2.mem ((c.tc : Thread Cert.ProjCdIdeal.nD Cert.ProjCdIdeal.τ).loc Cert.ProjCdIdeal.main_arg1) = m ((c.tc : Thread Cert.ProjCdIdeal.nD Cert.ProjCdIdeal.τ).loc Cert.ProjCdIdeal.main_arg1)
          ∧ r.2.mem ((c.tc : Thread Cert.ProjCdIdeal.nD Cert.ProjCdIdeal.τ).loc Cert.ProjCdIdeal.main_arg2) = m ((c.tc : Thread Cert.ProjCdIdeal.nD Cert.ProjCdIdeal.τ).loc Cert.ProjCdIdeal.main_arg2)
          ∧ r.2.mem ((c.tc : Thread Cert.ProjCdIdeal.nD Cert.ProjCdIdeal.τ).loc Cert.ProjCdIdeal.main_arg3) = m ((c.tc : Thread Cert.ProjCdIdeal.nD Cert.ProjCdIdeal.τ).loc Cert.ProjCdIdeal.main_arg3))
      ∧ θ_run (Cert.ProjCdRefIdeal.defs (F := Ideal)) (onTc (τ := Cert.ProjCdRefIdeal.τ) (Cert.ProjCdRefIdeal.main (F := Ideal))) ⟨m', fun _ => 0, g'⟩ (fun r => ∀ c : Dev Cert.ProjCdRefIdeal.nD,
          r.2.mem ((c.tc : Thread Cert.ProjCdRefIdeal.nD Cert.ProjCdRefIdeal.τ).loc Cert.ProjCdRefIdeal.main_v9) = v0 c
          ∧ r.2.mem ((c.tc : Thread Cert.ProjCdRefIdeal.nD Cert.ProjCdRefIdeal.τ).loc Cert.ProjCdRefIdeal.main_v8) = v1 c
          ∧ r.2.mem ((c.tc : Thread Cert.ProjCdRefIdeal.nD Cert.ProjCdRefIdeal.τ).loc Cert.ProjCdRefIdeal.main_v11) = v2 c
          ∧ r.2.mem ((c.tc : Thread Cert.ProjCdRefIdeal.nD Cert.ProjCdRefIdeal.τ).loc Cert.ProjCdRefIdeal.main_v14) = v3 c
          ∧ r.2.mem ((c.tc : Thread Cert.ProjCdRefIdeal.nD Cert.ProjCdRefIdeal.τ).loc Cert.ProjCdRefIdeal.main_arg0) = m' ((c.tc : Thread Cert.ProjCdRefIdeal.nD Cert.ProjCdRefIdeal.τ).loc Cert.ProjCdRefIdeal.main_arg0)
          ∧ r.2.mem ((c.tc : Thread Cert.ProjCdRefIdeal.nD Cert.ProjCdRefIdeal.τ).loc Cert.ProjCdRefIdeal.main_arg1) = m' ((c.tc : Thread Cert.ProjCdRefIdeal.nD Cert.ProjCdRefIdeal.τ).loc Cert.ProjCdRefIdeal.main_arg1)
          ∧ r.2.mem ((c.tc : Thread Cert.ProjCdRefIdeal.nD Cert.ProjCdRefIdeal.τ).loc Cert.ProjCdRefIdeal.main_arg2) = m' ((c.tc : Thread Cert.ProjCdRefIdeal.nD Cert.ProjCdRefIdeal.τ).loc Cert.ProjCdRefIdeal.main_arg2)
          ∧ r.2.mem ((c.tc : Thread Cert.ProjCdRefIdeal.nD Cert.ProjCdRefIdeal.τ).loc Cert.ProjCdRefIdeal.main_arg3) = m' ((c.tc : Thread Cert.ProjCdRefIdeal.nD Cert.ProjCdRefIdeal.τ).loc Cert.ProjCdRefIdeal.main_arg3))

def preserves_FfnUpS_FfnUpSIdeal : Prop :=
  True

def algebraic_FfnUpSIdeal_FfnUpSRefIdeal [hFfnUpSIdeal : Cert.FfnUpSIdeal.Facts] [hFfnUpSRefIdeal : Cert.FfnUpSRefIdeal.Facts] : Prop :=
  ∀ (m : (ℓ : Loc Cert.FfnUpSIdeal.nD Cert.FfnUpSIdeal.τ Cert.FfnUpSIdeal.sig) → Buf (Elt Ideal) ℓ) (g : Dev Cert.FfnUpSIdeal.nD → PrngReg)
    (m' : (ℓ : Loc Cert.FfnUpSRefIdeal.nD Cert.FfnUpSRefIdeal.τ Cert.FfnUpSRefIdeal.sig) → Buf (Elt Ideal) ℓ) (g' : Dev Cert.FfnUpSRefIdeal.nD → PrngReg), Pre_FfnUpSIdeal m →
    (∀ c : Dev Cert.FfnUpSIdeal.nD,
      m' ((c.tc : Thread Cert.FfnUpSRefIdeal.nD Cert.FfnUpSRefIdeal.τ).loc Cert.FfnUpSRefIdeal.main_arg0) = m ((c.tc : Thread Cert.FfnUpSIdeal.nD Cert.FfnUpSIdeal.τ).loc Cert.FfnUpSIdeal.main_arg0)
      ∧ m' ((c.tc : Thread Cert.FfnUpSRefIdeal.nD Cert.FfnUpSRefIdeal.τ).loc Cert.FfnUpSRefIdeal.main_arg1) = m ((c.tc : Thread Cert.FfnUpSIdeal.nD Cert.FfnUpSIdeal.τ).loc Cert.FfnUpSIdeal.main_arg1)
      ∧ m' ((c.tc : Thread Cert.FfnUpSRefIdeal.nD Cert.FfnUpSRefIdeal.τ).loc Cert.FfnUpSRefIdeal.main_arg2) = m ((c.tc : Thread Cert.FfnUpSIdeal.nD Cert.FfnUpSIdeal.τ).loc Cert.FfnUpSIdeal.main_arg2)
      ∧ m' ((c.tc : Thread Cert.FfnUpSRefIdeal.nD Cert.FfnUpSRefIdeal.τ).loc Cert.FfnUpSRefIdeal.main_arg3) = m ((c.tc : Thread Cert.FfnUpSIdeal.nD Cert.FfnUpSIdeal.τ).loc Cert.FfnUpSIdeal.main_arg3)
      ∧ m' ((c.tc : Thread Cert.FfnUpSRefIdeal.nD Cert.FfnUpSRefIdeal.τ).loc Cert.FfnUpSRefIdeal.main_arg4) = m ((c.tc : Thread Cert.FfnUpSIdeal.nD Cert.FfnUpSIdeal.τ).loc Cert.FfnUpSIdeal.main_arg4)
      ∧ m' ((c.tc : Thread Cert.FfnUpSRefIdeal.nD Cert.FfnUpSRefIdeal.τ).loc Cert.FfnUpSRefIdeal.main_arg5) = m ((c.tc : Thread Cert.FfnUpSIdeal.nD Cert.FfnUpSIdeal.τ).loc Cert.FfnUpSIdeal.main_arg5)
      ∧ m' ((c.tc : Thread Cert.FfnUpSRefIdeal.nD Cert.FfnUpSRefIdeal.τ).loc Cert.FfnUpSRefIdeal.main_arg6) = m ((c.tc : Thread Cert.FfnUpSIdeal.nD Cert.FfnUpSIdeal.τ).loc Cert.FfnUpSIdeal.main_arg6)) →
    ∃ (v0 : (c : Dev Cert.FfnUpSIdeal.nD) → Buf (Elt Ideal) ((c.tc : Thread Cert.FfnUpSIdeal.nD Cert.FfnUpSIdeal.τ).loc Cert.FfnUpSIdeal.main_v2_0)) (v1 : (c : Dev Cert.FfnUpSIdeal.nD) → Buf (Elt Ideal) ((c.tc : Thread Cert.FfnUpSIdeal.nD Cert.FfnUpSIdeal.τ).loc Cert.FfnUpSIdeal.main_v2_1)),
      θ_run (Cert.FfnUpSIdeal.defs (F := Ideal)) (onTc (τ := Cert.FfnUpSIdeal.τ) (Cert.FfnUpSIdeal.main (F := Ideal))) ⟨m, fun _ => 0, g⟩ (fun r => ∀ c : Dev Cert.FfnUpSIdeal.nD,
          r.2.mem ((c.tc : Thread Cert.FfnUpSIdeal.nD Cert.FfnUpSIdeal.τ).loc Cert.FfnUpSIdeal.main_v2_0) = v0 c
          ∧ r.2.mem ((c.tc : Thread Cert.FfnUpSIdeal.nD Cert.FfnUpSIdeal.τ).loc Cert.FfnUpSIdeal.main_v2_1) = v1 c
          ∧ r.2.mem ((c.tc : Thread Cert.FfnUpSIdeal.nD Cert.FfnUpSIdeal.τ).loc Cert.FfnUpSIdeal.main_arg0) = m ((c.tc : Thread Cert.FfnUpSIdeal.nD Cert.FfnUpSIdeal.τ).loc Cert.FfnUpSIdeal.main_arg0)
          ∧ r.2.mem ((c.tc : Thread Cert.FfnUpSIdeal.nD Cert.FfnUpSIdeal.τ).loc Cert.FfnUpSIdeal.main_arg1) = m ((c.tc : Thread Cert.FfnUpSIdeal.nD Cert.FfnUpSIdeal.τ).loc Cert.FfnUpSIdeal.main_arg1)
          ∧ r.2.mem ((c.tc : Thread Cert.FfnUpSIdeal.nD Cert.FfnUpSIdeal.τ).loc Cert.FfnUpSIdeal.main_arg2) = m ((c.tc : Thread Cert.FfnUpSIdeal.nD Cert.FfnUpSIdeal.τ).loc Cert.FfnUpSIdeal.main_arg2)
          ∧ r.2.mem ((c.tc : Thread Cert.FfnUpSIdeal.nD Cert.FfnUpSIdeal.τ).loc Cert.FfnUpSIdeal.main_arg3) = m ((c.tc : Thread Cert.FfnUpSIdeal.nD Cert.FfnUpSIdeal.τ).loc Cert.FfnUpSIdeal.main_arg3)
          ∧ r.2.mem ((c.tc : Thread Cert.FfnUpSIdeal.nD Cert.FfnUpSIdeal.τ).loc Cert.FfnUpSIdeal.main_arg4) = m ((c.tc : Thread Cert.FfnUpSIdeal.nD Cert.FfnUpSIdeal.τ).loc Cert.FfnUpSIdeal.main_arg4)
          ∧ r.2.mem ((c.tc : Thread Cert.FfnUpSIdeal.nD Cert.FfnUpSIdeal.τ).loc Cert.FfnUpSIdeal.main_arg5) = m ((c.tc : Thread Cert.FfnUpSIdeal.nD Cert.FfnUpSIdeal.τ).loc Cert.FfnUpSIdeal.main_arg5)
          ∧ r.2.mem ((c.tc : Thread Cert.FfnUpSIdeal.nD Cert.FfnUpSIdeal.τ).loc Cert.FfnUpSIdeal.main_arg6) = m ((c.tc : Thread Cert.FfnUpSIdeal.nD Cert.FfnUpSIdeal.τ).loc Cert.FfnUpSIdeal.main_arg6))
      ∧ θ_run (Cert.FfnUpSRefIdeal.defs (F := Ideal)) (onTc (τ := Cert.FfnUpSRefIdeal.τ) (Cert.FfnUpSRefIdeal.main (F := Ideal))) ⟨m', fun _ => 0, g'⟩ (fun r => ∀ c : Dev Cert.FfnUpSRefIdeal.nD,
          r.2.mem ((c.tc : Thread Cert.FfnUpSRefIdeal.nD Cert.FfnUpSRefIdeal.τ).loc Cert.FfnUpSRefIdeal.main_v47) = v0 c
          ∧ r.2.mem ((c.tc : Thread Cert.FfnUpSRefIdeal.nD Cert.FfnUpSRefIdeal.τ).loc Cert.FfnUpSRefIdeal.main_v48) = v1 c
          ∧ r.2.mem ((c.tc : Thread Cert.FfnUpSRefIdeal.nD Cert.FfnUpSRefIdeal.τ).loc Cert.FfnUpSRefIdeal.main_arg0) = m' ((c.tc : Thread Cert.FfnUpSRefIdeal.nD Cert.FfnUpSRefIdeal.τ).loc Cert.FfnUpSRefIdeal.main_arg0)
          ∧ r.2.mem ((c.tc : Thread Cert.FfnUpSRefIdeal.nD Cert.FfnUpSRefIdeal.τ).loc Cert.FfnUpSRefIdeal.main_arg1) = m' ((c.tc : Thread Cert.FfnUpSRefIdeal.nD Cert.FfnUpSRefIdeal.τ).loc Cert.FfnUpSRefIdeal.main_arg1)
          ∧ r.2.mem ((c.tc : Thread Cert.FfnUpSRefIdeal.nD Cert.FfnUpSRefIdeal.τ).loc Cert.FfnUpSRefIdeal.main_arg2) = m' ((c.tc : Thread Cert.FfnUpSRefIdeal.nD Cert.FfnUpSRefIdeal.τ).loc Cert.FfnUpSRefIdeal.main_arg2)
          ∧ r.2.mem ((c.tc : Thread Cert.FfnUpSRefIdeal.nD Cert.FfnUpSRefIdeal.τ).loc Cert.FfnUpSRefIdeal.main_arg3) = m' ((c.tc : Thread Cert.FfnUpSRefIdeal.nD Cert.FfnUpSRefIdeal.τ).loc Cert.FfnUpSRefIdeal.main_arg3)
          ∧ r.2.mem ((c.tc : Thread Cert.FfnUpSRefIdeal.nD Cert.FfnUpSRefIdeal.τ).loc Cert.FfnUpSRefIdeal.main_arg4) = m' ((c.tc : Thread Cert.FfnUpSRefIdeal.nD Cert.FfnUpSRefIdeal.τ).loc Cert.FfnUpSRefIdeal.main_arg4)
          ∧ r.2.mem ((c.tc : Thread Cert.FfnUpSRefIdeal.nD Cert.FfnUpSRefIdeal.τ).loc Cert.FfnUpSRefIdeal.main_arg5) = m' ((c.tc : Thread Cert.FfnUpSRefIdeal.nD Cert.FfnUpSRefIdeal.τ).loc Cert.FfnUpSRefIdeal.main_arg5)
          ∧ r.2.mem ((c.tc : Thread Cert.FfnUpSRefIdeal.nD Cert.FfnUpSRefIdeal.τ).loc Cert.FfnUpSRefIdeal.main_arg6) = m' ((c.tc : Thread Cert.FfnUpSRefIdeal.nD Cert.FfnUpSRefIdeal.τ).loc Cert.FfnUpSRefIdeal.main_arg6))

def preserves_FfnDownS_FfnDownSIdeal : Prop :=
  True

def algebraic_FfnDownSIdeal_FfnDownSRefIdeal [hFfnDownSIdeal : Cert.FfnDownSIdeal.Facts] [hFfnDownSRefIdeal : Cert.FfnDownSRefIdeal.Facts] : Prop :=
  ∀ (m : (ℓ : Loc Cert.FfnDownSIdeal.nD Cert.FfnDownSIdeal.τ Cert.FfnDownSIdeal.sig) → Buf (Elt Ideal) ℓ) (g : Dev Cert.FfnDownSIdeal.nD → PrngReg)
    (m' : (ℓ : Loc Cert.FfnDownSRefIdeal.nD Cert.FfnDownSRefIdeal.τ Cert.FfnDownSRefIdeal.sig) → Buf (Elt Ideal) ℓ) (g' : Dev Cert.FfnDownSRefIdeal.nD → PrngReg), Pre_FfnDownSIdeal m →
    (∀ c : Dev Cert.FfnDownSIdeal.nD,
      m' ((c.tc : Thread Cert.FfnDownSRefIdeal.nD Cert.FfnDownSRefIdeal.τ).loc Cert.FfnDownSRefIdeal.main_arg0) = m ((c.tc : Thread Cert.FfnDownSIdeal.nD Cert.FfnDownSIdeal.τ).loc Cert.FfnDownSIdeal.main_arg0)
      ∧ m' ((c.tc : Thread Cert.FfnDownSRefIdeal.nD Cert.FfnDownSRefIdeal.τ).loc Cert.FfnDownSRefIdeal.main_arg1) = m ((c.tc : Thread Cert.FfnDownSIdeal.nD Cert.FfnDownSIdeal.τ).loc Cert.FfnDownSIdeal.main_arg1)
      ∧ m' ((c.tc : Thread Cert.FfnDownSRefIdeal.nD Cert.FfnDownSRefIdeal.τ).loc Cert.FfnDownSRefIdeal.main_arg2) = m ((c.tc : Thread Cert.FfnDownSIdeal.nD Cert.FfnDownSIdeal.τ).loc Cert.FfnDownSIdeal.main_arg2)
      ∧ m' ((c.tc : Thread Cert.FfnDownSRefIdeal.nD Cert.FfnDownSRefIdeal.τ).loc Cert.FfnDownSRefIdeal.main_arg3) = m ((c.tc : Thread Cert.FfnDownSIdeal.nD Cert.FfnDownSIdeal.τ).loc Cert.FfnDownSIdeal.main_arg3)
      ∧ m' ((c.tc : Thread Cert.FfnDownSRefIdeal.nD Cert.FfnDownSRefIdeal.τ).loc Cert.FfnDownSRefIdeal.main_arg4) = m ((c.tc : Thread Cert.FfnDownSIdeal.nD Cert.FfnDownSIdeal.τ).loc Cert.FfnDownSIdeal.main_arg4)
      ∧ m' ((c.tc : Thread Cert.FfnDownSRefIdeal.nD Cert.FfnDownSRefIdeal.τ).loc Cert.FfnDownSRefIdeal.main_arg5) = m ((c.tc : Thread Cert.FfnDownSIdeal.nD Cert.FfnDownSIdeal.τ).loc Cert.FfnDownSIdeal.main_arg5)) →
    ∃ (v0 : (c : Dev Cert.FfnDownSIdeal.nD) → Buf (Elt Ideal) ((c.tc : Thread Cert.FfnDownSIdeal.nD Cert.FfnDownSIdeal.τ).loc Cert.FfnDownSIdeal.main_v3)),
      θ_run (Cert.FfnDownSIdeal.defs (F := Ideal)) (onTc (τ := Cert.FfnDownSIdeal.τ) (Cert.FfnDownSIdeal.main (F := Ideal))) ⟨m, fun _ => 0, g⟩ (fun r => ∀ c : Dev Cert.FfnDownSIdeal.nD,
          r.2.mem ((c.tc : Thread Cert.FfnDownSIdeal.nD Cert.FfnDownSIdeal.τ).loc Cert.FfnDownSIdeal.main_v3) = v0 c
          ∧ r.2.mem ((c.tc : Thread Cert.FfnDownSIdeal.nD Cert.FfnDownSIdeal.τ).loc Cert.FfnDownSIdeal.main_arg0) = m ((c.tc : Thread Cert.FfnDownSIdeal.nD Cert.FfnDownSIdeal.τ).loc Cert.FfnDownSIdeal.main_arg0)
          ∧ r.2.mem ((c.tc : Thread Cert.FfnDownSIdeal.nD Cert.FfnDownSIdeal.τ).loc Cert.FfnDownSIdeal.main_arg1) = m ((c.tc : Thread Cert.FfnDownSIdeal.nD Cert.FfnDownSIdeal.τ).loc Cert.FfnDownSIdeal.main_arg1)
          ∧ r.2.mem ((c.tc : Thread Cert.FfnDownSIdeal.nD Cert.FfnDownSIdeal.τ).loc Cert.FfnDownSIdeal.main_arg2) = m ((c.tc : Thread Cert.FfnDownSIdeal.nD Cert.FfnDownSIdeal.τ).loc Cert.FfnDownSIdeal.main_arg2)
          ∧ r.2.mem ((c.tc : Thread Cert.FfnDownSIdeal.nD Cert.FfnDownSIdeal.τ).loc Cert.FfnDownSIdeal.main_arg3) = m ((c.tc : Thread Cert.FfnDownSIdeal.nD Cert.FfnDownSIdeal.τ).loc Cert.FfnDownSIdeal.main_arg3)
          ∧ r.2.mem ((c.tc : Thread Cert.FfnDownSIdeal.nD Cert.FfnDownSIdeal.τ).loc Cert.FfnDownSIdeal.main_arg4) = m ((c.tc : Thread Cert.FfnDownSIdeal.nD Cert.FfnDownSIdeal.τ).loc Cert.FfnDownSIdeal.main_arg4)
          ∧ r.2.mem ((c.tc : Thread Cert.FfnDownSIdeal.nD Cert.FfnDownSIdeal.τ).loc Cert.FfnDownSIdeal.main_arg5) = m ((c.tc : Thread Cert.FfnDownSIdeal.nD Cert.FfnDownSIdeal.τ).loc Cert.FfnDownSIdeal.main_arg5))
      ∧ θ_run (Cert.FfnDownSRefIdeal.defs (F := Ideal)) (onTc (τ := Cert.FfnDownSRefIdeal.τ) (Cert.FfnDownSRefIdeal.main (F := Ideal))) ⟨m', fun _ => 0, g'⟩ (fun r => ∀ c : Dev Cert.FfnDownSRefIdeal.nD,
          r.2.mem ((c.tc : Thread Cert.FfnDownSRefIdeal.nD Cert.FfnDownSRefIdeal.τ).loc Cert.FfnDownSRefIdeal.main_v35) = v0 c
          ∧ r.2.mem ((c.tc : Thread Cert.FfnDownSRefIdeal.nD Cert.FfnDownSRefIdeal.τ).loc Cert.FfnDownSRefIdeal.main_arg0) = m' ((c.tc : Thread Cert.FfnDownSRefIdeal.nD Cert.FfnDownSRefIdeal.τ).loc Cert.FfnDownSRefIdeal.main_arg0)
          ∧ r.2.mem ((c.tc : Thread Cert.FfnDownSRefIdeal.nD Cert.FfnDownSRefIdeal.τ).loc Cert.FfnDownSRefIdeal.main_arg1) = m' ((c.tc : Thread Cert.FfnDownSRefIdeal.nD Cert.FfnDownSRefIdeal.τ).loc Cert.FfnDownSRefIdeal.main_arg1)
          ∧ r.2.mem ((c.tc : Thread Cert.FfnDownSRefIdeal.nD Cert.FfnDownSRefIdeal.τ).loc Cert.FfnDownSRefIdeal.main_arg2) = m' ((c.tc : Thread Cert.FfnDownSRefIdeal.nD Cert.FfnDownSRefIdeal.τ).loc Cert.FfnDownSRefIdeal.main_arg2)
          ∧ r.2.mem ((c.tc : Thread Cert.FfnDownSRefIdeal.nD Cert.FfnDownSRefIdeal.τ).loc Cert.FfnDownSRefIdeal.main_arg3) = m' ((c.tc : Thread Cert.FfnDownSRefIdeal.nD Cert.FfnDownSRefIdeal.τ).loc Cert.FfnDownSRefIdeal.main_arg3)
          ∧ r.2.mem ((c.tc : Thread Cert.FfnDownSRefIdeal.nD Cert.FfnDownSRefIdeal.τ).loc Cert.FfnDownSRefIdeal.main_arg4) = m' ((c.tc : Thread Cert.FfnDownSRefIdeal.nD Cert.FfnDownSRefIdeal.τ).loc Cert.FfnDownSRefIdeal.main_arg4)
          ∧ r.2.mem ((c.tc : Thread Cert.FfnDownSRefIdeal.nD Cert.FfnDownSRefIdeal.τ).loc Cert.FfnDownSRefIdeal.main_arg5) = m' ((c.tc : Thread Cert.FfnDownSRefIdeal.nD Cert.FfnDownSRefIdeal.τ).loc Cert.FfnDownSRefIdeal.main_arg5))

def preserves_ProjAbS_ProjAbSIdeal : Prop :=
  True

def algebraic_ProjAbSIdeal_ProjAbSRefIdeal [hProjAbSIdeal : Cert.ProjAbSIdeal.Facts] [hProjAbSRefIdeal : Cert.ProjAbSRefIdeal.Facts] : Prop :=
  ∀ (m : (ℓ : Loc Cert.ProjAbSIdeal.nD Cert.ProjAbSIdeal.τ Cert.ProjAbSIdeal.sig) → Buf (Elt Ideal) ℓ) (g : Dev Cert.ProjAbSIdeal.nD → PrngReg)
    (m' : (ℓ : Loc Cert.ProjAbSRefIdeal.nD Cert.ProjAbSRefIdeal.τ Cert.ProjAbSRefIdeal.sig) → Buf (Elt Ideal) ℓ) (g' : Dev Cert.ProjAbSRefIdeal.nD → PrngReg), Pre_ProjAbSIdeal m →
    (∀ c : Dev Cert.ProjAbSIdeal.nD,
      m' ((c.tc : Thread Cert.ProjAbSRefIdeal.nD Cert.ProjAbSRefIdeal.τ).loc Cert.ProjAbSRefIdeal.main_arg0) = m ((c.tc : Thread Cert.ProjAbSIdeal.nD Cert.ProjAbSIdeal.τ).loc Cert.ProjAbSIdeal.main_arg0)
      ∧ m' ((c.tc : Thread Cert.ProjAbSRefIdeal.nD Cert.ProjAbSRefIdeal.τ).loc Cert.ProjAbSRefIdeal.main_arg1) = m ((c.tc : Thread Cert.ProjAbSIdeal.nD Cert.ProjAbSIdeal.τ).loc Cert.ProjAbSIdeal.main_arg1)
      ∧ m' ((c.tc : Thread Cert.ProjAbSRefIdeal.nD Cert.ProjAbSRefIdeal.τ).loc Cert.ProjAbSRefIdeal.main_arg2) = m ((c.tc : Thread Cert.ProjAbSIdeal.nD Cert.ProjAbSIdeal.τ).loc Cert.ProjAbSIdeal.main_arg2)
      ∧ m' ((c.tc : Thread Cert.ProjAbSRefIdeal.nD Cert.ProjAbSRefIdeal.τ).loc Cert.ProjAbSRefIdeal.main_arg3) = m ((c.tc : Thread Cert.ProjAbSIdeal.nD Cert.ProjAbSIdeal.τ).loc Cert.ProjAbSIdeal.main_arg3)) →
    ∃ (v0 : (c : Dev Cert.ProjAbSIdeal.nD) → Buf (Elt Ideal) ((c.tc : Thread Cert.ProjAbSIdeal.nD Cert.ProjAbSIdeal.τ).loc Cert.ProjAbSIdeal.main_v10_0)) (v1 : (c : Dev Cert.ProjAbSIdeal.nD) → Buf (Elt Ideal) ((c.tc : Thread Cert.ProjAbSIdeal.nD Cert.ProjAbSIdeal.τ).loc Cert.ProjAbSIdeal.main_v10_1)) (v2 : (c : Dev Cert.ProjAbSIdeal.nD) → Buf (Elt Ideal) ((c.tc : Thread Cert.ProjAbSIdeal.nD Cert.ProjAbSIdeal.τ).loc Cert.ProjAbSIdeal.main_v10_2)) (v3 : (c : Dev Cert.ProjAbSIdeal.nD) → Buf (Elt Ideal) ((c.tc : Thread Cert.ProjAbSIdeal.nD Cert.ProjAbSIdeal.τ).loc Cert.ProjAbSIdeal.main_v10_3)) (v4 : (c : Dev Cert.ProjAbSIdeal.nD) → Buf (Elt Ideal) ((c.tc : Thread Cert.ProjAbSIdeal.nD Cert.ProjAbSIdeal.τ).loc Cert.ProjAbSIdeal.main_v10_4)) (v5 : (c : Dev Cert.ProjAbSIdeal.nD) → Buf (Elt Ideal) ((c.tc : Thread Cert.ProjAbSIdeal.nD Cert.ProjAbSIdeal.τ).loc Cert.ProjAbSIdeal.main_v10_5)) (v6 : (c : Dev Cert.ProjAbSIdeal.nD) → Buf (Elt Ideal) ((c.tc : Thread Cert.ProjAbSIdeal.nD Cert.ProjAbSIdeal.τ).loc Cert.ProjAbSIdeal.main_v10_6)),
      θ_run (Cert.ProjAbSIdeal.defs (F := Ideal)) (onTc (τ := Cert.ProjAbSIdeal.τ) (Cert.ProjAbSIdeal.main (F := Ideal))) ⟨m, fun _ => 0, g⟩ (fun r => ∀ c : Dev Cert.ProjAbSIdeal.nD,
          r.2.mem ((c.tc : Thread Cert.ProjAbSIdeal.nD Cert.ProjAbSIdeal.τ).loc Cert.ProjAbSIdeal.main_v10_0) = v0 c
          ∧ r.2.mem ((c.tc : Thread Cert.ProjAbSIdeal.nD Cert.ProjAbSIdeal.τ).loc Cert.ProjAbSIdeal.main_v10_1) = v1 c
          ∧ r.2.mem ((c.tc : Thread Cert.ProjAbSIdeal.nD Cert.ProjAbSIdeal.τ).loc Cert.ProjAbSIdeal.main_v10_2) = v2 c
          ∧ r.2.mem ((c.tc : Thread Cert.ProjAbSIdeal.nD Cert.ProjAbSIdeal.τ).loc Cert.ProjAbSIdeal.main_v10_3) = v3 c
          ∧ r.2.mem ((c.tc : Thread Cert.ProjAbSIdeal.nD Cert.ProjAbSIdeal.τ).loc Cert.ProjAbSIdeal.main_v10_4) = v4 c
          ∧ r.2.mem ((c.tc : Thread Cert.ProjAbSIdeal.nD Cert.ProjAbSIdeal.τ).loc Cert.ProjAbSIdeal.main_v10_5) = v5 c
          ∧ r.2.mem ((c.tc : Thread Cert.ProjAbSIdeal.nD Cert.ProjAbSIdeal.τ).loc Cert.ProjAbSIdeal.main_v10_6) = v6 c
          ∧ r.2.mem ((c.tc : Thread Cert.ProjAbSIdeal.nD Cert.ProjAbSIdeal.τ).loc Cert.ProjAbSIdeal.main_arg0) = m ((c.tc : Thread Cert.ProjAbSIdeal.nD Cert.ProjAbSIdeal.τ).loc Cert.ProjAbSIdeal.main_arg0)
          ∧ r.2.mem ((c.tc : Thread Cert.ProjAbSIdeal.nD Cert.ProjAbSIdeal.τ).loc Cert.ProjAbSIdeal.main_arg1) = m ((c.tc : Thread Cert.ProjAbSIdeal.nD Cert.ProjAbSIdeal.τ).loc Cert.ProjAbSIdeal.main_arg1)
          ∧ r.2.mem ((c.tc : Thread Cert.ProjAbSIdeal.nD Cert.ProjAbSIdeal.τ).loc Cert.ProjAbSIdeal.main_arg2) = m ((c.tc : Thread Cert.ProjAbSIdeal.nD Cert.ProjAbSIdeal.τ).loc Cert.ProjAbSIdeal.main_arg2)
          ∧ r.2.mem ((c.tc : Thread Cert.ProjAbSIdeal.nD Cert.ProjAbSIdeal.τ).loc Cert.ProjAbSIdeal.main_arg3) = m ((c.tc : Thread Cert.ProjAbSIdeal.nD Cert.ProjAbSIdeal.τ).loc Cert.ProjAbSIdeal.main_arg3))
      ∧ θ_run (Cert.ProjAbSRefIdeal.defs (F := Ideal)) (onTc (τ := Cert.ProjAbSRefIdeal.τ) (Cert.ProjAbSRefIdeal.main (F := Ideal))) ⟨m', fun _ => 0, g'⟩ (fun r => ∀ c : Dev Cert.ProjAbSRefIdeal.nD,
          r.2.mem ((c.tc : Thread Cert.ProjAbSRefIdeal.nD Cert.ProjAbSRefIdeal.τ).loc Cert.ProjAbSRefIdeal.main_v8) = v0 c
          ∧ r.2.mem ((c.tc : Thread Cert.ProjAbSRefIdeal.nD Cert.ProjAbSRefIdeal.τ).loc Cert.ProjAbSRefIdeal.main_v9) = v1 c
          ∧ r.2.mem ((c.tc : Thread Cert.ProjAbSRefIdeal.nD Cert.ProjAbSRefIdeal.τ).loc Cert.ProjAbSRefIdeal.main_v10) = v2 c
          ∧ r.2.mem ((c.tc : Thread Cert.ProjAbSRefIdeal.nD Cert.ProjAbSRefIdeal.τ).loc Cert.ProjAbSRefIdeal.main_v11) = v3 c
          ∧ r.2.mem ((c.tc : Thread Cert.ProjAbSRefIdeal.nD Cert.ProjAbSRefIdeal.τ).loc Cert.ProjAbSRefIdeal.main_v7) = v4 c
          ∧ r.2.mem ((c.tc : Thread Cert.ProjAbSRefIdeal.nD Cert.ProjAbSRefIdeal.τ).loc Cert.ProjAbSRefIdeal.main_v13) = v5 c
          ∧ r.2.mem ((c.tc : Thread Cert.ProjAbSRefIdeal.nD Cert.ProjAbSRefIdeal.τ).loc Cert.ProjAbSRefIdeal.main_v15) = v6 c
          ∧ r.2.mem ((c.tc : Thread Cert.ProjAbSRefIdeal.nD Cert.ProjAbSRefIdeal.τ).loc Cert.ProjAbSRefIdeal.main_arg0) = m' ((c.tc : Thread Cert.ProjAbSRefIdeal.nD Cert.ProjAbSRefIdeal.τ).loc Cert.ProjAbSRefIdeal.main_arg0)
          ∧ r.2.mem ((c.tc : Thread Cert.ProjAbSRefIdeal.nD Cert.ProjAbSRefIdeal.τ).loc Cert.ProjAbSRefIdeal.main_arg1) = m' ((c.tc : Thread Cert.ProjAbSRefIdeal.nD Cert.ProjAbSRefIdeal.τ).loc Cert.ProjAbSRefIdeal.main_arg1)
          ∧ r.2.mem ((c.tc : Thread Cert.ProjAbSRefIdeal.nD Cert.ProjAbSRefIdeal.τ).loc Cert.ProjAbSRefIdeal.main_arg2) = m' ((c.tc : Thread Cert.ProjAbSRefIdeal.nD Cert.ProjAbSRefIdeal.τ).loc Cert.ProjAbSRefIdeal.main_arg2)
          ∧ r.2.mem ((c.tc : Thread Cert.ProjAbSRefIdeal.nD Cert.ProjAbSRefIdeal.τ).loc Cert.ProjAbSRefIdeal.main_arg3) = m' ((c.tc : Thread Cert.ProjAbSRefIdeal.nD Cert.ProjAbSRefIdeal.τ).loc Cert.ProjAbSRefIdeal.main_arg3))

def preserves_RglruS_RglruSIdeal : Prop :=
  True

def algebraic_RglruSIdeal_RglruSRefIdeal [hRglruSIdeal : Cert.RglruSIdeal.Facts] [hRglruSRefIdeal : Cert.RglruSRefIdeal.Facts] : Prop :=
  ∀ (m : (ℓ : Loc Cert.RglruSIdeal.nD Cert.RglruSIdeal.τ Cert.RglruSIdeal.sig) → Buf (Elt Ideal) ℓ) (g : Dev Cert.RglruSIdeal.nD → PrngReg)
    (m' : (ℓ : Loc Cert.RglruSRefIdeal.nD Cert.RglruSRefIdeal.τ Cert.RglruSRefIdeal.sig) → Buf (Elt Ideal) ℓ) (g' : Dev Cert.RglruSRefIdeal.nD → PrngReg), Pre_RglruSIdeal m →
    (∀ c : Dev Cert.RglruSIdeal.nD,
      m' ((c.tc : Thread Cert.RglruSRefIdeal.nD Cert.RglruSRefIdeal.τ).loc Cert.RglruSRefIdeal.main_arg0) = m ((c.tc : Thread Cert.RglruSIdeal.nD Cert.RglruSIdeal.τ).loc Cert.RglruSIdeal.main_arg0)
      ∧ m' ((c.tc : Thread Cert.RglruSRefIdeal.nD Cert.RglruSRefIdeal.τ).loc Cert.RglruSRefIdeal.main_arg1) = m ((c.tc : Thread Cert.RglruSIdeal.nD Cert.RglruSIdeal.τ).loc Cert.RglruSIdeal.main_arg1)
      ∧ m' ((c.tc : Thread Cert.RglruSRefIdeal.nD Cert.RglruSRefIdeal.τ).loc Cert.RglruSRefIdeal.main_arg2) = m ((c.tc : Thread Cert.RglruSIdeal.nD Cert.RglruSIdeal.τ).loc Cert.RglruSIdeal.main_arg2)
      ∧ m' ((c.tc : Thread Cert.RglruSRefIdeal.nD Cert.RglruSRefIdeal.τ).loc Cert.RglruSRefIdeal.main_arg3) = m ((c.tc : Thread Cert.RglruSIdeal.nD Cert.RglruSIdeal.τ).loc Cert.RglruSIdeal.main_arg3)
      ∧ m' ((c.tc : Thread Cert.RglruSRefIdeal.nD Cert.RglruSRefIdeal.τ).loc Cert.RglruSRefIdeal.main_arg4) = m ((c.tc : Thread Cert.RglruSIdeal.nD Cert.RglruSIdeal.τ).loc Cert.RglruSIdeal.main_arg4)
      ∧ m' ((c.tc : Thread Cert.RglruSRefIdeal.nD Cert.RglruSRefIdeal.τ).loc Cert.RglruSRefIdeal.main_arg5) = m ((c.tc : Thread Cert.RglruSIdeal.nD Cert.RglruSIdeal.τ).loc Cert.RglruSIdeal.main_arg5)
      ∧ m' ((c.tc : Thread Cert.RglruSRefIdeal.nD Cert.RglruSRefIdeal.τ).loc Cert.RglruSRefIdeal.main_arg6) = m ((c.tc : Thread Cert.RglruSIdeal.nD Cert.RglruSIdeal.τ).loc Cert.RglruSIdeal.main_arg6)
      ∧ m' ((c.tc : Thread Cert.RglruSRefIdeal.nD Cert.RglruSRefIdeal.τ).loc Cert.RglruSRefIdeal.main_arg7) = m ((c.tc : Thread Cert.RglruSIdeal.nD Cert.RglruSIdeal.τ).loc Cert.RglruSIdeal.main_arg7)
      ∧ m' ((c.tc : Thread Cert.RglruSRefIdeal.nD Cert.RglruSRefIdeal.τ).loc Cert.RglruSRefIdeal.main_arg8) = m ((c.tc : Thread Cert.RglruSIdeal.nD Cert.RglruSIdeal.τ).loc Cert.RglruSIdeal.main_arg8)
      ∧ m' ((c.tc : Thread Cert.RglruSRefIdeal.nD Cert.RglruSRefIdeal.τ).loc Cert.RglruSRefIdeal.main_arg9) = m ((c.tc : Thread Cert.RglruSIdeal.nD Cert.RglruSIdeal.τ).loc Cert.RglruSIdeal.main_arg9)
      ∧ m' ((c.tc : Thread Cert.RglruSRefIdeal.nD Cert.RglruSRefIdeal.τ).loc Cert.RglruSRefIdeal.main_arg10) = m ((c.tc : Thread Cert.RglruSIdeal.nD Cert.RglruSIdeal.τ).loc Cert.RglruSIdeal.main_arg10)) →
    ∃ (v0 : (c : Dev Cert.RglruSIdeal.nD) → Buf (Elt Ideal) ((c.tc : Thread Cert.RglruSIdeal.nD Cert.RglruSIdeal.τ).loc Cert.RglruSIdeal.main_v37_0)) (v1 : (c : Dev Cert.RglruSIdeal.nD) → Buf (Elt Ideal) ((c.tc : Thread Cert.RglruSIdeal.nD Cert.RglruSIdeal.τ).loc Cert.RglruSIdeal.main_v37_1)) (v2 : (c : Dev Cert.RglruSIdeal.nD) → Buf (Elt Ideal) ((c.tc : Thread Cert.RglruSIdeal.nD Cert.RglruSIdeal.τ).loc Cert.RglruSIdeal.main_v37_2)),
      θ_run (Cert.RglruSIdeal.defs (F := Ideal)) (onTc (τ := Cert.RglruSIdeal.τ) (Cert.RglruSIdeal.main (F := Ideal))) ⟨m, fun _ => 0, g⟩ (fun r => ∀ c : Dev Cert.RglruSIdeal.nD,
          r.2.mem ((c.tc : Thread Cert.RglruSIdeal.nD Cert.RglruSIdeal.τ).loc Cert.RglruSIdeal.main_v37_0) = v0 c
          ∧ r.2.mem ((c.tc : Thread Cert.RglruSIdeal.nD Cert.RglruSIdeal.τ).loc Cert.RglruSIdeal.main_v37_1) = v1 c
          ∧ r.2.mem ((c.tc : Thread Cert.RglruSIdeal.nD Cert.RglruSIdeal.τ).loc Cert.RglruSIdeal.main_v37_2) = v2 c
          ∧ r.2.mem ((c.tc : Thread Cert.RglruSIdeal.nD Cert.RglruSIdeal.τ).loc Cert.RglruSIdeal.main_arg0) = m ((c.tc : Thread Cert.RglruSIdeal.nD Cert.RglruSIdeal.τ).loc Cert.RglruSIdeal.main_arg0)
          ∧ r.2.mem ((c.tc : Thread Cert.RglruSIdeal.nD Cert.RglruSIdeal.τ).loc Cert.RglruSIdeal.main_arg1) = m ((c.tc : Thread Cert.RglruSIdeal.nD Cert.RglruSIdeal.τ).loc Cert.RglruSIdeal.main_arg1)
          ∧ r.2.mem ((c.tc : Thread Cert.RglruSIdeal.nD Cert.RglruSIdeal.τ).loc Cert.RglruSIdeal.main_arg2) = m ((c.tc : Thread Cert.RglruSIdeal.nD Cert.RglruSIdeal.τ).loc Cert.RglruSIdeal.main_arg2)
          ∧ r.2.mem ((c.tc : Thread Cert.RglruSIdeal.nD Cert.RglruSIdeal.τ).loc Cert.RglruSIdeal.main_arg3) = m ((c.tc : Thread Cert.RglruSIdeal.nD Cert.RglruSIdeal.τ).loc Cert.RglruSIdeal.main_arg3)
          ∧ r.2.mem ((c.tc : Thread Cert.RglruSIdeal.nD Cert.RglruSIdeal.τ).loc Cert.RglruSIdeal.main_arg4) = m ((c.tc : Thread Cert.RglruSIdeal.nD Cert.RglruSIdeal.τ).loc Cert.RglruSIdeal.main_arg4)
          ∧ r.2.mem ((c.tc : Thread Cert.RglruSIdeal.nD Cert.RglruSIdeal.τ).loc Cert.RglruSIdeal.main_arg5) = m ((c.tc : Thread Cert.RglruSIdeal.nD Cert.RglruSIdeal.τ).loc Cert.RglruSIdeal.main_arg5)
          ∧ r.2.mem ((c.tc : Thread Cert.RglruSIdeal.nD Cert.RglruSIdeal.τ).loc Cert.RglruSIdeal.main_arg6) = m ((c.tc : Thread Cert.RglruSIdeal.nD Cert.RglruSIdeal.τ).loc Cert.RglruSIdeal.main_arg6)
          ∧ r.2.mem ((c.tc : Thread Cert.RglruSIdeal.nD Cert.RglruSIdeal.τ).loc Cert.RglruSIdeal.main_arg7) = m ((c.tc : Thread Cert.RglruSIdeal.nD Cert.RglruSIdeal.τ).loc Cert.RglruSIdeal.main_arg7)
          ∧ r.2.mem ((c.tc : Thread Cert.RglruSIdeal.nD Cert.RglruSIdeal.τ).loc Cert.RglruSIdeal.main_arg8) = m ((c.tc : Thread Cert.RglruSIdeal.nD Cert.RglruSIdeal.τ).loc Cert.RglruSIdeal.main_arg8)
          ∧ r.2.mem ((c.tc : Thread Cert.RglruSIdeal.nD Cert.RglruSIdeal.τ).loc Cert.RglruSIdeal.main_arg9) = m ((c.tc : Thread Cert.RglruSIdeal.nD Cert.RglruSIdeal.τ).loc Cert.RglruSIdeal.main_arg9)
          ∧ r.2.mem ((c.tc : Thread Cert.RglruSIdeal.nD Cert.RglruSIdeal.τ).loc Cert.RglruSIdeal.main_arg10) = m ((c.tc : Thread Cert.RglruSIdeal.nD Cert.RglruSIdeal.τ).loc Cert.RglruSIdeal.main_arg10))
      ∧ θ_run (Cert.RglruSRefIdeal.defs (F := Ideal)) (onTc (τ := Cert.RglruSRefIdeal.τ) (Cert.RglruSRefIdeal.main (F := Ideal))) ⟨m', fun _ => 0, g'⟩ (fun r => ∀ c : Dev Cert.RglruSRefIdeal.nD,
          r.2.mem ((c.tc : Thread Cert.RglruSRefIdeal.nD Cert.RglruSRefIdeal.τ).loc Cert.RglruSRefIdeal.main_v99) = v0 c
          ∧ r.2.mem ((c.tc : Thread Cert.RglruSRefIdeal.nD Cert.RglruSRefIdeal.τ).loc Cert.RglruSRefIdeal.main_v100) = v1 c
          ∧ r.2.mem ((c.tc : Thread Cert.RglruSRefIdeal.nD Cert.RglruSRefIdeal.τ).loc Cert.RglruSRefIdeal.main_v83) = v2 c
          ∧ r.2.mem ((c.tc : Thread Cert.RglruSRefIdeal.nD Cert.RglruSRefIdeal.τ).loc Cert.RglruSRefIdeal.main_arg0) = m' ((c.tc : Thread Cert.RglruSRefIdeal.nD Cert.RglruSRefIdeal.τ).loc Cert.RglruSRefIdeal.main_arg0)
          ∧ r.2.mem ((c.tc : Thread Cert.RglruSRefIdeal.nD Cert.RglruSRefIdeal.τ).loc Cert.RglruSRefIdeal.main_arg1) = m' ((c.tc : Thread Cert.RglruSRefIdeal.nD Cert.RglruSRefIdeal.τ).loc Cert.RglruSRefIdeal.main_arg1)
          ∧ r.2.mem ((c.tc : Thread Cert.RglruSRefIdeal.nD Cert.RglruSRefIdeal.τ).loc Cert.RglruSRefIdeal.main_arg2) = m' ((c.tc : Thread Cert.RglruSRefIdeal.nD Cert.RglruSRefIdeal.τ).loc Cert.RglruSRefIdeal.main_arg2)
          ∧ r.2.mem ((c.tc : Thread Cert.RglruSRefIdeal.nD Cert.RglruSRefIdeal.τ).loc Cert.RglruSRefIdeal.main_arg3) = m' ((c.tc : Thread Cert.RglruSRefIdeal.nD Cert.RglruSRefIdeal.τ).loc Cert.RglruSRefIdeal.main_arg3)
          ∧ r.2.mem ((c.tc : Thread Cert.RglruSRefIdeal.nD Cert.RglruSRefIdeal.τ).loc Cert.RglruSRefIdeal.main_arg4) = m' ((c.tc : Thread Cert.RglruSRefIdeal.nD Cert.RglruSRefIdeal.τ).loc Cert.RglruSRefIdeal.main_arg4)
          ∧ r.2.mem ((c.tc : Thread Cert.RglruSRefIdeal.nD Cert.RglruSRefIdeal.τ).loc Cert.RglruSRefIdeal.main_arg5) = m' ((c.tc : Thread Cert.RglruSRefIdeal.nD Cert.RglruSRefIdeal.τ).loc Cert.RglruSRefIdeal.main_arg5)
          ∧ r.2.mem ((c.tc : Thread Cert.RglruSRefIdeal.nD Cert.RglruSRefIdeal.τ).loc Cert.RglruSRefIdeal.main_arg6) = m' ((c.tc : Thread Cert.RglruSRefIdeal.nD Cert.RglruSRefIdeal.τ).loc Cert.RglruSRefIdeal.main_arg6)
          ∧ r.2.mem ((c.tc : Thread Cert.RglruSRefIdeal.nD Cert.RglruSRefIdeal.τ).loc Cert.RglruSRefIdeal.main_arg7) = m' ((c.tc : Thread Cert.RglruSRefIdeal.nD Cert.RglruSRefIdeal.τ).loc Cert.RglruSRefIdeal.main_arg7)
          ∧ r.2.mem ((c.tc : Thread Cert.RglruSRefIdeal.nD Cert.RglruSRefIdeal.τ).loc Cert.RglruSRefIdeal.main_arg8) = m' ((c.tc : Thread Cert.RglruSRefIdeal.nD Cert.RglruSRefIdeal.τ).loc Cert.RglruSRefIdeal.main_arg8)
          ∧ r.2.mem ((c.tc : Thread Cert.RglruSRefIdeal.nD Cert.RglruSRefIdeal.τ).loc Cert.RglruSRefIdeal.main_arg9) = m' ((c.tc : Thread Cert.RglruSRefIdeal.nD Cert.RglruSRefIdeal.τ).loc Cert.RglruSRefIdeal.main_arg9)
          ∧ r.2.mem ((c.tc : Thread Cert.RglruSRefIdeal.nD Cert.RglruSRefIdeal.τ).loc Cert.RglruSRefIdeal.main_arg10) = m' ((c.tc : Thread Cert.RglruSRefIdeal.nD Cert.RglruSRefIdeal.τ).loc Cert.RglruSRefIdeal.main_arg10))

def preserves_S5S_S5SIdeal : Prop :=
  True

def algebraic_S5SIdeal_S5SRefIdeal [hS5SIdeal : Cert.S5SIdeal.Facts] [hS5SRefIdeal : Cert.S5SRefIdeal.Facts] : Prop :=
  ∀ (m : (ℓ : Loc Cert.S5SIdeal.nD Cert.S5SIdeal.τ Cert.S5SIdeal.sig) → Buf (Elt Ideal) ℓ) (g : Dev Cert.S5SIdeal.nD → PrngReg)
    (m' : (ℓ : Loc Cert.S5SRefIdeal.nD Cert.S5SRefIdeal.τ Cert.S5SRefIdeal.sig) → Buf (Elt Ideal) ℓ) (g' : Dev Cert.S5SRefIdeal.nD → PrngReg), Pre_S5SIdeal m →
    (∀ c : Dev Cert.S5SIdeal.nD,
      m' ((c.tc : Thread Cert.S5SRefIdeal.nD Cert.S5SRefIdeal.τ).loc Cert.S5SRefIdeal.main_arg0) = m ((c.tc : Thread Cert.S5SIdeal.nD Cert.S5SIdeal.τ).loc Cert.S5SIdeal.main_arg0)
      ∧ m' ((c.tc : Thread Cert.S5SRefIdeal.nD Cert.S5SRefIdeal.τ).loc Cert.S5SRefIdeal.main_arg1) = m ((c.tc : Thread Cert.S5SIdeal.nD Cert.S5SIdeal.τ).loc Cert.S5SIdeal.main_arg1)
      ∧ m' ((c.tc : Thread Cert.S5SRefIdeal.nD Cert.S5SRefIdeal.τ).loc Cert.S5SRefIdeal.main_arg2) = m ((c.tc : Thread Cert.S5SIdeal.nD Cert.S5SIdeal.τ).loc Cert.S5SIdeal.main_arg2)
      ∧ m' ((c.tc : Thread Cert.S5SRefIdeal.nD Cert.S5SRefIdeal.τ).loc Cert.S5SRefIdeal.main_arg3) = m ((c.tc : Thread Cert.S5SIdeal.nD Cert.S5SIdeal.τ).loc Cert.S5SIdeal.main_arg3)
      ∧ m' ((c.tc : Thread Cert.S5SRefIdeal.nD Cert.S5SRefIdeal.τ).loc Cert.S5SRefIdeal.main_arg4) = m ((c.tc : Thread Cert.S5SIdeal.nD Cert.S5SIdeal.τ).loc Cert.S5SIdeal.main_arg4)
      ∧ m' ((c.tc : Thread Cert.S5SRefIdeal.nD Cert.S5SRefIdeal.τ).loc Cert.S5SRefIdeal.main_arg5) = m ((c.tc : Thread Cert.S5SIdeal.nD Cert.S5SIdeal.τ).loc Cert.S5SIdeal.main_arg5)
      ∧ m' ((c.tc : Thread Cert.S5SRefIdeal.nD Cert.S5SRefIdeal.τ).loc Cert.S5SRefIdeal.main_arg6) = m ((c.tc : Thread Cert.S5SIdeal.nD Cert.S5SIdeal.τ).loc Cert.S5SIdeal.main_arg6)
      ∧ m' ((c.tc : Thread Cert.S5SRefIdeal.nD Cert.S5SRefIdeal.τ).loc Cert.S5SRefIdeal.main_arg7) = m ((c.tc : Thread Cert.S5SIdeal.nD Cert.S5SIdeal.τ).loc Cert.S5SIdeal.main_arg7)
      ∧ m' ((c.tc : Thread Cert.S5SRefIdeal.nD Cert.S5SRefIdeal.τ).loc Cert.S5SRefIdeal.main_arg8) = m ((c.tc : Thread Cert.S5SIdeal.nD Cert.S5SIdeal.τ).loc Cert.S5SIdeal.main_arg8)
      ∧ m' ((c.tc : Thread Cert.S5SRefIdeal.nD Cert.S5SRefIdeal.τ).loc Cert.S5SRefIdeal.main_arg9) = m ((c.tc : Thread Cert.S5SIdeal.nD Cert.S5SIdeal.τ).loc Cert.S5SIdeal.main_arg9)
      ∧ m' ((c.tc : Thread Cert.S5SRefIdeal.nD Cert.S5SRefIdeal.τ).loc Cert.S5SRefIdeal.main_arg10) = m ((c.tc : Thread Cert.S5SIdeal.nD Cert.S5SIdeal.τ).loc Cert.S5SIdeal.main_arg10)
      ∧ m' ((c.tc : Thread Cert.S5SRefIdeal.nD Cert.S5SRefIdeal.τ).loc Cert.S5SRefIdeal.main_arg11) = m ((c.tc : Thread Cert.S5SIdeal.nD Cert.S5SIdeal.τ).loc Cert.S5SIdeal.main_arg11)) →
    ∃ (v0 : (c : Dev Cert.S5SIdeal.nD) → Buf (Elt Ideal) ((c.tc : Thread Cert.S5SIdeal.nD Cert.S5SIdeal.τ).loc Cert.S5SIdeal.main_v47_0)) (v1 : (c : Dev Cert.S5SIdeal.nD) → Buf (Elt Ideal) ((c.tc : Thread Cert.S5SIdeal.nD Cert.S5SIdeal.τ).loc Cert.S5SIdeal.main_v47_1)) (v2 : (c : Dev Cert.S5SIdeal.nD) → Buf (Elt Ideal) ((c.tc : Thread Cert.S5SIdeal.nD Cert.S5SIdeal.τ).loc Cert.S5SIdeal.main_v47_2)),
      θ_run (Cert.S5SIdeal.defs (F := Ideal)) (onTc (τ := Cert.S5SIdeal.τ) (Cert.S5SIdeal.main (F := Ideal))) ⟨m, fun _ => 0, g⟩ (fun r => ∀ c : Dev Cert.S5SIdeal.nD,
          r.2.mem ((c.tc : Thread Cert.S5SIdeal.nD Cert.S5SIdeal.τ).loc Cert.S5SIdeal.main_v47_0) = v0 c
          ∧ r.2.mem ((c.tc : Thread Cert.S5SIdeal.nD Cert.S5SIdeal.τ).loc Cert.S5SIdeal.main_v47_1) = v1 c
          ∧ r.2.mem ((c.tc : Thread Cert.S5SIdeal.nD Cert.S5SIdeal.τ).loc Cert.S5SIdeal.main_v47_2) = v2 c
          ∧ r.2.mem ((c.tc : Thread Cert.S5SIdeal.nD Cert.S5SIdeal.τ).loc Cert.S5SIdeal.main_arg0) = m ((c.tc : Thread Cert.S5SIdeal.nD Cert.S5SIdeal.τ).loc Cert.S5SIdeal.main_arg0)
          ∧ r.2.mem ((c.tc : Thread Cert.S5SIdeal.nD Cert.S5SIdeal.τ).loc Cert.S5SIdeal.main_arg1) = m ((c.tc : Thread Cert.S5SIdeal.nD Cert.S5SIdeal.τ).loc Cert.S5SIdeal.main_arg1)
          ∧ r.2.mem ((c.tc : Thread Cert.S5SIdeal.nD Cert.S5SIdeal.τ).loc Cert.S5SIdeal.main_arg2) = m ((c.tc : Thread Cert.S5SIdeal.nD Cert.S5SIdeal.τ).loc Cert.S5SIdeal.main_arg2)
          ∧ r.2.mem ((c.tc : Thread Cert.S5SIdeal.nD Cert.S5SIdeal.τ).loc Cert.S5SIdeal.main_arg3) = m ((c.tc : Thread Cert.S5SIdeal.nD Cert.S5SIdeal.τ).loc Cert.S5SIdeal.main_arg3)
          ∧ r.2.mem ((c.tc : Thread Cert.S5SIdeal.nD Cert.S5SIdeal.τ).loc Cert.S5SIdeal.main_arg4) = m ((c.tc : Thread Cert.S5SIdeal.nD Cert.S5SIdeal.τ).loc Cert.S5SIdeal.main_arg4)
          ∧ r.2.mem ((c.tc : Thread Cert.S5SIdeal.nD Cert.S5SIdeal.τ).loc Cert.S5SIdeal.main_arg5) = m ((c.tc : Thread Cert.S5SIdeal.nD Cert.S5SIdeal.τ).loc Cert.S5SIdeal.main_arg5)
          ∧ r.2.mem ((c.tc : Thread Cert.S5SIdeal.nD Cert.S5SIdeal.τ).loc Cert.S5SIdeal.main_arg6) = m ((c.tc : Thread Cert.S5SIdeal.nD Cert.S5SIdeal.τ).loc Cert.S5SIdeal.main_arg6)
          ∧ r.2.mem ((c.tc : Thread Cert.S5SIdeal.nD Cert.S5SIdeal.τ).loc Cert.S5SIdeal.main_arg7) = m ((c.tc : Thread Cert.S5SIdeal.nD Cert.S5SIdeal.τ).loc Cert.S5SIdeal.main_arg7)
          ∧ r.2.mem ((c.tc : Thread Cert.S5SIdeal.nD Cert.S5SIdeal.τ).loc Cert.S5SIdeal.main_arg8) = m ((c.tc : Thread Cert.S5SIdeal.nD Cert.S5SIdeal.τ).loc Cert.S5SIdeal.main_arg8)
          ∧ r.2.mem ((c.tc : Thread Cert.S5SIdeal.nD Cert.S5SIdeal.τ).loc Cert.S5SIdeal.main_arg9) = m ((c.tc : Thread Cert.S5SIdeal.nD Cert.S5SIdeal.τ).loc Cert.S5SIdeal.main_arg9)
          ∧ r.2.mem ((c.tc : Thread Cert.S5SIdeal.nD Cert.S5SIdeal.τ).loc Cert.S5SIdeal.main_arg10) = m ((c.tc : Thread Cert.S5SIdeal.nD Cert.S5SIdeal.τ).loc Cert.S5SIdeal.main_arg10)
          ∧ r.2.mem ((c.tc : Thread Cert.S5SIdeal.nD Cert.S5SIdeal.τ).loc Cert.S5SIdeal.main_arg11) = m ((c.tc : Thread Cert.S5SIdeal.nD Cert.S5SIdeal.τ).loc Cert.S5SIdeal.main_arg11))
      ∧ θ_run (Cert.S5SRefIdeal.defs (F := Ideal)) (onTc (τ := Cert.S5SRefIdeal.τ) (Cert.S5SRefIdeal.main (F := Ideal))) ⟨m', fun _ => 0, g'⟩ (fun r => ∀ c : Dev Cert.S5SRefIdeal.nD,
          r.2.mem ((c.tc : Thread Cert.S5SRefIdeal.nD Cert.S5SRefIdeal.τ).loc Cert.S5SRefIdeal.main_v61) = v0 c
          ∧ r.2.mem ((c.tc : Thread Cert.S5SRefIdeal.nD Cert.S5SRefIdeal.τ).loc Cert.S5SRefIdeal.main_v62) = v1 c
          ∧ r.2.mem ((c.tc : Thread Cert.S5SRefIdeal.nD Cert.S5SRefIdeal.τ).loc Cert.S5SRefIdeal.main_v63) = v2 c
          ∧ r.2.mem ((c.tc : Thread Cert.S5SRefIdeal.nD Cert.S5SRefIdeal.τ).loc Cert.S5SRefIdeal.main_arg0) = m' ((c.tc : Thread Cert.S5SRefIdeal.nD Cert.S5SRefIdeal.τ).loc Cert.S5SRefIdeal.main_arg0)
          ∧ r.2.mem ((c.tc : Thread Cert.S5SRefIdeal.nD Cert.S5SRefIdeal.τ).loc Cert.S5SRefIdeal.main_arg1) = m' ((c.tc : Thread Cert.S5SRefIdeal.nD Cert.S5SRefIdeal.τ).loc Cert.S5SRefIdeal.main_arg1)
          ∧ r.2.mem ((c.tc : Thread Cert.S5SRefIdeal.nD Cert.S5SRefIdeal.τ).loc Cert.S5SRefIdeal.main_arg2) = m' ((c.tc : Thread Cert.S5SRefIdeal.nD Cert.S5SRefIdeal.τ).loc Cert.S5SRefIdeal.main_arg2)
          ∧ r.2.mem ((c.tc : Thread Cert.S5SRefIdeal.nD Cert.S5SRefIdeal.τ).loc Cert.S5SRefIdeal.main_arg3) = m' ((c.tc : Thread Cert.S5SRefIdeal.nD Cert.S5SRefIdeal.τ).loc Cert.S5SRefIdeal.main_arg3)
          ∧ r.2.mem ((c.tc : Thread Cert.S5SRefIdeal.nD Cert.S5SRefIdeal.τ).loc Cert.S5SRefIdeal.main_arg4) = m' ((c.tc : Thread Cert.S5SRefIdeal.nD Cert.S5SRefIdeal.τ).loc Cert.S5SRefIdeal.main_arg4)
          ∧ r.2.mem ((c.tc : Thread Cert.S5SRefIdeal.nD Cert.S5SRefIdeal.τ).loc Cert.S5SRefIdeal.main_arg5) = m' ((c.tc : Thread Cert.S5SRefIdeal.nD Cert.S5SRefIdeal.τ).loc Cert.S5SRefIdeal.main_arg5)
          ∧ r.2.mem ((c.tc : Thread Cert.S5SRefIdeal.nD Cert.S5SRefIdeal.τ).loc Cert.S5SRefIdeal.main_arg6) = m' ((c.tc : Thread Cert.S5SRefIdeal.nD Cert.S5SRefIdeal.τ).loc Cert.S5SRefIdeal.main_arg6)
          ∧ r.2.mem ((c.tc : Thread Cert.S5SRefIdeal.nD Cert.S5SRefIdeal.τ).loc Cert.S5SRefIdeal.main_arg7) = m' ((c.tc : Thread Cert.S5SRefIdeal.nD Cert.S5SRefIdeal.τ).loc Cert.S5SRefIdeal.main_arg7)
          ∧ r.2.mem ((c.tc : Thread Cert.S5SRefIdeal.nD Cert.S5SRefIdeal.τ).loc Cert.S5SRefIdeal.main_arg8) = m' ((c.tc : Thread Cert.S5SRefIdeal.nD Cert.S5SRefIdeal.τ).loc Cert.S5SRefIdeal.main_arg8)
          ∧ r.2.mem ((c.tc : Thread Cert.S5SRefIdeal.nD Cert.S5SRefIdeal.τ).loc Cert.S5SRefIdeal.main_arg9) = m' ((c.tc : Thread Cert.S5SRefIdeal.nD Cert.S5SRefIdeal.τ).loc Cert.S5SRefIdeal.main_arg9)
          ∧ r.2.mem ((c.tc : Thread Cert.S5SRefIdeal.nD Cert.S5SRefIdeal.τ).loc Cert.S5SRefIdeal.main_arg10) = m' ((c.tc : Thread Cert.S5SRefIdeal.nD Cert.S5SRefIdeal.τ).loc Cert.S5SRefIdeal.main_arg10)
          ∧ r.2.mem ((c.tc : Thread Cert.S5SRefIdeal.nD Cert.S5SRefIdeal.τ).loc Cert.S5SRefIdeal.main_arg11) = m' ((c.tc : Thread Cert.S5SRefIdeal.nD Cert.S5SRefIdeal.τ).loc Cert.S5SRefIdeal.main_arg11))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hProjAb : Cert.ProjAb.Facts) (hProjAbIdeal : Cert.ProjAbIdeal.Facts) (hProjAbRefIdeal : Cert.ProjAbRefIdeal.Facts) (hProjCd : Cert.ProjCd.Facts) (hProjCdIdeal : Cert.ProjCdIdeal.Facts) (hProjCdRefIdeal : Cert.ProjCdRefIdeal.Facts) (hFfnUpS : Cert.FfnUpS.Facts) (hFfnUpSIdeal : Cert.FfnUpSIdeal.Facts) (hFfnUpSRefIdeal : Cert.FfnUpSRefIdeal.Facts) (hFfnDownS : Cert.FfnDownS.Facts) (hFfnDownSIdeal : Cert.FfnDownSIdeal.Facts) (hFfnDownSRefIdeal : Cert.FfnDownSRefIdeal.Facts) (hProjAbS : Cert.ProjAbS.Facts) (hProjAbSIdeal : Cert.ProjAbSIdeal.Facts) (hProjAbSRefIdeal : Cert.ProjAbSRefIdeal.Facts) (hRglruS : Cert.RglruS.Facts) (hRglruSIdeal : Cert.RglruSIdeal.Facts) (hRglruSRefIdeal : Cert.RglruSRefIdeal.Facts) (hS5S : Cert.S5S.Facts) (hS5SIdeal : Cert.S5SIdeal.Facts) (hS5SRefIdeal : Cert.S5SRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjAb (hProjAb := hProjAb)
    ∧ quiescent_ProjAbIdeal (hProjAbIdeal := hProjAbIdeal)
    ∧ quiescent_ProjAbRefIdeal (hProjAbRefIdeal := hProjAbRefIdeal)
    ∧ quiescent_ProjCd (hProjCd := hProjCd)
    ∧ quiescent_ProjCdIdeal (hProjCdIdeal := hProjCdIdeal)
    ∧ quiescent_ProjCdRefIdeal (hProjCdRefIdeal := hProjCdRefIdeal)
    ∧ quiescent_FfnUpS (hFfnUpS := hFfnUpS)
    ∧ quiescent_FfnUpSIdeal (hFfnUpSIdeal := hFfnUpSIdeal)
    ∧ quiescent_FfnUpSRefIdeal (hFfnUpSRefIdeal := hFfnUpSRefIdeal)
    ∧ quiescent_FfnDownS (hFfnDownS := hFfnDownS)
    ∧ quiescent_FfnDownSIdeal (hFfnDownSIdeal := hFfnDownSIdeal)
    ∧ quiescent_FfnDownSRefIdeal (hFfnDownSRefIdeal := hFfnDownSRefIdeal)
    ∧ quiescent_ProjAbS (hProjAbS := hProjAbS)
    ∧ quiescent_ProjAbSIdeal (hProjAbSIdeal := hProjAbSIdeal)
    ∧ quiescent_ProjAbSRefIdeal (hProjAbSRefIdeal := hProjAbSRefIdeal)
    ∧ quiescent_RglruS (hRglruS := hRglruS)
    ∧ quiescent_RglruSIdeal (hRglruSIdeal := hRglruSIdeal)
    ∧ quiescent_RglruSRefIdeal (hRglruSRefIdeal := hRglruSRefIdeal)
    ∧ quiescent_S5S (hS5S := hS5S)
    ∧ quiescent_S5SIdeal (hS5SIdeal := hS5SIdeal)
    ∧ quiescent_S5SRefIdeal (hS5SRefIdeal := hS5SRefIdeal)
    ∧ preserves_Kernel_KernelIdeal
    ∧ algebraic_KernelIdeal_ReferenceIdeal (hKernelIdeal := hKernelIdeal) (hReferenceIdeal := hReferenceIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_ProjAb_ProjAbIdeal
    ∧ algebraic_ProjAbIdeal_ProjAbRefIdeal (hProjAbIdeal := hProjAbIdeal) (hProjAbRefIdeal := hProjAbRefIdeal)
    ∧ preserves_ProjCd_ProjCdIdeal
    ∧ algebraic_ProjCdIdeal_ProjCdRefIdeal (hProjCdIdeal := hProjCdIdeal) (hProjCdRefIdeal := hProjCdRefIdeal)
    ∧ preserves_FfnUpS_FfnUpSIdeal
    ∧ algebraic_FfnUpSIdeal_FfnUpSRefIdeal (hFfnUpSIdeal := hFfnUpSIdeal) (hFfnUpSRefIdeal := hFfnUpSRefIdeal)
    ∧ preserves_FfnDownS_FfnDownSIdeal
    ∧ algebraic_FfnDownSIdeal_FfnDownSRefIdeal (hFfnDownSIdeal := hFfnDownSIdeal) (hFfnDownSRefIdeal := hFfnDownSRefIdeal)
    ∧ preserves_ProjAbS_ProjAbSIdeal
    ∧ algebraic_ProjAbSIdeal_ProjAbSRefIdeal (hProjAbSIdeal := hProjAbSIdeal) (hProjAbSRefIdeal := hProjAbSRefIdeal)
    ∧ preserves_RglruS_RglruSIdeal
    ∧ algebraic_RglruSIdeal_RglruSRefIdeal (hRglruSIdeal := hRglruSIdeal) (hRglruSRefIdeal := hRglruSRefIdeal)
    ∧ preserves_S5S_S5SIdeal
    ∧ algebraic_S5SIdeal_S5SRefIdeal (hS5SIdeal := hS5SIdeal) (hS5SRefIdeal := hS5SRefIdeal)
-- ==== Kernel.lean ====
abbrev S2048x16x512 : Shape := ⟨3, ![2048, 16, 512]⟩
abbrev S3x16x512 : Shape := ⟨3, ![3, 16, 512]⟩
abbrev S16x512 : Shape := ⟨2, ![16, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S8x64x1x64 : Shape := ⟨4, ![8, 64, 1, 64]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S64x16x512 : Shape := ⟨3, ![64, 16, 512]⟩
abbrev S67x16x512 : Shape := ⟨3, ![67, 16, 512]⟩
abbrev S1x1x512 : Shape := ⟨3, ![1, 1, 512]⟩
abbrev S1024x512 : Shape := ⟨2, ![1024, 512]⟩
abbrev S1x16x512 : Shape := ⟨3, ![1, 16, 512]⟩

abbrev nBuf : Space → Nat
  | .hbm => 53
  | .vmem => 21
  | .smem => 0
  | _ => 0

abbrev bufTy : (tb : Table) → Fin (tcTables nBuf tb) → BufTy
  | .hbm, ⟨0, _⟩ => ⟨S2048x16x512, .f32⟩
  | .hbm, ⟨1, _⟩ => ⟨S2048x16x512, .f32⟩
  | .hbm, ⟨2, _⟩ => ⟨S3x16x512, .f32⟩
  | .hbm, ⟨3, _⟩ => ⟨S16x512, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S4x512, .f32⟩
  | .hbm, ⟨12, _⟩ => ⟨S512, .f32⟩
  | .hbm, ⟨13, _⟩ => ⟨S1x512, .f32⟩
  | .hbm, ⟨14, _⟩ => ⟨S8x64x64, .f32⟩
  | .hbm, ⟨15, _⟩ => ⟨S8x64x1x64, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x1x8x1, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S512x512, .bf16⟩
  | .hbm, ⟨29, _⟩ => ⟨S512, .f32⟩
  | .hbm, ⟨30, _⟩ => ⟨S1x512, .f32⟩
  | .hbm, ⟨31, _⟩ => ⟨S8x64x64, .f32⟩
  | .hbm, ⟨32, _⟩ => ⟨S8x64x1x64, .f32⟩
  | .hbm, ⟨33, _⟩ => ⟨S8x8, .i32⟩
  | .hbm, ⟨34, _⟩ => ⟨S8x8, .i32⟩
  | .hbm, ⟨35, _⟩ => ⟨S_, .i32⟩
  | .hbm, ⟨36, _⟩ => ⟨S8x8, .i32⟩
  | .hbm, ⟨37, _⟩ => ⟨S8x8, .i32⟩
  | .hbm, ⟨38, _⟩ => ⟨S8x8, .i1⟩
  | .hbm, ⟨39, _⟩ => ⟨S8x8, .f32⟩
  | .hbm, ⟨40, _⟩ => ⟨S8x1x8x1, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S512x512, .f32⟩
  | .hbm, ⟨45, _⟩ => ⟨S512x512, .bf16⟩
  | .hbm, ⟨46, _⟩ => ⟨S512, .f32⟩
  | .hbm, ⟨47, _⟩ => ⟨S1x512, .f32⟩
  | .hbm, ⟨48, _⟩ => ⟨S512, .f32⟩
  | .hbm, ⟨49, _⟩ => ⟨S1x512, .f32⟩
  | .hbm, ⟨50, _⟩ => ⟨S2048x16x512, .f32⟩
  | .hbm, ⟨51, _⟩ => ⟨S3x16x512, .f32⟩
  | .hbm, ⟨52, _⟩ => ⟨S16x512, .f32⟩
  | .local _ .vmem, ⟨0, _⟩ => ⟨S64x16x512, .f32⟩
  | .local _ .vmem, ⟨1, _⟩ => ⟨S64x16x512, .f32⟩
  | .local _ .vmem, ⟨2, _⟩ => ⟨S64x16x512, .f32⟩
  | .local _ .vmem, ⟨3, _⟩ => ⟨S64x16x512, .f32⟩
  | .local _ .vmem, ⟨4, _⟩ => ⟨S3x16x512, .f32⟩
  | .local _ .vmem, ⟨5, _⟩ => ⟨S16x512, .f32⟩
  | .local _ .vmem, ⟨6, _⟩ => ⟨S4x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x512, .f32⟩
  | .local _ .vmem, ⟨13, _⟩ => ⟨S64x16x512, .f32⟩
  | .local _ .vmem, ⟨14, _⟩ => ⟨S64x16x512, .f32⟩
  | .local _ .vmem, ⟨15, _⟩ => ⟨S3x16x512, .f32⟩
  | .local _ .vmem, ⟨16, _⟩ => ⟨S16x512, .f32⟩
  | .local _ .vmem, ⟨17, _⟩ => ⟨S3x16x512, .f32⟩
  | .local _ .vmem, ⟨18, _⟩ => ⟨S16x512, .f32⟩
  | .local _ .vmem, ⟨19, _⟩ => ⟨S64x16x512, .f32⟩
  | .local _ .vmem, ⟨20, _⟩ => ⟨S64x16x512, .f32⟩
  | _, _ => ⟨S2048x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_48 : BitVec 32 := 0#32
  let c64_i32 : BitVec 32 := 64#32
  let v113 : BitVec 32 := Scalar.addi c0_i32_48 c64_i32
  let c1_i32 : BitVec 32 := 1#32
  ⟨c0_i32_48, v113, c1_i32⟩
def k0_off1 (k0_t1 : Fin k0_t1_loop.trips) : Fin 3 → Nat :=
  let c0_i32_48 : BitVec 32 := 0#32
  let c1_i32 : BitVec 32 := 1#32
  let arg19 : BitVec 32 := Scf.iv c0_i32_48 c1_i32 k0_t1
  let v139 : Index := Scalar.indexCast arg19
  let c0_73 : Index := 0#32
  let c0_74 : Index := 0#32
  ![v139.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x16x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x16x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S2048x16x512 : Shape := ⟨3, ![2048, 16, 512]⟩
abbrev S3x16x512 : Shape := ⟨3, ![3, 16, 512]⟩
abbrev S16x512 : Shape := ⟨2, ![16, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S2051x16x512 : Shape := ⟨3, ![2051, 16, 512]⟩
abbrev S512 : Shape := ⟨1, ![512]⟩
abbrev S1x1x512 : Shape := ⟨3, ![1, 1, 512]⟩
abbrev S2048x16x8x64 : Shape := ⟨4, ![2048, 16, 8, 64]⟩
abbrev S8x64x64 : Shape := ⟨3, ![8, 64, 64]⟩
abbrev S8x64x2048x16 : Shape := ⟨4, ![8, 64, 2048, 16]⟩
abbrev S_ : Shape := ⟨0, ![]⟩
abbrev S1x16x512 : Shape := ⟨3, ![1, 16, 512]⟩

abbrev nBuf : Space → Nat
  | .hbm => 154
  | .vmem => 0
  | .smem => 0
  | _ => 0

abbrev hbmTy0_0 (i : Nat) : BufTy := match i % 128 with
  | 0 => ⟨S2048x16x512, .f32⟩
  | 1 => ⟨S2048x16x512, .f32⟩
  | 2 => ⟨S3x16x512, .f32⟩
  | 3 => ⟨S16x512, .f32⟩
  | 4 => ⟨S1x4x512, .f32⟩
  | 5 => ⟨S1x512, .f32⟩
  | 6 => ⟨S1x8x64x64, .f32⟩
  | 7 => ⟨S1x512, .f32⟩
  | 8 => ⟨S1x8x64x64, .f32⟩
  | 9 => ⟨S1x512, .f32⟩
  | 10 => ⟨S1x512, .f32⟩
  | 11 => ⟨S4x512, .f32⟩
  | 12 => ⟨S2051x16x512, .f32⟩
  | 13 => ⟨S2048x16x512, .f32⟩
  | 14 => ⟨S1x512, .f32⟩
  | 15 => ⟨S512, .f32⟩
  | 16 => ⟨S1x1x512, .f32⟩
  | 17 => ⟨S2048x16x512, .f32⟩
  | 18 => ⟨S2048x16x512, .f32⟩
  | 19 => ⟨S2048x16x512, .f32⟩
  | 20 => ⟨S1x512, .f32⟩
  | 21 => ⟨S512, .f32⟩
  | 22 => ⟨S1x1x512, .f32⟩
  | 23 => ⟨S2048x16x512, .f32⟩
  | 24 => ⟨S2048x16x512, .f32⟩
  | 25 => ⟨S2048x16x512, .f32⟩
  | 26 => ⟨S2048x16x512, .f32⟩
  | 27 => ⟨S1x512, .f32⟩
  | 28 => ⟨S512, .f32⟩
  | 29 => ⟨S1x1x512, .f32⟩
  | 30 => ⟨S2048x16x512, .f32⟩
  | 31 => ⟨S2048x16x512, .f32⟩
  | 32 => ⟨S2048x16x512, .f32⟩
  | 33 => ⟨S2048x16x512, .f32⟩
  | 34 => ⟨S1x512, .f32⟩
  | 35 => ⟨S512, .f32⟩
  | 36 => ⟨S1x1x512, .f32⟩
  | 37 => ⟨S2048x16x512, .f32⟩
  | 38 => ⟨S2048x16x512, .f32⟩
  | 39 => ⟨S2048x16x512, .f32⟩
  | 40 => ⟨S512, .f32⟩
  | 41 => ⟨S1x1x512, .f32⟩
  | 42 => ⟨S2048x16x512, .f32⟩
  | 43 => ⟨S2048x16x512, .f32⟩
  | 44 => ⟨S2048x16x8x64, .f32⟩
  | 45 => ⟨S8x64x64, .f32⟩
  | 46 => ⟨S8x64x2048x16, .f32⟩
  | 47 => ⟨S2048x16x8x64, .f32⟩
  | 48 => ⟨S2048x16x512, .f32⟩
  | 49 => ⟨S512, .f32⟩
  | 50 => ⟨S1x1x512, .f32⟩
  | 51 => ⟨S2048x16x512, .f32⟩
  | 52 => ⟨S2048x16x512, .f32⟩
  | 53 => ⟨S2048x16x512, .f32⟩
  | 54 => ⟨S2048x16x512, .f32⟩
  | 55 => ⟨S_, .f32⟩
  | 56 => ⟨S2048x16x512, .f32⟩
  | 57 => ⟨S2048x16x512, .f32⟩
  | 58 => ⟨S_, .f32⟩
  | 59 => ⟨S2048x16x512, .f32⟩
  | 60 => ⟨S2048x16x512, .f32⟩
  | 61 => ⟨S8x64x64, .f32⟩
  | 62 => ⟨S8x64x2048x16, .f32⟩
  | 63 => ⟨S2048x16x8x64, .f32⟩
  | 64 => ⟨S2048x16x512, .f32⟩
  | 65 => ⟨S512, .f32⟩
  | 66 => ⟨S1x1x512, .f32⟩
  | 67 => ⟨S2048x16x512, .f32⟩
  | 68 => ⟨S2048x16x512, .f32⟩
  | 69 => ⟨S2048x16x512, .f32⟩
  | 70 => ⟨S2048x16x512, .f32⟩
  | 71 => ⟨S_, .f32⟩
  | 72 => ⟨S2048x16x512, .f32⟩
  | 73 => ⟨S2048x16x512, .f32⟩
  | 74 => ⟨S_, .f32⟩
  | 75 => ⟨S2048x16x512, .f32⟩
  | 76 => ⟨S2048x16x512, .f32⟩
  | 77 => ⟨S_, .f32⟩
  | 78 => ⟨S2048x16x512, .f32⟩
  | 79 => ⟨S2048x16x512, .f32⟩
  | 80 => ⟨S512, .f32⟩
  | 81 => ⟨S512, .f32⟩
  | 82 => ⟨S_, .f32⟩
  | 83 => ⟨S512, .f32⟩
  | 84 => ⟨S512, .f32⟩
  | 85 => ⟨S512, .f32⟩
  | 86 => ⟨S512, .f32⟩
  | 87 => ⟨S512, .i1⟩
  | 88 => ⟨S512, .f32⟩
  | 89 => ⟨S512, .f32⟩
  | 90 => ⟨S512, .f32⟩
  | 91 => ⟨S512, .f32⟩
  | 92 => ⟨S512, .f32⟩
  | 93 => ⟨S512, .f32⟩
  | 94 => ⟨S512, .f32⟩
  | 95 => ⟨S512, .f32⟩
  | 96 => ⟨S1x1x512, .f32⟩
  | 97 => ⟨S2048x16x512, .f32⟩
  | 98 => ⟨S2048x16x512, .f32⟩
  | 99 => ⟨S2048x16x512, .f32⟩
  | 100 => ⟨S_, .f32⟩
  | 101 => ⟨S2048x16x512, .f32⟩
  | 102 => ⟨S2048x16x512, .f32⟩
  | 103 => ⟨S2048x16x512, .f32⟩
  | 104 => ⟨S2048x16x512, .f32⟩
  | 105 => ⟨S2048x16x512, .f32⟩
  | 106 => ⟨S2048x16x512, .f32⟩
  | 107 => ⟨S2048x16x512, .f32⟩
  | 108 => ⟨S_, .f32⟩
  | 109 => ⟨S2048x16x512, .f32⟩
  | 110 => ⟨S_, .i32⟩
  | 111 => ⟨S2048x16x512, .f32⟩
  | 112 => ⟨S2048x16x512, .f32⟩
  | 113 => ⟨S_, .i32⟩
  | 114 => ⟨S16x512, .f32⟩
  | 115 => ⟨S2048x16x512, .f32⟩
  | 116 => ⟨S_, .i32⟩
  | 117 => ⟨S_, .i1⟩
  | 118 => ⟨S_, .i32⟩
  | 119 => ⟨S_, .i32⟩
  | 120 => ⟨S1x16x512, .f32⟩
  | 121 => ⟨S16x512, .f32⟩
  | 122 => ⟨S_, .i32⟩
  | 123 => ⟨S_, .i32⟩
  | 124 => ⟨S1x16x512, .f32⟩
  | 125 => ⟨S16x512, .f32⟩
  | 126 => ⟨S16x512, .f32⟩
  | 127 => ⟨S16x512, .f32⟩
  | _ => ⟨S2048x16x512, .f32⟩

abbrev hbmTy0_1 (i : Nat) : BufTy := match i % 128 with
  | 0 => ⟨S1x16x512, .f32⟩
  | 1 => ⟨S_, .i32⟩
  | 2 => ⟨S_, .i32⟩
  | 3 => ⟨S2048x16x512, .f32⟩
  | 4 => ⟨S_, .i32⟩
  | 5 => ⟨S_, .i32⟩
  | 6 => ⟨S2048x16x512, .f32⟩
  | 7 => ⟨S2048x16x512, .f32⟩
  | 8 => ⟨S_, .f32⟩
  | 9 => ⟨S2048x16x512, .f32⟩
  | 10 => ⟨S2048x16x512, .f32⟩
  | 11 => ⟨S2048x16x512, .f32⟩
  | 12 => ⟨S_, .f32⟩
  | 13 => ⟨S2048x16x512, .f32⟩
  | 14 => ⟨S2048x16x512, .f32⟩
  | 15 => ⟨S2048x16x512, .f32⟩
  | 16 => ⟨S_, .f32⟩
  | 17 => ⟨S2048x16x512, .f32⟩
  | 18 => ⟨S2048x16x512, .f32⟩
  | 19 => ⟨S_, .f32⟩
  | 20 => ⟨S2048x16x512, .f32⟩
  | 21 => ⟨S2048x16x512, .f32⟩
  | 22 => ⟨S2048x16x512, .f32⟩
  | 23 => ⟨S2048x16x512, .f32⟩
  | 24 => ⟨S2051x16x512, .f32⟩
  | 25 => ⟨S3x16x512, .f32⟩
  | _ => ⟨S2048x16x512, .f32⟩

abbrev hbmTy (i : Nat) : BufTy := match i / 128 with
  | 0 => hbmTy0_0 i
  | 1 => hbmTy0_1 i
  | _ => ⟨S2048x16x512, .f32⟩

abbrev bufTy : (tb : Table) → Fin (tcTables nBuf tb) → BufTy
  | .hbm, ⟨i, _⟩ => hbmTy i
  | _, _ => ⟨S2048x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst : Ref sig .tc := ⟨.hbm, 55, rfl⟩
abbrev main_v44 : Ref sig .tc := ⟨.hbm, 56, rfl⟩
abbrev main_v45 : Ref sig .tc := ⟨.hbm, 57, rfl⟩
abbrev main_cst_0 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_1 : Ref sig .tc := ⟨.hbm, 71, rfl⟩
abbrev main_v58 : Ref sig .tc := ⟨.hbm, 72, rfl⟩
abbrev main_v59 : Ref sig .tc := ⟨.hbm, 73, rfl⟩
abbrev main_cst_2 : Ref sig .tc := ⟨.hbm, 74, rfl⟩
abbrev main_v60 : Ref sig .tc := ⟨.hbm, 75, rfl⟩
abbrev main_v61 : Ref sig .tc := ⟨.hbm, 76, rfl⟩
abbrev main_cst_3 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_call0_cst : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_4 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_5 : Ref sig .tc := ⟨.hbm, 108, rfl⟩
abbrev main_v78 : Ref sig .tc := ⟨.hbm, 109, rfl⟩
abbrev main_c : Ref sig .tc := ⟨.hbm, 110, rfl⟩
abbrev main_v79_0 : Ref sig .tc := ⟨.hbm, 111, rfl⟩
abbrev main_v79_1 : Ref sig .tc := ⟨.hbm, 112, rfl⟩
abbrev main_v79_2 : Ref sig .tc := ⟨.hbm, 113, rfl⟩
abbrev main_v79_3 : Ref sig .tc := ⟨.hbm, 114, rfl⟩
abbrev main_v79_4 : Ref sig .tc := ⟨.hbm, 115, rfl⟩
abbrev main_while0c_c_14 : Ref sig .tc := ⟨.hbm, 116, rfl⟩
abbrev main_while0c_v96 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v96 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v97 : Ref sig .tc := ⟨.hbm, 125, rfl⟩
abbrev main_while0b_v98 : Ref sig .tc := ⟨.hbm, 126, rfl⟩
abbrev main_while0b_v99 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v100 : Ref sig .tc := ⟨.hbm, 131, rfl⟩
abbrev main_while0b_c_14 : Ref sig .tc := ⟨.hbm, 132, rfl⟩
abbrev main_while0b_v101 : Ref sig .tc := ⟨.hbm, 133, rfl⟩
abbrev main_v80 : Ref sig .tc := ⟨.hbm, 134, rfl⟩
abbrev main_v81 : Ref sig .tc := ⟨.hbm, 135, rfl⟩
abbrev main_cst_6 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_7 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_8 : Ref sig .tc := ⟨.hbm, 144, rfl⟩
abbrev main_v88 : Ref sig .tc := ⟨.hbm, 145, rfl⟩
abbrev main_v89 : Ref sig .tc := ⟨.hbm, 146, rfl⟩
abbrev main_cst_9 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩

abbrev nD : Nat := 1
abbrev τ : Topo := Topo.v7x

variable {F : FTy → Type} [FloatOps F]

abbrev main_while0_count : Scf.Loop 32 := ⟨0#32, 2048#32, 1#32⟩
-- ==== FfnUp.lean ====
abbrev S2048x16x1024 : Shape := ⟨3, ![2048, 16, 1024]⟩
abbrev S16x1024 : Shape := ⟨2, ![16, 1024]⟩
abbrev S1024x5376 : Shape := ⟨2, ![1024, 5376]⟩
abbrev S3x2688 : Shape := ⟨2, ![3, 2688]⟩
abbrev S2688 : Shape := ⟨1, ![2688]⟩
abbrev S2x16x2688 : Shape := ⟨3, ![2, 16, 2688]⟩
abbrev S1x2688 : Shape := ⟨2, ![1, 2688]⟩
abbrev S2048x16x2688 : Shape := ⟨3, ![2048, 16, 2688]⟩
abbrev S32x16x1024 : Shape := ⟨3, ![32, 16, 1024]⟩
abbrev S32x16x2688 : Shape := ⟨3, ![32, 16, 2688]⟩
abbrev S1x16x1024 : Shape := ⟨3, ![1, 16, 1024]⟩
abbrev S512x1024 : Shape := ⟨2, ![512, 1024]⟩
abbrev S1024x896 : Shape := ⟨2, ![1024, 896]⟩
abbrev S512x896 : Shape := ⟨2, ![512, 896]⟩
abbrev S32x16x896 : Shape := ⟨3, ![32, 16, 896]⟩
abbrev S2x16x896 : Shape := ⟨3, ![2, 16, 896]⟩
abbrev S34x16x896 : Shape := ⟨3, ![34, 16, 896]⟩
abbrev S1x896 : Shape := ⟨2, ![1, 896]⟩
abbrev S1x1x896 : Shape := ⟨3, ![1, 1, 896]⟩

abbrev nBuf : Space → Nat
  | .hbm => 11
  | .vmem => 12
  | .smem => 0
  | _ => 0

abbrev bufTy : (tb : Table) → Fin (tcTables nBuf tb) → BufTy
  | .hbm, ⟨0, _⟩ => ⟨S2048x16x1024, .f32⟩
  | .hbm, ⟨1, _⟩ => ⟨S16x1024, .f32⟩
  | .hbm, ⟨2, _⟩ => ⟨S16x1024, .f32⟩
  | .hbm, ⟨3, _⟩ => ⟨S1024x5376, .f32⟩
  | .hbm, ⟨4, _⟩ => ⟨S3x2688, .f32⟩
  | .hbm, ⟨5, _⟩ => ⟨S2688, .f32⟩
  | .hbm, ⟨6, _⟩ => ⟨S2x16x2688, .f32⟩
  | .hbm, ⟨7, _⟩ => ⟨S1024x5376, .bf16⟩
  | .hbm, ⟨8, _⟩ => ⟨S1x2688, .f32⟩
  | .hbm, ⟨9, _⟩ => ⟨S2048x16x2688, .bf16⟩
  | .hbm, ⟨10, _⟩ => ⟨S2x16x2688, .f32⟩
  | .local _ .vmem, ⟨0, _⟩ => ⟨S32x16x1024, .f32⟩
  | .local _ .vmem, ⟨1, _⟩ => ⟨S32x16x1024, .f32⟩
  | .local _ .vmem, ⟨2, _⟩ => ⟨S16x1024, .f32⟩
  | .local _ .vmem, ⟨3, _⟩ => ⟨S16x1024, .f32⟩
  | .local _ .vmem, ⟨4, _⟩ => ⟨S1024x5376, .bf16⟩
  | .local _ .vmem, ⟨5, _⟩ => ⟨S3x2688, .f32⟩
  | .local _ .vmem, ⟨6, _⟩ => ⟨S1x2688, .f32⟩
  | .local _ .vmem, ⟨7, _⟩ => ⟨S2x16x2688, .f32⟩
  | .local _ .vmem, ⟨8, _⟩ => ⟨S32x16x2688, .bf16⟩
  | .local _ .vmem, ⟨9, _⟩ => ⟨S32x16x2688, .bf16⟩
  | .local _ .vmem, ⟨10, _⟩ => ⟨S2x16x2688, .f32⟩
  | .local _ .vmem, ⟨11, _⟩ => ⟨S2x16x2688, .f32⟩
  | _, _ => ⟨S2048x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x16x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x16x2688 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x16x2688 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnUpRefIdeal.lean ====
abbrev S2048x16x1024 : Shape := ⟨3, ![2048, 16, 1024]⟩
abbrev S16x1024 : Shape := ⟨2, ![16, 1024]⟩
abbrev S1024x5376 : Shape := ⟨2, ![1024, 5376]⟩
abbrev S3x2688 : Shape := ⟨2, ![3, 2688]⟩
abbrev S2688 : Shape := ⟨1, ![2688]⟩
abbrev S2x16x2688 : Shape := ⟨3, ![2, 16, 2688]⟩
abbrev S_ : Shape := ⟨0, ![]⟩
abbrev S1x16x1024 : Shape := ⟨3, ![1, 16, 1024]⟩
abbrev S2048x16x5376 : Shape := ⟨3, ![2048, 16, 5376]⟩
abbrev S2048x16x2688 : Shape := ⟨3, ![2048, 16, 2688]⟩
abbrev S2050x16x2688 : Shape := ⟨3, ![2050, 16, 2688]⟩
abbrev S1x2688 : Shape := ⟨2, ![1, 2688]⟩
abbrev S1x1x2688 : Shape := ⟨3, ![1, 1, 2688]⟩

abbrev nBuf : Space → Nat
  | .hbm => 63
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S16x1024, .f32⟩
  | .hbm, ⟨2, _⟩ => ⟨S16x1024, .f32⟩
  | .hbm, ⟨3, _⟩ => ⟨S1024x5376, .f32⟩
  | .hbm, ⟨4, _⟩ => ⟨S3x2688, .f32⟩
  | .hbm, ⟨5, _⟩ => ⟨S2688, .f32⟩
  | .hbm, ⟨6, _⟩ => ⟨S2x16x2688, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S1x16x1024, .f32⟩
  | .hbm, ⟨11, _⟩ => ⟨S2048x16x1024, .f32⟩
  | .hbm, ⟨12, _⟩ => ⟨S2048x16x1024, .f32⟩
  | .hbm, ⟨13, _⟩ => ⟨S1x16x1024, .f32⟩
  | .hbm, ⟨14, _⟩ => ⟨S2048x16x1024, .f32⟩
  | .hbm, ⟨15, _⟩ => ⟨S2048x16x1024, .f32⟩
  | .hbm, ⟨16, _⟩ => ⟨S2048x16x5376, .f32⟩
  | .hbm, ⟨17, _⟩ => ⟨S2048x16x2688, .f32⟩
  | .hbm, ⟨18, _⟩ => ⟨S2048x16x2688, .f32⟩
  | .hbm, ⟨19, _⟩ => ⟨S2050x16x2688, .f32⟩
  | .hbm, ⟨20, _⟩ => ⟨S2048x16x2688, .f32⟩
  | .hbm, ⟨21, _⟩ => ⟨S1x2688, .f32⟩
  | .hbm, ⟨22, _⟩ => ⟨S2688, .f32⟩
  | .hbm, ⟨23, _⟩ => ⟨S1x1x2688, .f32⟩
  | .hbm, ⟨24, _⟩ => ⟨S2048x16x2688, .f32⟩
  | .hbm, ⟨25, _⟩ => ⟨S2048x16x2688, .f32⟩
  | .hbm, ⟨26, _⟩ => ⟨S2048x16x2688, .f32⟩
  | .hbm, ⟨27, _⟩ => ⟨S1x2688, .f32⟩
  | .hbm, ⟨28, _⟩ => ⟨S2688, .f32⟩
  | .hbm, ⟨29, _⟩ => ⟨S1x1x2688, .f32⟩
  | .hbm, ⟨30, _⟩ => ⟨S2048x16x2688, .f32⟩
  | .hbm, ⟨31, _⟩ => ⟨S2048x16x2688, .f32⟩
  | .hbm, ⟨32, _⟩ => ⟨S2048x16x2688, .f32⟩
  | .hbm, ⟨33, _⟩ => ⟨S2048x16x2688, .f32⟩
  | .hbm, ⟨34, _⟩ => ⟨S1x2688, .f32⟩
  | .hbm, ⟨35, _⟩ => ⟨S2688, .f32⟩
  | .hbm, ⟨36, _⟩ => ⟨S1x1x2688, .f32⟩
  | .hbm, ⟨37, _⟩ => ⟨S2048x16x2688, .f32⟩
  | .hbm, ⟨38, _⟩ => ⟨S2048x16x2688, .f32⟩
  | .hbm, ⟨39, _⟩ => ⟨S2048x16x2688, .f32⟩
  | .hbm, ⟨40, _⟩ => ⟨S1x1x2688, .f32⟩
  | .hbm, ⟨41, _⟩ => ⟨S2048x16x2688, .f32⟩
  | .hbm, ⟨42, _⟩ => ⟨S2048x16x2688, .f32⟩
  | .hbm, ⟨43, _⟩ => ⟨S2048x16x2688, .f32⟩
  | .hbm, ⟨44, _⟩ => ⟨S2048x16x2688, .f32⟩
  | .hbm, ⟨45, _⟩ => ⟨S_, .f32⟩
  | .hbm, ⟨46, _⟩ => ⟨S2048x16x2688, .f32⟩
  | .hbm, ⟨47, _⟩ => ⟨S2048x16x2688, .f32⟩
  | .hbm, ⟨48, _⟩ => ⟨S2048x16x2688, .f32⟩
  | .hbm, ⟨49, _⟩ => ⟨S_, .f32⟩
  | .hbm, ⟨50, _⟩ => ⟨S2048x16x2688, .f32⟩
  | .hbm, ⟨51, _⟩ => ⟨S2048x16x2688, .f32⟩
  | .hbm, ⟨52, _⟩ => ⟨S2048x16x2688, .f32⟩
  | .hbm, ⟨53, _⟩ => ⟨S_, .f32⟩
  | .hbm, ⟨54, _⟩ => ⟨S2048x16x2688, .f32⟩
  | .hbm, ⟨55, _⟩ => ⟨S2048x16x2688, .f32⟩
  | .hbm, ⟨56, _⟩ => ⟨S_, .f32⟩
  | .hbm, ⟨57, _⟩ => ⟨S2048x16x2688, .f32⟩
  | .hbm, ⟨58, _⟩ => ⟨S2048x16x2688, .f32⟩
  | .hbm, ⟨59, _⟩ => ⟨S2048x16x2688, .f32⟩
  | .hbm, ⟨60, _⟩ => ⟨S2048x16x2688, .f32⟩
  | .hbm, ⟨61, _⟩ => ⟨S2048x16x2688, .bf16⟩
  | .hbm, ⟨62, _⟩ => ⟨S2x16x2688, .f32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_0 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_1 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== FfnDown.lean ====
abbrev S2048x43008 : Shape := ⟨2, ![2048, 43008]⟩
abbrev S2688x1024 : Shape := ⟨2, ![2688, 1024]⟩
abbrev S2048x16384 : Shape := ⟨2, ![2048, 16384]⟩
abbrev S16x1x1024 : Shape := ⟨3, ![16, 1, 1024]⟩
abbrev S1024 : Shape := ⟨1, ![1024]⟩
abbrev S1x1024 : Shape := ⟨2, ![1, 1024]⟩
abbrev S16x2048x1024 : Shape := ⟨3, ![16, 2048, 1024]⟩
abbrev S512x2688 : Shape := ⟨2, ![512, 2688]⟩
abbrev S512x1024 : Shape := ⟨2, ![512, 1024]⟩
abbrev S1x1x1024 : Shape := ⟨3, ![1, 1, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2048x43008, .bf16⟩
  | .hbm, ⟨1, _⟩ => ⟨S2688x1024, .f32⟩
  | .hbm, ⟨2, _⟩ => ⟨S2048x16384, .f32⟩
  | .hbm, ⟨3, _⟩ => ⟨S16x1x1024, .f32⟩
  | .hbm, ⟨4, _⟩ => ⟨S1024, .f32⟩
  | .hbm, ⟨5, _⟩ => ⟨S1024, .f32⟩
  | .hbm, ⟨6, _⟩ => ⟨S2688x1024, .bf16⟩
  | .hbm, ⟨7, _⟩ => ⟨S1x1024, .f32⟩
  | .hbm, ⟨8, _⟩ => ⟨S1x1024, .f32⟩
  | .hbm, ⟨9, _⟩ => ⟨S16x2048x1024, .f32⟩
  | .local _ .vmem, ⟨0, _⟩ => ⟨S512x2688, .bf16⟩
  | .local _ .vmem, ⟨1, _⟩ => ⟨S512x2688, .bf16⟩
  | .local _ .vmem, ⟨2, _⟩ => ⟨S2688x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S2048x43008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnDownRefIdeal.lean ====
abbrev S2048x43008 : Shape := ⟨2, ![2048, 43008]⟩
abbrev S2688x1024 : Shape := ⟨2, ![2688, 1024]⟩
abbrev S2048x16384 : Shape := ⟨2, ![2048, 16384]⟩
abbrev S16x1x1024 : Shape := ⟨3, ![16, 1, 1024]⟩
abbrev S1024 : Shape := ⟨1, ![1024]⟩
abbrev S2048x16x2688 : Shape := ⟨3, ![2048, 16, 2688]⟩
abbrev S16x2048x2688 : Shape := ⟨3, ![16, 2048, 2688]⟩
abbrev S2048x16x1024 : Shape := ⟨3, ![2048, 16, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x43008, .bf16⟩
  | .hbm, ⟨1, _⟩ => ⟨S2688x1024, .f32⟩
  | .hbm, ⟨2, _⟩ => ⟨S2048x16384, .f32⟩
  | .hbm, ⟨3, _⟩ => ⟨S16x1x1024, .f32⟩
  | .hbm, ⟨4, _⟩ => ⟨S1024, .f32⟩
  | .hbm, ⟨5, _⟩ => ⟨S1024, .f32⟩
  | .hbm, ⟨6, _⟩ => ⟨S2048x43008, .f32⟩
  | .hbm, ⟨7, _⟩ => ⟨S2048x16x2688, .f32⟩
  | .hbm, ⟨8, _⟩ => ⟨S16x2048x2688, .f32⟩
  | .hbm, ⟨9, _⟩ => ⟨S2048x16x1024, .f32⟩
  | .hbm, ⟨10, _⟩ => ⟨S16x2048x1024, .f32⟩
  | .hbm, ⟨11, _⟩ => ⟨S16x2048x1024, .f32⟩
  | .hbm, ⟨12, _⟩ => ⟨S_, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x1x1024, .f32⟩
  | .hbm, ⟨17, _⟩ => ⟨S16x1x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048x1, .f32⟩
  | .hbm, ⟨40, _⟩ => ⟨S16x2048x1, .f32⟩
  | .hbm, ⟨41, _⟩ => ⟨S16x2048x1, .f32⟩
  | .hbm, ⟨42, _⟩ => ⟨S16x2048x1024, .f32⟩
  | .hbm, ⟨43, _⟩ => ⟨S16x2048x1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S1x1x1024, .f32⟩
  | .hbm, ⟨48, _⟩ => ⟨S16x2048x1024, .f32⟩
  | .hbm, ⟨49, _⟩ => ⟨S16x2048x1024, .f32⟩
  | _, _ => ⟨S2048x43008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== OutProj.lean ====
abbrev S16x2048x512 : Shape := ⟨3, ![16, 2048, 512]⟩
abbrev S2048x8192 : Shape := ⟨2, ![2048, 8192]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S512x1024 : Shape := ⟨2, ![512, 1024]⟩
abbrev S1x1024 : Shape := ⟨2, ![1, 1024]⟩
abbrev S2048x16384 : Shape := ⟨2, ![2048, 16384]⟩
abbrev S1x512x512 : Shape := ⟨3, ![1, 512, 512]⟩
abbrev S512x512 : Shape := ⟨2, ![512, 512]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S2048x8192, .f32⟩
  | .hbm, ⟨2, _⟩ => ⟨S1024x1024, .f32⟩
  | .hbm, ⟨3, _⟩ => ⟨S16x2048x1024, .f32⟩
  | .hbm, ⟨4, _⟩ => ⟨S16x1x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S512x1024, .bf16⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S2048x16384, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjRefIdeal.lean ====
abbrev S16x2048x512 : Shape := ⟨3, ![16, 2048, 512]⟩
abbrev S2048x8192 : Shape := ⟨2, ![2048, 8192]⟩
abbrev S1024x1024 : Shape := ⟨2, ![1024, 1024]⟩
abbrev S16x2048x1024 : Shape := ⟨3, ![16, 2048, 1024]⟩
abbrev S16x1x1024 : Shape := ⟨3, ![16, 1, 1024]⟩
abbrev S1024 : Shape := ⟨1, ![1024]⟩
abbrev S2048x16x512 : Shape := ⟨3, ![2048, 16, 512]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S2048x16x1024 : Shape := ⟨3, ![2048, 16, 1024]⟩
abbrev S2048x16384 : Shape := ⟨2, ![2048, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S2048x8192, .f32⟩
  | .hbm, ⟨2, _⟩ => ⟨S1024x1024, .f32⟩
  | .hbm, ⟨3, _⟩ => ⟨S16x2048x1024, .f32⟩
  | .hbm, ⟨4, _⟩ => ⟨S16x1x1024, .f32⟩
  | .hbm, ⟨5, _⟩ => ⟨S1024, .f32⟩
  | .hbm, ⟨6, _⟩ => ⟨S1024, .f32⟩
  | .hbm, ⟨7, _⟩ => ⟨S2048x16x512, .f32⟩
  | .hbm, ⟨8, _⟩ => ⟨S16x2048x512, .f32⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S16x2048x1024, .f32⟩
  | .hbm, ⟨13, _⟩ => ⟨S16x2048x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S16x2048x1024, .f32⟩
  | .hbm, ⟨36, _⟩ => ⟨S16x2048x1024, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S16x2048x1, .f32⟩
  | .hbm, ⟨41, _⟩ => ⟨S16x2048x1024, .f32⟩
  | .hbm, ⟨42, _⟩ => ⟨S16x2048x1024, .f32⟩
  | .hbm, ⟨43, _⟩ => ⟨S1x1x1024, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S2048x16x1024, .f32⟩
  | .hbm, ⟨50, _⟩ => ⟨S2048x16384, .f32⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== ProjAb.lean ====
abbrev S16x2048x1024 : Shape := ⟨3, ![16, 2048, 1024]⟩
abbrev S16x1x1024 : Shape := ⟨3, ![16, 1, 1024]⟩
abbrev S1x1024x2328 : Shape := ⟨3, ![1, 1024, 2328]⟩
abbrev S1024x2328 : Shape := ⟨2, ![1024, 2328]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S16x2048x512 : Shape := ⟨3, ![16, 2048, 512]⟩
abbrev S16x16x256x128 : Shape := ⟨4, ![16, 16, 256, 128]⟩
abbrev S16x2048x256 : Shape := ⟨3, ![16, 2048, 256]⟩
abbrev S16x2048x128 : Shape := ⟨3, ![16, 2048, 128]⟩
abbrev S2048x8192 : Shape := ⟨2, ![2048, 8192]⟩
abbrev S1x512x1024 : Shape := ⟨3, ![1, 512, 1024]⟩
abbrev S1x1x1024 : Shape := ⟨3, ![1, 1, 1024]⟩
abbrev S1x512x512 : Shape := ⟨3, ![1, 512, 512]⟩
abbrev S1x4x256x128 : Shape := ⟨4, ![1, 4, 256, 128]⟩
abbrev S1x512x256 : Shape := ⟨3, ![1, 512, 256]⟩
abbrev S1x512x128 : Shape := ⟨3, ![1, 512, 128]⟩
abbrev S512x512 : Shape := ⟨2, ![512, 512]⟩
abbrev S512x1024 : Shape := ⟨2, ![512, 1024]⟩
abbrev S1x1024 : Shape := ⟨2, ![1, 1024]⟩
abbrev S512x256 : Shape := ⟨2, ![512, 256]⟩
abbrev S128x256 : Shape := ⟨2, ![128, 256]⟩
abbrev S256x128 : Shape := ⟨2, ![256, 128]⟩
abbrev S1x1x256x128 : Shape := ⟨4, ![1, 1, 256, 128]⟩
abbrev S512x128 : Shape := ⟨2, ![512, 128]⟩

abbrev nBuf : Space → Nat
  | .hbm => 25
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024x2328, .f32⟩
  | .hbm, ⟨4, _⟩ => ⟨S1024x2328, .f32⟩
  | .hbm, ⟨5, _⟩ => ⟨S1024x2328, .bf16⟩
  | .hbm, ⟨6, _⟩ => ⟨S1024x24, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S1024x512, .bf16⟩
  | .hbm, ⟨11, _⟩ => ⟨S1024x256, .bf16⟩
  | .hbm, ⟨12, _⟩ => ⟨S1024x256, .bf16⟩
  | .hbm, ⟨13, _⟩ => ⟨S1024x256, .bf16⟩
  | .hbm, ⟨14, _⟩ => ⟨S1024x512, .bf16⟩
  | .hbm, ⟨15, _⟩ => ⟨S1024x512, .bf16⟩
  | .hbm, ⟨16, _⟩ => ⟨S16x2048x512, .f32⟩
  | .hbm, ⟨17, _⟩ => ⟨S16x16x256x128, .f32⟩
  | .hbm, ⟨18, _⟩ => ⟨S16x2048x256, .f32⟩
  | .hbm, ⟨19, _⟩ => ⟨S16x16x256x128, .f32⟩
  | .hbm, ⟨20, _⟩ => ⟨S16x2048x256, .f32⟩
  | .hbm, ⟨21, _⟩ => ⟨S16x16x256x128, .f32⟩
  | .hbm, ⟨22, _⟩ => ⟨S16x2048x128, .f32⟩
  | .hbm, ⟨23, _⟩ => ⟨S2048x8192, .f32⟩
  | .hbm, ⟨24, _⟩ => ⟨S2048x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x128, .bf16⟩
  | .local _ .vmem, ⟨11, _⟩ => ⟨S1024x512, .bf16⟩
  | .local _ .vmem, ⟨12, _⟩ => ⟨S1024x512, .bf16⟩
  | .local _ .vmem, ⟨13, _⟩ => ⟨S1x512x512, .f32⟩
  | .local _ .vmem, ⟨14, _⟩ => ⟨S1x512x512, .f32⟩
  | .local _ .vmem, ⟨15, _⟩ => ⟨S1x4x256x128, .f32⟩
  | .local _ .vmem, ⟨16, _⟩ => ⟨S1x4x256x128, .f32⟩
  | .local _ .vmem, ⟨17, _⟩ => ⟨S1x512x256, .f32⟩
  | .local _ .vmem, ⟨18, _⟩ => ⟨S1x512x256, .f32⟩
  | .local _ .vmem, ⟨19, _⟩ => ⟨S1x4x256x128, .f32⟩
  | .local _ .vmem, ⟨20, _⟩ => ⟨S1x4x256x128, .f32⟩
  | .local _ .vmem, ⟨21, _⟩ => ⟨S1x512x256, .f32⟩
  | .local _ .vmem, ⟨22, _⟩ => ⟨S1x512x256, .f32⟩
  | .local _ .vmem, ⟨23, _⟩ => ⟨S1x4x256x128, .f32⟩
  | .local _ .vmem, ⟨24, _⟩ => ⟨S1x4x256x128, .f32⟩
  | .local _ .vmem, ⟨25, _⟩ => ⟨S1x512x128, .f32⟩
  | .local _ .vmem, ⟨26, _⟩ => ⟨S1x512x128, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev main_v10_7 : Ref sig .tc := ⟨.hbm, 23, rfl⟩
abbrev main_v10_8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjAbRefIdeal.lean ====
abbrev S16x2048x1024 : Shape := ⟨3, ![16, 2048, 1024]⟩
abbrev S16x1x1024 : Shape := ⟨3, ![16, 1, 1024]⟩
abbrev S1x1024x2328 : Shape := ⟨3, ![1, 1024, 2328]⟩
abbrev S_ : Shape := ⟨0, ![]⟩
abbrev S1024x2328 : Shape := ⟨2, ![1024, 2328]⟩
abbrev S16x2048x2328 : Shape := ⟨3, ![16, 2048, 2328]⟩
abbrev S16x2048x512 : Shape := ⟨3, ![16, 2048, 512]⟩
abbrev S16x2048x256 : Shape := ⟨3, ![16, 2048, 256]⟩
abbrev S16x2048x24 : Shape := ⟨3, ![16, 2048, 24]⟩
abbrev S16x2048x128 : Shape := ⟨3, ![16, 2048, 128]⟩
abbrev S16x16x128x256 : Shape := ⟨4, ![16, 16, 128, 256]⟩
abbrev S16x16x256x128 : Shape := ⟨4, ![16, 16, 256, 128]⟩
abbrev S2048x16x512 : Shape := ⟨3, ![2048, 16, 512]⟩
abbrev S2048x8192 : Shape := ⟨2, ![2048, 8192]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024x2328, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S1024x2328, .f32⟩
  | .hbm, ⟨12, _⟩ => ⟨S16x2048x2328, .f32⟩
  | .hbm, ⟨13, _⟩ => ⟨S16x2048x512, .f32⟩
  | .hbm, ⟨14, _⟩ => ⟨S16x2048x256, .f32⟩
  | .hbm, ⟨15, _⟩ => ⟨S16x2048x256, .f32⟩
  | .hbm, ⟨16, _⟩ => ⟨S16x2048x256, .f32⟩
  | .hbm, ⟨17, _⟩ => ⟨S16x2048x24, .f32⟩
  | .hbm, ⟨18, _⟩ => ⟨S_, .i32⟩
  | .hbm, ⟨19, _⟩ => ⟨S_, .f32⟩
  | .hbm, ⟨20, _⟩ => ⟨S16x2048x128, .f32⟩
  | .hbm, ⟨21, _⟩ => ⟨S16x16x128x256, .f32⟩
  | .hbm, ⟨22, _⟩ => ⟨S16x16x256x128, .f32⟩
  | .hbm, ⟨23, _⟩ => ⟨S16x16x128x256, .f32⟩
  | .hbm, ⟨24, _⟩ => ⟨S16x16x256x128, .f32⟩
  | .hbm, ⟨25, _⟩ => ⟨S16x16x128x256, .f32⟩
  | .hbm, ⟨26, _⟩ => ⟨S16x16x256x128, .f32⟩
  | .hbm, ⟨27, _⟩ => ⟨S16x2048x512, .f32⟩
  | .hbm, ⟨28, _⟩ => ⟨S2048x16x512, .f32⟩
  | .hbm, ⟨29, _⟩ => ⟨S2048x8192, .f32⟩
  | .hbm, ⟨30, _⟩ => ⟨S16x2048x512, .f32⟩
  | .hbm, ⟨31, _⟩ => ⟨S2048x16x512, .f32⟩
  | .hbm, ⟨32, _⟩ => ⟨S2048x8192, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== ProjCd.lean ====
abbrev S16x2048x1024 : Shape := ⟨3, ![16, 2048, 1024]⟩
abbrev S16x1x1024 : Shape := ⟨3, ![16, 1, 1024]⟩
abbrev S1x1024x1280 : Shape := ⟨3, ![1, 1024, 1280]⟩
abbrev S1024x1280 : Shape := ⟨2, ![1024, 1280]⟩
abbrev S1024x512 : Shape := ⟨2, ![1024, 512]⟩
abbrev S1024x256 : Shape := ⟨2, ![1024, 256]⟩
abbrev S16x2048x512 : Shape := ⟨3, ![16, 2048, 512]⟩
abbrev S16x2048x256 : Shape := ⟨3, ![16, 2048, 256]⟩
abbrev S16x16x256x128 : Shape := ⟨4, ![16, 16, 256, 128]⟩
abbrev S2048x8192 : Shape := ⟨2, ![2048, 8192]⟩
abbrev S1x512x1024 : Shape := ⟨3, ![1, 512, 1024]⟩
abbrev S1x1x1024 : Shape := ⟨3, ![1, 1, 1024]⟩
abbrev S1x512x512 : Shape := ⟨3, ![1, 512, 512]⟩
abbrev S1x512x256 : Shape := ⟨3, ![1, 512, 256]⟩
abbrev S1x4x256x128 : Shape := ⟨4, ![1, 4, 256, 128]⟩
abbrev S512x512 : Shape := ⟨2, ![512, 512]⟩
abbrev S512x1024 : Shape := ⟨2, ![512, 1024]⟩
abbrev S1x1024 : Shape := ⟨2, ![1, 1024]⟩
abbrev S512x256 : Shape := ⟨2, ![512, 256]⟩
abbrev S128x256 : Shape := ⟨2, ![128, 256]⟩
abbrev S256x128 : Shape := ⟨2, ![256, 128]⟩
abbrev S1x1x256x128 : Shape := ⟨4, ![1, 1, 256, 128]⟩

abbrev nBuf : Space → Nat
  | .hbm => 13
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024x1280, .f32⟩
  | .hbm, ⟨4, _⟩ => ⟨S1024x1280, .f32⟩
  | .hbm, ⟨5, _⟩ => ⟨S1024x1280, .bf16⟩
  | .hbm, ⟨6, _⟩ => ⟨S1024x512, .bf16⟩
  | .hbm, ⟨7, _⟩ => ⟨S1024x256, .bf16⟩
  | .hbm, ⟨8, _⟩ => ⟨S1024x512, .bf16⟩
  | .hbm, ⟨9, _⟩ => ⟨S16x2048x512, .f32⟩
  | .hbm, ⟨10, _⟩ => ⟨S16x2048x256, .f32⟩
  | .hbm, ⟨11, _⟩ => ⟨S16x16x256x128, .f32⟩
  | .hbm, ⟨12, _⟩ => ⟨S2048x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x512, .bf16⟩
  | .local _ .vmem, ⟨7, _⟩ => ⟨S1024x256, .bf16⟩
  | .local _ .vmem, ⟨8, _⟩ => ⟨S1024x512, .bf16⟩
  | .local _ .vmem, ⟨9, _⟩ => ⟨S1x512x512, .f32⟩
  | .local _ .vmem, ⟨10, _⟩ => ⟨S1x512x512, .f32⟩
  | .local _ .vmem, ⟨11, _⟩ => ⟨S1x512x256, .f32⟩
  | .local _ .vmem, ⟨12, _⟩ => ⟨S1x512x256, .f32⟩
  | .local _ .vmem, ⟨13, _⟩ => ⟨S1x4x256x128, .f32⟩
  | .local _ .vmem, ⟨14, _⟩ => ⟨S1x4x256x128, .f32⟩
  | .local _ .vmem, ⟨15, _⟩ => ⟨S512x512, .f32⟩
  | .local _ .vmem, ⟨16, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjCdRefIdeal.lean ====
abbrev S16x2048x1024 : Shape := ⟨3, ![16, 2048, 1024]⟩
abbrev S16x1x1024 : Shape := ⟨3, ![16, 1, 1024]⟩
abbrev S1x1024x1280 : Shape := ⟨3, ![1, 1024, 1280]⟩
abbrev S_ : Shape := ⟨0, ![]⟩
abbrev S1024x1280 : Shape := ⟨2, ![1024, 1280]⟩
abbrev S16x2048x1280 : Shape := ⟨3, ![16, 2048, 1280]⟩
abbrev S16x2048x256 : Shape := ⟨3, ![16, 2048, 256]⟩
abbrev S16x2048x512 : Shape := ⟨3, ![16, 2048, 512]⟩
abbrev S16x16x128x256 : Shape := ⟨4, ![16, 16, 128, 256]⟩
abbrev S16x16x256x128 : Shape := ⟨4, ![16, 16, 256, 128]⟩
abbrev S2048x16x512 : Shape := ⟨3, ![2048, 16, 512]⟩
abbrev S2048x8192 : Shape := ⟨2, ![2048, 8192]⟩

abbrev nBuf : Space → Nat
  | .hbm => 20
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024x1280, .f32⟩
  | .hbm, ⟨4, _⟩ => ⟨S_, .f32⟩
  | .hbm, ⟨5, _⟩ => ⟨S16x1x1024, .f32⟩
  | .hbm, ⟨6, _⟩ => ⟨S16x1x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S16x2048x1024, .f32⟩
  | .hbm, ⟨11, _⟩ => ⟨S1024x1280, .f32⟩
  | .hbm, ⟨12, _⟩ => ⟨S16x2048x1280, .f32⟩
  | .hbm, ⟨13, _⟩ => ⟨S16x2048x256, .f32⟩
  | .hbm, ⟨14, _⟩ => ⟨S16x2048x512, .f32⟩
  | .hbm, ⟨15, _⟩ => ⟨S16x16x128x256, .f32⟩
  | .hbm, ⟨16, _⟩ => ⟨S16x16x256x128, .f32⟩
  | .hbm, ⟨17, _⟩ => ⟨S16x2048x512, .f32⟩
  | .hbm, ⟨18, _⟩ => ⟨S2048x16x512, .f32⟩
  | .hbm, ⟨19, _⟩ => ⟨S2048x8192, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FfnUpS.lean ====
abbrev S1x128x1024 : Shape := ⟨3, ![1, 128, 1024]⟩
abbrev S128x1024 : Shape := ⟨2, ![128, 1024]⟩
abbrev S1024x5376 : Shape := ⟨2, ![1024, 5376]⟩
abbrev S3x2688 : Shape := ⟨2, ![3, 2688]⟩
abbrev S2688 : Shape := ⟨1, ![2688]⟩
abbrev S2x128x2688 : Shape := ⟨3, ![2, 128, 2688]⟩
abbrev S1x2688 : Shape := ⟨2, ![1, 2688]⟩
abbrev S1x128x2688 : Shape := ⟨3, ![1, 128, 2688]⟩
abbrev S1024x896 : Shape := ⟨2, ![1024, 896]⟩
abbrev S128x896 : Shape := ⟨2, ![128, 896]⟩
abbrev S1x128x896 : Shape := ⟨3, ![1, 128, 896]⟩
abbrev S2x128x896 : Shape := ⟨3, ![2, 128, 896]⟩
abbrev S3x128x896 : Shape := ⟨3, ![3, 128, 896]⟩
abbrev S1x896 : Shape := ⟨2, ![1, 896]⟩
abbrev S1x1x896 : Shape := ⟨3, ![1, 1, 896]⟩

abbrev nBuf : Space → Nat
  | .hbm => 11
  | .vmem => 10
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S128x1024, .f32⟩
  | .hbm, ⟨3, _⟩ => ⟨S1024x5376, .f32⟩
  | .hbm, ⟨4, _⟩ => ⟨S3x2688, .f32⟩
  | .hbm, ⟨5, _⟩ => ⟨S2688, .f32⟩
  | .hbm, ⟨6, _⟩ => ⟨S2x128x2688, .f32⟩
  | .hbm, ⟨7, _⟩ => ⟨S1024x5376, .bf16⟩
  | .hbm, ⟨8, _⟩ => ⟨S1x2688, .f32⟩
  | .hbm, ⟨9, _⟩ => ⟨S1x128x2688, .bf16⟩
  | .hbm, ⟨10, _⟩ => ⟨S2x128x2688, .f32⟩
  | .local _ .vmem, ⟨0, _⟩ => ⟨S1x128x1024, .f32⟩
  | .local _ .vmem, ⟨1, _⟩ => ⟨S128x1024, .f32⟩
  | .local _ .vmem, ⟨2, _⟩ => ⟨S128x1024, .f32⟩
  | .local _ .vmem, ⟨3, _⟩ => ⟨S1024x5376, .bf16⟩
  | .local _ .vmem, ⟨4, _⟩ => ⟨S3x2688, .f32⟩
  | .local _ .vmem, ⟨5, _⟩ => ⟨S1x2688, .f32⟩
  | .local _ .vmem, ⟨6, _⟩ => ⟨S2x128x2688, .f32⟩
  | .local _ .vmem, ⟨7, _⟩ => ⟨S1x128x2688, .bf16⟩
  | .local _ .vmem, ⟨8, _⟩ => ⟨S2x128x2688, .f32⟩
  | .local _ .vmem, ⟨9, _⟩ => ⟨S2x128x2688, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5376 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x2688 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x2688 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnUpSRefIdeal.lean ====
abbrev S1x128x1024 : Shape := ⟨3, ![1, 128, 1024]⟩
abbrev S128x1024 : Shape := ⟨2, ![128, 1024]⟩
abbrev S1024x5376 : Shape := ⟨2, ![1024, 5376]⟩
abbrev S3x2688 : Shape := ⟨2, ![3, 2688]⟩
abbrev S2688 : Shape := ⟨1, ![2688]⟩
abbrev S2x128x2688 : Shape := ⟨3, ![2, 128, 2688]⟩
abbrev S_ : Shape := ⟨0, ![]⟩
abbrev S1x128x5376 : Shape := ⟨3, ![1, 128, 5376]⟩
abbrev S1x128x2688 : Shape := ⟨3, ![1, 128, 2688]⟩
abbrev S3x128x2688 : Shape := ⟨3, ![3, 128, 2688]⟩
abbrev S1x2688 : Shape := ⟨2, ![1, 2688]⟩
abbrev S1x1x2688 : Shape := ⟨3, ![1, 1, 2688]⟩

abbrev nBuf : Space → Nat
  | .hbm => 61
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S128x1024, .f32⟩
  | .hbm, ⟨2, _⟩ => ⟨S128x1024, .f32⟩
  | .hbm, ⟨3, _⟩ => ⟨S1024x5376, .f32⟩
  | .hbm, ⟨4, _⟩ => ⟨S3x2688, .f32⟩
  | .hbm, ⟨5, _⟩ => ⟨S2688, .f32⟩
  | .hbm, ⟨6, _⟩ => ⟨S2x128x2688, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S1x128x5376, .f32⟩
  | .hbm, ⟨15, _⟩ => ⟨S1x128x2688, .f32⟩
  | .hbm, ⟨16, _⟩ => ⟨S1x128x2688, .f32⟩
  | .hbm, ⟨17, _⟩ => ⟨S3x128x2688, .f32⟩
  | .hbm, ⟨18, _⟩ => ⟨S1x128x2688, .f32⟩
  | .hbm, ⟨19, _⟩ => ⟨S1x2688, .f32⟩
  | .hbm, ⟨20, _⟩ => ⟨S2688, .f32⟩
  | .hbm, ⟨21, _⟩ => ⟨S1x1x2688, .f32⟩
  | .hbm, ⟨22, _⟩ => ⟨S1x128x2688, .f32⟩
  | .hbm, ⟨23, _⟩ => ⟨S1x128x2688, .f32⟩
  | .hbm, ⟨24, _⟩ => ⟨S1x128x2688, .f32⟩
  | .hbm, ⟨25, _⟩ => ⟨S1x2688, .f32⟩
  | .hbm, ⟨26, _⟩ => ⟨S2688, .f32⟩
  | .hbm, ⟨27, _⟩ => ⟨S1x1x2688, .f32⟩
  | .hbm, ⟨28, _⟩ => ⟨S1x128x2688, .f32⟩
  | .hbm, ⟨29, _⟩ => ⟨S1x128x2688, .f32⟩
  | .hbm, ⟨30, _⟩ => ⟨S1x128x2688, .f32⟩
  | .hbm, ⟨31, _⟩ => ⟨S1x128x2688, .f32⟩
  | .hbm, ⟨32, _⟩ => ⟨S1x2688, .f32⟩
  | .hbm, ⟨33, _⟩ => ⟨S2688, .f32⟩
  | .hbm, ⟨34, _⟩ => ⟨S1x1x2688, .f32⟩
  | .hbm, ⟨35, _⟩ => ⟨S1x128x2688, .f32⟩
  | .hbm, ⟨36, _⟩ => ⟨S1x128x2688, .f32⟩
  | .hbm, ⟨37, _⟩ => ⟨S1x128x2688, .f32⟩
  | .hbm, ⟨38, _⟩ => ⟨S1x1x2688, .f32⟩
  | .hbm, ⟨39, _⟩ => ⟨S1x128x2688, .f32⟩
  | .hbm, ⟨40, _⟩ => ⟨S1x128x2688, .f32⟩
  | .hbm, ⟨41, _⟩ => ⟨S1x128x2688, .f32⟩
  | .hbm, ⟨42, _⟩ => ⟨S1x128x2688, .f32⟩
  | .hbm, ⟨43, _⟩ => ⟨S_, .f32⟩
  | .hbm, ⟨44, _⟩ => ⟨S1x128x2688, .f32⟩
  | .hbm, ⟨45, _⟩ => ⟨S1x128x2688, .f32⟩
  | .hbm, ⟨46, _⟩ => ⟨S1x128x2688, .f32⟩
  | .hbm, ⟨47, _⟩ => ⟨S_, .f32⟩
  | .hbm, ⟨48, _⟩ => ⟨S1x128x2688, .f32⟩
  | .hbm, ⟨49, _⟩ => ⟨S1x128x2688, .f32⟩
  | .hbm, ⟨50, _⟩ => ⟨S1x128x2688, .f32⟩
  | .hbm, ⟨51, _⟩ => ⟨S_, .f32⟩
  | .hbm, ⟨52, _⟩ => ⟨S1x128x2688, .f32⟩
  | .hbm, ⟨53, _⟩ => ⟨S1x128x2688, .f32⟩
  | .hbm, ⟨54, _⟩ => ⟨S_, .f32⟩
  | .hbm, ⟨55, _⟩ => ⟨S1x128x2688, .f32⟩
  | .hbm, ⟨56, _⟩ => ⟨S1x128x2688, .f32⟩
  | .hbm, ⟨57, _⟩ => ⟨S1x128x2688, .f32⟩
  | .hbm, ⟨58, _⟩ => ⟨S1x128x2688, .f32⟩
  | .hbm, ⟨59, _⟩ => ⟨S1x128x2688, .bf16⟩
  | .hbm, ⟨60, _⟩ => ⟨S2x128x2688, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_1 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]
-- ==== FfnDownS.lean ====
abbrev S128x2688 : Shape := ⟨2, ![128, 2688]⟩
abbrev S2688x1024 : Shape := ⟨2, ![2688, 1024]⟩
abbrev S128x1024 : Shape := ⟨2, ![128, 1024]⟩
abbrev S1x128x1024 : Shape := ⟨3, ![1, 128, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S128x2688, .bf16⟩
  | .hbm, ⟨1, _⟩ => ⟨S2688x1024, .f32⟩
  | .hbm, ⟨2, _⟩ => ⟨S128x1024, .f32⟩
  | .hbm, ⟨3, _⟩ => ⟨S1x128x1024, .f32⟩
  | .hbm, ⟨4, _⟩ => ⟨S1024, .f32⟩
  | .hbm, ⟨5, _⟩ => ⟨S1024, .f32⟩
  | .hbm, ⟨6, _⟩ => ⟨S2688x1024, .bf16⟩
  | .hbm, ⟨7, _⟩ => ⟨S1x1024, .f32⟩
  | .hbm, ⟨8, _⟩ => ⟨S1x1024, .f32⟩
  | .hbm, ⟨9, _⟩ => ⟨S1x128x1024, .f32⟩
  | .local _ .vmem, ⟨0, _⟩ => ⟨S128x2688, .bf16⟩
  | .local _ .vmem, ⟨1, _⟩ => ⟨S2688x1024, .bf16⟩
  | .local _ .vmem, ⟨2, _⟩ => ⟨S128x1024, .f32⟩
  | .local _ .vmem, ⟨3, _⟩ => ⟨S1x128x1024, .f32⟩
  | .local _ .vmem, ⟨4, _⟩ => ⟨S1x1024, .f32⟩
  | .local _ .vmem, ⟨5, _⟩ => ⟨S1x1024, .f32⟩
  | .local _ .vmem, ⟨6, _⟩ => ⟨S1x128x1024, .f32⟩
  | _, _ => ⟨S128x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S128x2688 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== FfnDownSRefIdeal.lean ====
abbrev S128x2688 : Shape := ⟨2, ![128, 2688]⟩
abbrev S2688x1024 : Shape := ⟨2, ![2688, 1024]⟩
abbrev S128x1024 : Shape := ⟨2, ![128, 1024]⟩
abbrev S1x128x1024 : Shape := ⟨3, ![1, 128, 1024]⟩
abbrev S1024 : Shape := ⟨1, ![1024]⟩
abbrev S128x1x2688 : Shape := ⟨3, ![128, 1, 2688]⟩
abbrev S1x128x2688 : Shape := ⟨3, ![1, 128, 2688]⟩
abbrev S128x1x1024 : Shape := ⟨3, ![128, 1, 1024]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S128x2688, .bf16⟩
  | .hbm, ⟨1, _⟩ => ⟨S2688x1024, .f32⟩
  | .hbm, ⟨2, _⟩ => ⟨S128x1024, .f32⟩
  | .hbm, ⟨3, _⟩ => ⟨S1x128x1024, .f32⟩
  | .hbm, ⟨4, _⟩ => ⟨S1024, .f32⟩
  | .hbm, ⟨5, _⟩ => ⟨S1024, .f32⟩
  | .hbm, ⟨6, _⟩ => ⟨S128x2688, .f32⟩
  | .hbm, ⟨7, _⟩ => ⟨S128x1x2688, .f32⟩
  | .hbm, ⟨8, _⟩ => ⟨S1x128x2688, .f32⟩
  | .hbm, ⟨9, _⟩ => ⟨S128x1x1024, .f32⟩
  | .hbm, ⟨10, _⟩ => ⟨S1x128x1024, .f32⟩
  | .hbm, ⟨11, _⟩ => ⟨S1x128x1024, .f32⟩
  | .hbm, ⟨12, _⟩ => ⟨S_, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S1x128x1024, .f32⟩
  | .hbm, ⟨20, _⟩ => ⟨S_, .f32⟩
  | .hbm, ⟨21, _⟩ => ⟨S1x128, .f32⟩
  | .hbm, ⟨22, _⟩ => ⟨S1x128x1, .f32⟩
  | .hbm, ⟨23, _⟩ => ⟨S_, .f32⟩
  | .hbm, ⟨24, _⟩ => ⟨S1x128x1, .f32⟩
  | .hbm, ⟨25, _⟩ => ⟨S1x128x1, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128, .f32⟩
  | .hbm, ⟨31, _⟩ => ⟨S1x128x1, .f32⟩
  | .hbm, ⟨32, _⟩ => ⟨S_, .f32⟩
  | .hbm, ⟨33, _⟩ => ⟨S1x128x1, .f32⟩
  | .hbm, ⟨34, _⟩ => ⟨S1x128x1, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1, .f32⟩
  | .hbm, ⟨39, _⟩ => ⟨S1x128x1, .f32⟩
  | .hbm, ⟨40, _⟩ => ⟨S1x128x1, .f32⟩
  | .hbm, ⟨41, _⟩ => ⟨S1x128x1024, .f32⟩
  | .hbm, ⟨42, _⟩ => ⟨S1x128x1024, .f32⟩
  | .hbm, ⟨43, _⟩ => ⟨S1x1x1024, .f32⟩
  | .hbm, ⟨44, _⟩ => ⟨S1x128x1024, .f32⟩
  | .hbm, ⟨45, _⟩ => ⟨S1x128x1024, .f32⟩
  | .hbm, ⟨46, _⟩ => ⟨S1x1x1024, .f32⟩
  | .hbm, ⟨47, _⟩ => ⟨S1x128x1024, .f32⟩
  | .hbm, ⟨48, _⟩ => ⟨S1x128x1024, .f32⟩
  | _, _ => ⟨S128x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== ProjAbS.lean ====
abbrev S1x128x1024 : Shape := ⟨3, ![1, 128, 1024]⟩
abbrev S1x1024x2328 : Shape := ⟨3, ![1, 1024, 2328]⟩
abbrev S1024x2328 : Shape := ⟨2, ![1024, 2328]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x256 : Shape := ⟨2, ![1024, 256]⟩
abbrev S1x128x512 : Shape := ⟨3, ![1, 128, 512]⟩
abbrev S1x128x256 : Shape := ⟨3, ![1, 128, 256]⟩
abbrev S1x128x128 : Shape := ⟨3, ![1, 128, 128]⟩
abbrev S128x512 : Shape := ⟨2, ![128, 512]⟩
abbrev S128x1024 : Shape := ⟨2, ![128, 1024]⟩
abbrev S128x256 : Shape := ⟨2, ![128, 256]⟩
abbrev S128x128 : Shape := ⟨2, ![128, 128]⟩

abbrev nBuf : Space → Nat
  | .hbm => 23
  | .vmem => 17
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x1024x2328, .f32⟩
  | .hbm, ⟨4, _⟩ => ⟨S1024x2328, .f32⟩
  | .hbm, ⟨5, _⟩ => ⟨S1024x2328, .bf16⟩
  | .hbm, ⟨6, _⟩ => ⟨S1024x24, .bf16⟩
  | .hbm, ⟨7, _⟩ => ⟨S_, .i32⟩
  | .hbm, ⟨8, _⟩ => ⟨S_, .bf16⟩
  | .hbm, ⟨9, _⟩ => ⟨S1024x128, .bf16⟩
  | .hbm, ⟨10, _⟩ => ⟨S1024x512, .bf16⟩
  | .hbm, ⟨11, _⟩ => ⟨S1024x256, .bf16⟩
  | .hbm, ⟨12, _⟩ => ⟨S1024x256, .bf16⟩
  | .hbm, ⟨13, _⟩ => ⟨S1024x256, .bf16⟩
  | .hbm, ⟨14, _⟩ => ⟨S1024x512, .bf16⟩
  | .hbm, ⟨15, _⟩ => ⟨S1024x512, .bf16⟩
  | .hbm, ⟨16, _⟩ => ⟨S1x128x512, .f32⟩
  | .hbm, ⟨17, _⟩ => ⟨S1x128x256, .f32⟩
  | .hbm, ⟨18, _⟩ => ⟨S1x128x256, .f32⟩
  | .hbm, ⟨19, _⟩ => ⟨S1x128x256, .f32⟩
  | .hbm, ⟨20, _⟩ => ⟨S1x128x128, .f32⟩
  | .hbm, ⟨21, _⟩ => ⟨S128x512, .f32⟩
  | .hbm, ⟨22, _⟩ => ⟨S128x512, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x128, .bf16⟩
  | .local _ .vmem, ⟨8, _⟩ => ⟨S1024x512, .bf16⟩
  | .local _ .vmem, ⟨9, _⟩ => ⟨S1024x512, .bf16⟩
  | .local _ .vmem, ⟨10, _⟩ => ⟨S1x128x512, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x128, .f32⟩
  | .local _ .vmem, ⟨15, _⟩ => ⟨S128x512, .f32⟩
  | .local _ .vmem, ⟨16, _⟩ => ⟨S128x512, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_v10_6 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x128x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]
-- ==== ProjAbSRefIdeal.lean ====
abbrev S1x128x1024 : Shape := ⟨3, ![1, 128, 1024]⟩
abbrev S1x1024x2328 : Shape := ⟨3, ![1, 1024, 2328]⟩
abbrev S_ : Shape := ⟨0, ![]⟩
abbrev S1024x2328 : Shape := ⟨2, ![1024, 2328]⟩
abbrev S1x128x2328 : Shape := ⟨3, ![1, 128, 2328]⟩
abbrev S1x128x24 : Shape := ⟨3, ![1, 128, 24]⟩
abbrev S1x128x128 : Shape := ⟨3, ![1, 128, 128]⟩
abbrev S1x128x512 : Shape := ⟨3, ![1, 128, 512]⟩
abbrev S1x128x256 : Shape := ⟨3, ![1, 128, 256]⟩
abbrev S128x512 : Shape := ⟨2, ![128, 512]⟩

abbrev nBuf : Space → Nat
  | .hbm => 23
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S1x1024x2328, .f32⟩
  | .hbm, ⟨4, _⟩ => ⟨S_, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .hbm, ⟨9, _⟩ => ⟨S1024x2328, .f32⟩
  | .hbm, ⟨10, _⟩ => ⟨S1x128x2328, .f32⟩
  | .hbm, ⟨11, _⟩ => ⟨S1x128x24, .f32⟩
  | .hbm, ⟨12, _⟩ => ⟨S_, .i32⟩
  | .hbm, ⟨13, _⟩ => ⟨S_, .f32⟩
  | .hbm, ⟨14, _⟩ => ⟨S1x128x128, .f32⟩
  | .hbm, ⟨15, _⟩ => ⟨S1x128x512, .f32⟩
  | .hbm, ⟨16, _⟩ => ⟨S1x128x256, .f32⟩
  | .hbm, ⟨17, _⟩ => ⟨S1x128x256, .f32⟩
  | .hbm, ⟨18, _⟩ => ⟨S1x128x256, .f32⟩
  | .hbm, ⟨19, _⟩ => ⟨S1x128x512, .f32⟩
  | .hbm, ⟨20, _⟩ => ⟨S128x512, .f32⟩
  | .hbm, ⟨21, _⟩ => ⟨S1x128x512, .f32⟩
  | .hbm, ⟨22, _⟩ => ⟨S128x512, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== RglruS.lean ====
abbrev S1x128x512 : Shape := ⟨3, ![1, 128, 512]⟩
abbrev S3x128x512 : Shape := ⟨3, ![3, 128, 512]⟩
abbrev S128x512 : Shape := ⟨2, ![128, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S512 : Shape := ⟨1, ![512]⟩
abbrev S8x64x64 : Shape := ⟨3, ![8, 64, 64]⟩
abbrev S8x64x1x64 : Shape := ⟨4, ![8, 64, 1, 64]⟩
abbrev S8x8 : Shape := ⟨2, ![8, 8]⟩
abbrev S_ : Shape := ⟨0, ![]⟩
abbrev S8x1x8x1 : Shape := ⟨4, ![8, 1, 8, 1]⟩
abbrev S8x64x8x64 : Shape := ⟨4, ![8, 64, 8, 64]⟩
abbrev S512x512 : Shape := ⟨2, ![512, 512]⟩
abbrev S4x128x512 : Shape := ⟨3, ![4, 128, 512]⟩
abbrev S1x1x512 : Shape := ⟨3, ![1, 1, 512]⟩

abbrev nBuf : Space → Nat
  | .hbm => 53
  | .vmem => 18
  | .smem => 0
  | _ => 0

abbrev bufTy : (tb : Table) → Fin (tcTables nBuf tb) → BufTy
  | .hbm, ⟨0, _⟩ => ⟨S1x128x512, .f32⟩
  | .hbm, ⟨1, _⟩ => ⟨S1x128x512, .f32⟩
  | .hbm, ⟨2, _⟩ => ⟨S3x128x512, .f32⟩
  | .hbm, ⟨3, _⟩ => ⟨S128x512, .f32⟩
  | .hbm, ⟨4, _⟩ => ⟨S1x4x512, .f32⟩
  | .hbm, ⟨5, _⟩ => ⟨S1x512, .f32⟩
  | .hbm, ⟨6, _⟩ => ⟨S1x8x64x64, .f32⟩
  | .hbm, ⟨7, _⟩ => ⟨S1x512, .f32⟩
  | .hbm, ⟨8, _⟩ => ⟨S1x8x64x64, .f32⟩
  | .hbm, ⟨9, _⟩ => ⟨S1x512, .f32⟩
  | .hbm, ⟨10, _⟩ => ⟨S1x512, .f32⟩
  | .hbm, ⟨11, _⟩ => ⟨S4x512, .f32⟩
  | .hbm, ⟨12, _⟩ => ⟨S512, .f32⟩
  | .hbm, ⟨13, _⟩ => ⟨S1x512, .f32⟩
  | .hbm, ⟨14, _⟩ => ⟨S8x64x64, .f32⟩
  | .hbm, ⟨15, _⟩ => ⟨S8x64x1x64, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x1x8x1, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S512x512, .f32⟩
  | .hbm, ⟨28, _⟩ => ⟨S512x512, .bf16⟩
  | .hbm, ⟨29, _⟩ => ⟨S512, .f32⟩
  | .hbm, ⟨30, _⟩ => ⟨S1x512, .f32⟩
  | .hbm, ⟨31, _⟩ => ⟨S8x64x64, .f32⟩
  | .hbm, ⟨32, _⟩ => ⟨S8x64x1x64, .f32⟩
  | .hbm, ⟨33, _⟩ => ⟨S8x8, .i32⟩
  | .hbm, ⟨34, _⟩ => ⟨S8x8, .i32⟩
  | .hbm, ⟨35, _⟩ => ⟨S_, .i32⟩
  | .hbm, ⟨36, _⟩ => ⟨S8x8, .i32⟩
  | .hbm, ⟨37, _⟩ => ⟨S8x8, .i32⟩
  | .hbm, ⟨38, _⟩ => ⟨S8x8, .i1⟩
  | .hbm, ⟨39, _⟩ => ⟨S8x8, .f32⟩
  | .hbm, ⟨40, _⟩ => ⟨S8x1x8x1, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S512x512, .f32⟩
  | .hbm, ⟨45, _⟩ => ⟨S512x512, .bf16⟩
  | .hbm, ⟨46, _⟩ => ⟨S512, .f32⟩
  | .hbm, ⟨47, _⟩ => ⟨S1x512, .f32⟩
  | .hbm, ⟨48, _⟩ => ⟨S512, .f32⟩
  | .hbm, ⟨49, _⟩ => ⟨S1x512, .f32⟩
  | .hbm, ⟨50, _⟩ => ⟨S1x128x512, .f32⟩
  | .hbm, ⟨51, _⟩ => ⟨S3x128x512, .f32⟩
  | .hbm, ⟨52, _⟩ => ⟨S128x512, .f32⟩
  | .local _ .vmem, ⟨0, _⟩ => ⟨S1x128x512, .f32⟩
  | .local _ .vmem, ⟨1, _⟩ => ⟨S1x128x512, .f32⟩
  | .local _ .vmem, ⟨2, _⟩ => ⟨S3x128x512, .f32⟩
  | .local _ .vmem, ⟨3, _⟩ => ⟨S128x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x128x512, .f32⟩
  | .local _ .vmem, ⟨12, _⟩ => ⟨S3x128x512, .f32⟩
  | .local _ .vmem, ⟨13, _⟩ => ⟨S128x512, .f32⟩
  | .local _ .vmem, ⟨14, _⟩ => ⟨S3x128x512, .f32⟩
  | .local _ .vmem, ⟨15, _⟩ => ⟨S128x512, .f32⟩
  | .local _ .vmem, ⟨16, _⟩ => ⟨S1x128x512, .f32⟩
  | .local _ .vmem, ⟨17, _⟩ => ⟨S1x128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37_0 : Ref sig .tc := ⟨.hbm, 50, rfl⟩
abbrev main_v37_1 : Ref sig .tc := ⟨.hbm, 51, rfl⟩
abbrev main_v37_2 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S3x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RglruSRefIdeal.lean ====
abbrev S1x128x512 : Shape := ⟨3, ![1, 128, 512]⟩
abbrev S3x128x512 : Shape := ⟨3, ![3, 128, 512]⟩
abbrev S128x512 : Shape := ⟨2, ![128, 512]⟩
abbrev S1x4x512 : Shape := ⟨3, ![1, 4, 512]⟩
abbrev S1x512 : Shape := ⟨2, ![1, 512]⟩
abbrev S1x8x64x64 : Shape := ⟨4, ![1, 8, 64, 64]⟩
abbrev S4x512 : Shape := ⟨2, ![4, 512]⟩
abbrev S4x128x512 : Shape := ⟨3, ![4, 128, 512]⟩
abbrev S512 : Shape := ⟨1, ![512]⟩
abbrev S128x8x64 : Shape := ⟨3, ![128, 8, 64]⟩
abbrev S8x64x64 : Shape := ⟨3, ![8, 64, 64]⟩
abbrev S8x64x128 : Shape := ⟨3, ![8, 64, 128]⟩
abbrev S_ : Shape := ⟨0, ![]⟩

abbrev nBuf : Space → Nat
  | .hbm => 135
  | .vmem => 0
  | .smem => 0
  | _ => 0

abbrev hbmTy0_0 (i : Nat) : BufTy := match i % 128 with
  | 0 => ⟨S1x128x512, .f32⟩
  | 1 => ⟨S1x128x512, .f32⟩
  | 2 => ⟨S3x128x512, .f32⟩
  | 3 => ⟨S128x512, .f32⟩
  | 4 => ⟨S1x4x512, .f32⟩
  | 5 => ⟨S1x512, .f32⟩
  | 6 => ⟨S1x8x64x64, .f32⟩
  | 7 => ⟨S1x512, .f32⟩
  | 8 => ⟨S1x8x64x64, .f32⟩
  | 9 => ⟨S1x512, .f32⟩
  | 10 => ⟨S1x512, .f32⟩
  | 11 => ⟨S4x512, .f32⟩
  | 12 => ⟨S4x128x512, .f32⟩
  | 13 => ⟨S1x128x512, .f32⟩
  | 14 => ⟨S128x512, .f32⟩
  | 15 => ⟨S1x512, .f32⟩
  | 16 => ⟨S512, .f32⟩
  | 17 => ⟨S1x512, .f32⟩
  | 18 => ⟨S128x512, .f32⟩
  | 19 => ⟨S128x512, .f32⟩
  | 20 => ⟨S1x128x512, .f32⟩
  | 21 => ⟨S128x512, .f32⟩
  | 22 => ⟨S1x512, .f32⟩
  | 23 => ⟨S512, .f32⟩
  | 24 => ⟨S1x512, .f32⟩
  | 25 => ⟨S128x512, .f32⟩
  | 26 => ⟨S128x512, .f32⟩
  | 27 => ⟨S128x512, .f32⟩
  | 28 => ⟨S1x128x512, .f32⟩
  | 29 => ⟨S128x512, .f32⟩
  | 30 => ⟨S1x512, .f32⟩
  | 31 => ⟨S512, .f32⟩
  | 32 => ⟨S1x512, .f32⟩
  | 33 => ⟨S128x512, .f32⟩
  | 34 => ⟨S128x512, .f32⟩
  | 35 => ⟨S128x512, .f32⟩
  | 36 => ⟨S1x128x512, .f32⟩
  | 37 => ⟨S128x512, .f32⟩
  | 38 => ⟨S1x512, .f32⟩
  | 39 => ⟨S512, .f32⟩
  | 40 => ⟨S1x512, .f32⟩
  | 41 => ⟨S128x512, .f32⟩
  | 42 => ⟨S128x512, .f32⟩
  | 43 => ⟨S128x512, .f32⟩
  | 44 => ⟨S512, .f32⟩
  | 45 => ⟨S1x512, .f32⟩
  | 46 => ⟨S128x512, .f32⟩
  | 47 => ⟨S128x512, .f32⟩
  | 48 => ⟨S128x8x64, .f32⟩
  | 49 => ⟨S8x64x64, .f32⟩
  | 50 => ⟨S8x64x128, .f32⟩
  | 51 => ⟨S128x8x64, .f32⟩
  | 52 => ⟨S128x512, .f32⟩
  | 53 => ⟨S512, .f32⟩
  | 54 => ⟨S1x512, .f32⟩
  | 55 => ⟨S128x512, .f32⟩
  | 56 => ⟨S128x512, .f32⟩
  | 57 => ⟨S128x512, .f32⟩
  | 58 => ⟨S128x512, .f32⟩
  | 59 => ⟨S_, .f32⟩
  | 60 => ⟨S128x512, .f32⟩
  | 61 => ⟨S128x512, .f32⟩
  | 62 => ⟨S_, .f32⟩
  | 63 => ⟨S128x512, .f32⟩
  | 64 => ⟨S128x512, .f32⟩
  | 65 => ⟨S8x64x64, .f32⟩
  | 66 => ⟨S8x64x128, .f32⟩
  | 67 => ⟨S128x8x64, .f32⟩
  | 68 => ⟨S128x512, .f32⟩
  | 69 => ⟨S512, .f32⟩
  | 70 => ⟨S1x512, .f32⟩
  | 71 => ⟨S128x512, .f32⟩
  | 72 => ⟨S128x512, .f32⟩
  | 73 => ⟨S128x512, .f32⟩
  | 74 => ⟨S128x512, .f32⟩
  | 75 => ⟨S_, .f32⟩
  | 76 => ⟨S128x512, .f32⟩
  | 77 => ⟨S128x512, .f32⟩
  | 78 => ⟨S_, .f32⟩
  | 79 => ⟨S128x512, .f32⟩
  | 80 => ⟨S128x512, .f32⟩
  | 81 => ⟨S_, .f32⟩
  | 82 => ⟨S128x512, .f32⟩
  | 83 => ⟨S128x512, .f32⟩
  | 84 => ⟨S512, .f32⟩
  | 85 => ⟨S512, .f32⟩
  | 86 => ⟨S_, .f32⟩
  | 87 => ⟨S512, .f32⟩
  | 88 => ⟨S512, .f32⟩
  | 89 => ⟨S512, .f32⟩
  | 90 => ⟨S512, .f32⟩
  | 91 => ⟨S512, .i1⟩
  | 92 => ⟨S512, .f32⟩
  | 93 => ⟨S512, .f32⟩
  | 94 => ⟨S512, .f32⟩
  | 95 => ⟨S512, .f32⟩
  | 96 => ⟨S512, .f32⟩
  | 97 => ⟨S512, .f32⟩
  | 98 => ⟨S512, .f32⟩
  | 99 => ⟨S512, .f32⟩
  | 100 => ⟨S1x512, .f32⟩
  | 101 => ⟨S128x512, .f32⟩
  | 102 => ⟨S128x512, .f32⟩
  | 103 => ⟨S128x512, .f32⟩
  | 104 => ⟨S128x512, .f32⟩
  | 105 => ⟨S_, .f32⟩
  | 106 => ⟨S128x512, .f32⟩
  | 107 => ⟨S128x512, .f32⟩
  | 108 => ⟨S128x512, .f32⟩
  | 109 => ⟨S128x512, .f32⟩
  | 110 => ⟨S128x512, .f32⟩
  | 111 => ⟨S128x512, .f32⟩
  | 112 => ⟨S128x512, .f32⟩
  | 113 => ⟨S128x512, .f32⟩
  | 114 => ⟨S128x512, .f32⟩
  | 115 => ⟨S128x512, .f32⟩
  | 116 => ⟨S128x512, .f32⟩
  | 117 => ⟨S_, .f32⟩
  | 118 => ⟨S128x512, .f32⟩
  | 119 => ⟨S128x512, .f32⟩
  | 120 => ⟨S128x512, .f32⟩
  | 121 => ⟨S_, .f32⟩
  | 122 => ⟨S128x512, .f32⟩
  | 123 => ⟨S128x512, .f32⟩
  | 124 => ⟨S128x512, .f32⟩
  | 125 => ⟨S_, .f32⟩
  | 126 => ⟨S128x512, .f32⟩
  | 127 => ⟨S128x512, .f32⟩
  | _ => ⟨S1x128x512, .f32⟩

abbrev hbmTy0_1 (i : Nat) : BufTy := match i % 128 with
  | 0 => ⟨S_, .f32⟩
  | 1 => ⟨S128x512, .f32⟩
  | 2 => ⟨S128x512, .f32⟩
  | 3 => ⟨S128x512, .f32⟩
  | 4 => ⟨S128x512, .f32⟩
  | 5 => ⟨S1x128x512, .f32⟩
  | 6 => ⟨S3x128x512, .f32⟩
  | _ => ⟨S1x128x512, .f32⟩

abbrev hbmTy (i : Nat) : BufTy := match i / 128 with
  | 0 => hbmTy0_0 i
  | 1 => hbmTy0_1 i
  | _ => ⟨S1x128x512, .f32⟩

abbrev bufTy : (tb : Table) → Fin (tcTables nBuf tb) → BufTy
  | .hbm, ⟨i, _⟩ => hbmTy i
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_cst_0 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_1 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_cst_3 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_call0_v3 : Ref sig .tc := ⟨.hbm, 90, rfl⟩
abbrev main_call0_v4 : Ref sig .tc := ⟨.hbm, 91, rfl⟩
abbrev main_call0_v5 : Ref sig .tc := ⟨.hbm, 92, rfl⟩
abbrev main_call0_v6 : Ref sig .tc := ⟨.hbm, 93, rfl⟩
abbrev main_call0_v7 : Ref sig .tc := ⟨.hbm, 94, rfl⟩
abbrev main_call0_v8 : Ref sig .tc := ⟨.hbm, 95, rfl⟩
abbrev main_call0_v9 : Ref sig .tc := ⟨.hbm, 96, rfl⟩
abbrev main_call0_v10 : Ref sig .tc := ⟨.hbm, 97, rfl⟩
abbrev main_call0_v11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_4 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_5 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_6 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_7 : Ref sig .tc := ⟨.hbm, 125, rfl⟩
abbrev main_v93 : Ref sig .tc := ⟨.hbm, 126, rfl⟩
abbrev main_v94 : Ref sig .tc := ⟨.hbm, 127, rfl⟩
abbrev main_cst_8 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]
-- ==== S5S.lean ====
abbrev S1x128x512 : Shape := ⟨3, ![1, 128, 512]⟩
abbrev S128x2048 : Shape := ⟨2, ![128, 2048]⟩
abbrev S32x64 : Shape := ⟨2, ![32, 64]⟩
abbrev S32x1024 : Shape := ⟨2, ![32, 1024]⟩
abbrev S32x16x64 : Shape := ⟨3, ![32, 16, 64]⟩
abbrev S512 : Shape := ⟨1, ![512]⟩
abbrev S512x512 : Shape := ⟨2, ![512, 512]⟩
abbrev S8x8 : Shape := ⟨2, ![8, 8]⟩
abbrev S_ : Shape := ⟨0, ![]⟩
abbrev S1x2048 : Shape := ⟨2, ![1, 2048]⟩
abbrev S4x8x64x16 : Shape := ⟨4, ![4, 8, 64, 16]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S1x512 : Shape := ⟨2, ![1, 512]⟩
abbrev S128x512 : Shape := ⟨2, ![128, 512]⟩
abbrev S128x128 : Shape := ⟨2, ![128, 128]⟩
abbrev S1x512x128 : Shape := ⟨3, ![1, 512, 128]⟩
abbrev S512x128 : Shape := ⟨2, ![512, 128]⟩

abbrev nBuf : Space → Nat
  | .hbm => 63
  | .vmem => 21
  | .smem => 0
  | _ => 0

abbrev bufTy : (tb : Table) → Fin (tcTables nBuf tb) → BufTy
  | .hbm, ⟨0, _⟩ => ⟨S1x128x512, .f32⟩
  | .hbm, ⟨1, _⟩ => ⟨S128x2048, .f32⟩
  | .hbm, ⟨2, _⟩ => ⟨S128x2048, .f32⟩
  | .hbm, ⟨3, _⟩ => ⟨S32x64, .f32⟩
  | .hbm, ⟨4, _⟩ => ⟨S32x64, .f32⟩
  | .hbm, ⟨5, _⟩ => ⟨S32x1024, .f32⟩
  | .hbm, ⟨6, _⟩ => ⟨S32x1024, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S1x2048, .f32⟩
  | .hbm, ⟨20, _⟩ => ⟨S1x2048, .f32⟩
  | .hbm, ⟨21, _⟩ => ⟨S4x8x64x16, .f32⟩
  | .hbm, ⟨22, _⟩ => ⟨S4x8x16x64, .f32⟩
  | .hbm, ⟨23, _⟩ => ⟨S4x8x16x1x64, .f32⟩
  | .hbm, ⟨24, _⟩ => ⟨S1x8x1x8x1, .f32⟩
  | .hbm, ⟨25, _⟩ => ⟨S4x8x16x8x64, .f32⟩
  | .hbm, ⟨26, _⟩ => ⟨S4x8x16x8x64, .f32⟩
  | .hbm, ⟨27, _⟩ => ⟨S4x8x16x8x64, .f32⟩
  | .hbm, ⟨28, _⟩ => ⟨S4x128x512, .f32⟩
  | .hbm, ⟨29, _⟩ => ⟨S4x128x512, .bf16⟩
  | .hbm, ⟨30, _⟩ => ⟨S4x8x64x16, .f32⟩
  | .hbm, ⟨31, _⟩ => ⟨S4x8x16x64, .f32⟩
  | .hbm, ⟨32, _⟩ => ⟨S4x8x16x1x64, .f32⟩
  | .hbm, ⟨33, _⟩ => ⟨S1x8x1x8x1, .f32⟩
  | .hbm, ⟨34, _⟩ => ⟨S4x8x16x8x64, .f32⟩
  | .hbm, ⟨35, _⟩ => ⟨S4x8x16x8x64, .f32⟩
  | .hbm, ⟨36, _⟩ => ⟨S4x8x16x8x64, .f32⟩
  | .hbm, ⟨37, _⟩ => ⟨S4x128x512, .f32⟩
  | .hbm, ⟨38, _⟩ => ⟨S4x128x512, .bf16⟩
  | .hbm, ⟨39, _⟩ => ⟨S4x8x16x64, .f32⟩
  | .hbm, ⟨40, _⟩ => ⟨S4x8x64x16, .f32⟩
  | .hbm, ⟨41, _⟩ => ⟨S4x8x64x1x16, .f32⟩
  | .hbm, ⟨42, _⟩ => ⟨S1x8x1x8x1, .f32⟩
  | .hbm, ⟨43, _⟩ => ⟨S4x8x64x8x16, .f32⟩
  | .hbm, ⟨44, _⟩ => ⟨S4x8x64x8x16, .f32⟩
  | .hbm, ⟨45, _⟩ => ⟨S4x8x64x8x16, .f32⟩
  | .hbm, ⟨46, _⟩ => ⟨S4x512x128, .f32⟩
  | .hbm, ⟨47, _⟩ => ⟨S4x512x128, .bf16⟩
  | .hbm, ⟨48, _⟩ => ⟨S4x8x16x64, .f32⟩
  | .hbm, ⟨49, _⟩ => ⟨S4x8x64x16, .f32⟩
  | .hbm, ⟨50, _⟩ => ⟨S4x8x64x1x16, .f32⟩
  | .hbm, ⟨51, _⟩ => ⟨S1x8x1x8x1, .f32⟩
  | .hbm, ⟨52, _⟩ => ⟨S4x8x64x8x16, .f32⟩
  | .hbm, ⟨53, _⟩ => ⟨S4x8x64x8x16, .f32⟩
  | .hbm, ⟨54, _⟩ => ⟨S4x8x64x8x16, .f32⟩
  | .hbm, ⟨55, _⟩ => ⟨S4x512x128, .f32⟩
  | .hbm, ⟨56, _⟩ => ⟨S4x512x128, .bf16⟩
  | .hbm, ⟨57, _⟩ => ⟨S1x512, .f32⟩
  | .hbm, ⟨58, _⟩ => ⟨S512x512, .bf16⟩
  | .hbm, ⟨59, _⟩ => ⟨S1x512, .f32⟩
  | .hbm, ⟨60, _⟩ => ⟨S1x128x512, .f32⟩
  | .hbm, ⟨61, _⟩ => ⟨S128x2048, .f32⟩
  | .hbm, ⟨62, _⟩ => ⟨S128x2048, .f32⟩
  | .local _ .vmem, ⟨0, _⟩ => ⟨S1x128x512, .f32⟩
  | .local _ .vmem, ⟨1, _⟩ => ⟨S128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S4x128x512, .bf16⟩
  | .local _ .vmem, ⟨6, _⟩ => ⟨S4x128x512, .bf16⟩
  | .local _ .vmem, ⟨7, _⟩ => ⟨S4x512x128, .bf16⟩
  | .local _ .vmem, ⟨8, _⟩ => ⟨S4x512x128, .bf16⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S1x128x512, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x128x512, .f32⟩
  | _, _ => ⟨S1x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== S5SRefIdeal.lean ====
abbrev S1x128x512 : Shape := ⟨3, ![1, 128, 512]⟩
abbrev S128x2048 : Shape := ⟨2, ![128, 2048]⟩
abbrev S32x64 : Shape := ⟨2, ![32, 64]⟩
abbrev S32x1024 : Shape := ⟨2, ![32, 1024]⟩
abbrev S32x16x64 : Shape := ⟨3, ![32, 16, 64]⟩
abbrev S512 : Shape := ⟨1, ![512]⟩
abbrev S512x512 : Shape := ⟨2, ![512, 512]⟩
abbrev S128x512 : Shape := ⟨2, ![128, 512]⟩
abbrev S128x32x16 : Shape := ⟨3, ![128, 32, 16]⟩
abbrev S32x64x16 : Shape := ⟨3, ![32, 64, 16]⟩
abbrev S32x64x128 : Shape := ⟨3, ![32, 64, 128]⟩
abbrev S128x32x64 : Shape := ⟨3, ![128, 32, 64]⟩
abbrev S1x32x64 : Shape := ⟨3, ![1, 32, 64]⟩
abbrev S32x16x128 : Shape := ⟨3, ![32, 16, 128]⟩
abbrev S1x512 : Shape := ⟨2, ![1, 512]⟩
abbrev S_ : Shape := ⟨0, ![]⟩

abbrev nBuf : Space → Nat
  | .hbm => 82
  | .vmem => 0
  | .smem => 0
  | _ => 0

abbrev bufTy : (tb : Table) → Fin (tcTables nBuf tb) → BufTy
  | .hbm, ⟨0, _⟩ => ⟨S1x128x512, .f32⟩
  | .hbm, ⟨1, _⟩ => ⟨S128x2048, .f32⟩
  | .hbm, ⟨2, _⟩ => ⟨S128x2048, .f32⟩
  | .hbm, ⟨3, _⟩ => ⟨S32x64, .f32⟩
  | .hbm, ⟨4, _⟩ => ⟨S32x64, .f32⟩
  | .hbm, ⟨5, _⟩ => ⟨S32x1024, .f32⟩
  | .hbm, ⟨6, _⟩ => ⟨S32x1024, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S128x512, .f32⟩
  | .hbm, ⟨13, _⟩ => ⟨S128x32x16, .f32⟩
  | .hbm, ⟨14, _⟩ => ⟨S32x64x16, .f32⟩
  | .hbm, ⟨15, _⟩ => ⟨S32x64x128, .f32⟩
  | .hbm, ⟨16, _⟩ => ⟨S128x32x64, .f32⟩
  | .hbm, ⟨17, _⟩ => ⟨S32x64x16, .f32⟩
  | .hbm, ⟨18, _⟩ => ⟨S32x64x128, .f32⟩
  | .hbm, ⟨19, _⟩ => ⟨S128x32x64, .f32⟩
  | .hbm, ⟨20, _⟩ => ⟨S128x32x64, .f32⟩
  | .hbm, ⟨21, _⟩ => ⟨S128x32x64, .f32⟩
  | .hbm, ⟨22, _⟩ => ⟨S1x32x64, .f32⟩
  | .hbm, ⟨23, _⟩ => ⟨S128x32x64, .f32⟩
  | .hbm, ⟨24, _⟩ => ⟨S128x32x64, .f32⟩
  | .hbm, ⟨25, _⟩ => ⟨S1x32x64, .f32⟩
  | .hbm, ⟨26, _⟩ => ⟨S128x32x64, .f32⟩
  | .hbm, ⟨27, _⟩ => ⟨S128x32x64, .f32⟩
  | .hbm, ⟨28, _⟩ => ⟨S128x32x64, .f32⟩
  | .hbm, ⟨29, _⟩ => ⟨S128x32x64, .f32⟩
  | .hbm, ⟨30, _⟩ => ⟨S1x32x64, .f32⟩
  | .hbm, ⟨31, _⟩ => ⟨S128x32x64, .f32⟩
  | .hbm, ⟨32, _⟩ => ⟨S128x32x64, .f32⟩
  | .hbm, ⟨33, _⟩ => ⟨S1x32x64, .f32⟩
  | .hbm, ⟨34, _⟩ => ⟨S128x32x64, .f32⟩
  | .hbm, ⟨35, _⟩ => ⟨S128x32x64, .f32⟩
  | .hbm, ⟨36, _⟩ => ⟨S128x32x64, .f32⟩
  | .hbm, ⟨37, _⟩ => ⟨S128x32x64, .f32⟩
  | .hbm, ⟨38, _⟩ => ⟨S32x16x128, .f32⟩
  | .hbm, ⟨39, _⟩ => ⟨S128x32x16, .f32⟩
  | .hbm, ⟨40, _⟩ => ⟨S32x16x128, .f32⟩
  | .hbm, ⟨41, _⟩ => ⟨S128x32x16, .f32⟩
  | .hbm, ⟨42, _⟩ => ⟨S128x32x16, .f32⟩
  | .hbm, ⟨43, _⟩ => ⟨S128x512, .f32⟩
  | .hbm, ⟨44, _⟩ => ⟨S128x512, .f32⟩
  | .hbm, ⟨45, _⟩ => ⟨S1x512, .f32⟩
  | .hbm, ⟨46, _⟩ => ⟨S128x512, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S128x512, .f32⟩
  | .hbm, ⟨51, _⟩ => ⟨S_, .f32⟩
  | .hbm, ⟨52, _⟩ => ⟨S128x512, .f32⟩
  | .hbm, ⟨53, _⟩ => ⟨S128x512, .f32⟩
  | .hbm, ⟨54, _⟩ => ⟨S128x512, .f32⟩
  | .hbm, ⟨55, _⟩ => ⟨S_, .f32⟩
  | .hbm, ⟨56, _⟩ => ⟨S128x512, .f32⟩
  | .hbm, ⟨57, _⟩ => ⟨S128x512, .f32⟩
  | .hbm, ⟨58, _⟩ => ⟨S128x512, .f32⟩
  | .hbm, ⟨59, _⟩ => ⟨S_, .f32⟩
  | .hbm, ⟨60, _⟩ => ⟨S128x512, .f32⟩
  | .hbm, ⟨61, _⟩ => ⟨S128x512, .f32⟩
  | .hbm, ⟨62, _⟩ => ⟨S_, .f32⟩
  | .hbm, ⟨63, _⟩ => ⟨S128x512, .f32⟩
  | .hbm, ⟨64, _⟩ => ⟨S128x512, .f32⟩
  | .hbm, ⟨65, _⟩ => ⟨S128x512, .f32⟩
  | .hbm, ⟨66, _⟩ => ⟨S128x512, .f32⟩
  | .hbm, ⟨67, _⟩ => ⟨S1x512, .f32⟩
  | .hbm, ⟨68, _⟩ => ⟨S128x512, .f32⟩
  | .hbm, ⟨69, _⟩ => ⟨S128x512, .f32⟩
  | .hbm, ⟨70, _⟩ => ⟨S128x512, .f32⟩
  | .hbm, ⟨71, _⟩ => ⟨S128x512, .f32⟩
  | .hbm, ⟨72, _⟩ => ⟨S_, .f32⟩
  | .hbm, ⟨73, _⟩ => ⟨S128x512, .f32⟩
  | .hbm, ⟨74, _⟩ => ⟨S128x512, .f32⟩
  | .hbm, ⟨75, _⟩ => ⟨S_, .f32⟩
  | .hbm, ⟨76, _⟩ => ⟨S128x512, .f32⟩
  | .hbm, ⟨77, _⟩ => ⟨S128x512, .f32⟩
  | .hbm, ⟨78, _⟩ => ⟨S128x512, .f32⟩
  | .hbm, ⟨79, _⟩ => ⟨S1x128x512, .f32⟩
  | .hbm, ⟨80, _⟩ => ⟨S128x2048, .f32⟩
  | .hbm, ⟨81, _⟩ => ⟨S128x2048, .f32⟩
  | _, _ => ⟨S1x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_1 : Ref sig .tc := ⟨.hbm, 59, rfl⟩
abbrev main_v45 : Ref sig .tc := ⟨.hbm, 60, rfl⟩
abbrev main_v46 : Ref sig .tc := ⟨.hbm, 61, rfl⟩
abbrev main_cst_2 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_3 : Ref sig .tc := ⟨.hbm, 72, rfl⟩
abbrev main_v56 : Ref sig .tc := ⟨.hbm, 73, rfl⟩
abbrev main_v57 : Ref sig .tc := ⟨.hbm, 74, rfl⟩
abbrev main_cst_4 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== Proof.KernelIdealBody.lean ====
module

public import proofs.«01_k».proof.Proof.Gen.KernelIdeal.Frame
public import proofs.«01_k».proof.Proof.Gen.KernelIdeal.Loops
public import Idealize.ShloMosaic.Lib.VecWindow
public import Idealize.ShloMosaic.Lib.WritesUnit
public import Idealize.ShloMosaic.Lib.ValueIdx
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of a block of 64 rows. -/
def row (A : Vec F S64x16x512 .f32) (k : Fin 64) : Vec F S1x16x512 .f32 := fun z => A (ValueIdx.ix3 k (z 1) (z 2))

/-- The state after `n` steps of the recurrence over a block's rows, from the state `h` before the block. -/
def stateAt (A U : Vec F S64x16x512 .f32) (h : Vec F S16x512 .f32) : ℕ → Vec F S16x512 .f32
  | 0 => h
  | n + 1 => if hn : n < 64 then k0_pay16 (stateAt A U h n) (row A ⟨n, hn⟩) (row U ⟨n, hn⟩) else stateAt A U h n

/-- All the states of a block, row by row. -/
def states (A U : Vec F S64x16x512 .f32) (h : Vec F S16x512 .f32) : Vec F S64x16x512 .f32 :=
  fun y => stateAt A U h ((y 0).val + 1) (ValueIdx.ix2 (y 1) (y 2))

theorem trip_lt (k : Fin k0_t1_loop.trips) : k.val < 64 := Nat.lt_of_lt_of_le k.isLt k0_t1_abs.2.1

theorem readAt_row (v : View sig .tc .vmem S64x16x512 .f32) (X : v.ty.Contents (Elt F)) (k : Fin k0_t1_loop.trips)
    (inb : ∀ a, k0_off1 k a + ![1, 16, 512] a ≤ S64x16x512.size a) :
    View.readAt (Elt F) v (Rect.unit (s := S64x16x512) (k0_off1 k) ![1, 16, 512] inb).toLoadRect X = row (v.read (Elt F) X) ⟨k.val, trip_lt k⟩ := by
  rw [View.readAt_unit v X inb (k0_off1_eq k) (by rw [← k0_off1_eq k]; exact inb)]
  funext z
  have h0 : (z 0).val = 0 := by have := (z 0).isLt; change (z 0).val < 1 at this; omega
  refine congrArg (v.read (Elt F) X) (funext fun a => Fin.ext ?_)
  match a with
  | 0 => show k.val + 1 * (z 0).val = k.val; omega
  | 1 => show 0 + 1 * (z 1).val = (z 1).val; omega
  | 2 => show 0 + 1 * (z 2).val = (z 2).val; omega

theorem pay17_eq (acc : Vec F S16x512 .f32) (a u : Vec F S1x16x512 .f32) (z : S1x16x512.Idx) :
    k0_pay17 acc a u z = k0_pay16 acc a u (ValueIdx.ix2 (z 1) (z 2)) := by
  unfold k0_pay17
  refine (shapeCast_addUnit_apply ![16, 512] _ _ z).trans (congrArg _ (funext fun a => ?_))
  match a with
  | 0 => rfl
  | 1 => rfl

theorem tripR_eq (𝒱 : Variants) (c : Dev nD) (bd : Option 𝒱.V) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (v42 : FVec F S1024x512 .f32) (v59 : FVec F S1024x512 .f32) (v75 : FVec F S1024x512 .f32) (v77 : FVec F S64x16x512 .f32)
    (X17 : BufTy.Contents (Elt F) arg17.view.ty) (X18 : BufTy.Contents (Elt F) arg18.view.ty) (k : Fin k0_t1_loop.trips) (acc : Vec F S16x512 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 k acc
      = k0_pay16 acc (row (arg17.view.read (Elt F) X17) ⟨k.val, trip_lt k⟩) (row (arg18.view.read (Elt F) X18) ⟨k.val, trip_lt k⟩) := by
  unfold tripR_k0_t1 trip_k0_t1
  dsimp only
  rw [readAt_row, readAt_row]

theorem tripL_eq (𝒱 : Variants) (c : Dev nD) (bd : Option 𝒱.V) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (v42 : FVec F S1024x512 .f32) (v59 : FVec F S1024x512 .f32) (v75 : FVec F S1024x512 .f32) (v77 : FVec F S64x16x512 .f32)
    (X17 : BufTy.Contents (Elt F) arg17.view.ty) (X18 : BufTy.Contents (Elt F) arg18.view.ty) (k : Fin k0_t1_loop.trips) (acc : Vec F S16x512 .f32) (inb : ∀ a, k0_off1 k a + ![1, 16, 512] a ≤ S64x16x512.size a) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 k acc
      = [⟨Rect.unit (s := S64x16x512) (k0_off1 k) ![1, 16, 512] inb, k0_pay17 acc (row (arg17.view.read (Elt F) X17) ⟨k.val, trip_lt k⟩) (row (arg18.view.read (Elt F) X18) ⟨k.val, trip_lt k⟩)⟩] := by
  unfold tripL_k0_t1 trip_k0_t1
  dsimp only
  rw [readAt_row, readAt_row]

/-- After `n` trips the carried value is the state after `n` steps, and the rows stored so far are the states so far. -/
theorem st_eq (𝒱 : Variants) (c : Dev nD) (bd : Option 𝒱.V) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (v42 : FVec F S1024x512 .f32) (v59 : FVec F S1024x512 .f32) (v75 : FVec F S1024x512 .f32) (v77 : FVec F S64x16x512 .f32)
    (X17 : BufTy.Contents (Elt F) arg17.view.ty) (X18 : BufTy.Contents (Elt F) arg18.view.ty) (h : Vec F S16x512 .f32) (n : ℕ) (hn : n ≤ k0_t1_loop.trips) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h n).1 = stateAt (arg17.view.read (Elt F) X17) (arg18.view.read (Elt F) X18) h n
    ∧ ∀ (f : BufTy.Contents (Elt F) arg12.view.ty) (y : S64x16x512.Idx), (y 0).val < n →
      arg12.view.read (Elt F) (arg12.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h n).2) y
        = states (arg17.view.read (Elt F) X17) (arg18.view.read (Elt F) X18) h y := by
  induction n with
  | zero => exact ⟨rfl, fun f y hy => absurd hy (Nat.not_lt_zero _)⟩
  | succ n ih =>
    obtain ⟨ih1, ih2⟩ := ih (Nat.le_of_succ_le hn)
    have h64 : n < 64 := trip_lt ⟨n, hn⟩
    have inb : ∀ a, k0_off1 ⟨n, hn⟩ a + ![1, 16, 512] a ≤ S64x16x512.size a := by
      rw [k0_off1_eq]; intro a
      match a with
      | 0 => show n + 1 ≤ 64; omega
      | 1 => show 0 + 16 ≤ 16; omega
      | 2 => show 0 + 512 ≤ 512; omega
    have es := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h ⟨n, hn⟩
    simp only at es
    rw [es, ih1, tripR_eq, tripL_eq (inb := inb)]
    refine ⟨by rw [stateAt, dif_pos h64], fun f y hy => ?_⟩
    rw [List.singleton_append]
    by_cases hy' : (y 0).val = n
    · rw [View.read_writes_cons_unit_of_mem arg12.view f inb _ _ y (ValueIdx.ix3 (0 : Fin 1) (y 1) (y 2)) (k0_off1_eq ⟨n, hn⟩) (by
        intro a
        match a with
        | 0 => show (y 0).val = n + 0; omega
        | 1 => show (y 1).val = 0 + (y 1).val; omega
        | 2 => show (y 2).val = 0 + (y 2).val; omega)]
      rw [pay17_eq]
      unfold states
      rw [hy', stateAt, dif_pos h64]
    · rw [View.read_writes_cons_unit_of_not_mem arg12.view f inb _ _ y (k0_off1_eq ⟨n, hn⟩) 0 (Or.inl (by show (y 0).val < n; omega))]
      exact ih2 f y (by omega)

/-- Row `j` of the four convolution weights. -/
def tap (w : Vec F S4x512 .f32) (j : Fin 4) : Vec F S1x512 .f32 := fun z => w (ValueIdx.ix2 j (z 1))

theorem readAt_tap (v : View sig .tc .vmem S4x512 .f32) (X : v.ty.Contents (Elt F)) (j : Fin 4) (inb : ∀ a, ![j.val, 0] a + S1x512.size a ≤ S4x512.size a) :
    View.readAt (Elt F) v (Rect.unit (s := S4x512) ![j.val, 0] S1x512.size inb).toLoadRect X = tap (v.read (Elt F) X) j := by
  funext z
  have h0 : (z 0).val = 0 := by have := (z 0).isLt; change (z 0).val < 1 at this; omega
  refine congrArg (v.read (Elt F) X) (funext fun a => Fin.ext ?_)
  match a with
  | 0 => show j.val + 1 * (z 0).val = j.val; omega
  | 1 => show 0 + 1 * (z 1).val = (z 1).val; omega

theorem readAt_all {s : Shape} {e : EltTy} {M : Memref sig .tc .vmem s e} (h : M.IsWhole) (X : s.Idx → Elt F e) {off : Fin s.rank → ℕ} (inb : ∀ a, off a + s.size a ≤ s.size a) :
    View.readAt (Elt F) M.view (Rect.unit (s := s) off s.size inb).toLoadRect (h.unread X) = X :=
  (View.readAt_full _ _ _).trans (h.read_unread X)

theorem readAt_tap0 {M : Memref sig .tc .vmem S4x512 .f32} (h : M.IsWhole) (X : S4x512.Idx → Elt F .f32) (inb : ∀ a, ![0, 0] a + S1x512.size a ≤ S4x512.size a) :
    View.readAt (Elt F) M.view (Rect.unit (s := S4x512) ![0, 0] S1x512.size inb).toLoadRect (h.unread X) = tap X 0 := by
  refine (readAt_tap M.view _ 0 inb).trans ?_
  rw [h.read_unread]

theorem readAt_tap1 {M : Memref sig .tc .vmem S4x512 .f32} (h : M.IsWhole) (X : S4x512.Idx → Elt F .f32) (inb : ∀ a, ![1, 0] a + S1x512.size a ≤ S4x512.size a) :
    View.readAt (Elt F) M.view (Rect.unit (s := S4x512) ![1, 0] S1x512.size inb).toLoadRect (h.unread X) = tap X 1 := by
  refine (readAt_tap M.view _ 1 inb).trans ?_
  rw [h.read_unread]

theorem readAt_tap2 {M : Memref sig .tc .vmem S4x512 .f32} (h : M.IsWhole) (X : S4x512.Idx → Elt F .f32) (inb : ∀ a, ![2, 0] a + S1x512.size a ≤ S4x512.size a) :
    View.readAt (Elt F) M.view (Rect.unit (s := S4x512) ![2, 0] S1x512.size inb).toLoadRect (h.unread X) = tap X 2 := by
  refine (readAt_tap M.view _ 2 inb).trans ?_
  rw [h.read_unread]

theorem readAt_tap3 {M : Memref sig .tc .vmem S4x512 .f32} (h : M.IsWhole) (X : S4x512.Idx → Elt F .f32) (inb : ∀ a, ![3, 0] a + S1x512.size a ≤ S4x512.size a) :
    View.readAt (Elt F) M.view (Rect.unit (s := S4x512) ![3, 0] S1x512.size inb).toLoadRect (h.unread X) = tap X 3 := by
  refine (readAt_tap M.view _ 3 inb).trans ?_
  rw [h.read_unread]

/-- The convolution of a block with its bias. -/
def convBlk (x0 : Vec F S64x16x512 .f32) (xs0 : Vec F S3x16x512 .f32) (x4 : Vec F S4x512 .f32) (x5 : Vec F S1x512 .f32) : FVec F S64x16x512 .f32 :=
  k0_pay6 x0 xs0 (tap x4 0) (tap x4 1) (tap x4 2) (tap x4 3) x5

/-- The decays of a block. -/
def decayBlk (x0 : Vec F S64x16x512 .f32) (x4 : Vec F S4x512 .f32) (x5 : Vec F S1x512 .f32) (x6 : Vec F S512x512 .bf16) (x7 : Vec F S1x512 .f32) (x10 : Vec F S1x512 .f32) (xs0 : Vec F S3x16x512 .f32) : Vec F S64x16x512 .f32 :=
  k0_pay14 (k0_pay13 (convBlk x0 xs0 x4 x5) x6 x7 x10)

/-- The inputs to the recurrence of a block. -/
def inputBlk (x0 : Vec F S64x16x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (xs0 : Vec F S3x16x512 .f32) : Vec F S64x16x512 .f32 :=
  k0_pay15 (k0_pay9 (convBlk x0 xs0 x4 x5)) (k0_pay11 (convBlk x0 xs0 x4 x5) x8 x9) (k0_pay12 (convBlk x0 xs0 x4 x5) x6 x7 x10)

/-- The three rows the next block's convolution begins with. -/
def lastRows (x0 : Vec F S64x16x512 .f32) (xs0 : Vec F S3x16x512 .f32) : Vec F S3x16x512 .f32 := k0_pay8 (k0_pay7 x0 xs0)

/-- The state after a block. -/
def endState (x0 : Vec F S64x16x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (xs0 : Vec F S3x16x512 .f32) (xs1 : Vec F S16x512 .f32) : Vec F S16x512 .f32 :=
  stateAt (decayBlk x0 x4 x5 x6 x7 x10 xs0) (inputBlk x0 x4 x5 x6 x7 x8 x9 x10 xs0) xs1 64

/-- The block of the first result. -/
def outBlk (x0 x1 : Vec F S64x16x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (xs0 : Vec F S3x16x512 .f32) (xs1 : Vec F S16x512 .f32) : Vec F S64x16x512 .f32 :=
  k0_pay2 (states (decayBlk x0 x4 x5 x6 x7 x10 xs0) (inputBlk x0 x4 x5 x6 x7 x8 x9 x10 xs0) xs1) x1

theorem conv_of {x0 : Vec F S64x16x512 .f32} {xs0 : Vec F S3x16x512 .f32} {x4 : Vec F S4x512 .f32} {x5 : Vec F S1x512 .f32}
    {w : Vec F S64x16x512 .f32} {p : Vec F S3x16x512 .f32} {c0 c1 c2 c3 b : Vec F S1x512 .f32}
    (h0 : w = x0) (hp : p = xs0) (h1 : c0 = tap x4 0) (h2 : c1 = tap x4 1) (h3 : c2 = tap x4 2) (h4 : c3 = tap x4 3) (h5 : b = x5) :
    k0_pay6 w p c0 c1 c2 c3 b = convBlk x0 xs0 x4 x5 := by
  subst h0 hp h1 h2 h3 h4 h5; rfl

theorem decay_of {x0 : Vec F S64x16x512 .f32} {x4 : Vec F S4x512 .f32} {x5 : Vec F S1x512 .f32} {x6 : Vec F S512x512 .bf16} {x7 : Vec F S1x512 .f32} {x10 : Vec F S1x512 .f32} {xs0 : Vec F S3x16x512 .f32}
    {r : FVec F S64x16x512 .f32} {w6 : Vec F S512x512 .bf16} {w7 w10 : Vec F S1x512 .f32} (hr : r = convBlk x0 xs0 x4 x5) (h6 : w6 = x6) (h7 : w7 = x7) (h10 : w10 = x10) :
    k0_pay14 (k0_pay13 r w6 w7 w10) = decayBlk x0 x4 x5 x6 x7 x10 xs0 := by
  subst hr h6 h7 h10; rfl

theorem input_of {x0 : Vec F S64x16x512 .f32} {x4 : Vec F S4x512 .f32} {x5 : Vec F S1x512 .f32} {x6 : Vec F S512x512 .bf16} {x7 : Vec F S1x512 .f32} {x8 : Vec F S512x512 .bf16} {x9 : Vec F S1x512 .f32} {x10 : Vec F S1x512 .f32} {xs0 : Vec F S3x16x512 .f32}
    {r : FVec F S64x16x512 .f32} {w6 w8 : Vec F S512x512 .bf16} {w7 w9 w10 : Vec F S1x512 .f32} (hr : r = convBlk x0 xs0 x4 x5) (h6 : w6 = x6) (h7 : w7 = x7) (h8 : w8 = x8) (h9 : w9 = x9) (h10 : w10 = x10) :
    k0_pay15 (k0_pay9 r) (k0_pay11 r w8 w9) (k0_pay12 r w6 w7 w10) = inputBlk x0 x4 x5 x6 x7 x8 x9 x10 xs0 := by
  subst hr h6 h7 h8 h9 h10; rfl

theorem rows_of {x0 : Vec F S64x16x512 .f32} {xs0 : Vec F S3x16x512 .f32} {w : Vec F S64x16x512 .f32} {p : Vec F S3x16x512 .f32} (h0 : w = x0) (hp : p = xs0) :
    k0_pay8 (k0_pay7 w p) = lastRows x0 xs0 := by
  subst h0 hp; rfl

/-- The body runs its first part at the first point only. -/
abbrev isFirst (i : grid0.Coords) : Prop := (Scalar.cmpi .ne (Scalar.extui (Scalar.cmpi .eq (BitVec.ofNat 32 (i 0).val) 0#32)) 0#32) = 1#1

theorem pay1_eq (v : Vec F S16x512 .f32) : k0_pay1 v = v := shapeCast_self _ _

theorem pay3_eq (v : Vec F S3x16x512 .f32) : k0_pay3 v = v := shapeCast_self _ _

theorem pay4_eq (v : Vec F S16x512 .f32) : k0_pay4 v = v := shapeCast_self _ _

theorem trips_le : k0_t1_loop.trips = 64 := by decide +kernel

/-- The state part of `st_eq` after all trips, with the buffers' contents given by what they read as. -/
theorem st_state (𝒱 : Variants) (c : Dev nD) (bd : Option 𝒱.V) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (v42 : FVec F S1024x512 .f32) (v59 : FVec F S1024x512 .f32) (v75 : FVec F S1024x512 .f32) (v77 : FVec F S64x16x512 .f32)
    (X17 : BufTy.Contents (Elt F) arg17.view.ty) (X18 : BufTy.Contents (Elt F) arg18.view.ty) (h h' : Vec F S16x512 .f32) (A U : Vec F S64x16x512 .f32) (hA : arg17.view.read (Elt F) X17 = A) (hU : arg18.view.read (Elt F) X18 = U) (hh : h = h') :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h (Scf.trips k0_t1_loop.lb k0_t1_loop.ub k0_t1_loop.st)).1 = stateAt A U h' 64 := by
  subst hA hU hh
  rw [(st_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h _ le_rfl).1, trips_le]

theorem st_rows (𝒱 : Variants) (c : Dev nD) (bd : Option 𝒱.V) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (v42 : FVec F S1024x512 .f32) (v59 : FVec F S1024x512 .f32) (v75 : FVec F S1024x512 .f32) (v77 : FVec F S64x16x512 .f32)
    (X17 : BufTy.Contents (Elt F) arg17.view.ty) (X18 : BufTy.Contents (Elt F) arg18.view.ty) (h h' : Vec F S16x512 .f32) (A U : Vec F S64x16x512 .f32) (hA : arg17.view.read (Elt F) X17 = A) (hU : arg18.view.read (Elt F) X18 = U) (hh : h = h') (f : BufTy.Contents (Elt F) arg12.view.ty) :
    View.readAt (Elt F) arg12.view (Rect.unit ![0, 0, 0] S64x16x512.size inb_S64x16x512_S64x16x512_0_0_0).toLoadRect (arg12.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h (Scf.trips k0_t1_loop.lb k0_t1_loop.ub k0_t1_loop.st)).2) = states A U h' := by
  subst hA hU hh
  rw [View.readAt_full]
  funext y
  refine (st_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v42 v59 v75 v77 X17 X18 h _ le_rfl).2 f y ?_
  rw [trips_le]; exact (y 0).isLt

end Cert.KernelIdeal.Gen

end
-- ==== Proof.KernelIdealFirst.lean ====
module

public import proofs.«01_k».proof.Proof.KernelIdealBody

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a point which is the first: from the staged blocks to the three results' blocks and the state it carries on. -/
theorem body_A (c : Dev nD) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (hc0 : isFirst i)
    (x0 : Vec F S64x16x512 .f32) (x1 : Vec F S64x16x512 .f32) (x2 : Vec F S3x16x512 .f32) (x3 : Vec F S16x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlk x0 x1 x4 x5 x6 x7 x8 x9 x10 x2 x3) ∗ owns (c : Thread nD τ) arg13 fullShare (lastRows x0 x2) ∗ owns (c : Thread nD τ) arg14 fullShare (endState x0 x4 x5 x6 x7 x8 x9 x10 x2 x3) ∗ owns (c : Thread nD τ) arg15 fullShare (lastRows x0 x2) ∗ owns (c : Thread nD τ) arg16 fullShare (endState x0 x4 x5 x6 x7 x8 x9 x10 x2 x3) ∗ (∃ d, owns (c : Thread nD τ) arg17 fullShare d) ∗ (∃ d, owns (c : Thread nD τ) arg18 fullShare d)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_eq_skeleton]; unfold cc0_rglru_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    refine (View.read_writes_full _ _ _ _ _).trans ?_
    unfold outBlk
    refine congrArg₂ k0_pay2 ?_ (readAt_all harg2 _ _)
    refine st_rows _ _ _ _ _ _ _ _ _ _ _ _ _ _ _ _ _ _ _ _ _ _ _ _ _ _ _ _ _ _ _ _ _ _ _ _ _ _ _ _ _ _ _ _ _ _ _ _ _ _ ?_ ?_ ?_ _
    · refine (View.read_writes_full _ _ _ _ _).trans ?_
      exact decay_of (conv_of (readAt_all harg1 _ _) ((View.readCov_full _ _ _ _ _).trans ((pay3_eq _).trans (readAt_all harg3 _ _))) (readAt_tap0 harg5 _ _) (readAt_tap1 harg5 _ _) (readAt_tap2 harg5 _ _) (readAt_tap3 harg5 _ _) (readAt_all harg6 _ _)) (readAt_all harg7 _ _) (readAt_all harg8 _ _) (readAt_all harg11 _ _)
    · refine (View.read_writes_full _ _ _ _ _).trans ?_
      exact input_of (conv_of (readAt_all harg1 _ _) ((View.readCov_full _ _ _ _ _).trans ((pay3_eq _).trans (readAt_all harg3 _ _))) (readAt_tap0 harg5 _ _) (readAt_tap1 harg5 _ _) (readAt_tap2 harg5 _ _) (readAt_tap3 harg5 _ _) (readAt_all harg6 _ _)) (readAt_all harg7 _ _) (readAt_all harg8 _ _) (readAt_all harg9 _ _) (readAt_all harg10 _ _) (readAt_all harg11 _ _)
    · exact (View.readCov_full _ _ _ _ _).trans ((pay4_eq _).trans (readAt_all harg4 _ _))
  isplitl [H12]
  · iexists _; isplitr; swap; · iexact H12
    ipureintro
    refine (View.read_writes_full _ _ _ _ _).trans ?_
    refine (View.readCov_full _ _ _ _ _).trans ?_
    exact rows_of (readAt_all harg1 _ _) ((View.readCov_full _ _ _ _ _).trans ((pay3_eq _).trans (readAt_all harg3 _ _)))
  isplitl [H13]
  · iexists _; isplitr; swap; · iexact H13
    ipureintro
    refine (View.read_writes_full _ _ _ _ _).trans ?_
    refine st_state _ _ _ _ _ _ _ _ _ _ _ _ _ _ _ _ _ _ _ _ _ _ _ _ _ _ _ _ _ _ _ _ _ _ _ _ _ _ _ _ _ _ _ _ _ _ _ _ _ _ ?_ ?_ ?_
    · refine (View.read_writes_full _ _ _ _ _).trans ?_
      exact decay_of (conv_of (readAt_all harg1 _ _) ((View.readCov_full _ _ _ _ _).trans ((pay3_eq _).trans (readAt_all harg3 _ _))) (readAt_tap0 harg5 _ _) (readAt_tap1 harg5 _ _) (readAt_tap2 harg5 _ _) (readAt_tap3 harg5 _ _) (readAt_all harg6 _ _)) (readAt_all harg7 _ _) (readAt_all harg8 _ _) (readAt_all harg11 _ _)
    · refine (View.read_writes_full _ _ _ _ _).trans ?_
      exact input_of (conv_of (readAt_all harg1 _ _) ((View.readCov_full _ _ _ _ _).trans ((pay3_eq _).trans (readAt_all harg3 _ _))) (readAt_tap0 harg5 _ _) (readAt_tap1 harg5 _ _) (readAt_tap2 harg5 _ _) (readAt_tap3 harg5 _ _) (readAt_all harg6 _ _)) (readAt_all harg7 _ _) (readAt_all harg8 _ _) (readAt_all harg9 _ _) (readAt_all harg10 _ _) (readAt_all harg11 _ _)
    · exact (View.readCov_full _ _ _ _ _).trans ((pay4_eq _).trans (readAt_all harg4 _ _))
  isplitl [HS0]
  · iexists _; isplitr; swap; · iexact HS0
    ipureintro
    refine (View.read_writes_full _ _ _ _ _).trans ?_
    exact rows_of (readAt_all harg1 _ _) ((View.readCov_full _ _ _ _ _).trans ((pay3_eq _).trans (readAt_all harg3 _ _)))
  isplitl [HS1]
  · iexists _; isplitr; swap; · iexact HS1
    ipureintro
    refine (View.read_writes_full _ _ _ _ _).trans ?_
    rw [pay1_eq]
    refine st_state _ _ _ _ _ _ _ _ _ _ _ _ _ _ _ _ _ _ _ _ _ _ _ _ _ _ _ _ _ _ _ _ _ _ _ _ _ _ _ _ _ _ _ _ _ _ _ _ _ _ ?_ ?_ ?_
    · refine (View.read_writes_full _ _ _ _ _).trans ?_
      exact decay_of (conv_of (readAt_all harg1 _ _) ((View.readCov_full _ _ _ _ _).trans ((pay3_eq _).trans (readAt_all harg3 _ _))) (readAt_tap0 harg5 _ _) (readAt_tap1 harg5 _ _) (readAt_tap2 harg5 _ _) (readAt_tap3 harg5 _ _) (readAt_all harg6 _ _)) (readAt_all harg7 _ _) (readAt_all harg8 _ _) (readAt_all harg11 _ _)
    · refine (View.read_writes_full _ _ _ _ _).trans ?_
      exact input_of (conv_of (readAt_all harg1 _ _) ((View.readCov_full _ _ _ _ _).trans ((pay3_eq _).trans (readAt_all harg3 _ _))) (readAt_tap0 harg5 _ _) (readAt_tap1 harg5 _ _) (readAt_tap2 harg5 _ _) (readAt_tap3 harg5 _ _) (readAt_all harg6 _ _)) (readAt_all harg7 _ _) (readAt_all harg8 _ _) (readAt_all harg9 _ _) (readAt_all harg10 _ _) (readAt_all harg11 _ _)
    · exact (View.readCov_full _ _ _ _ _).trans ((pay4_eq _).trans (readAt_all harg4 _ _))
  isplitl [HS2]
  · iexists _, _; isplitr; swap; · iexact HS2
    ipureintro; rfl
  iexists _, _; isplitr; swap; · iexact HS3
  ipureintro; rfl

end Cert.KernelIdeal.Gen

end
-- ==== Proof.KernelIdealRest.lean ====
module

public import proofs.«01_k».proof.Proof.KernelIdealFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at a point after the first: from the staged blocks and the carried state to the three results' blocks and the state it carries on. -/
theorem body_B (c : Dev nD) (i : grid0.Coords) (arg1 : Memref sig .tc .vmem S64x16x512 .f32) (harg1 : arg1.IsWhole) (arg2 : Memref sig .tc .vmem S64x16x512 .f32) (harg2 : arg2.IsWhole) (arg3 : Memref sig .tc .vmem S3x16x512 .f32) (harg3 : arg3.IsWhole) (arg4 : Memref sig .tc .vmem S16x512 .f32) (harg4 : arg4.IsWhole) (arg5 : Memref sig .tc .vmem S4x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S64x16x512 .f32) (harg12 : arg12.IsWhole) (arg13 : Memref sig .tc .vmem S3x16x512 .f32) (harg13 : arg13.IsWhole) (arg14 : Memref sig .tc .vmem S16x512 .f32) (harg14 : arg14.IsWhole) (arg15 : Memref sig .tc .vmem S3x16x512 .f32) (harg15 : arg15.IsWhole) (arg16 : Memref sig .tc .vmem S16x512 .f32) (harg16 : arg16.IsWhole) (arg17 : Memref sig .tc .vmem S64x16x512 .f32) (harg17 : arg17.IsWhole) (arg18 : Memref sig .tc .vmem S64x16x512 .f32) (harg18 : arg18.IsWhole) (hc0 : ¬isFirst i)
    (x0 : Vec F S64x16x512 .f32) (x1 : Vec F S64x16x512 .f32) (x2 : Vec F S3x16x512 .f32) (x3 : Vec F S16x512 .f32) (x4 : Vec F S4x512 .f32) (x5 : Vec F S1x512 .f32) (x6 : Vec F S512x512 .bf16) (x7 : Vec F S1x512 .f32) (x8 : Vec F S512x512 .bf16) (x9 : Vec F S1x512 .f32) (x10 : Vec F S1x512 .f32) (xs0 : Vec F S3x16x512 .f32) (xs1 : Vec F S16x512 .f32)  (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlk x0 x1 x4 x5 x6 x7 x8 x9 x10 xs0 xs1) ∗ owns (c : Thread nD τ) arg13 fullShare (lastRows x0 xs0) ∗ owns (c : Thread nD τ) arg14 fullShare (endState x0 x4 x5 x6 x7 x8 x9 x10 xs0 xs1) ∗ owns (c : Thread nD τ) arg15 fullShare (lastRows x0 xs0) ∗ owns (c : Thread nD τ) arg16 fullShare (endState x0 x4 x5 x6 x7 x8 x9 x10 xs0 xs1) ∗ (∃ d, owns (c : Thread nD τ) arg17 fullShare d) ∗ (∃ d, owns (c : Thread nD τ) arg18 fullShare d)) -∗ K ⟨⟩))
      ⊢ wp frame (wpE (defs₀ (F := F)) Variants.none c none) E (cc0_rglru i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_rglru_eq_skeleton]; unfold cc0_rglru_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, ⟨%fs1, %hfs1, HS1⟩, ⟨%ds2, %fs2, -, HS2⟩, ⟨%ds3, %fs3, -, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hfs0; obtain rfl := harg16.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; swap; · iexact H11
    ipureintro
    refine (View.read_writes_full _ _ _ _ _).trans ?_
    unfold outBlk
    refine congrArg₂ k0_pay2 ?_ (readAt_all harg2 _ _)
    refine st_rows _ _ _ _ _ _ _ _ _ _ _ _ _ _ _ _ _ _ _ _ _ _ _ _ _ _ _ _ _ _ _ _ _ _ _ _ _ _ _ _ _ _ _ _ _ _ _ _ _ _ ?_ ?_ ?_ _
    · refine (View.read_writes_full _ _ _ _ _).trans ?_
      exact decay_of (conv_of (readAt_all harg1 _ _) (readAt_all harg15 _ _) (readAt_tap0 harg5 _ _) (readAt_tap1 harg5 _ _) (readAt_tap2 harg5 _ _) (readAt_tap3 harg5 _ _) (readAt_all harg6 _ _)) (readAt_all harg7 _ _) (readAt_all harg8 _ _) (readAt_all harg11 _ _)
    · refine (View.read_writes_full _ _ _ _ _).trans ?_
      exact input_of (conv_of (readAt_all harg1 _ _) (readAt_all harg15 _ _) (readAt_tap0 harg5 _ _) (readAt_tap1 harg5 _ _) (readAt_tap2 harg5 _ _) (readAt_tap3 harg5 _ _) (readAt_all harg6 _ _)) (readAt_all harg7 _ _) (readAt_all harg8 _ _) (readAt_all harg9 _ _) (readAt_all harg10 _ _) (readAt_all harg11 _ _)
    · exact readAt_all harg16 _ _
  isplitl [H12]
  · iexists _; isplitr; swap; · iexact H12
    ipureintro
    refine (View.read_writes_full _ _ _ _ _).trans ?_
    refine (View.readCov_full _ _ _ _ _).trans ?_
    exact rows_of (readAt_all harg1 _ _) (readAt_all harg15 _ _)
  isplitl [H13]
  · iexists _; isplitr; swap; · iexact H13
    ipureintro
    refine (View.read_writes_full _ _ _ _ _).trans ?_
    refine st_state _ _ _ _ _ _ _ _ _ _ _ _ _ _ _ _ _ _ _ _ _ _ _ _ _ _ _ _ _ _ _ _ _ _ _ _ _ _ _ _ _ _ _ _ _ _ _ _ _ _ ?_ ?_ ?_
    · refine (View.read_writes_full _ _ _ _ _).trans ?_
      exact decay_of (conv_of (readAt_all harg1 _ _) (readAt_all harg15 _ _) (readAt_tap0 harg5 _ _) (readAt_tap1 harg5 _ _) (readAt_tap2 harg5 _ _) (readAt_tap3 harg5 _ _) (readAt_all harg6 _ _)) (readAt_all harg7 _ _) (readAt_all harg8 _ _) (readAt_all harg11 _ _)
    · refine (View.read_writes_full _ _ _ _ _).trans ?_
      exact input_of (conv_of (readAt_all harg1 _ _) (readAt_all harg15 _ _) (readAt_tap0 harg5 _ _) (readAt_tap1 harg5 _ _) (readAt_tap2 harg5 _ _) (readAt_tap3 harg5 _ _) (readAt_all harg6 _ _)) (readAt_all harg7 _ _) (readAt_all harg8 _ _) (readAt_all harg9 _ _) (readAt_all harg10 _ _) (readAt_all harg11 _ _)
    · exact readAt_all harg16 _ _
  isplitl [HS0]
  · iexists _; isplitr; swap; · iexact HS0
    ipureintro
    refine (View.read_writes_full _ _ _ _ _).trans ?_
    exact rows_of (readAt_all harg1 _ _) (readAt_all harg15 _ _)
  isplitl [HS1]
  · iexists _; isplitr; swap; · iexact HS1
    ipureintro
    refine (View.read_writes_full _ _ _ _ _).trans ?_
    rw [pay1_eq]
    refine st_state _ _ _ _ _ _ _ _ _ _ _ _ _ _ _ _ _ _ _ _ _ _ _ _ _ _ _ _ _ _ _ _ _ _ _ _ _ _ _ _ _ _ _ _ _ _ _ _ _ _ ?_ ?_ ?_
    · refine (View.read_writes_full _ _ _ _ _).trans ?_
      exact decay_of (conv_of (readAt_all harg1 _ _) (readAt_all harg15 _ _) (readAt_tap0 harg5 _ _) (readAt_tap1 harg5 _ _) (readAt_tap2 harg5 _ _) (readAt_tap3 harg5 _ _) (readAt_all harg6 _ _)) (readAt_all harg7 _ _) (readAt_all harg8 _ _) (readAt_all harg11 _ _)
    · refine (View.read_writes_full _ _ _ _ _).trans ?_
      exact input_of (conv_of (readAt_all harg1 _ _) (readAt_all harg15 _ _) (readAt_tap0 harg5 _ _) (readAt_tap1 harg5 _ _) (readAt_tap2 harg5 _ _) (readAt_tap3 harg5 _ _) (readAt_all harg6 _ _)) (readAt_all harg7 _ _) (readAt_all harg8 _ _) (readAt_all harg9 _ _) (readAt_all harg10 _ _) (readAt_all harg11 _ _)
    · exact readAt_all harg16 _ _
  isplitl [HS2]
  · iexists _, _; isplitr; swap; · iexact HS2
    ipureintro; rfl
  iexists _, _; isplitr; swap; · iexact HS3
  ipureintro; rfl

end Cert.KernelIdeal.Gen

end
-- ==== Proof.KernelIdealRun.lean ====
module

public import proofs.«01_k».proof.Proof.KernelIdealRest
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem isFirst_iff : ∀ t : Fin cfg0.N, isFirst (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    have e1 : t.val / 1 % 32 = t.val := by omega
    rw [e1] at e0
    simp only [isFirst, e0]
    word_cmp
   : ∀ t : Fin grid0.N, isFirst (grid0.coords t) ↔ t.val = 0)

abbrev ms0_0 (t : Fin cfg0.N) : Memref sig .tc .vmem S64x16x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x16x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x16x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x16x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x16x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S16x512 .f32 := win0_13.stage (cfg0.slots t 13)
abbrev hs0_13 (t : Fin cfg0.N) : (ms0_13 t).IsWhole := hstage0_13 ((cfg0.slots t 13).cast nbuf0_13)

abbrev scM0_0 : Memref sig .tc .vmem S3x16x512 .f32 := Memref.whole cc0_scratch0
abbrev scM0_1 : Memref sig .tc .vmem S16x512 .f32 := Memref.whole cc0_scratch1
abbrev scM0_2 : Memref sig .tc .vmem S64x16x512 .f32 := Memref.whole cc0_scratch2
abbrev scM0_3 : Memref sig .tc .vmem S64x16x512 .f32 := Memref.whole cc0_scratch3

/-- The class invariant with the four scratch buffers one by one. -/
theorem classInv_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What a point finds: the three rows before its block and the state before its block. At the first point these are
    two of the arguments. -/
def carry (c : Dev nD) : (n : ℕ) → n ≤ cfg0.N → Vec F S3x16x512 .f32 × Vec F S16x512 .f32
  | 0, _ => ((iblk m c 2 ⟨0, by rw [show cfg0.N = 32 from N_0]; decide⟩), (iblk m c 3 ⟨0, by rw [show cfg0.N = 32 from N_0]; decide⟩))
  | n + 1, hn => (lastRows (iblk m c 0 ⟨n, hn⟩) (carry c n (Nat.le_of_succ_le hn)).1, endState (iblk m c 0 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (carry c n (Nat.le_of_succ_le hn)).1 (carry c n (Nat.le_of_succ_le hn)).2)

/-- The invariant before position `n`: nothing is known of the scratch before the first point, afterwards two of the
    buffers hold what the point before carried on. -/
def inv (c : Dev nD) : (n : ℕ) → n ≤ cfg0.N → sProp 𝕄
  | 0, _ => Pipeline.ΦA spec0 c
  | n + 1, hn => iprop(iprop(owns (c : Thread nD τ) scM0_0 fullShare (carry m c (n + 1) hn).1 ∗ owns (c : Thread nD τ) scM0_1 fullShare (carry m c (n + 1) hn).2 ∗ (∃ d, owns (c : Thread nD τ) scM0_2 fullShare d) ∗ (∃ d, owns (c : Thread nD τ) scM0_3 fullShare d)) ∗ (∃ r, prngReg c r))

theorem inv_pos (c : Dev nD) (n : ℕ) (h : n ≤ cfg0.N) (hz : n ≠ 0) :
    inv m c n h = iprop(iprop(owns (c : Thread nD τ) scM0_0 fullShare (carry m c n h).1 ∗ owns (c : Thread nD τ) scM0_1 fullShare (carry m c n h).2 ∗ (∃ d, owns (c : Thread nD τ) scM0_2 fullShare d) ∗ (∃ d, owns (c : Thread nD τ) scM0_3 fullShare d)) ∗ (∃ r, prngReg c r)) := by
  cases n with
  | zero => exact absurd rfl hz
  | succ n => rfl

theorem carry_zero (c : Dev nD) (t : Fin cfg0.N) (hz : t.val = 0) : carry m c t.val (Nat.le_of_lt t.isLt) = ((iblk m c 2 t), (iblk m c 3 t)) := by
  obtain ⟨n, hn⟩ := t
  simp only at hz
  subst hz
  rfl

theorem carry_succ (c : Dev nD) (t : Fin cfg0.N) :
    carry m c (t.val + 1) t.isLt = (lastRows (iblk m c 0 t) (carry m c t.val (Nat.le_of_lt t.isLt)).1, endState (iblk m c 0 t) (iblk m c 4 t) (iblk m c 5 t) (iblk m c 6 t) (iblk m c 7 t) (iblk m c 8 t) (iblk m c 9 t) (iblk m c 10 t) (carry m c t.val (Nat.le_of_lt t.isLt)).1 (carry m c t.val (Nat.le_of_lt t.isLt)).2) := rfl

/-- The proof data: inputs keep their blocks, the three results' buffers hold the point's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (iblk m c 0 t) (iblk m c 1 t) (iblk m c 4 t) (iblk m c 5 t) (iblk m c 6 t) (iblk m c 7 t) (iblk m c 8 t) (iblk m c 9 t) (iblk m c 10 t) (carry m c t.val (Nat.le_of_lt t.isLt)).1 (carry m c t.val (Nat.le_of_lt t.isLt)).2
    | ⟨12, _⟩ => lastRows (iblk m c 0 t) (carry m c t.val (Nat.le_of_lt t.isLt)).1
    | ⟨13, _⟩ => endState (iblk m c 0 t) (iblk m c 4 t) (iblk m c 5 t) (iblk m c 6 t) (iblk m c 7 t) (iblk m c 8 t) (iblk m c 9 t) (iblk m c 10 t) (carry m c t.val (Nat.le_of_lt t.isLt)).1 (carry m c t.val (Nat.le_of_lt t.isLt)).2
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outBlk (iblk m c 0 t) (iblk m c 1 t) (iblk m c 4 t) (iblk m c 5 t) (iblk m c 6 t) (iblk m c 7 t) (iblk m c 8 t) (iblk m c 9 t) (iblk m c 10 t) (carry m c t.val (Nat.le_of_lt t.isLt)).1 (carry m c t.val (Nat.le_of_lt t.isLt)).2 := by dsimp only [dats]
theorem after0_12 (c : Dev nD) (t : Fin cfg0.N) : (dats m 0 c).after 12 t = lastRows (iblk m c 0 t) (carry m c t.val (Nat.le_of_lt t.isLt)).1 := by dsimp only [dats]
theorem after0_13 (c : Dev nD) (t : Fin cfg0.N) : (dats m 0 c).after 13 t = endState (iblk m c 0 t) (iblk m c 4 t) (iblk m c 5 t) (iblk m c 6 t) (iblk m c 7 t) (iblk m c 8 t) (iblk m c 9 t) (iblk m c 10 t) (carry m c t.val (Nat.le_of_lt t.isLt)).1 (carry m c t.val (Nat.le_of_lt t.isLt)).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point: the first by `body_A`, every other by `body_B`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = inv m c (t.val + 1) t.isLt from rfl, inv_pos m c (t.val + 1) t.isLt (Nat.succ_ne_zero _), carry_succ, inv_castSucc m c t]
  by_cases hz : t.val = 0
  · rw [carry_zero m c t hz]
    rw [show inv m c t.val (Nat.le_of_lt t.isLt) = Pipeline.ΦA spec0 c from by
      obtain ⟨n, hn⟩ := t
      simp only at hz
      subst hz
      rfl, classInv_eq]
    dsimp only
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_A c (grid0.coords t) _ _ _ _ _ _ _ _ _ _ _ _ _ _ _ _ _ _ _ _ _ _ _ _ _ _ _ _ _ _ _ _ _ _ _ _ ((isFirst_iff t).mpr hz) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [inv_pos m c t.val (Nat.le_of_lt t.isLt) hz]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_B c (grid0.coords t) _ _ _ _ _ _ _ _ _ _ _ _ _ _ _ _ _ _ _ _ _ _ _ _ _ _ _ _ _ _ _ _ _ _ _ _ (fun h => hz ((isFirst_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = inv m c (Fin.last cfg0.N).val (Nat.le_of_lt_succ (Fin.last cfg0.N).isLt) from rfl,
    inv_pos m c _ _ (by rw [Fin.val_last]; omega), classInv_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

set_option backward.isDefEq.respectTransparency.types false in
theorem run_main_quiescent : θ_run defs (onTc (τ := τ) (main (F := F))) (s₀ m ρ) (fun r => (Pipeline.FramePost cfgs (dats m) (0 : Fin 1) (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array ends at the contents the proof data name. -/
theorem run_main : θ_run defs (onTc (τ := τ) (main (F := F))) (s₀ m ρ) (Pipeline.FramePost cfgs (dats m) (0 : Fin 1) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Gen

end
-- ==== Proof.RglruMath.lean ====
/- Facts about the extended reals that the value of the gated recurrence rests on: the kernel's own spelling of
   `exp x - 1` is that function on the nonpositive numbers, the logarithm of a decay is nonpositive, and a sum over the
   columns of a block-diagonal matrix is the sum over one block. -/
module

public import Idealize.ShloMosaic.Lib.Pointwise
public import Idealize.ShloMosaic.Lib.IdealHost

@[expose] public section

noncomputable section

namespace Cert.Rglru

open Idealize.ShloMosaic

theorem ofBits_neg_one : Ideal.ofBits .f32 3212836864#32 = ((-1 : ℝ) : EReal) := by
  simp [Ideal.ofBits, Ideal.ieee, -EReal.coe_mul, -EReal.coe_neg]; norm_num

theorem ofBits_two : Ideal.ofBits .f32 1073741824#32 = ((2 : ℝ) : EReal) := by
  simp [Ideal.ofBits, Ideal.ieee, -EReal.coe_mul, -EReal.coe_neg]; norm_num

theorem ofBits_neg_eight : Ideal.ofBits .f32 3238002688#32 = ((-8 : ℝ) : EReal) := by
  simp [Ideal.ofBits, Ideal.ieee, -EReal.coe_mul, -EReal.coe_neg]; norm_num

/-- The kernel's spelling of `exp x - 1`, which avoids the cancellation near zero. -/
def guarded (x : EReal) : EReal :=
  if Ideal.exp x = 1 then x
  else if Ideal.exp x - 1 = ((-1 : ℝ) : EReal) then ((-1 : ℝ) : EReal)
  else Ideal.div ((Ideal.exp x - 1) * x) (Ideal.log (Scalar.select (IntOp.ori (BitVec.ofBool (decide (Ideal.exp x = 1)))
    (BitVec.ofBool (decide (Ideal.exp x - 1 = ((-1 : ℝ) : EReal))))) ((2 : ℝ) : EReal) (Ideal.exp x)))

theorem guarded_eq (x : EReal) (hx : x ≤ 0) : guarded x = Ideal.exp x - 1 := by
  unfold guarded
  induction x using EReal.rec with
  | bot =>
    have h : Ideal.exp ⊥ - 1 = ((-1 : ℝ) : EReal) := by
      rw [Ideal.exp_bot]; norm_num
    rw [if_neg (by rw [Ideal.exp_bot]; exact zero_ne_one), if_pos h, h]
  | top => exact absurd hx (by simp)
  | coe r =>
    have hr : r ≤ 0 := by exact_mod_cast hx
    have e1 : Ideal.exp (r : EReal) - 1 = ((Real.exp r - 1 : ℝ) : EReal) := by
      rw [Ideal.exp_coe]; rfl
    rcases eq_or_lt_of_le hr with h0 | h0
    · subst h0
      rw [if_pos (by rw [Ideal.exp_coe, Real.exp_zero]; rfl), e1, Real.exp_zero]; norm_num
    · have hlt : Real.exp r < 1 := by rw [← Real.exp_zero]; exact Real.exp_lt_exp.2 h0
      have hpos : 0 < Real.exp r := Real.exp_pos r
      have h1 : ¬ Ideal.exp (r : EReal) = 1 := by
        rw [Ideal.exp_coe]; intro h; exact hlt.ne (by exact_mod_cast h)
      have h2 : ¬ Ideal.exp (r : EReal) - 1 = ((-1 : ℝ) : EReal) := by
        rw [e1]; intro h
        have : Real.exp r - 1 = -1 := by exact_mod_cast h
        linarith
      have hs : Scalar.select (IntOp.ori (BitVec.ofBool (decide (Ideal.exp (r : EReal) = 1)))
          (BitVec.ofBool (decide (Ideal.exp (r : EReal) - 1 = ((-1 : ℝ) : EReal))))) (((2 : ℝ) : EReal) : Ideal .f32) (Ideal.exp (r : EReal)) = Ideal.exp (r : EReal) := by
        rw [decide_eq_false h1, decide_eq_false h2]; rfl
      rw [if_neg h1, if_neg h2]
      erw [hs]
      rw [Ideal.exp_coe, Ideal.log_coe, if_neg (not_le.2 hpos), Real.log_exp, Ideal.div_coe h0.ne]
      rw [← Ideal.exp_coe, e1, ← EReal.coe_mul, ← EReal.coe_mul]
      have h0' : r ≠ 0 := h0.ne
      congr 1
      rw [mul_assoc, mul_one_div_cancel h0', mul_one]

theorem exp_nonneg (x : EReal) : 0 ≤ Ideal.exp x := by
  induction x using EReal.rec with
  | bot => simp
  | top => simp
  | coe r => rw [Ideal.exp_coe]; exact_mod_cast (Real.exp_pos r).le

theorem logistic_nonneg (x : EReal) : 0 ≤ Ideal.logistic x := by
  induction x using EReal.rec with
  | bot => simp
  | top => simp
  | coe r => rw [Ideal.logistic_coe]; exact_mod_cast (inv_pos.2 (by positivity)).le

theorem log1p_nonneg (x : EReal) (hx : 0 ≤ x) : 0 ≤ Ideal.log1p x := by
  unfold Ideal.log1p
  induction x using EReal.rec with
  | bot => exact absurd hx (by simp)
  | top => rw [show (1 : EReal) + ⊤ = ⊤ from rfl]; simp
  | coe r =>
    have hr : 0 ≤ r := by exact_mod_cast hx
    rw [show (1 : EReal) + (r : EReal) = ((1 + r : ℝ) : EReal) from rfl, Ideal.log_coe, if_neg (by linarith)]
    exact_mod_cast Real.log_nonneg (by linarith)

/-- The softplus function. -/
def softplus (x : EReal) : EReal := max x 0 + Ideal.log1p (Ideal.exp (-(max x (-x))))

theorem softplus_nonneg (x : EReal) : 0 ≤ softplus x :=
  add_nonneg (le_max_right _ _) (log1p_nonneg _ (exp_nonneg _))

/-- The logarithm of a decay. -/
def logDecay (r lam : EReal) : EReal := ((-8 : ℝ) : EReal) * Ideal.logistic r * softplus (-lam)

theorem two_logDecay_nonpos (r lam : EReal) : ((2 : ℝ) : EReal) * logDecay r lam ≤ 0 := by
  have h8 : ((-8 : ℝ) : EReal) ≤ 0 := by exact_mod_cast (by norm_num : (-8 : ℝ) ≤ 0)
  have h2 : (0 : EReal) ≤ ((2 : ℝ) : EReal) := by exact_mod_cast (by norm_num : (0 : ℝ) ≤ 2)
  have h1 : ((-8 : ℝ) : EReal) * Ideal.logistic r ≤ 0 := by
    rw [mul_comm]; exact mul_nonpos_of_nonneg_of_nonpos (logistic_nonneg r) h8
  have h3 : logDecay r lam ≤ 0 := by
    unfold logDecay
    rw [mul_comm]; exact mul_nonpos_of_nonneg_of_nonpos (softplus_nonneg _) h1
  exact mul_nonpos_of_nonneg_of_nonpos h2 h3

/-- The input of the recurrence: gate `i` and convolution `v`, scaled by the decay. -/
def scaled (la i v : EReal) : EReal := Ideal.sqrt (-(Ideal.exp (((2 : ℝ) : EReal) * la) - 1)) * (i * v)

theorem diag_entry (a b : Fin 8) (w : EReal) :
    w * (FloatOps.uitofp (F := Ideal) FTy.f32 (IntOp.cmpi CmpIPredicate.eq (IntOp.addi (BitVec.ofNat 32 a.val) 0#32) (BitVec.ofNat 32 b.val)) : EReal)
      = if a = b then w else 0 := by
  have h : ∀ a b : Fin 8, IntOp.cmpi CmpIPredicate.eq (IntOp.addi (BitVec.ofNat 32 a.val) 0#32) (BitVec.ofNat 32 b.val) = if a = b then 1#1 else 0#1 := by
    decide +kernel
  rw [h]
  split
  · show w * (((1#1 : BitVec 1).toNat : ℝ) : EReal) = w
    norm_num
  · show w * (((0#1 : BitVec 1).toNat : ℝ) : EReal) = 0
    norm_num

/-- A sum over all the columns that vanishes off one block of 64. -/
theorem block_sum (f : Fin 512 → EReal) (q : Fin 8) (hf : ∀ x : Fin 512, x.val / 64 ≠ q.val → f x = 0) :
    ∑ x, f x = ∑ i : Fin 64, f ⟨q.val * 64 + i.val, by omega⟩ := by
  have e : ∑ x, f x = ∑ p : Fin 8 × Fin 64, f (finProdFinEquiv p) := (Equiv.sum_comp (finProdFinEquiv : Fin 8 × Fin 64 ≃ Fin 512) f).symm
  rw [e, Fintype.sum_prod_type, Finset.sum_eq_single q]
  · refine Finset.sum_congr rfl fun i _ => congrArg f (Fin.ext ?_)
    show i.val + 64 * q.val = q.val * 64 + i.val
    omega
  · intro b _ hb
    refine Finset.sum_eq_zero fun i _ => hf _ ?_
    show (i.val + 64 * b.val) / 64 ≠ _
    have : b.val ≠ q.val := fun h => hb (Fin.ext h)
    omega
  · intro h; exact absurd (Finset.mem_univ q) h

end Cert.Rglru
-- ==== Proof.RglruBlock.lean ====
/- What a block of the kernel holds, row by row, and what the reference's arrays hold, both as one family of numbers:
   the convolution at a time step, the gates, the decays and the inputs of the recurrence. -/
module

public import proofs.«01_k».proof.Proof.RglruMath
public import proofs.«01_k».proof.Proof.KernelIdealBody
public import proofs.«01_k».proof.Proof.Gen.ReferenceIdeal.Step

@[expose] public section

set_option maxRecDepth 16384

noncomputable section

namespace Cert.Rglru

open Idealize.ShloMosaic Idealize.ShloMosaic.TcCoe
open Cert.ReferenceIdeal Cert.ReferenceIdeal.Step
open Cert.KernelIdeal (S64x16x512 S512x512)
open Cert.KernelIdeal.Gen (convBlk decayBlk inputBlk lastRows tap stateAt states endState outBlk row)

variable (x : Vec Ideal S2048x16x512 .f32) (p : Vec Ideal S3x16x512 .f32) (cw : Vec Ideal S1x4x512 .f32) (cb br bi lam : Vec Ideal S1x512 .f32)
  (wr wi : Vec Ideal S1x8x64x64 .f32)

/-- Row `n` of the three rows before the sequence followed by the sequence. -/
def ext (n : ℕ) (b : Fin 16) (w : Fin 512) : EReal :=
  if h : n < 3 then p (ix3 ⟨n, h⟩ b w) else if h' : n - 3 < 2048 then x (ix3 ⟨n - 3, h'⟩ b w) else 0

theorem ext_row (k : Fin 2048) (b : Fin 16) (w : Fin 512) : ext x p (k.val + 3) b w = x (ix3 k b w) := by
  unfold ext
  rw [dif_neg (by omega), dif_pos (show k.val + 3 - 3 < 2048 by omega)]
  rfl

/-- The convolution with its bias at time `n`. -/
def convAt (n : ℕ) (b : Fin 16) (w : Fin 512) : EReal :=
  ext x p n b w * cw (ix3 0 0 w) + ext x p (1 + n) b w * cw (ix3 0 1 w) + ext x p (2 + n) b w * cw (ix3 0 2 w)
    + ext x p (n + 3) b w * cw (ix3 0 3 w) + cb (ix2 0 w)

theorem ref_conv (s : Fin 2048) (b : Fin 16) (w : Fin 512) :
    A_main_v32 x p cw cb wr br wi bi lam (ix3 s b w) = convAt x p cw cb s.val b w := by
  pointwise [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0]
  unfold convAt
  rw [ext_row]
  have e : ∀ (n : ℕ) (h : n - 3 < 2048), (if h : n < 3 then p (ix3 ⟨n, h⟩ b w) else x (ix3 ⟨n - 3, by omega⟩ b w)) = ext x p n b w := by
    intro n h
    unfold ext
    split
    · rfl
    · rfl
  rw [← e s.val (by omega), ← e (1 + s.val) (by omega), ← e (2 + s.val) (by omega)]

theorem ker_conv (x0 : Vec Ideal S64x16x512 .f32) (xs0 : Vec Ideal S3x16x512 .f32) (x4 : Vec Ideal S4x512 .f32) (x5 : Vec Ideal S1x512 .f32) (t : ℕ)
    (hx : ∀ (k : Fin 64) b w, x0 (ix3 k b w) = ext x p (64 * t + k.val + 3) b w)
    (hp : ∀ (i : Fin 3) b w, xs0 (ix3 i b w) = ext x p (64 * t + i.val) b w)
    (h4 : ∀ (i : Fin 4) w, x4 (ix2 i w) = cw (ix3 0 i w)) (h5 : ∀ w, x5 (ix2 0 w) = cb (ix2 0 w))
    (k : Fin 64) (b : Fin 16) (w : Fin 512) :
    convBlk x0 xs0 x4 x5 (ix3 k b w) = convAt x p cw cb (64 * t + k.val) b w := by
  have e : ∀ (n : ℕ) (h : n - 3 < 64), (if h : n < 3 then xs0 (ix3 ⟨n, h⟩ b w) else x0 (ix3 ⟨n - 3, by omega⟩ b w)) = ext x p (64 * t + n) b w := by
    intro n h
    split
    · rename_i h3; exact hp ⟨n, h3⟩ b w
    · rename_i h3
      rw [hx]
      exact congrArg (fun q => ext x p q b w) (by show 64 * t + (n - 3) + 3 = 64 * t + n; omega)
  have t0 : ∀ i : Fin 4, tap x4 i (ix2 0 w) = cw (ix3 0 i w) := fun i => h4 i w
  unfold convBlk
  pointwise [Cert.KernelIdeal.Gen.k0_pay6, Cert.KernelIdeal.Gen.k0_pay5]
  unfold convAt
  rw [t0, t0, t0, t0, h5, hx]
  have e0 := e k.val (by omega)
  have e1 := e (1 + k.val) (by omega)
  have e2 := e (2 + k.val) (by omega)
  rw [e0, e1, e2]
  rw [show 64 * t + (1 + k.val) = 1 + (64 * t + k.val) by omega, show 64 * t + (2 + k.val) = 2 + (64 * t + k.val) by omega]

/-- What a gate's logistic is taken of. -/
def gate (w4 : Vec Ideal S1x8x64x64 .f32) (bias : Vec Ideal S1x512 .f32) (n : ℕ) (b : Fin 16) (w : Fin 512) : EReal :=
  ∑ i : Fin 64, w4 (ix4 0 (⟨w.val / 64, by omega⟩ : Fin 8) i (⟨w.val % 64, by omega⟩ : Fin 64)) * convAt x p cw cb n b ⟨w.val / 64 * 64 + i.val, by omega⟩ + bias (ix2 0 w)

theorem ref_r (s : Fin 2048) (b : Fin 16) (w : Fin 512) :
    A_main_v47 x p cw cb wr br wi bi lam (ix3 s b w) = Ideal.logistic (gate x p cw cb wr br s.val b w) := by
  pointwise [A_main_v47, A_main_v45, A_main_v43, A_main_v42, A_main_v41, A_main_v40, A_main_v39, A_main_v38, A_main_v37, A_main_v36, A_main_v35, A_main_v34, A_main_v33, K_main_v44, K_main_v46, K_main_cst, K_main_cst_0]
  unfold Ideal.logistic gate
  simp only [ref_conv]

theorem ref_i (s : Fin 2048) (b : Fin 16) (w : Fin 512) :
    A_main_v61 x p cw cb wr br wi bi lam (ix3 s b w) = Ideal.logistic (gate x p cw cb wi bi s.val b w) := by
  pointwise [A_main_v61, A_main_v59, A_main_v57, A_main_v56, A_main_v55, A_main_v54, A_main_v53, A_main_v52, A_main_v51, A_main_v50, A_main_v49, A_main_v48, A_main_v33, K_main_v58, K_main_v60, K_main_cst_1, K_main_cst_2]
  unfold Ideal.logistic gate
  simp only [ref_conv]

/-- The logarithm of the decay at time `n`. -/
def logAt (n : ℕ) (b : Fin 16) (w : Fin 512) : EReal := logDecay (gate x p cw cb wr br n b w) (lam (ix2 0 w))

theorem ref_log (s : Fin 2048) (b : Fin 16) (w : Fin 512) :
    A_main_v69 x p cw cb wr br wi bi lam (ix3 s b w) = logAt x p cw cb br lam wr s.val b w := by
  pointwise [A_main_v69, A_main_v68, A_main_v67, A_main_v66, A_main_v65, A_main_v64, A_main_v63, A_main_call0_v1, A_main_call0_v3, A_main_call0_v4, A_main_call0_v6, A_main_call0_v7, A_main_call0_v8, A_main_call0_v9, A_main_call0_v10, A_main_call0_v11, K_main_v62, K_main_call0_v0, K_main_call0_v2, K_main_call0_v5, K_main_call0_cst, K_main_cst_3]
  rw [ref_r]
  rw [if_neg (by simp)]
  unfold logAt logDecay softplus
  rw [ofBits_neg_eight, Ideal.absf_def]

/-- The decay at time `n`. -/
def decayAt (n : ℕ) (b : Fin 16) (w : Fin 512) : EReal := Ideal.exp (logAt x p cw cb br lam wr n b w)

/-- The input of the recurrence at time `n`. -/
def inputAt (n : ℕ) (b : Fin 16) (w : Fin 512) : EReal :=
  scaled (logAt x p cw cb br lam wr n b w) (Ideal.logistic (gate x p cw cb wi bi n b w)) (convAt x p cw cb n b w)

theorem ref_decay (s : Fin 2048) (b : Fin 16) (w : Fin 512) :
    A_main_v70 x p cw cb wr br wi bi lam (ix3 s b w) = decayAt x p cw cb br lam wr s.val b w := by
  pointwise [A_main_v70]
  rw [ref_log]; rfl

theorem ref_input (s : Fin 2048) (b : Fin 16) (w : Fin 512) :
    A_main_v77 x p cw cb wr br wi bi lam (ix3 s b w) = inputAt x p cw cb br bi lam wr wi s.val b w := by
  pointwise [A_main_v77, A_main_v76, A_main_v75, A_main_v74, A_main_v73, A_main_v72, K_main_v71, K_main_cst_4]
  rw [ref_log, ref_i, ref_conv, ofBits_two]; rfl

/-! ## The kernel's blocks -/

theorem flat_row (v : FVec Ideal S64x16x512 .f32) (k : Fin 64) (b : Fin 16) (h : k.val * 16 + b.val < 1024) (w : Fin 512) :
    Cert.KernelIdeal.Gen.k0_pay9 v (ix2 (⟨k.val * 16 + b.val, h⟩ : Fin 1024) w) = v (ix3 k b w) := by
  pointwise [Cert.KernelIdeal.Gen.k0_pay9]

/-- A gate's matrix is block diagonal. -/
def IsDiag (W : Vec Ideal S512x512 .bf16) (w4 : Vec Ideal S1x8x64x64 .f32) : Prop :=
  ∀ r l : Fin 512, W (ix2 r l) = if r.val / 64 = l.val / 64 then
    w4 (ix4 0 (⟨r.val / 64, by omega⟩ : Fin 8) (⟨r.val % 64, by omega⟩ : Fin 64) (⟨l.val % 64, by omega⟩ : Fin 64)) else (0 : EReal)

theorem gate_sum (W : Vec Ideal S512x512 .bf16) (w4 : Vec Ideal S1x8x64x64 .f32) (hW : IsDiag W w4) (g : Fin 512 → EReal) (l : Fin 512) :
    ∑ r : Fin 512, g r * (W (ix2 r l) : EReal)
      = ∑ i : Fin 64, w4 (ix4 0 (⟨l.val / 64, by omega⟩ : Fin 8) i (⟨l.val % 64, by omega⟩ : Fin 64)) * g ⟨l.val / 64 * 64 + i.val, by omega⟩ := by
  rw [block_sum (fun r => g r * (W (ix2 r l) : EReal)) (⟨l.val / 64, by omega⟩ : Fin 8)]
  · refine Finset.sum_congr rfl fun i _ => ?_
    show g _ * W (ix2 _ l) = _
    rw [hW, if_pos (by show (l.val / 64 * 64 + i.val) / 64 = l.val / 64; omega), mul_comm]
    have e1 : (⟨(l.val / 64 * 64 + i.val) / 64, by omega⟩ : Fin 8) = ⟨l.val / 64, by omega⟩ := Fin.ext (by show (l.val / 64 * 64 + i.val) / 64 = l.val / 64; omega)
    have e2 : (⟨(l.val / 64 * 64 + i.val) % 64, by omega⟩ : Fin 64) = i := Fin.ext (by show (l.val / 64 * 64 + i.val) % 64 = i.val; omega)
    show w4 (ix4 0 ⟨(l.val / 64 * 64 + i.val) / 64, _⟩ ⟨(l.val / 64 * 64 + i.val) % 64, _⟩ _) * _ = _
    rw [e1, e2]
  · intro r hr
    show g r * (W (ix2 r l) : EReal) = 0
    rw [hW, if_neg hr, mul_zero]

section block

variable {x p cw cb br bi lam wr wi}
variable {x0 : Vec Ideal S64x16x512 .f32} {xs0 : Vec Ideal S3x16x512 .f32} {x4 : Vec Ideal S4x512 .f32} {x5 x7 x9 x10 : Vec Ideal S1x512 .f32}
  {x6 x8 : Vec Ideal S512x512 .bf16} {t : ℕ}

theorem ker_gate {C : FVec Ideal S64x16x512 .f32} (hC : ∀ k b w, C (ix3 k b w) = convAt x p cw cb (64 * t + k.val) b w)
    {W : Vec Ideal S512x512 .bf16} {w4 : Vec Ideal S1x8x64x64 .f32} (hW : IsDiag W w4) {v bias : Vec Ideal S1x512 .f32} (hv : ∀ w, v (ix2 0 w) = bias (ix2 0 w))
    (k : Fin 64) (b : Fin 16) (h : k.val * 16 + b.val < 1024) (l : Fin 512) :
    ∑ r : Fin 512, (Cert.KernelIdeal.Gen.k0_pay9 C (ix2 (⟨k.val * 16 + b.val, h⟩ : Fin 1024) r) : EReal) * (W (ix2 r l) : EReal) + v (ix2 0 l)
      = gate x p cw cb w4 bias (64 * t + k.val) b l := by
  unfold gate
  rw [gate_sum W w4 hW, hv]
  simp only [flat_row, hC]

theorem ker_log {C : FVec Ideal S64x16x512 .f32} (hC : ∀ k b w, C (ix3 k b w) = convAt x p cw cb (64 * t + k.val) b w)
    (h6 : IsDiag x6 wr) (h7 : ∀ w, x7 (ix2 0 w) = br (ix2 0 w)) (h10 : ∀ w, x10 (ix2 0 w) = lam (ix2 0 w))
    (k : Fin 64) (b : Fin 16) (h : k.val * 16 + b.val < 1024) (l : Fin 512) :
    Cert.KernelIdeal.Gen.k0_pay12 C x6 x7 x10 (ix2 (⟨k.val * 16 + b.val, h⟩ : Fin 1024) l) = logAt x p cw cb br lam wr (64 * t + k.val) b l := by
  pointwise [Cert.KernelIdeal.Gen.k0_pay12, Cert.KernelIdeal.Gen.k0_pay10]
  rw [ker_gate hC h6 h7, h10]
  unfold logAt logDecay softplus
  rw [ofBits_neg_eight, Ideal.absf_def, zero_sub, zero_sub]

theorem ker_i {C : FVec Ideal S64x16x512 .f32} (hC : ∀ k b w, C (ix3 k b w) = convAt x p cw cb (64 * t + k.val) b w)
    (h8 : IsDiag x8 wi) (h9 : ∀ w, x9 (ix2 0 w) = bi (ix2 0 w))
    (k : Fin 64) (b : Fin 16) (h : k.val * 16 + b.val < 1024) (l : Fin 512) :
    Cert.KernelIdeal.Gen.k0_pay11 C x8 x9 (ix2 (⟨k.val * 16 + b.val, h⟩ : Fin 1024) l) = Ideal.logistic (gate x p cw cb wi bi (64 * t + k.val) b l) := by
  pointwise [Cert.KernelIdeal.Gen.k0_pay11, Cert.KernelIdeal.Gen.k0_pay10]
  rw [ker_gate hC h8 h9]

theorem ker_decay (hC : ∀ k b w, convBlk x0 xs0 x4 x5 (ix3 k b w) = convAt x p cw cb (64 * t + k.val) b w)
    (h6 : IsDiag x6 wr) (h7 : ∀ w, x7 (ix2 0 w) = br (ix2 0 w)) (h10 : ∀ w, x10 (ix2 0 w) = lam (ix2 0 w))
    (k : Fin 64) (b : Fin 16) (l : Fin 512) :
    decayBlk x0 x4 x5 x6 x7 x10 xs0 (ix3 k b l) = decayAt x p cw cb br lam wr (64 * t + k.val) b l := by
  unfold decayBlk
  pointwise [Cert.KernelIdeal.Gen.k0_pay14, Cert.KernelIdeal.Gen.k0_pay13]
  rw [ker_log hC h6 h7 h10]; rfl

theorem ker_input (hC : ∀ k b w, convBlk x0 xs0 x4 x5 (ix3 k b w) = convAt x p cw cb (64 * t + k.val) b w)
    (h6 : IsDiag x6 wr) (h7 : ∀ w, x7 (ix2 0 w) = br (ix2 0 w)) (h8 : IsDiag x8 wi) (h9 : ∀ w, x9 (ix2 0 w) = bi (ix2 0 w))
    (h10 : ∀ w, x10 (ix2 0 w) = lam (ix2 0 w))
    (k : Fin 64) (b : Fin 16) (l : Fin 512) :
    inputBlk x0 x4 x5 x6 x7 x8 x9 x10 xs0 (ix3 k b l) = inputAt x p cw cb br bi lam wr wi (64 * t + k.val) b l := by
  unfold inputBlk
  pointwise [Cert.KernelIdeal.Gen.k0_pay15]
  rw [ker_log hC h6 h7 h10, ker_i hC h8 h9, flat_row, hC]
  unfold inputAt scaled
  rw [zero_sub, ofBits_two, ofBits_neg_one]
  refine congrArg₂ (· * ·) (congrArg (fun q => Ideal.sqrt (-q)) ?_) rfl
  exact guarded_eq _ (two_logDecay_nonpos _ _)

end block

end Cert.Rglru
-- ==== Proof.RglruValue.lean ====
/- The values of the gated recurrence: point `t` of the kernel finds the state that the reference's scan has after `64 t`
   steps, and leaves the state after `64 (t + 1)`; so the three results agree with the reference's. -/
module

public import proofs.«01_k».proof.Proof.RglruBlock
public import proofs.«01_k».proof.Proof.KernelIdealRun
public import Idealize.ShloMosaic.Lib.Pipeline.ValueKit
public import Idealize.ShloMosaic.Lib.StableHlo.ReadAt
public import Idealize.ShloMosaic.Lib.Claim

@[expose] public section

set_option maxRecDepth 16384

noncomputable section

namespace Cert.KernelIdeal.Gen

open Idealize.ShloMosaic Idealize.ShloMosaic.TcCoe Idealize.ShloMosaic.Tactic
open Cert.Rglru

variable (m : (ℓ : Loc nD τ sig) → Buf (Elt Ideal) ℓ) (c : Dev nD)

theorem idx0 : ∀ t : Fin grid0.N, win0_0.index t = ![t.val, 0, 0] ∧ win0_1.index t = ![t.val, 0, 0] ∧ win0_2.index t = ![0, 0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val, 0, 0] := by decide +kernel

abbrev xA : Vec Ideal S2048x16x512 .f32 := m (c, Proc.tc.devRef main_arg0)
abbrev gA : Vec Ideal S2048x16x512 .f32 := m (c, Proc.tc.devRef main_arg1)
abbrev pA : Vec Ideal S3x16x512 .f32 := m (c, Proc.tc.devRef main_arg2)
abbrev hA : Vec Ideal S16x512 .f32 := m (c, Proc.tc.devRef main_arg3)
abbrev cwA : Vec Ideal S1x4x512 .f32 := m (c, Proc.tc.devRef main_arg4)
abbrev cbA : Vec Ideal S1x512 .f32 := m (c, Proc.tc.devRef main_arg5)
abbrev wrA : Vec Ideal S1x8x64x64 .f32 := m (c, Proc.tc.devRef main_arg6)
abbrev brA : Vec Ideal S1x512 .f32 := m (c, Proc.tc.devRef main_arg7)
abbrev wiA : Vec Ideal S1x8x64x64 .f32 := m (c, Proc.tc.devRef main_arg8)
abbrev biA : Vec Ideal S1x512 .f32 := m (c, Proc.tc.devRef main_arg9)
abbrev lamA : Vec Ideal S1x512 .f32 := m (c, Proc.tc.devRef main_arg10)

theorem lt2048 (t : Fin cfg0.N) (k : Fin 64) : 64 * t.val + k.val < 2048 := by
  have ht : t.val < 32 := Nat.lt_of_lt_of_eq t.isLt N_0
  omega

theorem in0 (t : Fin cfg0.N) (k : Fin 64) (b : Fin 16) (w : Fin 512) : (iblk m c 0 t (ix3 k b w) : EReal) = xA m c (ix3 ⟨64 * t.val + k.val, lt2048 t k⟩ b w) := by
  blk_ext [iblk, V, (idx0 t).1]

theorem in1 (t : Fin cfg0.N) (k : Fin 64) (b : Fin 16) (w : Fin 512) : (iblk m c 1 t (ix3 k b w) : EReal) = gA m c (ix3 ⟨64 * t.val + k.val, lt2048 t k⟩ b w) := by
  blk_ext [iblk, V, (idx0 t).2.1]

theorem in2 (t : Fin cfg0.N) (k : Fin 3) (b : Fin 16) (w : Fin 512) : (iblk m c 2 t (ix3 k b w) : EReal) = pA m c (ix3 k b w) := by
  blk_ext [iblk, V, (idx0 t).2.2.1]

theorem in3 (t : Fin cfg0.N) (b : Fin 16) (w : Fin 512) : (iblk m c 3 t (ix2 b w) : EReal) = hA m c (ix2 b w) := by
  blk_ext [iblk, V, (idx0 t).2.2.2.1]

theorem in4 (t : Fin cfg0.N) (i : Fin 4) (w : Fin 512) : (iblk m c 4 t (ix2 i w) : EReal) = cwA m c (ix3 0 i w) := by
  have e : (V m c main_v0 (ix2 i w) : EReal) = cwA m c (ix3 0 i w) := by
    unfold V; after_reads_at
  rw [← e]
  blk_ext [iblk, (idx0 t).2.2.2.2.1]

theorem in5 (t : Fin cfg0.N) (w : Fin 512) : (iblk m c 5 t (ix2 0 w) : EReal) = cbA m c (ix2 0 w) := by
  have e : (V m c main_v2 (ix2 0 w) : EReal) = cbA m c (ix2 0 w) := by
    unfold V; after_reads_at
  rw [← e]
  blk_ext [iblk, (idx0 t).2.2.2.2.2.1]

theorem in7 (t : Fin cfg0.N) (w : Fin 512) : (iblk m c 7 t (ix2 0 w) : EReal) = brA m c (ix2 0 w) := by
  have e : (V m c main_v18 (ix2 0 w) : EReal) = brA m c (ix2 0 w) := by
    unfold V; after_reads_at
  rw [← e]
  blk_ext [iblk, (idx0 t).2.2.2.2.2.2.2.1]

theorem in9 (t : Fin cfg0.N) (w : Fin 512) : (iblk m c 9 t (ix2 0 w) : EReal) = biA m c (ix2 0 w) := by
  have e : (V m c main_v34 (ix2 0 w) : EReal) = biA m c (ix2 0 w) := by
    unfold V; after_reads_at
  rw [← e]
  blk_ext [iblk, (idx0 t).2.2.2.2.2.2.2.2.2.1]

theorem in10 (t : Fin cfg0.N) (w : Fin 512) : (iblk m c 10 t (ix2 0 w) : EReal) = lamA m c (ix2 0 w) := by
  have e : (V m c main_v36 (ix2 0 w) : EReal) = lamA m c (ix2 0 w) := by
    unfold V; after_reads_at
  rw [← e]
  blk_ext [iblk, (idx0 t).2.2.2.2.2.2.2.2.2.2.1]

theorem diag_value (w4 : Vec Ideal S1x8x64x64 .f32) (r l : Fin 512) :
    (w4 (ix4 0 (⟨r.val / 64, by omega⟩ : Fin 8) (⟨r.val % 64, by omega⟩ : Fin 64) (⟨l.val % 64, by omega⟩ : Fin 64)) : EReal)
      * (FloatOps.uitofp (F := Ideal) FTy.f32 (IntOp.cmpi CmpIPredicate.eq (IntOp.addi (BitVec.ofNat 32 (r.val / 64)) 0#32) (BitVec.ofNat 32 (l.val / 64))) : EReal)
      = if r.val / 64 = l.val / 64 then w4 (ix4 0 (⟨r.val / 64, by omega⟩ : Fin 8) (⟨r.val % 64, by omega⟩ : Fin 64) (⟨l.val % 64, by omega⟩ : Fin 64)) else (0 : EReal) := by
  rw [diag_entry (⟨r.val / 64, by omega⟩ : Fin 8) (⟨l.val / 64, by omega⟩ : Fin 8)]
  simp only [Fin.mk.injEq]

theorem in6 (t : Fin cfg0.N) : IsDiag (iblk m c 6 t) (wrA m c) := by
  intro r l
  rw [← diag_value]
  have e : (iblk m c 6 t (ix2 r l) : EReal) = V m c main_v16 (ix2 r l) := by
    blk_ext [iblk, (idx0 t).2.2.2.2.2.2.1]
  refine e.trans ?_
  unfold V; after_reads_at

theorem in8 (t : Fin cfg0.N) : IsDiag (iblk m c 8 t) (wiA m c) := by
  intro r l
  rw [← diag_value]
  have e : (iblk m c 8 t (ix2 r l) : EReal) = V m c main_v32 (ix2 r l) := by
    blk_ext [iblk, (idx0 t).2.2.2.2.2.2.2.2.1]
  refine e.trans ?_
  unfold V; after_reads_at

/-! ## The recurrence -/

/-- The state after `n` steps. -/
def hAt : ℕ → Fin 16 → Fin 512 → EReal
  | 0, b, w => hA m c (ix2 b w)
  | n + 1, b, w => decayAt (xA m c) (pA m c) (cwA m c) (cbA m c) (brA m c) (lamA m c) (wrA m c) n b w * hAt n b w
      + inputAt (xA m c) (pA m c) (cwA m c) (cbA m c) (brA m c) (biA m c) (lamA m c) (wrA m c) (wiA m c) n b w

theorem state_step (A U : Vec Ideal S64x16x512 .f32) (h : Vec Ideal S16x512 .f32) (t : ℕ)
    (hA' : ∀ k b w, A (ix3 k b w) = decayAt (xA m c) (pA m c) (cwA m c) (cbA m c) (brA m c) (lamA m c) (wrA m c) (64 * t + k.val) b w)
    (hU : ∀ k b w, U (ix3 k b w) = inputAt (xA m c) (pA m c) (cwA m c) (cbA m c) (brA m c) (biA m c) (lamA m c) (wrA m c) (wiA m c) (64 * t + k.val) b w)
    (hh : ∀ b w, h (ix2 b w) = hAt m c (64 * t) b w) (b : Fin 16) (w : Fin 512) :
    ∀ n, n ≤ 64 → (stateAt A U h n (ix2 b w) : EReal) = hAt m c (64 * t + n) b w
  | 0, _ => hh b w
  | n + 1, hn => by
    have ih := state_step A U h t hA' hU hh b w n (Nat.le_of_succ_le hn)
    have hlt : n < 64 := hn
    have e : stateAt A U h (n + 1) = k0_pay16 (stateAt A U h n) (row A ⟨n, hlt⟩) (row U ⟨n, hlt⟩) := by
      show (if hn : n < 64 then _ else _) = _
      rw [dif_pos hlt]
    have e2 : (k0_pay16 (stateAt A U h n) (row A ⟨n, hlt⟩) (row U ⟨n, hlt⟩) (ix2 b w) : EReal)
        = A (ix3 ⟨n, hlt⟩ b w) * stateAt A U h n (ix2 b w) + U (ix3 ⟨n, hlt⟩ b w) := by
      pointwise [k0_pay16]
      rfl
    rw [e, e2, hA', hU, ih]
    rfl

theorem last_rows (x0 : Vec Ideal S64x16x512 .f32) (xs0 : Vec Ideal S3x16x512 .f32) (i : Fin 3) (b : Fin 16) (w : Fin 512) :
    (lastRows x0 xs0 (ix3 i b w) : EReal) = x0 (ix3 ⟨64 + i.val - 3, by omega⟩ b w) := by
  unfold lastRows
  pointwise [k0_pay8, k0_pay7, k0_pay5]
  rw [dif_neg (by omega)]

theorem in0_ext (t : Fin cfg0.N) (k : Fin 64) (b : Fin 16) (w : Fin 512) :
    (iblk m c 0 t (ix3 k b w) : EReal) = ext (xA m c) (pA m c) (64 * t.val + k.val + 3) b w := by
  rw [in0]
  exact (ext_row (xA m c) (pA m c) ⟨64 * t.val + k.val, lt2048 t k⟩ b w).symm

/-- What a point carries in gives its decays and its inputs. -/
theorem block_at (t : Fin cfg0.N) (P : Vec Ideal S3x16x512 .f32) (hP : ∀ (i : Fin 3) b w, P (ix3 i b w) = ext (xA m c) (pA m c) (64 * t.val + i.val) b w) :
    (∀ k b w, decayBlk (iblk m c 0 t) (iblk m c 4 t) (iblk m c 5 t) (iblk m c 6 t) (iblk m c 7 t) (iblk m c 10 t) P (ix3 k b w)
        = decayAt (xA m c) (pA m c) (cwA m c) (cbA m c) (brA m c) (lamA m c) (wrA m c) (64 * t.val + k.val) b w)
    ∧ (∀ k b w, inputBlk (iblk m c 0 t) (iblk m c 4 t) (iblk m c 5 t) (iblk m c 6 t) (iblk m c 7 t) (iblk m c 8 t) (iblk m c 9 t) (iblk m c 10 t) P (ix3 k b w)
        = inputAt (xA m c) (pA m c) (cwA m c) (cbA m c) (brA m c) (biA m c) (lamA m c) (wrA m c) (wiA m c) (64 * t.val + k.val) b w) := by
  have hC := ker_conv (xA m c) (pA m c) (cwA m c) (cbA m c) (iblk m c 0 t) P (iblk m c 4 t) (iblk m c 5 t) t.val (in0_ext m c t) hP (in4 m c t) (in5 m c t)
  exact ⟨ker_decay hC (in6 m c t) (in7 m c t) (in10 m c t), ker_input hC (in6 m c t) (in7 m c t) (in8 m c t) (in9 m c t) (in10 m c t)⟩

theorem carry_at : ∀ (n : ℕ) (hn : n ≤ cfg0.N),
    (∀ (i : Fin 3) b w, ((carry m c n hn).1 (ix3 i b w) : EReal) = ext (xA m c) (pA m c) (64 * n + i.val) b w)
    ∧ (∀ b w, ((carry m c n hn).2 (ix2 b w) : EReal) = hAt m c (64 * n) b w)
  | 0, hn => by
    have h0 : 0 < cfg0.N := by rw [show cfg0.N = 32 from N_0]; decide
    have e : carry m c 0 hn = (iblk m c 2 ⟨0, h0⟩, iblk m c 3 ⟨0, h0⟩) := carry_zero m c ⟨0, h0⟩ rfl
    rw [e, Nat.mul_zero]
    refine ⟨fun i b w => ?_, fun b w => (in3 m c ⟨0, h0⟩ b w).trans ?_⟩
    · refine (in2 m c ⟨0, h0⟩ i b w).trans ?_
      rw [Nat.zero_add]
      unfold ext
      rw [dif_pos i.isLt]
    · rw [hAt]
  | n + 1, hn => by
    obtain ⟨h1, h2⟩ := carry_at n (Nat.le_of_succ_le hn)
    have hb := block_at m c ⟨n, hn⟩ _ h1
    have e := carry_succ m c ⟨n, hn⟩
    refine ⟨fun i b w => ?_, fun b w => ?_⟩
    · refine (congrFun (congrArg Prod.fst e) (ix3 i b w)).trans ?_
      refine (last_rows (iblk m c 0 ⟨n, hn⟩) _ i b w).trans ?_
      rw [in0_ext]
      exact congrArg (fun q => ext (xA m c) (pA m c) q b w) (by show 64 * n + (64 + i.val - 3) + 3 = 64 * (n + 1) + i.val; omega)
    · refine (congrFun (congrArg Prod.snd e) (ix2 b w)).trans ?_
      have hs := state_step m c _ _ (carry m c n (Nat.le_of_succ_le hn)).2 n hb.1 hb.2 h2 b w 64 (Nat.le_refl 64)
      rw [Nat.mul_succ]
      unfold endState
      exact hs

/-- The kernel's gelu of the gate branch. -/
def gelu (g : EReal) : EReal :=
  g * (Ideal.ofBits FTy.f32 1056964608#32 * (1 + Ideal.tanh (Ideal.ofBits FTy.f32 1061962282#32 * (g + Ideal.ofBits FTy.f32 1027024659#32 * (g * g * g)))))

/-- The three results. -/
def G0 : Vec Ideal S2048x16x512 .f32 := fun z => hAt m c ((z 0).val + 1) (z 1) (z 2) * gelu (gA m c (ix3 (z 0) (z 1) (z 2)))
def G1 : Vec Ideal S3x16x512 .f32 := fun z => ext (xA m c) (pA m c) (2048 + (z 0).val) (z 1) (z 2)
def G2 : Vec Ideal S16x512 .f32 := fun z => hAt m c 2048 (z 0) (z 1)

theorem out_at (t : Fin cfg0.N) (k : Fin 64) (b : Fin 16) (w : Fin 512) :
    ((dats m 0 c).after 11 t (ix3 k b w) : EReal) = G0 m c (ix3 ⟨64 * t.val + k.val, lt2048 t k⟩ b w) := by
  rw [after0_11]
  obtain ⟨h1, h2⟩ := carry_at m c t.val (Nat.le_of_lt t.isLt)
  have hb := block_at m c t _ h1
  unfold outBlk
  pointwise [k0_pay2]
  unfold G0 gelu
  have hs : (states (decayBlk (iblk m c 0 t) (iblk m c 4 t) (iblk m c 5 t) (iblk m c 6 t) (iblk m c 7 t) (iblk m c 10 t) (carry m c t.val (Nat.le_of_lt t.isLt)).1)
      (inputBlk (iblk m c 0 t) (iblk m c 4 t) (iblk m c 5 t) (iblk m c 6 t) (iblk m c 7 t) (iblk m c 8 t) (iblk m c 9 t) (iblk m c 10 t) (carry m c t.val (Nat.le_of_lt t.isLt)).1)
      (carry m c t.val (Nat.le_of_lt t.isLt)).2 (ix3 k b w) : EReal) = hAt m c (64 * t.val + (k.val + 1)) b w :=
    state_step m c _ _ _ t.val hb.1 hb.2 h2 b w (k.val + 1) (by omega)
  rw [hs, in1]
  rfl

theorem arr0 : (dats m 0 c).arrAt 11 cfg0.N = G0 m c := by
  refine (dats m 0 c).arrAt_eq_of_covers 11 _ (by decide +kernel) fun t hf y => ?_
  blk_simp
  idx_vars y
  refine (out_at m c t _ _ _).trans ?_
  refine congrArg (G0 m c) ?_
  blk_ext [(idx0 t).2.2.2.2.2.2.2.2.2.2.2]

theorem last_lt : 31 < cfg0.N := by rw [show cfg0.N = 32 from N_0]; decide

theorem arr1 : (dats m 0 c).arrAt 12 cfg0.N = G1 m c := by
  refine (dats m 0 c).arrAt_eq_of_after_last 12 ⟨31, last_lt⟩ (by decide +kernel) _ fun j => ?_
  blk_simp
  idx_vars j
  have key : ((dats m 0 c).after 12 ⟨31, last_lt⟩ (ix3 j0 j1 j2) : EReal) = ext (xA m c) (pA m c) (64 * 32 + j0.val) j1 j2 := by
    rw [after0_12]
    exact (congrFun (congrArg Prod.fst (carry_succ m c ⟨31, last_lt⟩)) (ix3 j0 j1 j2)).symm.trans ((carry_at m c 32 last_lt).1 j0 j1 j2)
  exact key

theorem arr2 : (dats m 0 c).arrAt 13 cfg0.N = G2 m c := by
  refine (dats m 0 c).arrAt_eq_of_after_last 13 ⟨31, last_lt⟩ (by decide +kernel) _ fun j => ?_
  blk_simp
  idx_vars j
  have key : ((dats m 0 c).after 13 ⟨31, last_lt⟩ (ix2 j0 j1) : EReal) = hAt m c (64 * 32) j0 j1 := by
    rw [after0_13]
    exact (congrFun (congrArg Prod.snd (carry_succ m c ⟨31, last_lt⟩)) (ix2 j0 j1)).symm.trans ((carry_at m c 32 last_lt).2 j0 j1)
  exact key

end Cert.KernelIdeal.Gen
-- ==== Proof.RglruRef.lean ====
/- The reference's scan, state by state: after `n` steps the state is the `n`-th of one recurrence, and the rows written
   so far are its states. -/
module

public import proofs.«01_k».proof.Proof.RglruBlock
public import Idealize.ShloMosaic.Lib.WordCmp

@[expose] public section

set_option maxRecDepth 16384

noncomputable section

namespace Cert.ReferenceIdeal.Step

open Idealize.ShloMosaic Idealize.ShloMosaic.TcCoe
open Cert.Rglru

variable (x : Vec Ideal S2048x16x512 .f32) (p : Vec Ideal S3x16x512 .f32) (h0 : Vec Ideal S16x512 .f32) (cw : Vec Ideal S1x4x512 .f32)
  (cb br bi lam : Vec Ideal S1x512 .f32) (wr wi : Vec Ideal S1x8x64x64 .f32)

/-- The states of the scan. -/
def refIter : ℕ → State Ideal
  | 0 => init h0 x p cw cb wr br wi bi lam
  | n + 1 => step n (refIter n)

theorem decay_const : ∀ n, (refIter x p h0 cw cb br bi lam wr wi n).main_v79_0 = A_main_v70 x p cw cb wr br wi bi lam
  | 0 => rfl
  | n + 1 => decay_const n

theorem input_const : ∀ n, (refIter x p h0 cw cb br bi lam wr wi n).main_v79_1 = A_main_v77 x p cw cb wr br wi bi lam
  | 0 => rfl
  | n + 1 => input_const n

/-- The recurrence. -/
def hSeq : ℕ → Fin 16 → Fin 512 → EReal
  | 0, b, w => h0 (ix2 b w)
  | n + 1, b, w => decayAt x p cw cb br lam wr n b w * hSeq n b w + inputAt x p cw cb br bi lam wr wi n b w

theorem start_int : ∀ k : Fin 2048, (BitVec.ofNat 32 k.val).toInt = (k.val : Int) := by decide +kernel

theorem slices_row (k : Fin 2048) : S2048x16x512.Slices ![k.val, 0, 0] S1x16x512 := by
  refine ⟨rfl, fun a => ?_⟩
  match a with
  | ⟨0, _⟩ => show k.val + 1 ≤ 2048; omega
  | ⟨1, _⟩ => show 0 + 16 ≤ 16; omega
  | ⟨2, _⟩ => show 0 + 512 ≤ 512; omega

theorem b2_eq (k : Fin 2048) (s : State Ideal) (b : Fin 16) (w : Fin 512) : (b3 k.val s (ix2 b w) : EReal) = s.main_v79_0 (ix3 k b w) := by
  unfold b3 b2
  rw [WordCmp.dynamicSlice_eq_extract S1x16x512 s.main_v79_0 _ _ ![k.val, 0, 0] (slices_row k) (fun a => by
    match a with
    | ⟨0, _⟩ => exact start_int k
    | ⟨1, _⟩ => rfl
    | ⟨2, _⟩ => rfl)]
  pointwise

theorem b6_eq (k : Fin 2048) (s : State Ideal) (b : Fin 16) (w : Fin 512) : (b7 k.val s (ix2 b w) : EReal) = s.main_v79_1 (ix3 k b w) := by
  unfold b7 b6
  rw [WordCmp.dynamicSlice_eq_extract S1x16x512 s.main_v79_1 _ _ ![k.val, 0, 0] (slices_row k) (fun a => by
    match a with
    | ⟨0, _⟩ => exact start_int k
    | ⟨1, _⟩ => rfl
    | ⟨2, _⟩ => rfl)]
  pointwise

theorem b13_eq (k : Fin 2048) (s : State Ideal) (n : Fin 2048) (b : Fin 16) (w : Fin 512) :
    (b13 k.val s (ix3 n b w) : EReal) = if n = k then b9 k.val s (ix2 b w) else s.main_v79_4 (ix3 n b w) := by
  unfold b13
  rw [WordCmp.dynamicUpdateSlice_eq_update s.main_v79_4 _ _ _ ![k.val, 0, 0] (slices_row k) (fun a => by
    match a with
    | ⟨0, _⟩ => exact start_int k
    | ⟨1, _⟩ => rfl
    | ⟨2, _⟩ => rfl)]
  unfold updateSlice
  split
  · rename_i hin
    have h0 := hin ⟨0, by decide⟩
    have e : n = k := Fin.ext (by
      have a1 : k.val ≤ n.val := h0.1
      have a2 : n.val < k.val + 1 := h0.2
      omega)
    rw [if_pos e]
    unfold b10
    pointwise
  · rename_i hin
    rw [if_neg]
    intro e
    subst e
    refine hin fun a => ?_
    match a with
    | ⟨0, _⟩ => exact ⟨Nat.le_refl _, Nat.lt_succ_self _⟩
    | ⟨1, _⟩ => exact ⟨Nat.zero_le _, by show b.val < 0 + 16; omega⟩
    | ⟨2, _⟩ => exact ⟨Nat.zero_le _, by show w.val < 0 + 512; omega⟩

theorem state_at : ∀ n, n ≤ 2048 → ∀ b w, ((refIter x p h0 cw cb br bi lam wr wi n).main_v79_3 (ix2 b w) : EReal) = hSeq x p h0 cw cb br bi lam wr wi n b w
  | 0, _, b, w => rfl
  | n + 1, hn, b, w => by
    have ih := state_at n (Nat.le_of_succ_le hn) b w
    have e : ((refIter x p h0 cw cb br bi lam wr wi (n + 1)).main_v79_3 (ix2 b w) : EReal)
        = b3 n (refIter x p h0 cw cb br bi lam wr wi n) (ix2 b w) * (refIter x p h0 cw cb br bi lam wr wi n).main_v79_3 (ix2 b w)
          + b7 n (refIter x p h0 cw cb br bi lam wr wi n) (ix2 b w) := rfl
    rw [e, b2_eq ⟨n, hn⟩, b6_eq ⟨n, hn⟩, decay_const, input_const, ref_decay, ref_input, ih]
    rfl

theorem rows_at : ∀ n, n ≤ 2048 → ∀ (s : Fin 2048), s.val < n → ∀ b w,
    ((refIter x p h0 cw cb br bi lam wr wi n).main_v79_4 (ix3 s b w) : EReal) = hSeq x p h0 cw cb br bi lam wr wi (s.val + 1) b w
  | 0, _, s, hs, b, w => absurd hs (Nat.not_lt_zero _)
  | n + 1, hn, s, hs, b, w => by
    have e : ((refIter x p h0 cw cb br bi lam wr wi (n + 1)).main_v79_4 (ix3 s b w) : EReal) = b13 n (refIter x p h0 cw cb br bi lam wr wi n) (ix3 s b w) := rfl
    rw [e, b13_eq ⟨n, hn⟩]
    split
    · rename_i hk
      have hv : s.val = n := congrArg Fin.val hk
      rw [hv]
      exact state_at x p h0 cw cb br bi lam wr wi (n + 1) hn b w
    · rename_i hk
      have hv : s.val ≠ n := fun h => hk (Fin.ext h)
      exact rows_at n (Nat.le_of_succ_le hn) s (by omega) b w

theorem res0 (s : State Ideal) (g : Vec Ideal S2048x16x512 .f32) (z : S2048x16x512.Idx) :
    (R_main_v93 s g z : EReal) = s.main_v79_4 z * (g z * (Ideal.ofBits FTy.f32 1056964608#32 * (1 + Ideal.tanh (Ideal.ofBits FTy.f32 1061962282#32 * (g z + Ideal.ofBits FTy.f32 1027024659#32 * (g z * g z * g z)))))) := by
  pointwise [R_main_v93]

theorem res1 (s : State Ideal) (i : Fin 3) (b : Fin 16) (w : Fin 512) :
    (R_main_v95 s x p (ix3 i b w) : EReal) = ext x p (2048 + i.val) b w := by
  pointwise [R_main_v95]
  unfold ext
  rw [dif_neg (by omega), dif_neg (by omega), dif_pos (by omega)]

end Cert.ReferenceIdeal.Step
-- ==== Proof.RglruTrips.lean ====
/- The reference's run, trip by trip: the loop's buffers before the `n`-th trip hold the `n`-th state of the scan, so the
   results are read off the last state. -/
module

public import proofs.«01_k».proof.Proof.RglruRef
public import proofs.«01_k».proof.Proof.Gen.ReferenceIdeal.Run

@[expose] public section

set_option maxRecDepth 16384

noncomputable section

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step

/-- The loop's buffers hold a state, and its counter the trip's number. -/
structure Holds (V : Valuation τ sig (Elt Ideal)) (s : State Ideal) (j : ℕ) : Prop where
  carry : V (Proc.devRef .tc main_v79_3) = s.main_v79_3
  rows : V (Proc.devRef .tc main_v79_4) = s.main_v79_4
  decay : V (Proc.devRef .tc main_v79_0) = s.main_v79_0
  input : V (Proc.devRef .tc main_v79_1) = s.main_v79_1
  num : V (Proc.devRef .tc main_v79_2) = constantI S_ 32 (BitVec.ofNat 32 j)

variable {V : Valuation τ sig (Elt Ideal)} {s : State Ideal} {j : ℕ}

theorem next_carry (h : Holds V s j) : Value.res_main_while0b_v99 V = b9 j s := by
  unfold Value.res_main_while0b_v99
  rw [h.carry, h.decay, h.input, h.num]
  rfl

theorem next_rows (h : Holds V s j) : Value.step_main_v79_4 V = b13 j s := by
  unfold Value.step_main_v79_4
  rw [next_carry h, h.rows, h.num]
  rfl

theorem next_num (h : Holds V s j) : Value.step_main_v79_2 V = constantI S_ 32 (BitVec.ofNat 32 (j + 1)) := by
  unfold Value.step_main_v79_2
  rw [h.num]
  funext i
  show BitVec.ofNat 32 j + 1#32 = BitVec.ofNat 32 (j + 1)
  simp only [BitVec.ofNat_add]

theorem next (h : Holds V s j) : Holds (STEP V) (step j s) (j + 1) where
  carry := (STEP_main_v79_3 V).trans (next_carry h)
  rows := (STEP_main_v79_4 V).trans (next_rows h)
  num := (STEP_main_v79_2 V).trans (next_num h)
  decay := (STEP_main_v79_0 V).trans h.decay
  input := (STEP_main_v79_1 V).trans h.input

variable (m : (ℓ : Loc nD τ sig) → Buf (Elt Ideal) ℓ) (c : Dev nD)

/-- The states of core `c`'s scan. -/
abbrev states : ℕ → State Ideal :=
  refIter (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg7))
    (m ((c.tc : Thread nD τ).loc main_arg9)) (m ((c.tc : Thread nD τ).loc main_arg10)) (m ((c.tc : Thread nD τ).loc main_arg6))
    (m ((c.tc : Thread nD τ).loc main_arg8))

set_option maxRecDepth 65536 in
set_option maxHeartbeats 1000000 in
theorem entry : Holds (entryContents preI m c) (states m c 0) 0 := by
  constructor <;> (simp only [entryContents, afterL_cons, afterL_nil]; after_reads_simp) <;> rfl

theorem holds : ∀ k, Holds (STEP^[k] (entryContents preI m c)) (states m c k) k
  | 0 => entry m c
  | k + 1 => by
    rw [Function.iterate_succ_apply']
    exact next (holds k)

theorem last_rows : out_main_v93 (STEP^[2048] (entryContents preI m c)) = R_main_v93 (states m c 2048) (m ((c.tc : Thread nD τ).loc main_arg1)) := by
  unfold out_main_v93
  rw [(holds m c 2048).rows, iter_main_arg1 m c 2048]
  rfl

theorem last_window : out_main_v95 (STEP^[2048] (entryContents preI m c))
    = R_main_v95 (states m c 2048) (m ((c.tc : Thread nD τ).loc main_arg0)) (m ((c.tc : Thread nD τ).loc main_arg2)) := by
  unfold out_main_v95
  rw [iter_main_arg0 m c 2048, iter_main_arg2 m c 2048]
  rfl

theorem last_carry : (STEP^[2048] (entryContents preI m c)) (Proc.devRef .tc main_v79_3) = (states m c 2048).main_v79_3 :=
  (holds m c 2048).carry

/-- The run, its results at the last state. -/
theorem run_states (ρ : Dev nD → PrngReg) (s : Dev nD → State Ideal) (hs : ∀ c, states m c 2048 = s c) :
    θ_run (defs (F := Ideal)) (onTc (τ := τ) (main (F := Ideal))) ⟨m, fun _ => 0, ρ⟩ fun r => ∀ c : Dev nD,
      r.2.mem ((c.tc : Thread nD τ).loc main_v93) = R_main_v93 (s c) (m ((c.tc : Thread nD τ).loc main_arg1))
      ∧ r.2.mem ((c.tc : Thread nD τ).loc main_v95) = R_main_v95 (s c) (m ((c.tc : Thread nD τ).loc main_arg0)) (m ((c.tc : Thread nD τ).loc main_arg2))
      ∧ r.2.mem ((c.tc : Thread nD τ).loc main_v79_3) = (s c).main_v79_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
    refine ⟨(h c).1.trans ((last_rows m c).trans ?_), (h c).2.1.trans ((last_window m c).trans ?_), (h c).2.2.1.trans ((last_carry m c).trans ?_), (h c).2.2.2⟩
    · rw [hs c]
    · rw [hs c]
    · rw [hs c]) (Value.run m ρ)

end Cert.ReferenceIdeal.Trips

end
-- ==== Proof.RglruAlg.lean ====
/- The recurrent block's value claim: kernel and reference end at the same three arrays. -/
module

public import proofs.«01_k».proof.Defs
public import proofs.«01_k».proof.Proof.RglruValue
public import proofs.«01_k».proof.Proof.RglruTrips
public import Idealize.ShloMosaic.Lib.Quiescent
public import Idealize.ShloMosaic.Lib.Claim

@[expose] public section

set_option maxRecDepth 16384

noncomputable section

namespace Cert.Rglru

open Idealize.ShloMosaic Idealize.ShloMosaic.TcCoe Idealize.SL.Sem
open Cert.KernelIdeal.Gen (hAt G0 G1 G2 arr0 arr1 arr2 gelu xA gA pA hA cwA cbA wrA brA wiA biA lamA)
open Cert.ReferenceIdeal.Step (refIter hSeq state_at rows_at res0 res1 R_main_v93 R_main_v95)

variable (m : (ℓ : Loc Cert.KernelIdeal.nD Cert.KernelIdeal.τ Cert.KernelIdeal.sig) → Buf (Elt Ideal) ℓ) (c : Dev Cert.KernelIdeal.nD)

/-- The reference's recurrence on the kernel's arguments is the kernel's. -/
theorem seq_eq : ∀ n b w, hSeq (xA m c) (pA m c) (hA m c) (cwA m c) (cbA m c) (brA m c) (biA m c) (lamA m c) (wrA m c) (wiA m c) n b w = hAt m c n b w
  | 0, b, w => rfl
  | n + 1, b, w => by
    unfold hSeq hAt
    rw [seq_eq n b w]

/-- The scan's states on the kernel's arguments. -/
abbrev iterK (n : ℕ) : Cert.ReferenceIdeal.Step.State Ideal :=
  refIter (xA m c) (pA m c) (hA m c) (cwA m c) (cbA m c) (brA m c) (biA m c) (lamA m c) (wrA m c) (wiA m c) n

theorem out0 : R_main_v93 (iterK m c 2048) (gA m c) = G0 m c := by
  funext z
  rw [res0]
  unfold G0 gelu
  obtain ⟨a, b, w, rfl⟩ : ∃ a b w, z = ix3 a b w := ⟨z 0, z 1, z 2, by
    funext k
    match k with
    | ⟨0, _⟩ => rfl
    | ⟨1, _⟩ => rfl
    | ⟨2, _⟩ => rfl⟩
  rw [rows_at _ _ _ _ _ _ _ _ _ _ 2048 (Nat.le_refl _) a a.isLt b w, seq_eq]
  rfl

theorem out1 : R_main_v95 (iterK m c 2048) (xA m c) (pA m c) = G1 m c := by
  funext z
  obtain ⟨a, b, w, rfl⟩ : ∃ a b w, z = ix3 a b w := ⟨z 0, z 1, z 2, by
    funext k
    match k with
    | ⟨0, _⟩ => rfl
    | ⟨1, _⟩ => rfl
    | ⟨2, _⟩ => rfl⟩
  exact res1 (xA m c) (pA m c) (iterK m c 2048) a b w

theorem out2 : (iterK m c 2048).main_v79_3 = G2 m c := by
  funext z
  obtain ⟨b, w, rfl⟩ : ∃ b w, z = ix2 b w := ⟨z 0, z 1, by
    funext k
    match k with
    | ⟨0, _⟩ => rfl
    | ⟨1, _⟩ => rfl⟩
  exact (state_at _ _ _ _ _ _ _ _ _ _ 2048 (Nat.le_refl _) b w).trans (seq_eq m c 2048 b w)

/-- `Cert.quiescent_ReferenceIdeal`. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

set_option maxHeartbeats 8000000 in
/-- `Cert.algebraic_KernelIdeal_ReferenceIdeal`. -/
theorem algebraic : Cert.algebraic_KernelIdeal_ReferenceIdeal := by
  intro m ρ m' ρ' _ hagree
  refine ⟨fun c => G0 m c, fun c => G1 m c, fun c => G2 m c, ?_, ?_⟩
  · run_from (Cert.KernelIdeal.Gen.run_main m ρ)
    · exact arr0 m c
    · exact arr1 m c
    · exact arr2 m c
  · refine (θ_run _ _ _).mono (fun _ h c => ?_) (Cert.ReferenceIdeal.Trips.run_states m' ρ' (fun c => iterK m c 2048) fun c => ?_)
    · obtain ⟨e0, e1, e2, -⟩ := hagree c
      refine ⟨(h c).1.trans ?_, (h c).2.1.trans ?_, (h c).2.2.1.trans ?_, (h c).2.2.2⟩
      · rw [e1]
        exact out0 m c
      · rw [e0, e2]
        exact out1 m c
      · exact out2 m c
    · obtain ⟨e0, e1, e2, e3, e4, e5, e6, e7, e8, e9, e10⟩ := hagree c
      show refIter _ _ _ _ _ _ _ _ _ _ 2048 = refIter _ _ _ _ _ _ _ _ _ _ 2048
      rw [e0, e2, e3, e4, e5, e6, e7, e8, e9, e10]

end Cert.Rglru

end
-- ==== Proof.FfnUpValue.lean ====
/- The up-projection with its causal convolution and gate: what the kernel's blocks and its carried scratch hold, and the
   reference's results, are the same functions of the arguments. -/
module

public import proofs.«01_k».proof.Proof.Gen.FfnUpIdeal.Value
public import proofs.«01_k».proof.Proof.Gen.FfnUpRefIdeal.Read
public import Idealize.ShloMosaic.Lib.Pipeline.ValueKit
public import Idealize.ShloMosaic.Lib.StableHlo.ReadAt
public import Idealize.ShloMosaic.Lib.Pipeline.ReadBack
public import Idealize.ShloMosaic.Lib.Claim
public import Idealize.ShloMosaic.Lib.Quiescent
public import proofs.«01_k».proof.Defs

@[expose] public section

set_option maxRecDepth 16384

noncomputable section

namespace Cert.FfnUpIdeal.Gen

open Idealize.ShloMosaic Idealize.ShloMosaic.TcCoe Idealize.ShloMosaic.Tactic
open Cert.FfnUpRefIdeal.Read
open Idealize.SL.Sem

/-- The modulated row `x · (1 + scale) + shift` against one column of weights. -/
def upOf (x sc sh w : Fin 1024 → EReal) : EReal := ∑ k : Fin 1024, (x k * (1 + sc k) + sh k) * w k

/-- Three consecutive rows under the convolution's three taps, and the bias. -/
def conv (a b e k0 k1 k2 bias : EReal) : EReal := a * k0 + b * k1 + e * k2 + bias

/-- The gelu in its tanh form. -/
def gelu (y : EReal) : EReal :=
  y * (Ideal.ofBits FTy.f32 1056964608#32
    * (1 + Ideal.tanh (Ideal.ofBits FTy.f32 1061962282#32 * (y + Ideal.ofBits FTy.f32 1027024659#32 * (y * y * y)))))

/-- The gelu of the convolved column times the other half's column. -/
def act (y v : EReal) : EReal := gelu y * v

/-- Column `col` of the projection at time `t`, batch row `b`. -/
def lin (x : Vec Ideal S2048x16x1024 .f32) (sc sh : Vec Ideal S16x1024 .f32) (w : Vec Ideal S1024x5376 .f32)
    (t : Fin 2048) (b : Fin 16) (col : Fin 5376) : EReal :=
  upOf (fun k => x (ix3 t b k)) (fun k => sc (ix2 b k)) (fun k => sh (ix2 b k)) (fun k => w (ix2 k col))

/-- The gate's columns with the two rows kept from before in front. -/
def padded (x : Vec Ideal S2048x16x1024 .f32) (sc sh : Vec Ideal S16x1024 .f32) (w : Vec Ideal S1024x5376 .f32)
    (prev : Vec Ideal S2x16x2688 .f32) (j : Fin 2050) (b : Fin 16) (d : Fin 2688) : EReal :=
  if h : j.val < 2 then prev (ix3 ⟨j.val, h⟩ b d) else lin x sc sh w ⟨j.val - 2, by omega⟩ b ⟨d.val, by omega⟩

/-- The first result. -/
def outAt (x : Vec Ideal S2048x16x1024 .f32) (sc sh : Vec Ideal S16x1024 .f32) (w : Vec Ideal S1024x5376 .f32)
    (cw : Vec Ideal S3x2688 .f32) (cb : Vec Ideal S2688 .f32) (prev : Vec Ideal S2x16x2688 .f32)
    (t : Fin 2048) (b : Fin 16) (d : Fin 2688) : EReal :=
  act (conv (padded x sc sh w prev ⟨t.val, by omega⟩ b d) (padded x sc sh w prev ⟨1 + t.val, by omega⟩ b d)
      (lin x sc sh w t b ⟨d.val, by omega⟩) (cw (ix2 0 d)) (cw (ix2 1 d)) (cw (ix2 2 d)) (cb (ix1 d)))
    (lin x sc sh w t b ⟨2688 + d.val, by omega⟩)

/-- The second result: the last two rows of the gate's columns. -/
def keepAt (x : Vec Ideal S2048x16x1024 .f32) (sc sh : Vec Ideal S16x1024 .f32) (w : Vec Ideal S1024x5376 .f32)
    (s : Fin 2) (b : Fin 16) (d : Fin 2688) : EReal :=
  lin x sc sh w ⟨2046 + s.val, by omega⟩ b ⟨d.val, by omega⟩

/-- What the reference's first result holds. -/
theorem ref_out (x : Vec Ideal S2048x16x1024 .f32) (sc sh : Vec Ideal S16x1024 .f32) (w : Vec Ideal S1024x5376 .f32)
    (cw : Vec Ideal S3x2688 .f32) (cb : Vec Ideal S2688 .f32) (prev : Vec Ideal S2x16x2688 .f32)
    (s : Fin 2048) (b : Fin 16) (d : Fin 2688) :
    (val_main_v49 x sc sh w cw cb prev (ix3 s b d) : EReal) = outAt x sc sh w cw cb prev s b d := by
  pointwise [val_main_cst, val_main_cst_0, val_main_cst_0_apply, val_main_cst_1, val_main_cst_1_apply, val_main_cst_2, val_main_cst_2_apply, val_main_cst_3, val_main_cst_3_apply, val_main_cst_apply, val_main_v0, val_main_v0_apply, val_main_v1, val_main_v10, val_main_v10_apply, val_main_v11, val_main_v12, val_main_v12_apply, val_main_v13, val_main_v13_apply, val_main_v14, val_main_v14_apply, val_main_v15, val_main_v15_apply, val_main_v16, val_main_v16_apply, val_main_v17, val_main_v17_apply, val_main_v18, val_main_v18_apply, val_main_v19, val_main_v19_apply, val_main_v1_apply, val_main_v2, val_main_v20, val_main_v20_apply, val_main_v21, val_main_v21_apply, val_main_v22, val_main_v22_apply, val_main_v23, val_main_v23_apply, val_main_v24, val_main_v24_apply, val_main_v25, val_main_v25_apply, val_main_v26, val_main_v26_apply, val_main_v27, val_main_v27_apply, val_main_v28, val_main_v28_apply, val_main_v29, val_main_v29_apply, val_main_v2_apply, val_main_v3, val_main_v30, val_main_v30_apply, val_main_v31, val_main_v31_apply, val_main_v32, val_main_v32_apply, val_main_v33, val_main_v33_apply, val_main_v34, val_main_v34_apply, val_main_v35, val_main_v35_apply, val_main_v36, val_main_v36_apply, val_main_v37, val_main_v37_apply, val_main_v38, val_main_v38_apply, val_main_v39, val_main_v39_apply, val_main_v3_apply, val_main_v4, val_main_v40, val_main_v40_apply, val_main_v41, val_main_v41_apply, val_main_v42, val_main_v42_apply, val_main_v43, val_main_v43_apply, val_main_v44, val_main_v44_apply, val_main_v45, val_main_v45_apply, val_main_v46, val_main_v46_apply, val_main_v47, val_main_v47_apply, val_main_v48, val_main_v48_apply, val_main_v49, val_main_v49_apply, val_main_v4_apply, val_main_v5, val_main_v50, val_main_v50_apply, val_main_v5_apply, val_main_v6, val_main_v6_apply, val_main_v7, val_main_v7_apply, val_main_v8, val_main_v8_apply, val_main_v9, val_main_v9_apply]
  rfl

/-- What the reference's second result holds. -/
theorem ref_keep (x : Vec Ideal S2048x16x1024 .f32) (sc sh : Vec Ideal S16x1024 .f32) (w : Vec Ideal S1024x5376 .f32)
    (prev : Vec Ideal S2x16x2688 .f32) (s : Fin 2) (b : Fin 16) (d : Fin 2688) :
    (val_main_v50 x sc sh w prev (ix3 s b d) : EReal) = keepAt x sc sh w s b d := by
  pointwise [val_main_cst, val_main_cst_0, val_main_cst_0_apply, val_main_cst_1, val_main_cst_1_apply, val_main_cst_2, val_main_cst_2_apply, val_main_cst_3, val_main_cst_3_apply, val_main_cst_apply, val_main_v0, val_main_v0_apply, val_main_v1, val_main_v10, val_main_v10_apply, val_main_v11, val_main_v12, val_main_v12_apply, val_main_v13, val_main_v13_apply, val_main_v14, val_main_v14_apply, val_main_v15, val_main_v15_apply, val_main_v16, val_main_v16_apply, val_main_v17, val_main_v17_apply, val_main_v18, val_main_v18_apply, val_main_v19, val_main_v19_apply, val_main_v1_apply, val_main_v2, val_main_v20, val_main_v20_apply, val_main_v21, val_main_v21_apply, val_main_v22, val_main_v22_apply, val_main_v23, val_main_v23_apply, val_main_v24, val_main_v24_apply, val_main_v25, val_main_v25_apply, val_main_v26, val_main_v26_apply, val_main_v27, val_main_v27_apply, val_main_v28, val_main_v28_apply, val_main_v29, val_main_v29_apply, val_main_v2_apply, val_main_v3, val_main_v30, val_main_v30_apply, val_main_v31, val_main_v31_apply, val_main_v32, val_main_v32_apply, val_main_v33, val_main_v33_apply, val_main_v34, val_main_v34_apply, val_main_v35, val_main_v35_apply, val_main_v36, val_main_v36_apply, val_main_v37, val_main_v37_apply, val_main_v38, val_main_v38_apply, val_main_v39, val_main_v39_apply, val_main_v3_apply, val_main_v4, val_main_v40, val_main_v40_apply, val_main_v41, val_main_v41_apply, val_main_v42, val_main_v42_apply, val_main_v43, val_main_v43_apply, val_main_v44, val_main_v44_apply, val_main_v45, val_main_v45_apply, val_main_v46, val_main_v46_apply, val_main_v47, val_main_v47_apply, val_main_v48, val_main_v48_apply, val_main_v49, val_main_v49_apply, val_main_v4_apply, val_main_v5, val_main_v50, val_main_v50_apply, val_main_v5_apply, val_main_v6, val_main_v6_apply, val_main_v7, val_main_v7_apply, val_main_v8, val_main_v8_apply, val_main_v9, val_main_v9_apply]
  refine (dif_neg (by omega)).trans ?_
  unfold keepAt lin upOf
  refine Finset.sum_congr rfl fun k _ => ?_
  have e : (⟨2048 + s.val - 2, by omega⟩ : Fin 2048) = ⟨2046 + s.val, by omega⟩ := Fin.ext (by show 2048 + s.val - 2 = 2046 + s.val; omega)
  rw [← e]

section Payloads

variable (X : Vec Ideal S32x16x1024 .f32) (SC SH : Vec Ideal S16x1024 .f32) (W1 W2 : Vec Ideal S1024x896 .bf16)
  (P : Vec Ideal S2x16x896 .f32) (c0 c1 c2 cb : Vec Ideal S1x896 .f32)

/-- Column `d` of a chunk's projection at row `r` of the block. -/
def linB (W : Vec Ideal S1024x896 .bf16) (r : Fin 32) (b : Fin 16) (d : Fin 896) : EReal :=
  upOf (fun k => X (ix3 r b k)) (fun k => SC (ix2 b k)) (fun k => SH (ix2 b k)) (fun k => W (ix2 k d))

/-- A chunk's block of the first result. -/
def outB (s : Fin 32) (b : Fin 16) (d : Fin 896) : EReal :=
  act (conv
      (if h : s.val < 2 then P (ix3 ⟨s.val, h⟩ b d) else linB X SC SH W1 ⟨((s.val - 2) * 16 + b.val) / 16, by omega⟩ b d)
      (if h : 1 + s.val < 2 then P (ix3 ⟨1 + s.val, h⟩ b d) else linB X SC SH W1 ⟨((1 + s.val - 2) * 16 + b.val) / 16, by omega⟩ b d)
      (linB X SC SH W1 s b d) (c0 (ix2 0 d)) (c1 (ix2 0 d)) (c2 (ix2 0 d)) (cb (ix2 0 d)))
    (linB X SC SH W2 s b d)

theorem out0_at (s : Fin 32) (b : Fin 16) (d : Fin 896) :
    (k0_pay11 (k0_pay5 X SC SH W2) (k0_pay6 X SC SH W1 P) (k0_pay7 X SC SH W1 P c0) (k0_pay8 X SC SH W1 P) (k0_pay9 c1) c2 cb (ix3 s b d) : EReal)
      = outB X SC SH W1 W2 P c0 c1 c2 cb s b d := by
  pointwise [k0_pay11, k0_pay5, k0_pay6, k0_pay7, k0_pay8, k0_pay9, k0_pay4]
  rfl

theorem out1_at (s : Fin 32) (b : Fin 16) (d : Fin 896) :
    (k0_pay19 (k0_pay14 (k0_pay4 X SC SH) (k0_pay13 W2)) (k0_pay16 (k0_pay12 (k0_pay4 X SC SH) W1) P c0 c1 c2 cb)
        (k0_pay18 (k0_pay12 (k0_pay4 X SC SH) W1) P c0 c1 c2 cb) (FloatOps.ofBits FTy.f32 1056964608#32) (ix3 s b d) : EReal)
      = outB X SC SH W1 W2 P c0 c1 c2 cb s b d := by
  pointwise [k0_pay19, k0_pay14, k0_pay13, k0_pay16, k0_pay15, k0_pay12, k0_pay18, k0_pay4]
  rfl

theorem out2_at (s : Fin 32) (b : Fin 16) (d : Fin 896) :
    (k0_pay2 (k0_pay20 (k0_pay4 X SC SH) W2) (k0_pay22 (k0_pay4 X SC SH) W1 P c0 c1 c2 cb) (ix3 s b d) : EReal)
      = outB X SC SH W1 W2 P c0 c1 c2 cb s b d := by
  pointwise [k0_pay2, k0_pay20, k0_pay22, k0_pay21, k0_pay4]
  rfl

theorem keep_row (s : Fin 2) (b : Fin 16) (d : Fin 896) (A : EReal) :
    (if h : 32 + s.val < 2 then A else linB X SC SH W1 ⟨((32 + s.val - 2) * 16 + b.val) / 16, by omega⟩ b d)
      = linB X SC SH W1 ⟨30 + s.val, by omega⟩ b d := by
  refine (dif_neg (by omega)).trans ?_
  have e : (⟨((32 + s.val - 2) * 16 + b.val) / 16, by omega⟩ : Fin 32) = ⟨30 + s.val, by omega⟩ :=
    Fin.ext (by show ((32 + s.val - 2) * 16 + b.val) / 16 = 30 + s.val; omega)
  rw [← e]

theorem keep0_at (s : Fin 2) (b : Fin 16) (d : Fin 896) :
    (k0_pay10 (k0_pay6 X SC SH W1 P) (ix3 s b d) : EReal) = linB X SC SH W1 ⟨30 + s.val, by omega⟩ b d := by
  refine Eq.trans ?_ (keep_row X SC SH W1 s b d (P (ix3 0 b d)))
  pointwise [k0_pay10, k0_pay6, k0_pay4]
  have hs : ¬ 32 + s.val < 2 := by omega
  rw [dif_neg hs, dif_neg hs]
  rfl

theorem keep1_at (s : Fin 2) (b : Fin 16) (d : Fin 896) :
    (k0_pay17 (k0_pay12 (k0_pay4 X SC SH) W1) P (ix3 s b d) : EReal) = linB X SC SH W1 ⟨30 + s.val, by omega⟩ b d := by
  refine Eq.trans ?_ (keep_row X SC SH W1 s b d (P (ix3 0 b d)))
  pointwise [k0_pay17, k0_pay15, k0_pay12, k0_pay4]
  have hs : ¬ 32 + s.val < 2 := by omega
  rw [dif_neg hs, dif_neg hs]
  rfl

theorem keep2_at (s : Fin 2) (b : Fin 16) (d : Fin 896) :
    (k0_pay1 (k0_pay23 (k0_pay4 X SC SH) W1 P) (ix3 s b d) : EReal) = linB X SC SH W1 ⟨30 + s.val, by omega⟩ b d := by
  refine Eq.trans ?_ (keep_row X SC SH W1 s b d (P (ix3 0 b d)))
  pointwise [k0_pay1, k0_pay23, k0_pay21, k0_pay4]
  have hs : ¬ 32 + s.val < 2 := by omega
  rw [dif_neg hs, dif_neg hs]
  rfl

theorem fill_at (v : Vec Ideal S2x16x2688 .f32) (s : Fin 2) (b : Fin 16) (d : Fin 2688) :
    (k0_pay3 v (ix3 s b d) : EReal) = v (ix3 s b d) := by
  pointwise [k0_pay3]

end Payloads

section Blocks

variable (m : (ℓ : Loc nD τ sig) → Buf (Elt Ideal) ℓ) (c : Dev nD)

/-- The projection of the program's arguments. -/
def linM (t : Fin 2048) (b : Fin 16) (col : Fin 5376) : EReal :=
  lin (m ((c.tc : Thread nD τ).loc main_arg0)) (m ((c.tc : Thread nD τ).loc main_arg1)) (m ((c.tc : Thread nD τ).loc main_arg2))
    (m ((c.tc : Thread nD τ).loc main_arg3)) t b col

/-- The gate's columns, with the two rows before, of the program's arguments. -/
def padM (j : Fin 2050) (b : Fin 16) (d : Fin 2688) : EReal :=
  padded (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) j b d

/-- The first result of the program's arguments. -/
def G7' : Vec Ideal S2048x16x2688 .bf16 := fun i =>
  outAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (i 0) (i 1) (i 2)

/-- The second result of the program's arguments. -/
def G8' : Vec Ideal S2x16x2688 .f32 := fun i =>
  keepAt (m ((c.tc : Thread nD τ).loc main_arg0)) (m ((c.tc : Thread nD τ).loc main_arg1)) (m ((c.tc : Thread nD τ).loc main_arg2))
    (m ((c.tc : Thread nD τ).loc main_arg3)) (i 0) (i 1) (i 2)

theorem idx0 : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![t.val, 0, 0] ∧ win0_8.index t = ![0, 0, 0] := by
  decide +kernel

theorem blk_x (t : Fin grid0.N) (r : Fin 32) (b : Fin 16) (k : Fin 1024) (h : t.val * 32 + r.val < 2048) :
    (iblk m c 0 t (ix3 r b k) : EReal) = m ((c.tc : Thread nD τ).loc main_arg0) (ix3 ⟨t.val * 32 + r.val, h⟩ b k) := by
  rw [← V_main_arg0 m c]
  blk_ext [iblk, idx0 t]

theorem blk_sc (t : Fin grid0.N) (b : Fin 16) (k : Fin 1024) :
    (iblk m c 1 t (ix2 b k) : EReal) = m ((c.tc : Thread nD τ).loc main_arg1) (ix2 b k) := by
  rw [← V_main_arg1 m c]
  blk_ext [iblk, idx0 t]

theorem blk_sh (t : Fin grid0.N) (b : Fin 16) (k : Fin 1024) :
    (iblk m c 2 t (ix2 b k) : EReal) = m ((c.tc : Thread nD τ).loc main_arg2) (ix2 b k) := by
  rw [← V_main_arg2 m c]
  blk_ext [iblk, idx0 t]

theorem blk_w (t : Fin grid0.N) (k : Fin 1024) (col : Fin 5376) :
    (iblk m c 3 t (ix2 k col) : EReal) = m ((c.tc : Thread nD τ).loc main_arg3) (ix2 k col) := by
  have e : (V m c main_v0 (ix2 k col) : EReal) = m ((c.tc : Thread nD τ).loc main_arg3) (ix2 k col) := by
    unfold V; after_reads_at
  rw [← e]
  blk_ext [iblk, idx0 t]

theorem blk_cw (t : Fin grid0.N) (j : Fin 3) (d : Fin 2688) :
    (iblk m c 4 t (ix2 j d) : EReal) = m ((c.tc : Thread nD τ).loc main_arg4) (ix2 j d) := by
  rw [← V_main_arg4 m c]
  blk_ext [iblk, idx0 t]

set_option maxHeartbeats 1000000 in
theorem blk_cb (t : Fin grid0.N) (d : Fin 2688) :
    (iblk m c 5 t (ix2 0 d) : EReal) = m ((c.tc : Thread nD τ).loc main_arg5) (ix1 d) := by
  have e : (V m c main_v1 (ix2 0 d) : EReal) = m ((c.tc : Thread nD τ).loc main_arg5) (ix1 d) := by
    unfold V; after_reads_at
  rw [← e]
  blk_ext [iblk, idx0 t]

theorem blk_p (t : Fin grid0.N) (j : Fin 2) (b : Fin 16) (d : Fin 2688) :
    (iblk m c 6 t (ix3 j b d) : EReal) = m ((c.tc : Thread nD τ).loc main_arg6) (ix3 j b d) := by
  rw [← V_main_arg6 m c]
  blk_ext [iblk, idx0 t]

/-- A chunk's projection in a block is the projection of the arguments. -/
theorem linB_eq (t : Fin grid0.N) (W : Vec Ideal S1024x896 .bf16) (r : Fin 32) (b : Fin 16) (d : Fin 896) (p : Fin 2048) (col : Fin 5376)
    (hp : p.val = t.val * 32 + r.val)
    (hW : ∀ k, (W (ix2 k d) : EReal) = m ((c.tc : Thread nD τ).loc main_arg3) (ix2 k col)) :
    linB (iblk m c 0 t) (iblk m c 1 t) (iblk m c 2 t) W r b d = linM m c p b col := by
  have hN : t.val < 64 := t.isLt
  have lp : t.val * 32 + r.val < 2048 := by clear hp hW; omega
  obtain rfl : p = ⟨t.val * 32 + r.val, lp⟩ := Fin.ext hp
  unfold linB linM lin upOf
  refine Finset.sum_congr rfl fun k _ => ?_
  dsimp only
  rw [hW k, blk_x m c t r b k lp, blk_sc m c t b k, blk_sh m c t b k]

/-- A chunk's block of the first result is the first result, when the two rows before are. -/
theorem outB_eq (t : Fin grid0.N) (W1 W2 : Vec Ideal S1024x896 .bf16) (P : Vec Ideal S2x16x896 .f32) (c0 c1 c2 cb : Vec Ideal S1x896 .f32)
    (s : Fin 32) (b : Fin 16) (d : Fin 896) (p : Fin 2048) (dd : Fin 2688) (hp : p.val = t.val * 32 + s.val)
    (hW1 : ∀ k, (W1 (ix2 k d) : EReal) = m ((c.tc : Thread nD τ).loc main_arg3) (ix2 k ⟨dd.val, by omega⟩))
    (hW2 : ∀ k, (W2 (ix2 k d) : EReal) = m ((c.tc : Thread nD τ).loc main_arg3) (ix2 k ⟨2688 + dd.val, by omega⟩))
    (hP : ∀ (j : Fin 2) (q : Fin 2050), q.val = t.val * 32 + j.val → (P (ix3 j b d) : EReal) = padM m c q b dd)
    (h0 : (c0 (ix2 0 d) : EReal) = m ((c.tc : Thread nD τ).loc main_arg4) (ix2 0 dd))
    (h1 : (c1 (ix2 0 d) : EReal) = m ((c.tc : Thread nD τ).loc main_arg4) (ix2 1 dd))
    (h2 : (c2 (ix2 0 d) : EReal) = m ((c.tc : Thread nD τ).loc main_arg4) (ix2 2 dd))
    (hb : (cb (ix2 0 d) : EReal) = m ((c.tc : Thread nD τ).loc main_arg5) (ix1 dd)) :
    outB (iblk m c 0 t) (iblk m c 1 t) (iblk m c 2 t) W1 W2 P c0 c1 c2 cb s b d = G7' m c (ix3 p b dd) := by
  have hN : t.val < 64 := t.isLt
  have row : ∀ (j : ℕ) (lj : j < 34) (lr : ((j - 2) * 16 + b.val) / 16 < 32) (q : Fin 2050), q.val = t.val * 32 + j →
      (if h : j < 2 then (P (ix3 ⟨j, h⟩ b d) : EReal)
        else linB (iblk m c 0 t) (iblk m c 1 t) (iblk m c 2 t) W1 ⟨((j - 2) * 16 + b.val) / 16, lr⟩ b d) = padM m c q b dd := by
    intro j lj lr q hq
    by_cases h : j < 2
    · rw [dif_pos h]
      exact hP ⟨j, h⟩ q hq
    · rw [dif_neg h]
      have hq2 : ¬ q.val < 2 := by clear hW1 hW2 hP; omega
      have lq : q.val - 2 < 2048 := by clear hW1 hW2 hP; omega
      refine (linB_eq m c t W1 ⟨((j - 2) * 16 + b.val) / 16, lr⟩ b d ⟨q.val - 2, lq⟩ ⟨dd.val, by omega⟩ ?_ hW1).trans ?_
      · show q.val - 2 = t.val * 32 + ((j - 2) * 16 + b.val) / 16
        clear hW1 hW2 hP
        omega
      · unfold padM padded linM
        rw [dif_neg hq2]
  have l1 : 1 + s.val < 34 := by clear hW1 hW2 hP; omega
  have l0 : p.val < 2050 := by clear hW1 hW2 hP; omega
  have l2 : 1 + p.val < 2050 := by clear hW1 hW2 hP; omega
  unfold outB
  rw [row s.val (by clear hW1 hW2 hP; omega) (by clear hW1 hW2 hP; omega) ⟨p.val, l0⟩ hp,
    row (1 + s.val) l1 (by clear hW1 hW2 hP; omega) ⟨1 + p.val, l2⟩ (by show 1 + p.val = t.val * 32 + (1 + s.val); clear hW1 hW2 hP; omega),
    linB_eq m c t W1 s b d p ⟨dd.val, by omega⟩ hp hW1, linB_eq m c t W2 s b d p ⟨2688 + dd.val, by omega⟩ hp hW2, h0, h1, h2, hb]
  rfl

theorem ld_w0 (t : Fin grid0.N) (k : Fin 1024) (d : Fin 896) (col : Fin 5376) (h : col.val = 0 + d.val) :
    (View.ld (iblk m c 3 t) (Rect.unit ![0, 0] ![1024, 896] inb_S1024x5376_S1024x896_0_0) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 0 + 1 * d.val = col.val; omega

theorem ld_v0 (t : Fin grid0.N) (k : Fin 1024) (d : Fin 896) (col : Fin 5376) (h : col.val = 2688 + d.val) :
    (View.ld (iblk m c 3 t) (Rect.unit ![0, 2688] ![1024, 896] inb_S1024x5376_S1024x896_0_2688) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 2688 + 1 * d.val = col.val; omega

theorem ld_b0 (t : Fin grid0.N) (d : Fin 896) (dd : Fin 2688) (h : dd.val = 0 + d.val) :
    (View.ld (iblk m c 5 t) (Rect.unit ![0, 0] ![1, 896] inb_S1x2688_S1x896_0_0) (ix2 0 d) : EReal)
      = m ((c.tc : Thread nD τ).loc main_arg5) (ix1 dd) := by
  rw [← blk_cb m c t dd]
  refine congrArg (iblk m c 5 t) ?_
  refine funext fun a => Fin.ext ?_
  fin_cases a
  · show 0 + 1 * 0 = 0; omega
  · show 0 + 1 * d.val = dd.val; omega

theorem ld_p0 (Y : Vec Ideal S2x16x2688 .f32) (j : Fin 2) (b : Fin 16) (d : Fin 896) (dd : Fin 2688) (h : dd.val = 0 + d.val) :
    (View.ld Y (Rect.unit ![0, 0, 0] ![2, 16, 896] inb_S2x16x2688_S2x16x896_0_0_0) (ix3 j b d) : EReal) = Y (ix3 j b dd) := by
  refine congrArg Y ?_
  refine funext fun a => Fin.ext ?_
  fin_cases a
  · show 0 + 1 * j.val = j.val; omega
  · show 0 + 1 * b.val = b.val; omega
  · show 0 + 1 * d.val = dd.val; omega

theorem ld_c0_0 (t : Fin grid0.N) (d : Fin 896) (dd : Fin 2688) (h : dd.val = 0 + d.val) :
    (View.ld (iblk m c 4 t) (Rect.unit ![0, 0] ![1, 896] inb_S3x2688_S1x896_0_0) (ix2 0 d) : EReal)
      = m ((c.tc : Thread nD τ).loc main_arg4) (ix2 0 dd) := by
  rw [← blk_cw m c t 0 dd]
  refine congrArg (iblk m c 4 t) ?_
  refine funext fun a => Fin.ext ?_
  fin_cases a
  · show 0 + 1 * 0 = 0; omega
  · show 0 + 1 * d.val = dd.val; omega

theorem ld_c1_0 (t : Fin grid0.N) (d : Fin 896) (dd : Fin 2688) (h : dd.val = 0 + d.val) :
    (View.ld (iblk m c 4 t) (Rect.unit ![1, 0] ![1, 896] inb_S3x2688_S1x896_1_0) (ix2 0 d) : EReal)
      = m ((c.tc : Thread nD τ).loc main_arg4) (ix2 1 dd) := by
  rw [← blk_cw m c t 1 dd]
  refine congrArg (iblk m c 4 t) ?_
  refine funext fun a => Fin.ext ?_
  fin_cases a
  · show 1 + 1 * 0 = 1; omega
  · show 0 + 1 * d.val = dd.val; omega

theorem ld_c2_0 (t : Fin grid0.N) (d : Fin 896) (dd : Fin 2688) (h : dd.val = 0 + d.val) :
    (View.ld (iblk m c 4 t) (Rect.unit ![2, 0] ![1, 896] inb_S3x2688_S1x896_2_0) (ix2 0 d) : EReal)
      = m ((c.tc : Thread nD τ).loc main_arg4) (ix2 2 dd) := by
  rw [← blk_cw m c t 2 dd]
  refine congrArg (iblk m c 4 t) ?_
  refine funext fun a => Fin.ext ?_
  fin_cases a
  · show 2 + 1 * 0 = 2; omega
  · show 0 + 1 * d.val = dd.val; omega

theorem ld_w1 (t : Fin grid0.N) (k : Fin 1024) (d : Fin 896) (col : Fin 5376) (h : col.val = 896 + d.val) :
    (View.ld (iblk m c 3 t) (Rect.unit ![0, 896] ![1024, 896] inb_S1024x5376_S1024x896_0_896) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 896 + 1 * d.val = col.val; omega

theorem ld_v1 (t : Fin grid0.N) (k : Fin 1024) (d : Fin 896) (col : Fin 5376) (h : col.val = 3584 + d.val) :
    (View.ld (iblk m c 3 t) (Rect.unit ![0, 3584] ![1024, 896] inb_S1024x5376_S1024x896_0_3584) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 3584 + 1 * d.val = col.val; omega

theorem ld_b1 (t : Fin grid0.N) (d : Fin 896) (dd : Fin 2688) (h : dd.val = 896 + d.val) :
    (View.ld (iblk m c 5 t) (Rect.unit ![0, 896] ![1, 896] inb_S1x2688_S1x896_0_896) (ix2 0 d) : EReal)
      = m ((c.tc : Thread nD τ).loc main_arg5) (ix1 dd) := by
  rw [← blk_cb m c t dd]
  refine congrArg (iblk m c 5 t) ?_
  refine funext fun a => Fin.ext ?_
  fin_cases a
  · show 0 + 1 * 0 = 0; omega
  · show 896 + 1 * d.val = dd.val; omega

theorem ld_p1 (Y : Vec Ideal S2x16x2688 .f32) (j : Fin 2) (b : Fin 16) (d : Fin 896) (dd : Fin 2688) (h : dd.val = 896 + d.val) :
    (View.ld Y (Rect.unit ![0, 0, 896] ![2, 16, 896] inb_S2x16x2688_S2x16x896_0_0_896) (ix3 j b d) : EReal) = Y (ix3 j b dd) := by
  refine congrArg Y ?_
  refine funext fun a => Fin.ext ?_
  fin_cases a
  · show 0 + 1 * j.val = j.val; omega
  · show 0 + 1 * b.val = b.val; omega
  · show 896 + 1 * d.val = dd.val; omega

theorem ld_c0_1 (t : Fin grid0.N) (d : Fin 896) (dd : Fin 2688) (h : dd.val = 896 + d.val) :
    (View.ld (iblk m c 4 t) (Rect.unit ![0, 896] ![1, 896] inb_S3x2688_S1x896_0_896) (ix2 0 d) : EReal)
      = m ((c.tc : Thread nD τ).loc main_arg4) (ix2 0 dd) := by
  rw [← blk_cw m c t 0 dd]
  refine congrArg (iblk m c 4 t) ?_
  refine funext fun a => Fin.ext ?_
  fin_cases a
  · show 0 + 1 * 0 = 0; omega
  · show 896 + 1 * d.val = dd.val; omega

theorem ld_c1_1 (t : Fin grid0.N) (d : Fin 896) (dd : Fin 2688) (h : dd.val = 896 + d.val) :
    (View.ld (iblk m c 4 t) (Rect.unit ![1, 896] ![1, 896] inb_S3x2688_S1x896_1_896) (ix2 0 d) : EReal)
      = m ((c.tc : Thread nD τ).loc main_arg4) (ix2 1 dd) := by
  rw [← blk_cw m c t 1 dd]
  refine congrArg (iblk m c 4 t) ?_
  refine funext fun a => Fin.ext ?_
  fin_cases a
  · show 1 + 1 * 0 = 1; omega
  · show 896 + 1 * d.val = dd.val; omega

theorem ld_c2_1 (t : Fin grid0.N) (d : Fin 896) (dd : Fin 2688) (h : dd.val = 896 + d.val) :
    (View.ld (iblk m c 4 t) (Rect.unit ![2, 896] ![1, 896] inb_S3x2688_S1x896_2_896) (ix2 0 d) : EReal)
      = m ((c.tc : Thread nD τ).loc main_arg4) (ix2 2 dd) := by
  rw [← blk_cw m c t 2 dd]
  refine congrArg (iblk m c 4 t) ?_
  refine funext fun a => Fin.ext ?_
  fin_cases a
  · show 2 + 1 * 0 = 2; omega
  · show 896 + 1 * d.val = dd.val; omega

theorem ld_w2 (t : Fin grid0.N) (k : Fin 1024) (d : Fin 896) (col : Fin 5376) (h : col.val = 1792 + d.val) :
    (View.ld (iblk m c 3 t) (Rect.unit ![0, 1792] ![1024, 896] inb_S1024x5376_S1024x896_0_1792) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 1792 + 1 * d.val = col.val; omega

theorem ld_v2 (t : Fin grid0.N) (k : Fin 1024) (d : Fin 896) (col : Fin 5376) (h : col.val = 4480 + d.val) :
    (View.ld (iblk m c 3 t) (Rect.unit ![0, 4480] ![1024, 896] inb_S1024x5376_S1024x896_0_4480) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 4480 + 1 * d.val = col.val; omega

theorem ld_b2 (t : Fin grid0.N) (d : Fin 896) (dd : Fin 2688) (h : dd.val = 1792 + d.val) :
    (View.ld (iblk m c 5 t) (Rect.unit ![0, 1792] ![1, 896] inb_S1x2688_S1x896_0_1792) (ix2 0 d) : EReal)
      = m ((c.tc : Thread nD τ).loc main_arg5) (ix1 dd) := by
  rw [← blk_cb m c t dd]
  refine congrArg (iblk m c 5 t) ?_
  refine funext fun a => Fin.ext ?_
  fin_cases a
  · show 0 + 1 * 0 = 0; omega
  · show 1792 + 1 * d.val = dd.val; omega

theorem ld_p2 (Y : Vec Ideal S2x16x2688 .f32) (j : Fin 2) (b : Fin 16) (d : Fin 896) (dd : Fin 2688) (h : dd.val = 1792 + d.val) :
    (View.ld Y (Rect.unit ![0, 0, 1792] ![2, 16, 896] inb_S2x16x2688_S2x16x896_0_0_1792) (ix3 j b d) : EReal) = Y (ix3 j b dd) := by
  refine congrArg Y ?_
  refine funext fun a => Fin.ext ?_
  fin_cases a
  · show 0 + 1 * j.val = j.val; omega
  · show 0 + 1 * b.val = b.val; omega
  · show 1792 + 1 * d.val = dd.val; omega

theorem ld_c0_2 (t : Fin grid0.N) (d : Fin 896) (dd : Fin 2688) (h : dd.val = 1792 + d.val) :
    (View.ld (iblk m c 4 t) (Rect.unit ![0, 1792] ![1, 896] inb_S3x2688_S1x896_0_1792) (ix2 0 d) : EReal)
      = m ((c.tc : Thread nD τ).loc main_arg4) (ix2 0 dd) := by
  rw [← blk_cw m c t 0 dd]
  refine congrArg (iblk m c 4 t) ?_
  refine funext fun a => Fin.ext ?_
  fin_cases a
  · show 0 + 1 * 0 = 0; omega
  · show 1792 + 1 * d.val = dd.val; omega

theorem ld_c1_2 (t : Fin grid0.N) (d : Fin 896) (dd : Fin 2688) (h : dd.val = 1792 + d.val) :
    (View.ld (iblk m c 4 t) (Rect.unit ![1, 1792] ![1, 896] inb_S3x2688_S1x896_1_1792) (ix2 0 d) : EReal)
      = m ((c.tc : Thread nD τ).loc main_arg4) (ix2 1 dd) := by
  rw [← blk_cw m c t 1 dd]
  refine congrArg (iblk m c 4 t) ?_
  refine funext fun a => Fin.ext ?_
  fin_cases a
  · show 1 + 1 * 0 = 1; omega
  · show 1792 + 1 * d.val = dd.val; omega

theorem ld_c2_2 (t : Fin grid0.N) (d : Fin 896) (dd : Fin 2688) (h : dd.val = 1792 + d.val) :
    (View.ld (iblk m c 4 t) (Rect.unit ![2, 1792] ![1, 896] inb_S3x2688_S1x896_2_1792) (ix2 0 d) : EReal)
      = m ((c.tc : Thread nD τ).loc main_arg4) (ix2 2 dd) := by
  rw [← blk_cw m c t 2 dd]
  refine congrArg (iblk m c 4 t) ?_
  refine funext fun a => Fin.ext ?_
  fin_cases a
  · show 2 + 1 * 0 = 2; omega
  · show 1792 + 1 * d.val = dd.val; omega

/-- Three chunks of columns, stored one beside another, hold `G` wherever each of them does. -/
theorem chunks2 {e : EltTy} (p0 p1 p2 : Vec Ideal S2x16x896 e) (G : Vec Ideal S2x16x2688 e) (L : List (View.Piece (Elt Ideal) S2x16x2688 e))
    (h0 : ∀ s b (d : Fin 896), p0 (ix3 s b d) = G (ix3 s b ⟨d.val, by omega⟩))
    (h1 : ∀ s b (d : Fin 896), p1 (ix3 s b d) = G (ix3 s b ⟨896 + d.val, by omega⟩))
    (h2 : ∀ s b (d : Fin 896), p2 (ix3 s b d) = G (ix3 s b ⟨1792 + d.val, by omega⟩)) (s : Fin 2) (b : Fin 16) (d : Fin 2688) :
    View.canon ((⟨Rect.unit ![0, 0, 1792] ![2, 16, 896] inb_S2x16x2688_S2x16x896_0_0_1792, p2⟩ : View.Piece (Elt Ideal) S2x16x2688 e) :: ⟨Rect.unit ![0, 0, 896] ![2, 16, 896] inb_S2x16x2688_S2x16x896_0_0_896, p1⟩ :: ⟨Rect.unit ![0, 0, 0] ![2, 16, 896] inb_S2x16x2688_S2x16x896_0_0_0, p0⟩ :: L) (ix3 s b d) = G (ix3 s b d) := by
  refine View.canon_append_of_pieces G L [⟨Rect.unit ![0, 0, 1792] ![2, 16, 896] inb_S2x16x2688_S2x16x896_0_0_1792, p2⟩, ⟨Rect.unit ![0, 0, 896] ![2, 16, 896] inb_S2x16x2688_S2x16x896_0_0_896, p1⟩, ⟨Rect.unit ![0, 0, 0] ![2, 16, 896] inb_S2x16x2688_S2x16x896_0_0_0, p0⟩] ?_ (ix3 s b d) ?_
  · intro pc hpc
    rcases List.mem_cons.mp hpc with rfl | hpc
    · intro (x : S2x16x896.Idx)
      idx_vars x
      refine (h2 x0 x1 x2).trans (congrArg G ?_)
      refine funext fun a => Fin.ext ?_
      fin_cases a
      · show x0.val = 0 + 1 * x0.val; omega
      · show x1.val = 0 + 1 * x1.val; omega
      · show 1792 + x2.val = 1792 + 1 * x2.val; omega
    rcases List.mem_cons.mp hpc with rfl | hpc
    · intro (x : S2x16x896.Idx)
      idx_vars x
      refine (h1 x0 x1 x2).trans (congrArg G ?_)
      refine funext fun a => Fin.ext ?_
      fin_cases a
      · show x0.val = 0 + 1 * x0.val; omega
      · show x1.val = 0 + 1 * x1.val; omega
      · show 896 + x2.val = 896 + 1 * x2.val; omega
    rcases List.mem_cons.mp hpc with rfl | hpc
    · intro (x : S2x16x896.Idx)
      idx_vars x
      refine (h0 x0 x1 x2).trans (congrArg G ?_)
      refine funext fun a => Fin.ext ?_
      fin_cases a
      · show x0.val = 0 + 1 * x0.val; omega
      · show x1.val = 0 + 1 * x1.val; omega
      · show x2.val = 0 + 1 * x2.val; omega
    nomatch hpc
  · by_cases l2 : 1792 ≤ d.val
    · refine ⟨_, List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 1792, by show d.val - 1792 < 896; omega, by show d.val = 1792 + 1 * (d.val - 1792); omega⟩
    by_cases l1 : 896 ≤ d.val
    · refine ⟨_, List.mem_cons_of_mem _ List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 896, by show d.val - 896 < 896; omega, by show d.val = 896 + 1 * (d.val - 896); omega⟩
    · refine ⟨_, List.mem_cons_of_mem _ (List.mem_cons_of_mem _ List.mem_cons_self), ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val, by show d.val < 896; omega, by show d.val = 0 + 1 * (d.val); omega⟩

/-- Three chunks of columns, stored one beside another, hold `G` wherever each of them does. -/
theorem chunks32 {e : EltTy} (p0 p1 p2 : Vec Ideal S32x16x896 e) (G : Vec Ideal S32x16x2688 e) (L : List (View.Piece (Elt Ideal) S32x16x2688 e))
    (h0 : ∀ s b (d : Fin 896), p0 (ix3 s b d) = G (ix3 s b ⟨d.val, by omega⟩))
    (h1 : ∀ s b (d : Fin 896), p1 (ix3 s b d) = G (ix3 s b ⟨896 + d.val, by omega⟩))
    (h2 : ∀ s b (d : Fin 896), p2 (ix3 s b d) = G (ix3 s b ⟨1792 + d.val, by omega⟩)) (s : Fin 32) (b : Fin 16) (d : Fin 2688) :
    View.canon ((⟨Rect.unit ![0, 0, 1792] ![32, 16, 896] inb_S32x16x2688_S32x16x896_0_0_1792, p2⟩ : View.Piece (Elt Ideal) S32x16x2688 e) :: ⟨Rect.unit ![0, 0, 896] ![32, 16, 896] inb_S32x16x2688_S32x16x896_0_0_896, p1⟩ :: ⟨Rect.unit ![0, 0, 0] ![32, 16, 896] inb_S32x16x2688_S32x16x896_0_0_0, p0⟩ :: L) (ix3 s b d) = G (ix3 s b d) := by
  refine View.canon_append_of_pieces G L [⟨Rect.unit ![0, 0, 1792] ![32, 16, 896] inb_S32x16x2688_S32x16x896_0_0_1792, p2⟩, ⟨Rect.unit ![0, 0, 896] ![32, 16, 896] inb_S32x16x2688_S32x16x896_0_0_896, p1⟩, ⟨Rect.unit ![0, 0, 0] ![32, 16, 896] inb_S32x16x2688_S32x16x896_0_0_0, p0⟩] ?_ (ix3 s b d) ?_
  · intro pc hpc
    rcases List.mem_cons.mp hpc with rfl | hpc
    · intro (x : S32x16x896.Idx)
      idx_vars x
      refine (h2 x0 x1 x2).trans (congrArg G ?_)
      refine funext fun a => Fin.ext ?_
      fin_cases a
      · show x0.val = 0 + 1 * x0.val; omega
      · show x1.val = 0 + 1 * x1.val; omega
      · show 1792 + x2.val = 1792 + 1 * x2.val; omega
    rcases List.mem_cons.mp hpc with rfl | hpc
    · intro (x : S32x16x896.Idx)
      idx_vars x
      refine (h1 x0 x1 x2).trans (congrArg G ?_)
      refine funext fun a => Fin.ext ?_
      fin_cases a
      · show x0.val = 0 + 1 * x0.val; omega
      · show x1.val = 0 + 1 * x1.val; omega
      · show 896 + x2.val = 896 + 1 * x2.val; omega
    rcases List.mem_cons.mp hpc with rfl | hpc
    · intro (x : S32x16x896.Idx)
      idx_vars x
      refine (h0 x0 x1 x2).trans (congrArg G ?_)
      refine funext fun a => Fin.ext ?_
      fin_cases a
      · show x0.val = 0 + 1 * x0.val; omega
      · show x1.val = 0 + 1 * x1.val; omega
      · show x2.val = 0 + 1 * x2.val; omega
    nomatch hpc
  · by_cases l2 : 1792 ≤ d.val
    · refine ⟨_, List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 1792, by show d.val - 1792 < 896; omega, by show d.val = 1792 + 1 * (d.val - 1792); omega⟩
    by_cases l1 : 896 ≤ d.val
    · refine ⟨_, List.mem_cons_of_mem _ List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 896, by show d.val - 896 < 896; omega, by show d.val = 896 + 1 * (d.val - 896); omega⟩
    · refine ⟨_, List.mem_cons_of_mem _ (List.mem_cons_of_mem _ List.mem_cons_self), ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val, by show d.val < 896; omega, by show d.val = 0 + 1 * (d.val); omega⟩

/-- The two rows kept after a block: the block's last two rows of the gate's columns. -/
def keptM (t : Fin grid0.N) : Vec Ideal S2x16x2688 .f32 := fun i =>
  linM m c ⟨t.val * 32 + (30 + (i 0).val), by have : t.val < 64 := t.isLt; have : (i 0).val < 2 := (i 0).isLt; omega⟩ (i 1)
    ⟨(i 2).val, by have : (i 2).val < 2688 := (i 2).isLt; omega⟩

theorem kept_list (t : Fin grid0.N) (P0 P1 P2 : Vec Ideal S2x16x896 .f32) (L : List (View.Piece (Elt Ideal) S2x16x2688 .f32))
    (s : Fin 2) (b : Fin 16) (d : Fin 2688) :
    View.canon ((⟨Rect.unit ![0, 0, 1792] ![2, 16, 896] inb_S2x16x2688_S2x16x896_0_0_1792, k0_pay1 (k0_pay23 (k0_pay4 (iblk m c 0 t) (iblk m c 1 t) (iblk m c 2 t)) (View.ld (iblk m c 3 t) (Rect.unit ![0, 1792] ![1024, 896] inb_S1024x5376_S1024x896_0_1792)) P2)⟩ : View.Piece (Elt Ideal) S2x16x2688 .f32)
      :: ⟨Rect.unit ![0, 0, 896] ![2, 16, 896] inb_S2x16x2688_S2x16x896_0_0_896, k0_pay17 (k0_pay12 (k0_pay4 (iblk m c 0 t) (iblk m c 1 t) (iblk m c 2 t)) (View.ld (iblk m c 3 t) (Rect.unit ![0, 896] ![1024, 896] inb_S1024x5376_S1024x896_0_896))) P1⟩
      :: ⟨Rect.unit ![0, 0, 0] ![2, 16, 896] inb_S2x16x2688_S2x16x896_0_0_0, k0_pay10 (k0_pay6 (iblk m c 0 t) (iblk m c 1 t) (iblk m c 2 t) (View.ld (iblk m c 3 t) (Rect.unit ![0, 0] ![1024, 896] inb_S1024x5376_S1024x896_0_0)) P0)⟩ :: L) (ix3 s b d)
      = keptM m c t (ix3 s b d) := by
  refine chunks2 _ _ _ (keptM m c t) L (fun s b d => ?_) (fun s b d => ?_) (fun s b d => ?_) s b d
  · exact (keep0_at _ _ _ _ _ s b d).trans (linB_eq m c t _ _ b d _ _ rfl fun k => ld_w0 m c t k d _ (Nat.zero_add _).symm)
  · exact (keep1_at _ _ _ _ _ s b d).trans (linB_eq m c t _ _ b d _ _ rfl fun k => ld_w1 m c t k d _ rfl)
  · exact (keep2_at _ _ _ _ _ s b d).trans (linB_eq m c t _ _ b d _ _ rfl fun k => ld_w2 m c t k d _ rfl)

/-- The block of the first result that a point writes. -/
def outM (t : Fin grid0.N) : Vec Ideal S32x16x2688 .bf16 := fun i =>
  G7' m c (ix3 ⟨t.val * 32 + (i 0).val, by have : t.val < 64 := t.isLt; have : (i 0).val < 32 := (i 0).isLt; omega⟩ (i 1) (i 2))

theorem out_list (t : Fin grid0.N) (Y : Vec Ideal S2x16x2688 .f32) (L : List (View.Piece (Elt Ideal) S32x16x2688 .bf16))
    (hY : ∀ (j : Fin 2) (b : Fin 16) (dd : Fin 2688) (q : Fin 2050), q.val = t.val * 32 + j.val → (Y (ix3 j b dd) : EReal) = padM m c q b dd)
    (s : Fin 32) (b : Fin 16) (d : Fin 2688) :
    View.canon ((⟨Rect.unit ![0, 0, 1792] ![32, 16, 896] inb_S32x16x2688_S32x16x896_0_0_1792, k0_pay2 (k0_pay20 (k0_pay4 (iblk m c 0 t) (iblk m c 1 t) (iblk m c 2 t)) (View.ld (iblk m c 3 t) (Rect.unit ![0, 4480] ![1024, 896] inb_S1024x5376_S1024x896_0_4480))) (k0_pay22 (k0_pay4 (iblk m c 0 t) (iblk m c 1 t) (iblk m c 2 t)) (View.ld (iblk m c 3 t) (Rect.unit ![0, 1792] ![1024, 896] inb_S1024x5376_S1024x896_0_1792)) (View.ld Y (Rect.unit ![0, 0, 1792] ![2, 16, 896] inb_S2x16x2688_S2x16x896_0_0_1792)) (View.ld (iblk m c 4 t) (Rect.unit ![0, 1792] ![1, 896] inb_S3x2688_S1x896_0_1792)) (View.ld (iblk m c 4 t) (Rect.unit ![1, 1792] ![1, 896] inb_S3x2688_S1x896_1_1792)) (View.ld (iblk m c 4 t) (Rect.unit ![2, 1792] ![1, 896] inb_S3x2688_S1x896_2_1792)) (View.ld (iblk m c 5 t) (Rect.unit ![0, 1792] ![1, 896] inb_S1x2688_S1x896_0_1792)))⟩ : View.Piece (Elt Ideal) S32x16x2688 .bf16)
      :: ⟨Rect.unit ![0, 0, 896] ![32, 16, 896] inb_S32x16x2688_S32x16x896_0_0_896, k0_pay19 (k0_pay14 (k0_pay4 (iblk m c 0 t) (iblk m c 1 t) (iblk m c 2 t)) (k0_pay13 (View.ld (iblk m c 3 t) (Rect.unit ![0, 3584] ![1024, 896] inb_S1024x5376_S1024x896_0_3584)))) (k0_pay16 (k0_pay12 (k0_pay4 (iblk m c 0 t) (iblk m c 1 t) (iblk m c 2 t)) (View.ld (iblk m c 3 t) (Rect.unit ![0, 896] ![1024, 896] inb_S1024x5376_S1024x896_0_896))) (View.ld Y (Rect.unit ![0, 0, 896] ![2, 16, 896] inb_S2x16x2688_S2x16x896_0_0_896)) (View.ld (iblk m c 4 t) (Rect.unit ![0, 896] ![1, 896] inb_S3x2688_S1x896_0_896)) (View.ld (iblk m c 4 t) (Rect.unit ![1, 896] ![1, 896] inb_S3x2688_S1x896_1_896)) (View.ld (iblk m c 4 t) (Rect.unit ![2, 896] ![1, 896] inb_S3x2688_S1x896_2_896)) (View.ld (iblk m c 5 t) (Rect.unit ![0, 896] ![1, 896] inb_S1x2688_S1x896_0_896))) (k0_pay18 (k0_pay12 (k0_pay4 (iblk m c 0 t) (iblk m c 1 t) (iblk m c 2 t)) (View.ld (iblk m c 3 t) (Rect.unit ![0, 896] ![1024, 896] inb_S1024x5376_S1024x896_0_896))) (View.ld Y (Rect.unit ![0, 0, 896] ![2, 16, 896] inb_S2x16x2688_S2x16x896_0_0_896)) (View.ld (iblk m c 4 t) (Rect.unit ![0, 896] ![1, 896] inb_S3x2688_S1x896_0_896)) (View.ld (iblk m c 4 t) (Rect.unit ![1, 896] ![1, 896] inb_S3x2688_S1x896_1_896)) (View.ld (iblk m c 4 t) (Rect.unit ![2, 896] ![1, 896] inb_S3x2688_S1x896_2_896)) (View.ld (iblk m c 5 t) (Rect.unit ![0, 896] ![1, 896] inb_S1x2688_S1x896_0_896))) (FloatOps.ofBits FTy.f32 1056964608#32)⟩
      :: ⟨Rect.unit ![0, 0, 0] ![32, 16, 896] inb_S32x16x2688_S32x16x896_0_0_0, k0_pay11 (k0_pay5 (iblk m c 0 t) (iblk m c 1 t) (iblk m c 2 t) (View.ld (iblk m c 3 t) (Rect.unit ![0, 2688] ![1024, 896] inb_S1024x5376_S1024x896_0_2688))) (k0_pay6 (iblk m c 0 t) (iblk m c 1 t) (iblk m c 2 t) (View.ld (iblk m c 3 t) (Rect.unit ![0, 0] ![1024, 896] inb_S1024x5376_S1024x896_0_0)) (View.ld Y (Rect.unit ![0, 0, 0] ![2, 16, 896] inb_S2x16x2688_S2x16x896_0_0_0))) (k0_pay7 (iblk m c 0 t) (iblk m c 1 t) (iblk m c 2 t) (View.ld (iblk m c 3 t) (Rect.unit ![0, 0] ![1024, 896] inb_S1024x5376_S1024x896_0_0)) (View.ld Y (Rect.unit ![0, 0, 0] ![2, 16, 896] inb_S2x16x2688_S2x16x896_0_0_0)) (View.ld (iblk m c 4 t) (Rect.unit ![0, 0] ![1, 896] inb_S3x2688_S1x896_0_0))) (k0_pay8 (iblk m c 0 t) (iblk m c 1 t) (iblk m c 2 t) (View.ld (iblk m c 3 t) (Rect.unit ![0, 0] ![1024, 896] inb_S1024x5376_S1024x896_0_0)) (View.ld Y (Rect.unit ![0, 0, 0] ![2, 16, 896] inb_S2x16x2688_S2x16x896_0_0_0))) (k0_pay9 (View.ld (iblk m c 4 t) (Rect.unit ![1, 0] ![1, 896] inb_S3x2688_S1x896_1_0))) (View.ld (iblk m c 4 t) (Rect.unit ![2, 0] ![1, 896] inb_S3x2688_S1x896_2_0)) (View.ld (iblk m c 5 t) (Rect.unit ![0, 0] ![1, 896] inb_S1x2688_S1x896_0_0))⟩ :: L) (ix3 s b d)
      = outM m c t (ix3 s b d) := by
  refine chunks32 _ _ _ (outM m c t) L (fun s b d => ?_) (fun s b d => ?_) (fun s b d => ?_) s b d
  · refine (out0_at _ _ _ _ _ _ _ _ _ _ s b d).trans (outB_eq m c t _ _ _ _ _ _ _ s b d _ _ rfl (fun k => ld_w0 m c t k d _ (Nat.zero_add _).symm)
      (fun k => ld_v0 m c t k d _ rfl) (fun j q hq => (ld_p0 Y j b d _ (Nat.zero_add _).symm).trans (hY j b _ q hq))
      (ld_c0_0 m c t d _ (Nat.zero_add _).symm) (ld_c1_0 m c t d _ (Nat.zero_add _).symm) (ld_c2_0 m c t d _ (Nat.zero_add _).symm) (ld_b0 m c t d _ (Nat.zero_add _).symm))
  · refine (out1_at _ _ _ _ _ _ _ _ _ _ s b d).trans (outB_eq m c t _ _ _ _ _ _ _ s b d _ _ rfl (fun k => ld_w1 m c t k d _ rfl)
      (fun k => ld_v1 m c t k d _ (by show 2688 + (896 + d.val) = 3584 + d.val; omega)) (fun j q hq => (ld_p1 Y j b d _ rfl).trans (hY j b _ q hq))
      (ld_c0_1 m c t d _ rfl) (ld_c1_1 m c t d _ rfl) (ld_c2_1 m c t d _ rfl) (ld_b1 m c t d _ rfl))
  · refine (out2_at _ _ _ _ _ _ _ _ _ _ s b d).trans (outB_eq m c t _ _ _ _ _ _ _ s b d _ _ rfl (fun k => ld_w2 m c t k d _ rfl)
      (fun k => ld_v2 m c t k d _ (by show 2688 + (1792 + d.val) = 4480 + d.val; omega)) (fun j q hq => (ld_p2 Y j b d _ rfl).trans (hY j b _ q hq))
      (ld_c0_2 m c t d _ rfl) (ld_c1_2 m c t d _ rfl) (ld_c2_2 m c t d _ rfl) (ld_b2 m c t d _ rfl))

/-- What the carried scratch holds after a point. -/
theorem kept_at (t : Fin cfg0.N) (s : Fin 2) (b : Fin 16) (d : Fin 2688) :
    ((outsAt0 m c t.val t.isLt).2.2 (ix3 s b d) : EReal) = keptM m c t (ix3 s b d) := by
  by_cases h : t.val % 64 = 0
  · rw [Gen.outsAt0_A m c t h]
    frame_open
    simp (disch := decide) only [↓ View.readCov_skip, ↓ View.readCov_cons_toLoadRect, ↓ View.readCov_fill]
    frame_out
    exact kept_list m c t _ _ _ _ s b d
  · rw [Gen.outsAt0_B m c t h]
    frame_open
    simp (disch := decide) only [↓ View.readCov_skip, ↓ View.readCov_cons_toLoadRect, ↓ View.readCov_fill]
    frame_out
    simp only [read_unread_whole]
    exact kept_list m c t _ _ _ _ s b d

/-- What a point writes to the first result. -/
theorem out_at (t : Fin cfg0.N) (s : Fin 32) (b : Fin 16) (d : Fin 2688) :
    ((outsAt0 m c t.val t.isLt).1 (ix3 s b d) : EReal) = outM m c t (ix3 s b d) := by
  have hN : t.val < 64 := t.isLt
  by_cases h : t.val % 64 = 0
  · rw [Gen.outsAt0_A m c t h]
    frame_open
    simp (disch := decide) only [↓ View.readCov_skip, ↓ View.readCov_cons_toLoadRect, ↓ View.readCov_fill]
    frame_out
    refine out_list m c t _ _ (fun j b dd q hq => ?_) s b d
    have hq2 : q.val < 2 := by omega
    rw [fill_at, blk_p m c t j b dd]
    unfold padM padded
    rw [dif_pos hq2]
    obtain rfl : j = ⟨q.val, hq2⟩ := Fin.ext (by show j.val = q.val; omega)
    rfl
  · rw [Gen.outsAt0_B m c t h]
    frame_open
    simp (disch := decide) only [↓ View.readCov_skip, ↓ View.readCov_cons_toLoadRect, ↓ View.readCov_fill]
    frame_out
    simp only [read_unread_whole]
    refine out_list m c t _ _ (fun j b dd q hq => ?_) s b d
    have hq2 : ¬ q.val < 2 := by omega
    refine (kept_at m c ⟨t.val - 1, by omega⟩ j b dd).trans ?_
    unfold padM padded keptM linM
    rw [dif_neg hq2]
    refine congrArg (fun p => lin _ _ _ _ p b _) (Fin.ext ?_)
    show (t.val - 1) * 32 + (30 + j.val) = q.val - 2
    omega

theorem arr7 : (dats m 0 c).arrAt 7 cfg0.N = G7' m c := by
  refine (dats m 0 c).arrAt_eq_of_covers 7 _ (by decide +kernel) fun t hf y => ?_
  rw [after0_7]
  blk_simp
  idx_vars y
  have hN : t.val < 64 := t.isLt
  refine Eq.trans ?_ (congrArg (G7' m c) (?_ : ix3 ⟨t.val * 32 + y0.val, by omega⟩ y1 y2 = _))
  · exact out_at m c t y0 y1 y2
  · blk_ext [idx0 t]

theorem arr8 : (dats m 0 c).arrAt 8 cfg0.N = G8' m c := by
  refine (dats m 0 c).arrAt_eq_of_after_last 8 ⟨63, by decide⟩ (by decide +kernel) _ fun j => ?_
  rw [after0_8, Gen.outsAt0_B m c ⟨63, by decide⟩ (by decide)]
  frame_out
  simp only [read_unread_whole]
  blk_simp
  idx_vars j
  rw [View.readCov_eq_canon']
  refine Eq.trans ?_ (congrArg (G8' m c) (?_ : ix3 j0 j1 j2 = _))
  · refine Eq.trans (congrArg (View.canon _) (?_ : _ = ix3 j0 j1 j2)) ((kept_list m c ⟨63, by decide⟩ _ _ _ [] j0 j1 j2).trans ?_)
    · refine funext fun a => Fin.ext ?_
      fin_cases a
      · show 0 + 1 * j0.val = j0.val; omega
      · show 0 + 1 * j1.val = j1.val; omega
      · show 0 + 1 * j2.val = j2.val; omega
    · refine congrArg (fun p => lin _ _ _ _ p j1 _) (Fin.ext ?_)
      show 63 * 32 + (30 + j0.val) = 2046 + j0.val
      omega
  · blk_ext [idx0 ⟨63, by decide⟩]

end Blocks

/-- The reference runs, and its arguments end as they were. -/
theorem frame_ref : Cert.quiescent_FfnUpRefIdeal := fun m ρ _ =>
  (θ_run Cert.FfnUpRefIdeal.defs _ _).mono (fun r h => ⟨fun c => (h c).2.2, sem_eq_zero_of_no_sems (by decide) r.2⟩)
    (Cert.FfnUpRefIdeal.Value.run (F := Ideal) m ρ)

theorem algebraic : Cert.algebraic_FfnUpIdeal_FfnUpRefIdeal := by
  intro m ρ m' ρ' _ hagree
  refine ⟨fun c => G7' m c, fun c => G8' m c, (θ_run _ _ _).mono (fun _ h c => ?_) (Value.run_blocks m ρ),
    (θ_run _ _ _).mono (fun _ h c => ?_) (Cert.FfnUpRefIdeal.Value.run (F := Ideal) m' ρ')⟩
  · exact ⟨(h c).1.trans (arr7 m c), (h c).2.1.trans (arr8 m c), (h c).2.2⟩
  · obtain ⟨e0, e1, e2, e3, e4, e5, e6⟩ := hagree c
    refine ⟨(h c).1.trans ?_, (h c).2.1.trans ?_, (h c).2.2⟩
    · rw [val_main_v49_eq, e0, e1, e2, e3, e4, e5, e6]
      funext i
      idx_vars i
      exact ref_out _ _ _ _ _ _ _ i0 i1 i2
    · rw [val_main_v50_eq, e0, e1, e2, e3, e6]
      funext i
      idx_vars i
      exact ref_keep _ _ _ _ _ i0 i1 i2

end Cert.FfnUpIdeal.Gen

end
-- ==== Proof.DeepNorm.lean ====
/- The residual and layer norm that follow every mixing step, as a function of one row. -/
module

public import Idealize.ShloMosaic.Lib.Pointwise

@[expose] public section

noncomputable section

namespace Cert.Layer

open Idealize.ShloMosaic

/-- The mean of a row of 1024 values. -/
def mean (z : Fin 1024 → EReal) : EReal := Ideal.div (∑ k, z k) (Ideal.ofBits FTy.f32 1149239296#32)

/-- Layer norm of the row `z` at column `d`, with the scale `g` and the shift `b` of that column. -/
def layerNorm (z : Fin 1024 → EReal) (g b : EReal) (d : Fin 1024) : EReal :=
  (z d - mean z) * Ideal.rsqrt (mean (fun k => (z k - mean z) * (z k - mean z)) + Ideal.ofBits FTy.f32 925353388#32) * g + b

/-- The residual sum before the norm: `√2 x + (1 + gate) y`. -/
def mixed (x gate y : EReal) : EReal := Ideal.ofBits FTy.f32 1068827891#32 * x + (1 + gate) * y

end Cert.Layer

end
-- ==== Proof.FfnDownValue.lean ====
/- The down-projection with its residual and layer norm: what a block of the kernel holds, and the reference's result, are the
   same function of the arguments. -/
module

public import proofs.«01_k».proof.Proof.DeepNorm
public import proofs.«01_k».proof.Proof.Gen.FfnDownIdeal.Value
public import proofs.«01_k».proof.Proof.Gen.FfnDownRefIdeal.Read
public import Idealize.ShloMosaic.Lib.Pipeline.ValueKit
public import Idealize.ShloMosaic.Lib.StableHlo.ReadAt
public import Idealize.ShloMosaic.Lib.Claim
public import Idealize.ShloMosaic.Lib.Quiescent
public import proofs.«01_k».proof.Defs

@[expose] public section

set_option maxRecDepth 16384

noncomputable section

namespace Cert.FfnDownIdeal.Gen

open Idealize.ShloMosaic Idealize.ShloMosaic.TcCoe Idealize.ShloMosaic.Tactic
open Cert.Layer Cert.FfnDownRefIdeal.Read
open Idealize.SL.Sem

/-- The result at batch row `b`, position `t`, column `d`. -/
def downAt (a : Vec Ideal S2048x43008 .bf16) (w : Vec Ideal S2688x1024 .f32) (x : Vec Ideal S2048x16384 .f32) (gate : Vec Ideal S16x1x1024 .f32)
    (g h : Vec Ideal S1024 .f32) (b : Fin 16) (t : Fin 2048) (d : Fin 1024) : EReal :=
  layerNorm (fun d => mixed (x (ix2 t ⟨b.val * 1024 + d.val, by omega⟩)) (gate (ix3 b 0 d))
    (∑ k : Fin 2688, (a (ix2 t ⟨b.val * 2688 + k.val, by omega⟩) : EReal) * w (ix2 k d))) (g (ix1 d)) (h (ix1 d)) d

theorem pay_at (a : Vec Ideal S512x2688 .bf16) (w : Vec Ideal S2688x1024 .bf16) (x : Vec Ideal S512x1024 .f32) (gate : Vec Ideal S1x1x1024 .f32)
    (g h : Vec Ideal S1x1024 .f32) (r : Fin 512) (d : Fin 1024) :
    (k0_pay1 (k0_pay2 a w x gate g) h (ix3 0 r d) : EReal)
      = layerNorm (fun d => mixed (x (ix2 r d)) (gate (ix3 0 0 d)) (∑ k : Fin 2688, (a (ix2 r k) : EReal) * w (ix2 k d))) (g (ix2 0 d)) (h (ix2 0 d)) d := by
  pointwise [k0_pay1, k0_pay2]
  rfl

theorem ref_at (a : Vec Ideal S2048x43008 .bf16) (w : Vec Ideal S2688x1024 .f32) (x : Vec Ideal S2048x16384 .f32) (gate : Vec Ideal S16x1x1024 .f32)
    (g h : Vec Ideal S1024 .f32) (b : Fin 16) (t : Fin 2048) (d : Fin 1024) :
    (val_main_v36 (F := Ideal) a w x gate g h (ix3 b t d) : EReal) = downAt a w x gate g h b t d := by
  pointwise [val_main_v0, val_main_v1, val_main_v2, val_main_v3, val_main_v4, val_main_v5, val_main_cst, val_main_v6, val_main_v7,
    val_main_cst_0, val_main_v8, val_main_v9, val_main_v10, val_main_v11, val_main_v12, val_main_cst_1, val_main_v13, val_main_v14,
    val_main_cst_2, val_main_v15, val_main_v16, val_main_v17, val_main_v18, val_main_v19, val_main_cst_3, val_main_v20,
    val_main_v21, val_main_cst_4, val_main_v22, val_main_v23, val_main_v24, val_main_v25, val_main_cst_5, val_main_v26,
    val_main_v27, val_main_v28, val_main_v29, val_main_v30, val_main_v31, val_main_v32, val_main_v33, val_main_v34, val_main_v35,
    val_main_v36]
  rfl

theorem idx0 : ∀ t : Fin grid0.N, win0_0.index t = ![t.val % 4, t.val / 4] ∧ win0_1.index t = ![0, 0]
    ∧ win0_2.index t = ![t.val % 4, t.val / 4] ∧ win0_3.index t = ![t.val / 4, 0, 0] ∧ win0_4.index t = ![0, 0]
    ∧ win0_5.index t = ![0, 0] ∧ win0_6.index t = ![t.val / 4, t.val % 4, 0] := by decide +kernel

section

variable (m : (ℓ : Loc nD τ sig) → Buf (Elt Ideal) ℓ) (c : Dev nD)

/-- The result as one array. -/
def G : Vec Ideal S16x2048x1024 .f32 := fun i =>
  downAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (i 0) (i 1) (i 2)

theorem out_at (t : Fin grid0.N) (r : Fin 512) (d : Fin 1024) (hb : t.val / 4 < 16) (ht : t.val % 4 * 512 + r.val < 2048) :
    (k0_pay1 (k0_pay2 (iblk m c 0 t) (iblk m c 1 t) (iblk m c 2 t) (iblk m c 3 t) (iblk m c 4 t)) (iblk m c 5 t) (ix3 0 r d) : EReal)
      = G m c (ix3 ⟨t.val / 4, hb⟩ ⟨t.val % 4 * 512 + r.val, ht⟩ d) := by
  refine (pay_at _ _ _ _ _ _ r d).trans ?_
  simp only [G, downAt, layerNorm, mean, mixed]
  blk_point [iblk, V, idx0 t]

theorem arr : (dats m 0 c).arrAt 6 cfg0.N = G m c := by
  refine (dats m 0 c).arrAt_eq_of_covers 6 _ (by decide +kernel) fun t hf y => ?_
  rw [after0_6]
  frame_out
  blk_simp
  idx_vars y
  obtain rfl : y0 = 0 := Subsingleton.elim _ _
  have hN : t.val < 64 := t.isLt
  refine (out_at m c t y1 y2 (by omega) (by omega)).trans (congrArg (G m c) ?_)
  blk_ext [idx0 t]

end

/-- The reference runs, and its arguments end as they were. -/
theorem frame_ref : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem algebraic : Cert.algebraic_FfnDownIdeal_FfnDownRefIdeal := by
  intro m ρ m' ρ' _ hagree
  refine ⟨fun c => G m c, (θ_run _ _ _).mono (fun _ h c => ?_) (Value.run_blocks m ρ),
    (θ_run _ _ _).mono (fun _ h c => ?_) (Cert.FfnDownRefIdeal.Value.run (F := Ideal) m' ρ')⟩
  · exact ⟨(h c).1.trans (arr m c), (h c).2⟩
  · obtain ⟨e0, e1, e2, e3, e4, e5⟩ := hagree c
    refine ⟨(h c).1.trans ?_, (h c).2⟩
    rw [val_main_v36_eq, e0, e1, e2, e3, e4, e5]
    funext i
    idx_vars i
    exact ref_at _ _ _ _ _ _ i0 i1 i2

end Cert.FfnDownIdeal.Gen

end
-- ==== Proof.OutProjValue.lean ====
/- The output projection with its residual and layer norm: what a block of the kernel holds, and the reference's result, are the
   same function of the arguments. -/
module

public import proofs.«01_k».proof.Proof.DeepNorm
public import proofs.«01_k».proof.Proof.Gen.OutProjIdeal.Value
public import proofs.«01_k».proof.Proof.Gen.OutProjRefIdeal.Read
public import Idealize.ShloMosaic.Lib.Pipeline.ValueKit
public import Idealize.ShloMosaic.Lib.StableHlo.ReadAt
public import Idealize.ShloMosaic.Lib.Claim
public import Idealize.ShloMosaic.Lib.Quiescent
public import proofs.«01_k».proof.Defs

@[expose] public section

set_option maxRecDepth 16384

noncomputable section

namespace Cert.OutProjIdeal.Gen

open Idealize.ShloMosaic Idealize.ShloMosaic.TcCoe Idealize.ShloMosaic.Tactic
open Cert.Layer Cert.OutProjRefIdeal.Read
open Idealize.SL.Sem

/-- The result at batch row `b`, position `t`, column `d`: the attention's columns meet the first half of the weight's rows, the
    recurrence's columns the second half. -/
def outAt (o : Vec Ideal S16x2048x512 .f32) (y : Vec Ideal S2048x8192 .f32) (w : Vec Ideal S1024x1024 .f32) (x : Vec Ideal S16x2048x1024 .f32)
    (gate : Vec Ideal S16x1x1024 .f32) (g h : Vec Ideal S1024 .f32) (b : Fin 16) (t : Fin 2048) (d : Fin 1024) : EReal :=
  layerNorm (fun d => mixed (x (ix3 b t d)) (gate (ix3 b 0 d))
    ((∑ k : Fin 512, (o (ix3 b t k) : EReal) * w (ix2 ⟨k.val, by omega⟩ d))
      + ∑ k : Fin 512, (y (ix2 t ⟨b.val * 512 + k.val, by omega⟩) : EReal) * w (ix2 ⟨512 + k.val, by omega⟩ d))) (g (ix1 d)) (h (ix1 d)) d

theorem pay_at (o : Vec Ideal S1x512x512 .f32) (y : Vec Ideal S512x512 .f32) (w v : Vec Ideal S512x1024 .bf16) (x : Vec Ideal S1x512x1024 .f32)
    (gate : Vec Ideal S1x1x1024 .f32) (g h : Vec Ideal S1x1024 .f32) (r : Fin 512) (d : Fin 1024) :
    (k0_pay1 (k0_pay2 o w y v x gate) (k0_pay4 o w y v x gate) (k0_pay5 o w y v x gate) g h (ix2 r d) : EReal)
      = layerNorm (fun d => mixed (x (ix3 0 r d)) (gate (ix3 0 0 d))
          ((∑ k : Fin 512, (o (ix3 0 r k) : EReal) * w (ix2 k d)) + ∑ k : Fin 512, (y (ix2 r k) : EReal) * v (ix2 k d))) (g (ix2 0 d)) (h (ix2 0 d)) d := by
  pointwise [k0_pay1, k0_pay2, k0_pay3, k0_pay4, k0_pay5]
  rfl

theorem ref_at (o : Vec Ideal S16x2048x512 .f32) (y : Vec Ideal S2048x8192 .f32) (w : Vec Ideal S1024x1024 .f32) (x : Vec Ideal S16x2048x1024 .f32)
    (gate : Vec Ideal S16x1x1024 .f32) (g h : Vec Ideal S1024 .f32) (t : Fin 2048) (i : Fin 16384) :
    (val_main_v36 (F := Ideal) o y w x gate g h (ix2 t i) : EReal)
      = outAt o y w x gate g h ⟨i.val / 1024, Nat.div_lt_of_lt_mul i.isLt⟩ t ⟨i.val % 1024, Nat.mod_lt _ (by decide)⟩ := by
  pointwise [val_main_v0, val_main_v1, val_main_v2, val_main_v3, val_main_cst, val_main_v4, val_main_v5, val_main_cst_0,
    val_main_v6, val_main_v7, val_main_v8, val_main_v9, val_main_v10, val_main_cst_1, val_main_v11, val_main_v12, val_main_cst_2,
    val_main_v13, val_main_v14, val_main_v15, val_main_v16, val_main_v17, val_main_cst_3, val_main_v18, val_main_v19,
    val_main_cst_4, val_main_v20, val_main_v21, val_main_v22, val_main_v23, val_main_cst_5, val_main_v24, val_main_v25,
    val_main_v26, val_main_v27, val_main_v28, val_main_v29, val_main_v30, val_main_v31, val_main_v32, val_main_v33, val_main_v34,
    val_main_v35, val_main_v36]
  rfl

theorem idx0 : ∀ t : Fin grid0.N, win0_0.index t = ![t.val / 4, t.val % 4, 0] ∧ win0_1.index t = ![t.val % 4, t.val / 4]
    ∧ win0_2.index t = ![0, 0] ∧ win0_3.index t = ![0, 0] ∧ win0_4.index t = ![t.val / 4, t.val % 4, 0]
    ∧ win0_5.index t = ![t.val / 4, 0, 0] ∧ win0_6.index t = ![0, 0] ∧ win0_7.index t = ![0, 0] ∧ win0_8.index t = ![t.val % 4, t.val / 4] := by
  decide +kernel

section

variable (m : (ℓ : Loc nD τ sig) → Buf (Elt Ideal) ℓ) (c : Dev nD)

/-- The result as one array. -/
def G : Vec Ideal S2048x16384 .f32 := fun i =>
  outAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) ⟨(i 1).val / 1024, Nat.div_lt_of_lt_mul (i 1).isLt⟩ (i 0) ⟨(i 1).val % 1024, Nat.mod_lt _ (by decide)⟩

theorem out_at (t : Fin grid0.N) (r : Fin 512) (d : Fin 1024) (hb : t.val / 4 * 1024 + d.val < 16384) (ht : t.val % 4 * 512 + r.val < 2048) :
    (k0_pay1 (k0_pay2 (iblk m c 0 t) (iblk m c 2 t) (iblk m c 1 t) (iblk m c 3 t) (iblk m c 4 t) (iblk m c 5 t))
        (k0_pay4 (iblk m c 0 t) (iblk m c 2 t) (iblk m c 1 t) (iblk m c 3 t) (iblk m c 4 t) (iblk m c 5 t))
        (k0_pay5 (iblk m c 0 t) (iblk m c 2 t) (iblk m c 1 t) (iblk m c 3 t) (iblk m c 4 t) (iblk m c 5 t)) (iblk m c 6 t) (iblk m c 7 t) (ix2 r d) : EReal)
      = G m c (ix2 ⟨t.val % 4 * 512 + r.val, ht⟩ ⟨t.val / 4 * 1024 + d.val, hb⟩) := by
  refine (pay_at _ _ _ _ _ _ _ _ r d).trans ?_
  simp only [G, outAt, layerNorm, mean, mixed]
  blk_point [iblk, V, idx0 t]

theorem arr : (dats m 0 c).arrAt 8 cfg0.N = G m c := by
  refine (dats m 0 c).arrAt_eq_of_covers 8 _ (by decide +kernel) fun t hf y => ?_
  rw [after0_8]
  frame_out
  blk_simp
  idx_vars y
  have hN : t.val < 64 := t.isLt
  refine (out_at m c t y0 y1 (by omega) (by omega)).trans (congrArg (G m c) ?_)
  blk_ext [idx0 t]

end

/-- The reference runs, and its arguments end as they were. -/
theorem frame_ref : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem algebraic : Cert.algebraic_OutProjIdeal_OutProjRefIdeal := by
  intro m ρ m' ρ' _ hagree
  refine ⟨fun c => G m c, (θ_run _ _ _).mono (fun _ h c => ?_) (Value.run_blocks m ρ),
    (θ_run _ _ _).mono (fun _ h c => ?_) (Cert.OutProjRefIdeal.Value.run (F := Ideal) m' ρ')⟩
  · exact ⟨(h c).1.trans (arr m c), (h c).2⟩
  · obtain ⟨e0, e1, e2, e3, e4, e5, e6⟩ := hagree c
    refine ⟨(h c).1.trans ?_, (h c).2⟩
    rw [val_main_v36_eq, e0, e1, e2, e3, e4, e5, e6]
    funext i
    idx_vars i
    exact ref_at _ _ _ _ _ _ _ i0 i1

end Cert.OutProjIdeal.Gen

end
-- ==== Proof.ProjAbValue.lean ====
/- The modulated input projection (the query, key-value, gate and recurrence columns): what a block of the kernel holds, and the reference's results, are the same
   functions of the arguments. -/
module

public import proofs.«01_k».proof.Proof.Gen.ProjAbIdeal.Value
public import proofs.«01_k».proof.Proof.Gen.ProjAbRefIdeal.Read
public import Idealize.ShloMosaic.Lib.Pointwise
public import Idealize.ShloMosaic.Lib.Pipeline.ValueKit
public import Idealize.ShloMosaic.Lib.StableHlo.ReadAt
public import Idealize.ShloMosaic.Lib.Claim
public import Idealize.ShloMosaic.Lib.Quiescent
public import proofs.«01_k».proof.Defs

@[expose] public section

set_option maxRecDepth 16384

noncomputable section

namespace Cert.ProjAbIdeal.Gen

open Idealize.ShloMosaic Idealize.ShloMosaic.TcCoe Idealize.ShloMosaic.Tactic
open Cert.ProjAbRefIdeal.Read
open Idealize.SL.Sem

/-- The projected value at batch row `b`, position `t`, column `j`: the row `x (1 + scale) + shift` against the weight's column. -/
def projAt (x : Vec Ideal S16x2048x1024 .f32) (sc sh : Vec Ideal S16x1x1024 .f32) (w : Vec Ideal S1x1024x2328 .f32) (b : Fin 16) (t : Fin 2048)
    (j : Fin 2328) : EReal :=
  ∑ k : Fin 1024, ((x (ix3 b t k) : EReal) * (1 + sc (ix3 b 0 k)) + sh (ix3 b 0 k)) * w (ix3 0 k j)

/-- Result 0: the columns from 0 on, by batch row. -/
def res0 (x : Vec Ideal S16x2048x1024 .f32) (sc sh : Vec Ideal S16x1x1024 .f32) (w : Vec Ideal S1x1024x2328 .f32) : Vec Ideal S16x2048x512 .f32 := fun i =>
  projAt x sc sh w (i 0) (i 1) ⟨(i 2).val, by have h : (i 2).val < 512 := (i 2).isLt; omega⟩

/-- Result 1: the columns from 512 on, page by page, transposed. -/
def res1 (x : Vec Ideal S16x2048x1024 .f32) (sc sh : Vec Ideal S16x1x1024 .f32) (w : Vec Ideal S1x1024x2328 .f32) : Vec Ideal S16x16x256x128 .f32 := fun i =>
  projAt x sc sh w (i 0) ⟨(i 1).val * 128 + (i 3).val, by have h : (i 1).val < 16 := (i 1).isLt; have h' : (i 3).val < 128 := (i 3).isLt; omega⟩
    ⟨512 + (i 2).val, by have h : (i 2).val < 256 := (i 2).isLt; omega⟩

/-- Result 2: the columns from 768 on, by batch row. -/
def res2 (x : Vec Ideal S16x2048x1024 .f32) (sc sh : Vec Ideal S16x1x1024 .f32) (w : Vec Ideal S1x1024x2328 .f32) : Vec Ideal S16x2048x256 .f32 := fun i =>
  projAt x sc sh w (i 0) (i 1) ⟨768 + (i 2).val, by have h : (i 2).val < 256 := (i 2).isLt; omega⟩

/-- Result 3: the columns from 768 on, page by page, transposed. -/
def res3 (x : Vec Ideal S16x2048x1024 .f32) (sc sh : Vec Ideal S16x1x1024 .f32) (w : Vec Ideal S1x1024x2328 .f32) : Vec Ideal S16x16x256x128 .f32 := fun i =>
  projAt x sc sh w (i 0) ⟨(i 1).val * 128 + (i 3).val, by have h : (i 1).val < 16 := (i 1).isLt; have h' : (i 3).val < 128 := (i 3).isLt; omega⟩
    ⟨768 + (i 2).val, by have h : (i 2).val < 256 := (i 2).isLt; omega⟩

/-- Result 4: the columns from 1024 on, by batch row. -/
def res4 (x : Vec Ideal S16x2048x1024 .f32) (sc sh : Vec Ideal S16x1x1024 .f32) (w : Vec Ideal S1x1024x2328 .f32) : Vec Ideal S16x2048x256 .f32 := fun i =>
  projAt x sc sh w (i 0) (i 1) ⟨1024 + (i 2).val, by have h : (i 2).val < 256 := (i 2).isLt; omega⟩

/-- Result 5: the columns from 1024 on, page by page, transposed. -/
def res5 (x : Vec Ideal S16x2048x1024 .f32) (sc sh : Vec Ideal S16x1x1024 .f32) (w : Vec Ideal S1x1024x2328 .f32) : Vec Ideal S16x16x256x128 .f32 := fun i =>
  projAt x sc sh w (i 0) ⟨(i 1).val * 128 + (i 3).val, by have h : (i 1).val < 16 := (i 1).isLt; have h' : (i 3).val < 128 := (i 3).isLt; omega⟩
    ⟨1024 + (i 2).val, by have h : (i 2).val < 256 := (i 2).isLt; omega⟩

/-- Result 6: the columns from 1280 on, padded with zeros to 128 columns. -/
def res6 (x : Vec Ideal S16x2048x1024 .f32) (sc sh : Vec Ideal S16x1x1024 .f32) (w : Vec Ideal S1x1024x2328 .f32) : Vec Ideal S16x2048x128 .f32 := fun i =>
  if h : (i 2).val < 24 then projAt x sc sh w (i 0) (i 1) ⟨1280 + (i 2).val, by omega⟩ else 0

/-- Result 7: the columns from 1304 on, time-major. -/
def res7 (x : Vec Ideal S16x2048x1024 .f32) (sc sh : Vec Ideal S16x1x1024 .f32) (w : Vec Ideal S1x1024x2328 .f32) : Vec Ideal S2048x8192 .f32 := fun i =>
  projAt x sc sh w ⟨(i 1).val / 512, Nat.div_lt_of_lt_mul (i 1).isLt⟩ (i 0)
    ⟨1304 + (i 1).val % 512, by have h := Nat.mod_lt (i 1).val (show 0 < 512 by decide); omega⟩

/-- Result 8: the columns from 1816 on, time-major. -/
def res8 (x : Vec Ideal S16x2048x1024 .f32) (sc sh : Vec Ideal S16x1x1024 .f32) (w : Vec Ideal S1x1024x2328 .f32) : Vec Ideal S2048x8192 .f32 := fun i =>
  projAt x sc sh w ⟨(i 1).val / 512, Nat.div_lt_of_lt_mul (i 1).isLt⟩ (i 0)
    ⟨1816 + (i 1).val % 512, by have h := Nat.mod_lt (i 1).val (show 0 < 512 by decide); omega⟩

theorem idx0 : ∀ t : Fin grid0.N, win0_0.index t = ![t.val / 4, t.val % 4, 0] ∧ win0_1.index t = ![t.val / 4, 0, 0]
    ∧ win0_2.index t = ![t.val / 4, 0, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![t.val / 4, t.val % 4, 0]
    ∧ win0_11.index t = ![t.val / 4, t.val % 4, 0, 0] ∧ win0_12.index t = ![t.val / 4, t.val % 4, 0]
    ∧ win0_13.index t = ![t.val / 4, t.val % 4, 0, 0] ∧ win0_14.index t = ![t.val / 4, t.val % 4, 0]
    ∧ win0_15.index t = ![t.val / 4, t.val % 4, 0, 0] ∧ win0_16.index t = ![t.val / 4, t.val % 4, 0]
    ∧ win0_17.index t = ![t.val % 4, t.val / 4] ∧ win0_18.index t = ![t.val % 4, t.val / 4] := by
  decide +kernel

theorem zero_f32 : (FloatOps.sitofp (F := Ideal) FTy.f32 0#32 : EReal) = 0 := by
  show (((0#32 : BitVec 32).toInt : ℝ) : EReal) = 0
  norm_num

theorem zero_bf16 : (FloatOps.sitofp (F := Ideal) FTy.bf16 0#32 : EReal) = 0 := zero_f32

theorem pay0 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 512) (j : Fin 512) :
    (k0_pay6 x0 x1 x2 x3 (ix3 0 r j) : EReal)
      = ∑ k : Fin 1024, ((x0 (ix3 0 r k) : EReal) * (1 + x1 (ix3 0 0 k)) + x2 (ix3 0 0 k)) * x3 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay1_3 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay12 (k0_pay26 x0 x1 x2 x3 x4 x5 x6 x7 x8 x9) (ix4 0 0 j r) : EReal)
      = ∑ k : Fin 1024, ((x0 (ix3 0 ⟨384 + r.val, by omega⟩ k) : EReal) * (1 + x1 (ix3 0 0 k)) + x2 (ix3 0 0 k)) * x4 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay1_2 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay11 (k0_pay26 x0 x1 x2 x3 x4 x5 x6 x7 x8 x9) (ix4 0 0 j r) : EReal)
      = ∑ k : Fin 1024, ((x0 (ix3 0 ⟨256 + r.val, by omega⟩ k) : EReal) * (1 + x1 (ix3 0 0 k)) + x2 (ix3 0 0 k)) * x4 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay1_1 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay10 (k0_pay9 x0 x1 x2 x4) (ix4 0 0 j r) : EReal)
      = ∑ k : Fin 1024, ((x0 (ix3 0 ⟨128 + r.val, by omega⟩ k) : EReal) * (1 + x1 (ix3 0 0 k)) + x2 (ix3 0 0 k)) * x4 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay1_0 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay8 x0 x1 x2 x4 (ix4 0 0 j r) : EReal)
      = ∑ k : Fin 1024, ((x0 (ix3 0 ⟨0 + r.val, by omega⟩ k) : EReal) * (1 + x1 (ix3 0 0 k)) + x2 (ix3 0 0 k)) * x4 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay2 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 512) (j : Fin 256) :
    (k0_pay14 (k0_pay25 x0 x1 x2 x3 x4 x5 x6 x7 x8 x9) x5 (ix3 0 r j) : EReal)
      = ∑ k : Fin 1024, ((x0 (ix3 0 r k) : EReal) * (1 + x1 (ix3 0 0 k)) + x2 (ix3 0 0 k)) * x5 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay3_3 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay19 (k0_pay13 (k0_pay25 x0 x1 x2 x3 x4 x5 x6 x7 x8 x9) x5) (ix4 0 0 j r) : EReal)
      = ∑ k : Fin 1024, ((x0 (ix3 0 ⟨384 + r.val, by omega⟩ k) : EReal) * (1 + x1 (ix3 0 0 k)) + x2 (ix3 0 0 k)) * x5 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay3_2 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay18 (k0_pay17 (k0_pay25 x0 x1 x2 x3 x4 x5 x6 x7 x8 x9) x5) (ix4 0 0 j r) : EReal)
      = ∑ k : Fin 1024, ((x0 (ix3 0 ⟨256 + r.val, by omega⟩ k) : EReal) * (1 + x1 (ix3 0 0 k)) + x2 (ix3 0 0 k)) * x5 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay3_1 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay16 (k0_pay25 x0 x1 x2 x3 x4 x5 x6 x7 x8 x9) x5 (ix4 0 0 j r) : EReal)
      = ∑ k : Fin 1024, ((x0 (ix3 0 ⟨128 + r.val, by omega⟩ k) : EReal) * (1 + x1 (ix3 0 0 k)) + x2 (ix3 0 0 k)) * x5 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay3_0 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay15 (k0_pay25 x0 x1 x2 x3 x4 x5 x6 x7 x8 x9) x5 (ix4 0 0 j r) : EReal)
      = ∑ k : Fin 1024, ((x0 (ix3 0 ⟨0 + r.val, by omega⟩ k) : EReal) * (1 + x1 (ix3 0 0 k)) + x2 (ix3 0 0 k)) * x5 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay4 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 512) (j : Fin 256) :
    (k0_pay21 (k0_pay25 x0 x1 x2 x3 x4 x5 x6 x7 x8 x9) x6 (ix3 0 r j) : EReal)
      = ∑ k : Fin 1024, ((x0 (ix3 0 r k) : EReal) * (1 + x1 (ix3 0 0 k)) + x2 (ix3 0 0 k)) * x6 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay5_3 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay1 (k0_pay20 (k0_pay25 x0 x1 x2 x3 x4 x5 x6 x7 x8 x9) x6) (ix4 0 0 j r) : EReal)
      = ∑ k : Fin 1024, ((x0 (ix3 0 ⟨384 + r.val, by omega⟩ k) : EReal) * (1 + x1 (ix3 0 0 k)) + x2 (ix3 0 0 k)) * x6 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay5_2 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay24 (k0_pay25 x0 x1 x2 x3 x4 x5 x6 x7 x8 x9) x6 (ix4 0 0 j r) : EReal)
      = ∑ k : Fin 1024, ((x0 (ix3 0 ⟨256 + r.val, by omega⟩ k) : EReal) * (1 + x1 (ix3 0 0 k)) + x2 (ix3 0 0 k)) * x6 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay5_1 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay23 (k0_pay25 x0 x1 x2 x3 x4 x5 x6 x7 x8 x9) x6 (ix4 0 0 j r) : EReal)
      = ∑ k : Fin 1024, ((x0 (ix3 0 ⟨128 + r.val, by omega⟩ k) : EReal) * (1 + x1 (ix3 0 0 k)) + x2 (ix3 0 0 k)) * x6 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay5_0 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (j : Fin 256) (r : Fin 128) :
    (k0_pay22 (k0_pay25 x0 x1 x2 x3 x4 x5 x6 x7 x8 x9) x6 (ix4 0 0 j r) : EReal)
      = ∑ k : Fin 1024, ((x0 (ix3 0 ⟨0 + r.val, by omega⟩ k) : EReal) * (1 + x1 (ix3 0 0 k)) + x2 (ix3 0 0 k)) * x6 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay6 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 512) (j : Fin 128) :
    (k0_pay2 (k0_pay25 x0 x1 x2 x3 x4 x5 x6 x7 x8 x9) x7 (ix3 0 r j) : EReal)
      = ∑ k : Fin 1024, ((x0 (ix3 0 r k) : EReal) * (1 + x1 (ix3 0 0 k)) + x2 (ix3 0 0 k)) * x7 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay7 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 512) (j : Fin 512) :
    (k0_pay3 (k0_pay25 x0 x1 x2 x3 x4 x5 x6 x7 x8 x9) x8 (ix2 r j) : EReal)
      = ∑ k : Fin 1024, ((x0 (ix3 0 r k) : EReal) * (1 + x1 (ix3 0 0 k)) + x2 (ix3 0 0 k)) * x8 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

theorem pay8 (x0 : Vec Ideal S1x512x1024 .f32) (x1 : Vec Ideal S1x1x1024 .f32) (x2 : Vec Ideal S1x1x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 512) (j : Fin 512) :
    (k0_pay4 (k0_pay25 x0 x1 x2 x3 x4 x5 x6 x7 x8 x9) x9 (ix2 r j) : EReal)
      = ∑ k : Fin 1024, ((x0 (ix3 0 r k) : EReal) * (1 + x1 (ix3 0 0 k)) + x2 (ix3 0 0 k)) * x9 (ix2 k j) := by
  pointwise [k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26]

section

variable (m : (ℓ : Loc nD τ sig) → Buf (Elt Ideal) ℓ) (c : Dev nD)

/-- Result 0 of the program's arguments. -/
def G0 : Vec Ideal S16x2048x512 .f32 := res0 (m ((c.tc : Thread nD τ).loc main_arg0)) (m ((c.tc : Thread nD τ).loc main_arg1)) (m ((c.tc : Thread nD τ).loc main_arg2)) (m ((c.tc : Thread nD τ).loc main_arg3))

/-- Result 1 of the program's arguments. -/
def G1 : Vec Ideal S16x16x256x128 .f32 := res1 (m ((c.tc : Thread nD τ).loc main_arg0)) (m ((c.tc : Thread nD τ).loc main_arg1)) (m ((c.tc : Thread nD τ).loc main_arg2)) (m ((c.tc : Thread nD τ).loc main_arg3))

/-- Result 2 of the program's arguments. -/
def G2 : Vec Ideal S16x2048x256 .f32 := res2 (m ((c.tc : Thread nD τ).loc main_arg0)) (m ((c.tc : Thread nD τ).loc main_arg1)) (m ((c.tc : Thread nD τ).loc main_arg2)) (m ((c.tc : Thread nD τ).loc main_arg3))

/-- Result 3 of the program's arguments. -/
def G3 : Vec Ideal S16x16x256x128 .f32 := res3 (m ((c.tc : Thread nD τ).loc main_arg0)) (m ((c.tc : Thread nD τ).loc main_arg1)) (m ((c.tc : Thread nD τ).loc main_arg2)) (m ((c.tc : Thread nD τ).loc main_arg3))

/-- Result 4 of the program's arguments. -/
def G4 : Vec Ideal S16x2048x256 .f32 := res4 (m ((c.tc : Thread nD τ).loc main_arg0)) (m ((c.tc : Thread nD τ).loc main_arg1)) (m ((c.tc : Thread nD τ).loc main_arg2)) (m ((c.tc : Thread nD τ).loc main_arg3))

/-- Result 5 of the program's arguments. -/
def G5 : Vec Ideal S16x16x256x128 .f32 := res5 (m ((c.tc : Thread nD τ).loc main_arg0)) (m ((c.tc : Thread nD τ).loc main_arg1)) (m ((c.tc : Thread nD τ).loc main_arg2)) (m ((c.tc : Thread nD τ).loc main_arg3))

/-- Result 6 of the program's arguments. -/
def G6 : Vec Ideal S16x2048x128 .f32 := res6 (m ((c.tc : Thread nD τ).loc main_arg0)) (m ((c.tc : Thread nD τ).loc main_arg1)) (m ((c.tc : Thread nD τ).loc main_arg2)) (m ((c.tc : Thread nD τ).loc main_arg3))

/-- Result 7 of the program's arguments. -/
def G7 : Vec Ideal S2048x8192 .f32 := res7 (m ((c.tc : Thread nD τ).loc main_arg0)) (m ((c.tc : Thread nD τ).loc main_arg1)) (m ((c.tc : Thread nD τ).loc main_arg2)) (m ((c.tc : Thread nD τ).loc main_arg3))

/-- Result 8 of the program's arguments. -/
def G8 : Vec Ideal S2048x8192 .f32 := res8 (m ((c.tc : Thread nD τ).loc main_arg0)) (m ((c.tc : Thread nD τ).loc main_arg1)) (m ((c.tc : Thread nD τ).loc main_arg2)) (m ((c.tc : Thread nD τ).loc main_arg3))

theorem blk_sum (t : Fin grid0.N) (r : Fin 512) (b : Fin 16) (p : Fin 2048) (col : Fin 2328) (B : Fin 1024 → EReal)
    (X : Vec Ideal S1x512x1024 .f32) (S H : Vec Ideal S1x1x1024 .f32) (hX : X = iblk m c 0 t) (hS : S = iblk m c 1 t) (hH : H = iblk m c 2 t)
    (hb : b.val = t.val / 4) (hp : p.val = t.val % 4 * 512 + r.val)
    (hB : ∀ k, B k = (m ((c.tc : Thread nD τ).loc main_arg3) (ix3 0 k col) : EReal)) :
    ∑ k : Fin 1024, ((X (ix3 0 r k) : EReal) * (1 + S (ix3 0 0 k)) + H (ix3 0 0 k)) * B k
      = projAt (m ((c.tc : Thread nD τ).loc main_arg0)) (m ((c.tc : Thread nD τ).loc main_arg1)) (m ((c.tc : Thread nD τ).loc main_arg2))
          (m ((c.tc : Thread nD τ).loc main_arg3)) b p col := by
  have hN : t.val < 64 := t.isLt
  have lb : t.val / 4 < 16 := by clear hb hp; omega
  have lp : t.val % 4 * 512 + r.val < 2048 := by clear hb hp; omega
  obtain rfl : b = ⟨t.val / 4, lb⟩ := Fin.ext hb
  obtain rfl : p = ⟨t.val % 4 * 512 + r.val, lp⟩ := Fin.ext hp
  refine Finset.sum_congr rfl fun k _ => ?_
  have eX : (X (ix3 0 r k) : EReal) = m ((c.tc : Thread nD τ).loc main_arg0) (ix3 ⟨t.val / 4, lb⟩ ⟨t.val % 4 * 512 + r.val, lp⟩ k) := by
    subst hX
    rw [← V_main_arg0 m c]
    blk_ext [iblk, idx0 t]
  have eS : (S (ix3 0 0 k) : EReal) = m ((c.tc : Thread nD τ).loc main_arg1) (ix3 ⟨t.val / 4, lb⟩ 0 k) := by
    subst hS
    rw [← V_main_arg1 m c]
    blk_ext [iblk, idx0 t]
  have eH : (H (ix3 0 0 k) : EReal) = m ((c.tc : Thread nD τ).loc main_arg2) (ix3 ⟨t.val / 4, lb⟩ 0 k) := by
    subst hH
    rw [← V_main_arg2 m c]
    blk_ext [iblk, idx0 t]
  rw [hB k, eX, eS, eH]

theorem blk_w0 (t : Fin grid0.N) (j : Fin 512) (col : Fin 2328) (h : col.val = j.val) (k : Fin 1024) :
    (iblk m c 3 t (ix2 k j) : EReal) = m ((c.tc : Thread nD τ).loc main_arg3) (ix3 0 k col) := by
  have lc : j.val < 2328 := by clear h; omega
  obtain rfl : col = ⟨j.val, lc⟩ := Fin.ext h
  have e : (V m c main_v4 (ix2 k j) : EReal) = m ((c.tc : Thread nD τ).loc main_arg3) (ix3 0 k ⟨j.val, by omega⟩) := by
    unfold V; after_reads_at
  rw [← e]
  blk_ext [iblk, idx0 t]

theorem blk_w1 (t : Fin grid0.N) (j : Fin 256) (col : Fin 2328) (h : col.val = 512 + j.val) (k : Fin 1024) :
    (iblk m c 4 t (ix2 k j) : EReal) = m ((c.tc : Thread nD τ).loc main_arg3) (ix3 0 k col) := by
  have lc : 512 + j.val < 2328 := by clear h; omega
  obtain rfl : col = ⟨512 + j.val, lc⟩ := Fin.ext h
  have e : (V m c main_v5 (ix2 k j) : EReal) = m ((c.tc : Thread nD τ).loc main_arg3) (ix3 0 k ⟨512 + j.val, by omega⟩) := by
    unfold V; after_reads_at
  rw [← e]
  blk_ext [iblk, idx0 t]

theorem blk_w2 (t : Fin grid0.N) (j : Fin 256) (col : Fin 2328) (h : col.val = 768 + j.val) (k : Fin 1024) :
    (iblk m c 5 t (ix2 k j) : EReal) = m ((c.tc : Thread nD τ).loc main_arg3) (ix3 0 k col) := by
  have lc : 768 + j.val < 2328 := by clear h; omega
  obtain rfl : col = ⟨768 + j.val, lc⟩ := Fin.ext h
  have e : (V m c main_v6 (ix2 k j) : EReal) = m ((c.tc : Thread nD τ).loc main_arg3) (ix3 0 k ⟨768 + j.val, by omega⟩) := by
    unfold V; after_reads_at
  rw [← e]
  blk_ext [iblk, idx0 t]

theorem blk_w3 (t : Fin grid0.N) (j : Fin 256) (col : Fin 2328) (h : col.val = 1024 + j.val) (k : Fin 1024) :
    (iblk m c 6 t (ix2 k j) : EReal) = m ((c.tc : Thread nD τ).loc main_arg3) (ix3 0 k col) := by
  have lc : 1024 + j.val < 2328 := by clear h; omega
  obtain rfl : col = ⟨1024 + j.val, lc⟩ := Fin.ext h
  have e : (V m c main_v7 (ix2 k j) : EReal) = m ((c.tc : Thread nD τ).loc main_arg3) (ix3 0 k ⟨1024 + j.val, by omega⟩) := by
    unfold V; after_reads_at
  rw [← e]
  blk_ext [iblk, idx0 t]

/-- The gate columns of the padded weight. -/
theorem blk_w4 (t : Fin grid0.N) (j : Fin 128) (col : Fin 2328) (h : col.val = 1280 + j.val) (hj : j.val < 24) (k : Fin 1024) :
    (iblk m c 7 t (ix2 k j) : EReal) = m ((c.tc : Thread nD τ).loc main_arg3) (ix3 0 k col) := by
  have lc : 1280 + j.val < 2328 := by clear h; omega
  obtain rfl : col = ⟨1280 + j.val, lc⟩ := Fin.ext h
  have e : (V m c main_v3 (ix2 k j) : EReal) = m ((c.tc : Thread nD τ).loc main_arg3) (ix3 0 k ⟨1280 + j.val, by omega⟩) := by
    unfold V; after_reads_at
    simp [hj]
  rw [← e]
  blk_ext [iblk, idx0 t]

/-- The padding columns of the padded weight are zero. -/
theorem blk_pad (t : Fin grid0.N) (j : Fin 128) (hj : ¬ j.val < 24) (k : Fin 1024) : (iblk m c 7 t (ix2 k j) : EReal) = (0 : EReal) := by
  have e : (V m c main_v3 (ix2 k j) : EReal) = (0 : EReal) := by
    unfold V; after_reads_at
    simp only [hj, dite_false]
    exact zero_bf16
  rw [← e]
  blk_ext [iblk, idx0 t]

theorem blk_w5 (t : Fin grid0.N) (j : Fin 512) (col : Fin 2328) (h : col.val = 1304 + j.val) (k : Fin 1024) :
    (iblk m c 8 t (ix2 k j) : EReal) = m ((c.tc : Thread nD τ).loc main_arg3) (ix3 0 k col) := by
  have lc : 1304 + j.val < 2328 := by clear h; omega
  obtain rfl : col = ⟨1304 + j.val, lc⟩ := Fin.ext h
  have e : (V m c main_v8 (ix2 k j) : EReal) = m ((c.tc : Thread nD τ).loc main_arg3) (ix3 0 k ⟨1304 + j.val, by omega⟩) := by
    unfold V; after_reads_at
  rw [← e]
  blk_ext [iblk, idx0 t]

theorem blk_w6 (t : Fin grid0.N) (j : Fin 512) (col : Fin 2328) (h : col.val = 1816 + j.val) (k : Fin 1024) :
    (iblk m c 9 t (ix2 k j) : EReal) = m ((c.tc : Thread nD τ).loc main_arg3) (ix3 0 k col) := by
  have lc : 1816 + j.val < 2328 := by clear h; omega
  obtain rfl : col = ⟨1816 + j.val, lc⟩ := Fin.ext h
  have e : (V m c main_v9 (ix2 k j) : EReal) = m ((c.tc : Thread nD τ).loc main_arg3) (ix3 0 k ⟨1816 + j.val, by omega⟩) := by
    unfold V; after_reads_at
  rw [← e]
  blk_ext [iblk, idx0 t]

theorem arr0 : (dats m 0 c).arrAt 10 cfg0.N = G0 m c := by
  refine (dats m 0 c).arrAt_eq_of_covers 10 _ (by decide +kernel) fun t hf y => ?_
  rw [after0_10]
  frame_out
  blk_simp
  idx_vars y
  have hN : t.val < 64 := t.isLt
  obtain rfl : y0 = 0 := Subsingleton.elim _ _
  refine Eq.trans ?_ (congrArg (G0 m c) (?_ : ix3 ⟨t.val / 4, by omega⟩ ⟨t.val % 4 * 512 + y1.val, by omega⟩ y2 = _))
  · exact (pay0 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ _ _ rfl rfl rfl rfl rfl fun k => blk_w0 m c t y2 _ rfl k)
  · blk_ext [idx0 t]

theorem arr1 : (dats m 0 c).arrAt 11 cfg0.N = G1 m c := by
  refine (dats m 0 c).arrAt_eq_of_covers 11 _ (by decide +kernel) fun t hf y => ?_
  rw [after0_11]
  frame_out
  blk_simp
  idx_vars y
  have hN : t.val < 64 := t.isLt
  refine View.canon_apply_of_pieces (fun y => G1 m c (((cfg0.win 11).blk t).view.emb y)) _ ?_ (ix4 y0 y1 y2 y3) (cover0_11 _ _ _ _ _)
  intro pc hpc
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G1 m c) (?_ : ix4 ⟨t.val / 4, by omega⟩ ⟨t.val % 4 * 4 + 3, by omega⟩ x2 x3 = _))
    · exact (pay1_3 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 3) * 128 + x3.val = t.val % 4 * 512 + (384 + x3.val); omega)
        fun k => blk_w1 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G1 m c) (?_ : ix4 ⟨t.val / 4, by omega⟩ ⟨t.val % 4 * 4 + 2, by omega⟩ x2 x3 = _))
    · exact (pay1_2 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 2) * 128 + x3.val = t.val % 4 * 512 + (256 + x3.val); omega)
        fun k => blk_w1 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G1 m c) (?_ : ix4 ⟨t.val / 4, by omega⟩ ⟨t.val % 4 * 4 + 1, by omega⟩ x2 x3 = _))
    · exact (pay1_1 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 1) * 128 + x3.val = t.val % 4 * 512 + (128 + x3.val); omega)
        fun k => blk_w1 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G1 m c) (?_ : ix4 ⟨t.val / 4, by omega⟩ ⟨t.val % 4 * 4 + 0, by omega⟩ x2 x3 = _))
    · exact (pay1_0 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 0) * 128 + x3.val = t.val % 4 * 512 + (0 + x3.val); omega)
        fun k => blk_w1 m c t x2 _ rfl k)
    · clear hpc
      blk_ext [idx0 t]
  nomatch hpc

theorem arr2 : (dats m 0 c).arrAt 12 cfg0.N = G2 m c := by
  refine (dats m 0 c).arrAt_eq_of_covers 12 _ (by decide +kernel) fun t hf y => ?_
  rw [after0_12]
  frame_out
  blk_simp
  idx_vars y
  have hN : t.val < 64 := t.isLt
  obtain rfl : y0 = 0 := Subsingleton.elim _ _
  refine Eq.trans ?_ (congrArg (G2 m c) (?_ : ix3 ⟨t.val / 4, by omega⟩ ⟨t.val % 4 * 512 + y1.val, by omega⟩ y2 = _))
  · exact (pay2 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ _ _ rfl rfl rfl rfl rfl fun k => blk_w2 m c t y2 _ rfl k)
  · blk_ext [idx0 t]

theorem arr3 : (dats m 0 c).arrAt 13 cfg0.N = G3 m c := by
  refine (dats m 0 c).arrAt_eq_of_covers 13 _ (by decide +kernel) fun t hf y => ?_
  rw [after0_13]
  frame_out
  blk_simp
  idx_vars y
  have hN : t.val < 64 := t.isLt
  refine View.canon_apply_of_pieces (fun y => G3 m c (((cfg0.win 13).blk t).view.emb y)) _ ?_ (ix4 y0 y1 y2 y3) (cover0_13 _ _ _ _ _)
  intro pc hpc
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G3 m c) (?_ : ix4 ⟨t.val / 4, by omega⟩ ⟨t.val % 4 * 4 + 3, by omega⟩ x2 x3 = _))
    · exact (pay3_3 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 3) * 128 + x3.val = t.val % 4 * 512 + (384 + x3.val); omega)
        fun k => blk_w2 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G3 m c) (?_ : ix4 ⟨t.val / 4, by omega⟩ ⟨t.val % 4 * 4 + 2, by omega⟩ x2 x3 = _))
    · exact (pay3_2 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 2) * 128 + x3.val = t.val % 4 * 512 + (256 + x3.val); omega)
        fun k => blk_w2 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G3 m c) (?_ : ix4 ⟨t.val / 4, by omega⟩ ⟨t.val % 4 * 4 + 1, by omega⟩ x2 x3 = _))
    · exact (pay3_1 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 1) * 128 + x3.val = t.val % 4 * 512 + (128 + x3.val); omega)
        fun k => blk_w2 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G3 m c) (?_ : ix4 ⟨t.val / 4, by omega⟩ ⟨t.val % 4 * 4 + 0, by omega⟩ x2 x3 = _))
    · exact (pay3_0 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 0) * 128 + x3.val = t.val % 4 * 512 + (0 + x3.val); omega)
        fun k => blk_w2 m c t x2 _ rfl k)
    · clear hpc
      blk_ext [idx0 t]
  nomatch hpc

theorem arr4 : (dats m 0 c).arrAt 14 cfg0.N = G4 m c := by
  refine (dats m 0 c).arrAt_eq_of_covers 14 _ (by decide +kernel) fun t hf y => ?_
  rw [after0_14]
  frame_out
  blk_simp
  idx_vars y
  have hN : t.val < 64 := t.isLt
  obtain rfl : y0 = 0 := Subsingleton.elim _ _
  refine Eq.trans ?_ (congrArg (G4 m c) (?_ : ix3 ⟨t.val / 4, by omega⟩ ⟨t.val % 4 * 512 + y1.val, by omega⟩ y2 = _))
  · exact (pay4 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ _ _ rfl rfl rfl rfl rfl fun k => blk_w3 m c t y2 _ rfl k)
  · blk_ext [idx0 t]

set_option maxHeartbeats 1000000 in
theorem arr5 : (dats m 0 c).arrAt 15 cfg0.N = G5 m c := by
  refine (dats m 0 c).arrAt_eq_of_covers 15 _ (by decide +kernel) fun t hf y => ?_
  rw [after0_15]
  frame_out
  blk_simp
  idx_vars y
  have hN : t.val < 64 := t.isLt
  refine View.canon_apply_of_pieces (fun y => G5 m c (((cfg0.win 15).blk t).view.emb y)) _ ?_ (ix4 y0 y1 y2 y3) (cover0_15 _ _ _ _ _)
  intro pc hpc
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G5 m c) (?_ : ix4 ⟨t.val / 4, by omega⟩ ⟨t.val % 4 * 4 + 3, by omega⟩ x2 x3 = _))
    · exact (pay5_3 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 3) * 128 + x3.val = t.val % 4 * 512 + (384 + x3.val); omega)
        fun k => blk_w3 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G5 m c) (?_ : ix4 ⟨t.val / 4, by omega⟩ ⟨t.val % 4 * 4 + 2, by omega⟩ x2 x3 = _))
    · exact (pay5_2 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 2) * 128 + x3.val = t.val % 4 * 512 + (256 + x3.val); omega)
        fun k => blk_w3 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G5 m c) (?_ : ix4 ⟨t.val / 4, by omega⟩ ⟨t.val % 4 * 4 + 1, by omega⟩ x2 x3 = _))
    · exact (pay5_1 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 1) * 128 + x3.val = t.val % 4 * 512 + (128 + x3.val); omega)
        fun k => blk_w3 m c t x2 _ rfl k)
    · clear hpc
      blk_ext [idx0 t]
  rcases List.mem_cons.mp hpc with rfl | hpc
  · intro (x : S1x1x256x128.Idx)
    idx_vars x
    obtain rfl : x0 = 0 := Subsingleton.elim _ _
    obtain rfl : x1 = 0 := Subsingleton.elim _ _
    refine Eq.trans ?_ (congrArg (G5 m c) (?_ : ix4 ⟨t.val / 4, by omega⟩ ⟨t.val % 4 * 4 + 0, by omega⟩ x2 x3 = _))
    · exact (pay5_0 (iblk m c 0 t) (iblk m c 1 t) (iblk m c 2 t) (iblk m c 3 t) (iblk m c 4 t) (iblk m c 5 t) (iblk m c 6 t) (iblk m c 7 t) (iblk m c 8 t) (iblk m c 9 t) x2 x3).trans (blk_sum m c t _ _ _ _ _ _ _ _ rfl rfl rfl rfl (by show (t.val % 4 * 4 + 0) * 128 + x3.val = t.val % 4 * 512 + (0 + x3.val); omega)
        fun k => blk_w3 m c t x2 _ rfl k)
    · clear hpc
      blk_ext [idx0 t]
  nomatch hpc

theorem arr6 : (dats m 0 c).arrAt 16 cfg0.N = G6 m c := by
  refine (dats m 0 c).arrAt_eq_of_covers 16 _ (by decide +kernel) fun t hf y => ?_
  rw [after0_16]
  frame_out
  blk_simp
  idx_vars y
  have hN : t.val < 64 := t.isLt
  obtain rfl : y0 = 0 := Subsingleton.elim _ _
  refine Eq.trans ?_ (congrArg (G6 m c) (?_ : ix3 ⟨t.val / 4, by omega⟩ ⟨t.val % 4 * 512 + y1.val, by omega⟩ y2 = _))
  · refine (pay6 (iblk m c 0 t) (iblk m c 1 t) (iblk m c 2 t) (iblk m c 3 t) (iblk m c 4 t) (iblk m c 5 t) (iblk m c 6 t) (iblk m c 7 t) (iblk m c 8 t) (iblk m c 9 t) y1 y2).trans ?_
    by_cases hj : y2.val < 24
    · refine (blk_sum m c t y1 ⟨t.val / 4, by omega⟩ ⟨t.val % 4 * 512 + y1.val, by omega⟩ ⟨1280 + y2.val, by omega⟩ _ _ _ _ rfl rfl rfl rfl rfl fun k => blk_w4 m c t y2 _ rfl hj k).trans ?_
      unfold G6 res6
      split
      · rfl
      · rename_i hn
        exact absurd hj hn
    · unfold G6 res6
      split
      · rename_i hn
        exact absurd hn hj
      · refine Finset.sum_eq_zero fun k _ => ?_
        rw [blk_pad m c t y2 hj k, mul_zero]
  · blk_ext [idx0 t]

theorem arr7 : (dats m 0 c).arrAt 17 cfg0.N = G7 m c := by
  refine (dats m 0 c).arrAt_eq_of_covers 17 _ (by decide +kernel) fun t hf y => ?_
  rw [after0_17]
  frame_out
  blk_simp
  idx_vars y
  have hN : t.val < 64 := t.isLt
  refine Eq.trans ?_ (congrArg (G7 m c) (?_ : ix2 ⟨t.val % 4 * 512 + y0.val, by omega⟩ ⟨t.val / 4 * 512 + y1.val, by omega⟩ = _))
  · exact (pay7 (iblk m c 0 t) (iblk m c 1 t) (iblk m c 2 t) (iblk m c 3 t) (iblk m c 4 t) (iblk m c 5 t) (iblk m c 6 t) (iblk m c 7 t) (iblk m c 8 t) (iblk m c 9 t) y0 y1).trans (blk_sum m c t y0 _ _ _ _ _ _ _ rfl rfl rfl (by show (t.val / 4 * 512 + y1.val) / 512 = _; omega) rfl fun k =>
      blk_w5 m c t y1 _ (by show 1304 + (t.val / 4 * 512 + y1.val) % 512 = _; omega) k)
  · blk_ext [idx0 t]

theorem arr8 : (dats m 0 c).arrAt 18 cfg0.N = G8 m c := by
  refine (dats m 0 c).arrAt_eq_of_covers 18 _ (by decide +kernel) fun t hf y => ?_
  rw [after0_18]
  frame_out
  blk_simp
  idx_vars y
  have hN : t.val < 64 := t.isLt
  refine Eq.trans ?_ (congrArg (G8 m c) (?_ : ix2 ⟨t.val % 4 * 512 + y0.val, by omega⟩ ⟨t.val / 4 * 512 + y1.val, by omega⟩ = _))
  · exact (pay8 (iblk m c 0 t) (iblk m c 1 t) (iblk m c 2 t) (iblk m c 3 t) (iblk m c 4 t) (iblk m c 5 t) (iblk m c 6 t) (iblk m c 7 t) (iblk m c 8 t) (iblk m c 9 t) y0 y1).trans (blk_sum m c t y0 _ _ _ _ _ _ _ rfl rfl rfl (by show (t.val / 4 * 512 + y1.val) / 512 = _; omega) rfl fun k =>
      blk_w6 m c t y1 _ (by show 1816 + (t.val / 4 * 512 + y1.val) % 512 = _; omega) k)
  · blk_ext [idx0 t]

end

theorem ref0 (x : Vec Ideal S16x2048x1024 .f32) (sc sh : Vec Ideal S16x1x1024 .f32) (w : Vec Ideal S1x1024x2328 .f32) :
    val_main_v8 (F := Ideal) x sc sh w = res0 x sc sh w := by
  funext i
  idx_vars i
  unfold res0 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref1 (x : Vec Ideal S16x2048x1024 .f32) (sc sh : Vec Ideal S16x1x1024 .f32) (w : Vec Ideal S1x1024x2328 .f32) :
    val_main_v15 (F := Ideal) x sc sh w = res1 x sc sh w := by
  funext i
  idx_vars i
  unfold res1 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref2 (x : Vec Ideal S16x2048x1024 .f32) (sc sh : Vec Ideal S16x1x1024 .f32) (w : Vec Ideal S1x1024x2328 .f32) :
    val_main_v10 (F := Ideal) x sc sh w = res2 x sc sh w := by
  funext i
  idx_vars i
  unfold res2 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref3 (x : Vec Ideal S16x2048x1024 .f32) (sc sh : Vec Ideal S16x1x1024 .f32) (w : Vec Ideal S1x1024x2328 .f32) :
    val_main_v17 (F := Ideal) x sc sh w = res3 x sc sh w := by
  funext i
  idx_vars i
  unfold res3 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref4 (x : Vec Ideal S16x2048x1024 .f32) (sc sh : Vec Ideal S16x1x1024 .f32) (w : Vec Ideal S1x1024x2328 .f32) :
    val_main_v11 (F := Ideal) x sc sh w = res4 x sc sh w := by
  funext i
  idx_vars i
  unfold res4 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref5 (x : Vec Ideal S16x2048x1024 .f32) (sc sh : Vec Ideal S16x1x1024 .f32) (w : Vec Ideal S1x1024x2328 .f32) :
    val_main_v19 (F := Ideal) x sc sh w = res5 x sc sh w := by
  funext i
  idx_vars i
  unfold res5 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref6 (x : Vec Ideal S16x2048x1024 .f32) (sc sh : Vec Ideal S16x1x1024 .f32) (w : Vec Ideal S1x1024x2328 .f32) :
    val_main_v13 (F := Ideal) x sc sh w = res6 x sc sh w := by
  funext i
  idx_vars i
  unfold res6 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]
  rw [zero_f32]

theorem ref7 (x : Vec Ideal S16x2048x1024 .f32) (sc sh : Vec Ideal S16x1x1024 .f32) (w : Vec Ideal S1x1024x2328 .f32) :
    val_main_v22 (F := Ideal) x sc sh w = res7 x sc sh w := by
  funext i
  idx_vars i
  unfold res7 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

theorem ref8 (x : Vec Ideal S16x2048x1024 .f32) (sc sh : Vec Ideal S16x1x1024 .f32) (w : Vec Ideal S1x1024x2328 .f32) :
    val_main_v25 (F := Ideal) x sc sh w = res8 x sc sh w := by
  funext i
  idx_vars i
  unfold res8 projAt
  pointwise [val_main_cst, val_main_v0, val_main_v1, val_main_v2, val_main_v3, val_main_v4, val_main_v5, val_main_v6, val_main_v7,
    val_main_v8, val_main_v9, val_main_v10, val_main_v11, val_main_v12, val_main_c, val_main_call0_v0, val_main_v13, val_main_v14,
    val_main_v15, val_main_v16, val_main_v17, val_main_v18, val_main_v19, val_main_v20, val_main_v21, val_main_v22, val_main_v23,
    val_main_v24, val_main_v25]

/-- The reference runs, and its arguments end as they were. -/
theorem frame_ref : Cert.quiescent_ProjAbRefIdeal := fun m ρ _ =>
  (θ_run Cert.ProjAbRefIdeal.defs _ _).mono (fun r h => ⟨fun c => (h c).2.2.2.2.2.2.2.2.2, sem_eq_zero_of_no_sems (by decide) r.2⟩)
    (Cert.ProjAbRefIdeal.Value.run (F := Ideal) m ρ)

theorem algebraic : Cert.algebraic_ProjAbIdeal_ProjAbRefIdeal := by
  intro m ρ m' ρ' _ hagree
  refine ⟨fun c => G0 m c, fun c => G1 m c, fun c => G2 m c, fun c => G3 m c, fun c => G4 m c, fun c => G5 m c, fun c => G6 m c, fun c => G7 m c, fun c => G8 m c, (θ_run _ _ _).mono (fun _ h c => ?_) (Value.run_blocks m ρ),
    (θ_run _ _ _).mono (fun _ h c => ?_) (Cert.ProjAbRefIdeal.Value.run (F := Ideal) m' ρ')⟩
  · obtain ⟨h0, h1, h2, h3, h4, h5, h6, h7, h8, k⟩ := h c
    exact ⟨h0.trans (arr0 m c), h1.trans (arr1 m c), h2.trans (arr2 m c), h3.trans (arr3 m c), h4.trans (arr4 m c), h5.trans (arr5 m c), h6.trans (arr6 m c), h7.trans (arr7 m c), h8.trans (arr8 m c), k⟩
  · obtain ⟨h0, h1, h2, h3, h4, h5, h6, h7, h8, k⟩ := h c
    obtain ⟨e0, e1, e2, e3⟩ := hagree c
    refine ⟨h0.trans ?_, h1.trans ?_, h2.trans ?_, h3.trans ?_, h4.trans ?_, h5.trans ?_, h6.trans ?_, h7.trans ?_, h8.trans ?_, k⟩
    · rw [e0, e1, e2, e3]
      exact (val_main_v8_eq _ _ _ _).trans (ref0 _ _ _ _)
    · rw [e0, e1, e2, e3]
      exact (val_main_v15_eq _ _ _ _).trans (ref1 _ _ _ _)
    · rw [e0, e1, e2, e3]
      exact (val_main_v10_eq _ _ _ _).trans (ref2 _ _ _ _)
    · rw [e0, e1, e2, e3]
      exact (val_main_v17_eq _ _ _ _).trans (ref3 _ _ _ _)
    · rw [e0, e1, e2, e3]
      exact (val_main_v11_eq _ _ _ _).trans (ref4 _ _ _ _)
    · rw [e0, e1, e2, e3]
      exact (val_main_v19_eq _ _ _ _).trans (ref5 _ _ _ _)
    · rw [e0, e1, e2, e3]
      exact (val_main_v13_eq _ _ _ _).trans (ref6 _ _ _ _)
    · rw [e0, e1, e2, e3]
      exact (val_main_v22_eq _ _ _ _).trans (ref7 _ _ _ _)
    · rw [e0, e1, e2, e3]
      exact (val_main_v25_eq _ _ _ _).trans (ref8 _ _ _ _)

end Cert.ProjAbIdeal.Gen

end
-- ==== Proof.ProjCdValue.lean ====
/- The modulated input projection (the query, key-value and state-space columns): what a block of the kernel holds, and the reference's results, are the same
   functions of the arguments. -/
module

public import proofs.«01_k».proof.Proof.Gen.ProjCdIdeal.Value
public import proofs.«01_k».proof.Proof.Gen.ProjCdRefIdeal.Read
public import Idealize.ShloMosaic.Lib.Pointwise
public import Idealize.ShloMosaic.Lib.Pipeline.ValueKit
public import Idealize.ShloMosaic.Lib.StableHlo.ReadAt
public import Idealize.ShloMosaic.Lib.Claim
public import Idealize.ShloMosaic.Lib.Quiescent
public import proofs.«01_k».proof.Defs

@[expose] public section

set_option maxRecDepth 16384

noncomputable section

namespace Cert.ProjCdIdeal.Gen

open Idealize.ShloMosaic Idealize.ShloMosaic.TcCoe Idealize.ShloMosaic.Tactic
open Cert.ProjCdRefIdeal.Read
open Idealize.SL.Sem

/-- The projected value at batch row `b`, position `t`, column `j`: the row `x (1 + scale) + shift` against the weight's column. -/
def projAt (x : Vec Ideal S16x2048x1024 .f32) (sc sh : Vec Ideal S16x1x1024 .f32) (w : Vec Ideal S1x1024x1280 .f32) (b : Fin 16) (t : Fin 2048)
    (j : Fin 1280) : EReal :=
  ∑ k : Fin 1024, ((x (ix3 b t k) : EReal) * (1 + sc (ix3 b 0 k)) + sh (ix3 b 0 k)) * w (ix3 0 k j)

/-- Result 0: the columns from 0 on, by batch row. -/
def res0 (x : Vec Ideal S16x2048x1024 .f32) (sc sh : Vec Ideal S16x1x1024 .f32) (w : Vec Ideal S1x1024x1280 .f32) : Vec Ideal S16x2048x512 .f32 := fun i =>
  projAt x sc sh w (i 0) (i 1) ⟨(i 2).val, by have h : (i 2).val < 512 := (i 2).isLt; omega⟩

/-- Result 1: the columns from 512 on, by batch row. -/
def res1 (x : Vec Ideal S16x2048x1024 .f32) (sc sh : Vec Ideal S16x1x1024 .f32) (w : Vec Ideal S1x1024x1280 .f32) : Vec Ideal S16x2048x256 .f32 := fun i =>
  projAt x sc sh w (i 0) (i 1) ⟨512 + (i 2).val, by have h : (i 2).val < 256 := (i 2).isLt; omega⟩

/-- Result 2: the columns from 512 on, page by page, transposed. -/
def res2 (x : Vec Ideal S16x2048x1024 .f32) (sc sh : Vec Ideal S16x1x1024 .f32) (w : Vec Ideal S1x1024x1280 .f32) : Vec Ideal S16x16x256x128 .f32 := fun i =>
  projAt x sc sh w (i 0) ⟨(i 1).val * 128 + (i 3).val, by have h : (i 1).val < 16 := (i 1).isLt; have h' : (i 3).val < 128 := (i 3).isLt; omega⟩
    ⟨512 + (i 2).val, by have h : (i 2).val < 256 := (i 2).isLt; omega⟩

/-- Result 3: the columns from 768 on, time-major. -/
def res3 (x : Vec Ideal S16x2048x1024 .f32) (sc sh : Vec Ideal S16x1x1024 .f32) (w : Vec Ideal S1x1024x1280 .f32) : Vec Ideal S2048x8192 .f32 := fun i =>
  projAt x sc sh w ⟨(i 1).val / 512, Nat.div_lt_of_lt_mul (i 1).isLt⟩ (i 0)
    ⟨768 + (i 1).val % 512, by have h := Nat.mod_lt (i 1).val (show 0 < 512 by decide); omega⟩

theorem idx0 : ∀ t : Fin grid0.N, win0_0.index t = ![t.val / 4, t.val % 4, 0] ∧ win0_1.index t = ![t.val / 4, 0, 0]
    ∧ win0_2.index t = ![t.val / 4, 0, 0] ∧ win0_3.index t = ![0, 0] ∧ win0_4.index t = ![0, 0]
    ∧ win0_5.index t = ![0, 0] ∧ win0_6.index t = ![t.val / 4, t.val % 4, 0]
    ∧ win0_7.index t = ![t.val / 4, t.val % 4, 0] ∧ win0_8.index t = ![t.val / 4, t.val % 4, 0, 0]
    ∧ win0_9.index t = ![t.val % 4, t.val / 4] := by
  decide +kernel

section

variable (m : (ℓ : Loc nD τ sig) → Buf (Elt Ideal) ℓ) (c : Dev nD)

/-- Result 0 of the program's arguments. -/
def G0 : Vec Ideal S16x2048x512 .f32 := res0 (m ((c.tc : Thread nD τ).loc main_arg0)) (m ((c.tc : Thread nD τ).loc main_arg1)) (m ((c.tc : Thread nD τ).loc main_arg2)) (m ((c.tc : Thread nD τ).loc main_arg3))

/-- Result 1 of the program's arguments. -/
def G1 : Vec Ideal S16x2048x256 .f32 := res1 (m ((c.tc : Thread nD τ).loc main_arg0)) (m ((c.tc : Thread nD τ).loc main_arg1)) (m ((c.tc : Thread nD τ).loc main_arg2)) (m ((c.tc : Thread nD τ).loc main_arg3))

/-- Result 2 of the program's arguments. -/
def G2 : Vec Ideal S16x16x256x128 .f32 := res2 (m ((c.tc : Thread nD τ).loc main_arg0)) (m ((c.tc : Thread nD τ).loc main_arg1)) (m ((c.tc : Thread nD τ).loc main_arg2)) (m ((c.tc : Thread nD τ).loc main_arg3))

/-- Result 3 of the program's arguments. -/
def G3 : Vec Ideal S2048x8192 .f32 := res3 (m ((c.tc : Thread nD τ).loc main_arg0)) (m ((c.tc : Thread nD τ).loc main_arg1)) (m ((c.tc : Thread nD τ).loc main_arg2)) (m ((c.tc : Thread nD τ).loc main_arg3))

theorem arr0 : (dats m 0 c).arrAt 6 cfg0.N = G0 m c := by
  refine (dats m 0 c).arrAt_eq_of_covers 6 _ (by decide +kernel) fun t hf y => ?_
  rw [after0_6]
  frame_out
  blk_simp
  idx_vars y
  have hN : t.val < 64 := t.isLt
  refine Eq.trans ?_ (congrArg (G0 m c) (?_ : ix3 ⟨t.val / 4, by omega⟩ ⟨t.val % 4 * 512 + y1.val, by omega⟩ y2 = _))
  · unfold G0 res0 projAt
    pointwise [k0_pay1, k0_pay2, k0_pay3, k0_pay4, k0_pay5, k0_pay6, k0_pay7, k0_pay8, k0_pay9, k0_pay10]
    blk_point [iblk, V, idx0 t]
  · blk_ext [idx0 t]

theorem arr1 : (dats m 0 c).arrAt 7 cfg0.N = G1 m c := by
  refine (dats m 0 c).arrAt_eq_of_covers 7 _ (by decide +kernel) fun t hf y => ?_
  rw [after0_7]
  frame_out
  blk_simp
  idx_vars y
  have hN : t.val < 64 := t.isLt
  refine Eq.trans ?_ (congrArg (G1 m c) (?_ : ix3 ⟨t.val / 4, by omega⟩ ⟨t.val % 4 * 512 + y1.val, by omega⟩ y2 = _))
  · unfold G1 res1 projAt
    pointwise [k0_pay1, k0_pay2, k0_pay3, k0_pay4, k0_pay5, k0_pay6, k0_pay7, k0_pay8, k0_pay9, k0_pay10]
    blk_point [iblk, V, idx0 t]
  · blk_ext [idx0 t]

theorem arr2 : (dats m 0 c).arrAt 8 cfg0.N = G2 m c := by
  refine (dats m 0 c).arrAt_eq_of_covers 8 _ (by decide +kernel) fun t hf y => ?_
  rw [after0_8]
  frame_out
  blk_simp
  idx_vars y
  have hN : t.val < 64 := t.isLt
  refine View.canon_apply_of_pieces (fun y => G2 m c (((cfg0.win 8).blk t).view.emb y)) _ ?_ (ix4 y0 y1 y2 y3) (cover0_8 _ _ _ _ _)
  intro pc hpc
  rcases List.mem_cons.mp hpc with rfl | hpc
  · intro (x : S1x1x256x128.Idx)
    idx_vars x
    refine Eq.trans ?_ (congrArg (G2 m c) (?_ : ix4 ⟨t.val / 4, by omega⟩ ⟨t.val % 4 * 4 + 3, by omega⟩ x2 x3 = _))
    · unfold G2 res2 projAt
      pointwise [k0_pay1, k0_pay2, k0_pay3, k0_pay4, k0_pay5, k0_pay6, k0_pay7, k0_pay8, k0_pay9, k0_pay10]
      blk_point [iblk, V, idx0 t]
    · blk_ext [idx0 t]
  rcases List.mem_cons.mp hpc with rfl | hpc
  · intro (x : S1x1x256x128.Idx)
    idx_vars x
    refine Eq.trans ?_ (congrArg (G2 m c) (?_ : ix4 ⟨t.val / 4, by omega⟩ ⟨t.val % 4 * 4 + 2, by omega⟩ x2 x3 = _))
    · unfold G2 res2 projAt
      pointwise [k0_pay1, k0_pay2, k0_pay3, k0_pay4, k0_pay5, k0_pay6, k0_pay7, k0_pay8, k0_pay9, k0_pay10]
      blk_point [iblk, V, idx0 t]
    · blk_ext [idx0 t]
  rcases List.mem_cons.mp hpc with rfl | hpc
  · intro (x : S1x1x256x128.Idx)
    idx_vars x
    refine Eq.trans ?_ (congrArg (G2 m c) (?_ : ix4 ⟨t.val / 4, by omega⟩ ⟨t.val % 4 * 4 + 1, by omega⟩ x2 x3 = _))
    · unfold G2 res2 projAt
      pointwise [k0_pay1, k0_pay2, k0_pay3, k0_pay4, k0_pay5, k0_pay6, k0_pay7, k0_pay8, k0_pay9, k0_pay10]
      blk_point [iblk, V, idx0 t]
    · blk_ext [idx0 t]
  rcases List.mem_cons.mp hpc with rfl | hpc
  · intro (x : S1x1x256x128.Idx)
    idx_vars x
    refine Eq.trans ?_ (congrArg (G2 m c) (?_ : ix4 ⟨t.val / 4, by omega⟩ ⟨t.val % 4 * 4 + 0, by omega⟩ x2 x3 = _))
    · unfold G2 res2 projAt
      pointwise [k0_pay1, k0_pay2, k0_pay3, k0_pay4, k0_pay5, k0_pay6, k0_pay7, k0_pay8, k0_pay9, k0_pay10]
      blk_point [iblk, V, idx0 t]
    · blk_ext [idx0 t]
  nomatch hpc

theorem arr3 : (dats m 0 c).arrAt 9 cfg0.N = G3 m c := by
  refine (dats m 0 c).arrAt_eq_of_covers 9 _ (by decide +kernel) fun t hf y => ?_
  rw [after0_9]
  frame_out
  blk_simp
  idx_vars y
  have hN : t.val < 64 := t.isLt
  refine Eq.trans ?_ (congrArg (G3 m c) (?_ : ix2 ⟨t.val % 4 * 512 + y0.val, by omega⟩ ⟨t.val / 4 * 512 + y1.val, by omega⟩ = _))
  · unfold G3 res3 projAt
    pointwise [k0_pay1, k0_pay2, k0_pay3, k0_pay4, k0_pay5, k0_pay6, k0_pay7, k0_pay8, k0_pay9, k0_pay10]
    blk_point [iblk, V, idx0 t]
  · blk_ext [idx0 t]

end

theorem ref0 (x : Vec Ideal S16x2048x1024 .f32) (sc sh : Vec Ideal S16x1x1024 .f32) (w : Vec Ideal S1x1024x1280 .f32) :
    val_main_v9 (F := Ideal) x sc sh w = res0 x sc sh w := by
  funext i
  idx_vars i
  unfold res0 projAt
  pointwise [val_main_cst, val_main_v0, val_main_v1, val_main_v2, val_main_v3, val_main_v4, val_main_v5, val_main_v6, val_main_v7,
    val_main_v8, val_main_v9, val_main_v10, val_main_v11, val_main_v12, val_main_v13, val_main_v14]

theorem ref1 (x : Vec Ideal S16x2048x1024 .f32) (sc sh : Vec Ideal S16x1x1024 .f32) (w : Vec Ideal S1x1024x1280 .f32) :
    val_main_v8 (F := Ideal) x sc sh w = res1 x sc sh w := by
  funext i
  idx_vars i
  unfold res1 projAt
  pointwise [val_main_cst, val_main_v0, val_main_v1, val_main_v2, val_main_v3, val_main_v4, val_main_v5, val_main_v6, val_main_v7,
    val_main_v8, val_main_v9, val_main_v10, val_main_v11, val_main_v12, val_main_v13, val_main_v14]

theorem ref2 (x : Vec Ideal S16x2048x1024 .f32) (sc sh : Vec Ideal S16x1x1024 .f32) (w : Vec Ideal S1x1024x1280 .f32) :
    val_main_v11 (F := Ideal) x sc sh w = res2 x sc sh w := by
  funext i
  idx_vars i
  unfold res2 projAt
  pointwise [val_main_cst, val_main_v0, val_main_v1, val_main_v2, val_main_v3, val_main_v4, val_main_v5, val_main_v6, val_main_v7,
    val_main_v8, val_main_v9, val_main_v10, val_main_v11, val_main_v12, val_main_v13, val_main_v14]

theorem ref3 (x : Vec Ideal S16x2048x1024 .f32) (sc sh : Vec Ideal S16x1x1024 .f32) (w : Vec Ideal S1x1024x1280 .f32) :
    val_main_v14 (F := Ideal) x sc sh w = res3 x sc sh w := by
  funext i
  idx_vars i
  unfold res3 projAt
  pointwise [val_main_cst, val_main_v0, val_main_v1, val_main_v2, val_main_v3, val_main_v4, val_main_v5, val_main_v6, val_main_v7,
    val_main_v8, val_main_v9, val_main_v10, val_main_v11, val_main_v12, val_main_v13, val_main_v14]

/-- The reference runs, and its arguments end as they were. -/
theorem frame_ref : Cert.quiescent_ProjCdRefIdeal := fun m ρ _ =>
  (θ_run Cert.ProjCdRefIdeal.defs _ _).mono (fun r h => ⟨fun c => (h c).2.2.2.2, sem_eq_zero_of_no_sems (by decide) r.2⟩)
    (Cert.ProjCdRefIdeal.Value.run (F := Ideal) m ρ)

theorem algebraic : Cert.algebraic_ProjCdIdeal_ProjCdRefIdeal := by
  intro m ρ m' ρ' _ hagree
  refine ⟨fun c => G0 m c, fun c => G1 m c, fun c => G2 m c, fun c => G3 m c, (θ_run _ _ _).mono (fun _ h c => ?_) (Value.run_blocks m ρ),
    (θ_run _ _ _).mono (fun _ h c => ?_) (Cert.ProjCdRefIdeal.Value.run (F := Ideal) m' ρ')⟩
  · obtain ⟨h0, h1, h2, h3, k⟩ := h c
    exact ⟨h0.trans (arr0 m c), h1.trans (arr1 m c), h2.trans (arr2 m c), h3.trans (arr3 m c), k⟩
  · obtain ⟨h0, h1, h2, h3, k⟩ := h c
    obtain ⟨e0, e1, e2, e3⟩ := hagree c
    refine ⟨h0.trans ?_, h1.trans ?_, h2.trans ?_, h3.trans ?_, k⟩
    · rw [e0, e1, e2, e3]
      exact (val_main_v9_eq _ _ _ _).trans (ref0 _ _ _ _)
    · rw [e0, e1, e2, e3]
      exact (val_main_v8_eq _ _ _ _).trans (ref1 _ _ _ _)
    · rw [e0, e1, e2, e3]
      exact (val_main_v11_eq _ _ _ _).trans (ref2 _ _ _ _)
    · rw [e0, e1, e2, e3]
      exact (val_main_v14_eq _ _ _ _).trans (ref3 _ _ _ _)

end Cert.ProjCdIdeal.Gen

end
-- ==== Proof.FfnUpSValue.lean ====
/- The up-projection of the sample batch with its causal convolution and gate: what the kernel leaves, and the reference's
   results, are the same functions of the arguments. -/
module

public import proofs.«01_k».proof.Proof.Gen.FfnUpSIdeal.Value
public import proofs.«01_k».proof.Proof.Gen.FfnUpSRefIdeal.Read
public import Idealize.ShloMosaic.Lib.Pipeline.ValueKit
public import Idealize.ShloMosaic.Lib.StableHlo.ReadAt
public import Idealize.ShloMosaic.Lib.Pipeline.ReadBack
public import Idealize.ShloMosaic.Lib.Claim
public import Idealize.ShloMosaic.Lib.Quiescent
public import proofs.«01_k».proof.Defs

@[expose] public section

set_option maxRecDepth 16384

noncomputable section

namespace Cert.FfnUpSIdeal.Gen

open Idealize.ShloMosaic Idealize.ShloMosaic.TcCoe Idealize.ShloMosaic.Tactic
open Cert.FfnUpSRefIdeal.Read
open Idealize.SL.Sem

/-- The modulated row `x · (1 + scale) + shift` against one column of weights. -/
def upOf (x sc sh w : Fin 1024 → EReal) : EReal := ∑ k : Fin 1024, (x k * (1 + sc k) + sh k) * w k

/-- Three consecutive rows under the convolution's three taps, and the bias. -/
def conv (a b e k0 k1 k2 bias : EReal) : EReal := a * k0 + b * k1 + e * k2 + bias

/-- The gelu in its tanh form. -/
def gelu (y : EReal) : EReal :=
  y * (Ideal.ofBits FTy.f32 1056964608#32
    * (1 + Ideal.tanh (Ideal.ofBits FTy.f32 1061962282#32 * (y + Ideal.ofBits FTy.f32 1027024659#32 * (y * y * y)))))

/-- The gelu of the convolved column times the other half's column. -/
def act (y v : EReal) : EReal := gelu y * v

/-- Column `col` of the projection of request `b`. -/
def lin (x : Vec Ideal S1x128x1024 .f32) (sc sh : Vec Ideal S128x1024 .f32) (w : Vec Ideal S1024x5376 .f32) (b : Fin 128) (col : Fin 5376) : EReal :=
  upOf (fun k => x (ix3 0 b k)) (fun k => sc (ix2 b k)) (fun k => sh (ix2 b k)) (fun k => w (ix2 k col))

/-- The first result. -/
def outAt (x : Vec Ideal S1x128x1024 .f32) (sc sh : Vec Ideal S128x1024 .f32) (w : Vec Ideal S1024x5376 .f32)
    (cw : Vec Ideal S3x2688 .f32) (cb : Vec Ideal S2688 .f32) (prev : Vec Ideal S2x128x2688 .f32) (b : Fin 128) (d : Fin 2688) : EReal :=
  act (conv (prev (ix3 0 b d)) (prev (ix3 1 b d)) (lin x sc sh w b ⟨d.val, by omega⟩) (cw (ix2 0 d)) (cw (ix2 1 d)) (cw (ix2 2 d)) (cb (ix1 d)))
    (lin x sc sh w b ⟨2688 + d.val, by omega⟩)

/-- The second result: the later of the two kept rows, and the new one. -/
def keepAt (x : Vec Ideal S1x128x1024 .f32) (sc sh : Vec Ideal S128x1024 .f32) (w : Vec Ideal S1024x5376 .f32)
    (prev : Vec Ideal S2x128x2688 .f32) (s : Fin 2) (b : Fin 128) (d : Fin 2688) : EReal :=
  if s.val = 0 then prev (ix3 1 b d) else lin x sc sh w b ⟨d.val, by omega⟩

/-- What the reference's first result holds. -/
theorem ref_out (x : Vec Ideal S1x128x1024 .f32) (sc sh : Vec Ideal S128x1024 .f32) (w : Vec Ideal S1024x5376 .f32)
    (cw : Vec Ideal S3x2688 .f32) (cb : Vec Ideal S2688 .f32) (prev : Vec Ideal S2x128x2688 .f32) (b : Fin 128) (d : Fin 2688) :
    (val_main_v47 x sc sh w cw cb prev (ix3 0 b d) : EReal) = outAt x sc sh w cw cb prev b d := by
  pointwise [val_main_cst, val_main_v0, val_main_v1, val_main_v2, val_main_v3, val_main_v4, val_main_v5, val_main_v6,
    val_main_v7, val_main_v8, val_main_v9, val_main_v10, val_main_v11, val_main_v12, val_main_v13, val_main_v14, val_main_v15,
    val_main_v16, val_main_v17, val_main_v18, val_main_v19, val_main_v20, val_main_v21, val_main_v22, val_main_v23, val_main_v24,
    val_main_v25, val_main_v26, val_main_v27, val_main_v28, val_main_v29, val_main_v30, val_main_v31, val_main_v32, val_main_v33,
    val_main_v34, val_main_cst_0, val_main_v35, val_main_v36, val_main_v37, val_main_cst_1, val_main_v38, val_main_v39,
    val_main_v40, val_main_cst_2, val_main_v41, val_main_v42, val_main_cst_3, val_main_v43, val_main_v44, val_main_v45,
    val_main_v46, val_main_v47, val_main_v48]
  rfl

/-- What the reference's second result holds. -/
theorem ref_keep (x : Vec Ideal S1x128x1024 .f32) (sc sh : Vec Ideal S128x1024 .f32) (w : Vec Ideal S1024x5376 .f32)
    (prev : Vec Ideal S2x128x2688 .f32) (s : Fin 2) (b : Fin 128) (d : Fin 2688) :
    (val_main_v48 x sc sh w prev (ix3 s b d) : EReal) = keepAt x sc sh w prev s b d := by
  pointwise [val_main_cst, val_main_v0, val_main_v1, val_main_v2, val_main_v3, val_main_v4, val_main_v5, val_main_v6,
    val_main_v7, val_main_v8, val_main_v9, val_main_v10, val_main_v11, val_main_v12, val_main_v13, val_main_v14, val_main_v15,
    val_main_v16, val_main_v17, val_main_v18, val_main_v19, val_main_v20, val_main_v21, val_main_v22, val_main_v23, val_main_v24,
    val_main_v25, val_main_v26, val_main_v27, val_main_v28, val_main_v29, val_main_v30, val_main_v31, val_main_v32, val_main_v33,
    val_main_v34, val_main_cst_0, val_main_v35, val_main_v36, val_main_v37, val_main_cst_1, val_main_v38, val_main_v39,
    val_main_v40, val_main_cst_2, val_main_v41, val_main_v42, val_main_cst_3, val_main_v43, val_main_v44, val_main_v45,
    val_main_v46, val_main_v47, val_main_v48]
  unfold keepAt
  fin_cases s
  · rfl
  · rfl

section Payloads

variable (X : Vec Ideal S1x128x1024 .f32) (SC SH : Vec Ideal S128x1024 .f32) (W1 W2 : Vec Ideal S1024x896 .bf16)
  (P : Vec Ideal S2x128x896 .f32) (c0 c1 c2 cb : Vec Ideal S1x896 .f32)

/-- Column `d` of a chunk's projection. -/
def linB (W : Vec Ideal S1024x896 .bf16) (b : Fin 128) (d : Fin 896) : EReal :=
  upOf (fun k => X (ix3 0 b k)) (fun k => SC (ix2 b k)) (fun k => SH (ix2 b k)) (fun k => W (ix2 k d))

/-- A chunk of the first result. -/
def outB (b : Fin 128) (d : Fin 896) : EReal :=
  act (conv (P (ix3 0 b d)) (P (ix3 1 b d)) (linB X SC SH W1 b d) (c0 (ix2 0 d)) (c1 (ix2 0 d)) (c2 (ix2 0 d)) (cb (ix2 0 d)))
    (linB X SC SH W2 b d)

/-- A chunk of the kept rows. -/
def keepB (s : Fin 2) (b : Fin 128) (d : Fin 896) : EReal :=
  if s.val = 0 then P (ix3 1 b d) else linB X SC SH W1 b d

theorem out0_at (b : Fin 128) (d : Fin 896) :
    (k0_pay9 (k0_pay5 X SC SH W2) (k0_pay6 X SC SH W1 P) (k0_pay7 X SC SH W1 P c0 c1) c2 cb (ix3 0 b d) : EReal)
      = outB X SC SH W1 W2 P c0 c1 c2 cb b d := by
  pointwise [k0_pay9, k0_pay5, k0_pay6, k0_pay7, k0_pay4]
  rfl

theorem out1_at (b : Fin 128) (d : Fin 896) :
    (k0_pay17 (k0_pay12 (k0_pay11 (k0_pay4 X SC SH) W2)) (k0_pay14 (k0_pay10 (k0_pay4 X SC SH) W1) P c0 c1 c2 cb)
        (k0_pay16 (k0_pay10 (k0_pay4 X SC SH) W1) P c0 c1 c2 cb) (ix3 0 b d) : EReal)
      = outB X SC SH W1 W2 P c0 c1 c2 cb b d := by
  pointwise [k0_pay17, k0_pay12, k0_pay11, k0_pay14, k0_pay13, k0_pay10, k0_pay16, k0_pay4]
  rfl

theorem out2_at (b : Fin 128) (d : Fin 896) :
    (k0_pay2 (k0_pay18 (k0_pay4 X SC SH) W2) (k0_pay20 (k0_pay4 X SC SH) W1 P c0 c1 c2 cb) (ix3 0 b d) : EReal)
      = outB X SC SH W1 W2 P c0 c1 c2 cb b d := by
  pointwise [k0_pay2, k0_pay18, k0_pay20, k0_pay19, k0_pay4]
  rfl

theorem keep0_at (s : Fin 2) (b : Fin 128) (d : Fin 896) :
    (k0_pay8 (k0_pay6 X SC SH W1 P) (ix3 s b d) : EReal) = keepB X SC SH W1 P s b d := by
  pointwise [k0_pay8, k0_pay6, k0_pay4]
  unfold keepB
  fin_cases s
  · rfl
  · rfl

theorem keep1_at (s : Fin 2) (b : Fin 128) (d : Fin 896) :
    (k0_pay15 (k0_pay10 (k0_pay4 X SC SH) W1) P (ix3 s b d) : EReal) = keepB X SC SH W1 P s b d := by
  pointwise [k0_pay15, k0_pay13, k0_pay10, k0_pay4]
  unfold keepB
  fin_cases s
  · rfl
  · rfl

theorem keep2_at (s : Fin 2) (b : Fin 128) (d : Fin 896) :
    (k0_pay1 (k0_pay21 (k0_pay4 X SC SH) W1 P) (ix3 s b d) : EReal) = keepB X SC SH W1 P s b d := by
  pointwise [k0_pay1, k0_pay21, k0_pay19, k0_pay4]
  unfold keepB
  fin_cases s
  · rfl
  · rfl

theorem fill_at (v : Vec Ideal S2x128x2688 .f32) (s : Fin 2) (b : Fin 128) (d : Fin 2688) :
    (k0_pay3 v (ix3 s b d) : EReal) = v (ix3 s b d) := by
  pointwise [k0_pay3]

end Payloads

section Blocks

variable (m : (ℓ : Loc nD τ sig) → Buf (Elt Ideal) ℓ) (c : Dev nD)

/-- The projection of the program's arguments. -/
def linM (b : Fin 128) (col : Fin 5376) : EReal :=
  lin (m ((c.tc : Thread nD τ).loc main_arg0)) (m ((c.tc : Thread nD τ).loc main_arg1)) (m ((c.tc : Thread nD τ).loc main_arg2))
    (m ((c.tc : Thread nD τ).loc main_arg3)) b col

/-- The first result of the program's arguments. -/
def G7' : Vec Ideal S1x128x2688 .bf16 := fun i =>
  outAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (i 1) (i 2)

/-- The second result of the program's arguments. -/
def G8' : Vec Ideal S2x128x2688 .f32 := fun i =>
  keepAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) (i 0) (i 1) (i 2)

theorem idx0 : ∀ t : Fin grid0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0, 0] := by
  decide +kernel

theorem blk_x (t : Fin grid0.N) (b : Fin 128) (k : Fin 1024) :
    (iblk m c 0 t (ix3 0 b k) : EReal) = m ((c.tc : Thread nD τ).loc main_arg0) (ix3 0 b k) := by
  rw [← V_main_arg0 m c]
  blk_ext [iblk, idx0 t]

theorem blk_sc (t : Fin grid0.N) (b : Fin 128) (k : Fin 1024) :
    (iblk m c 1 t (ix2 b k) : EReal) = m ((c.tc : Thread nD τ).loc main_arg1) (ix2 b k) := by
  rw [← V_main_arg1 m c]
  blk_ext [iblk, idx0 t]

theorem blk_sh (t : Fin grid0.N) (b : Fin 128) (k : Fin 1024) :
    (iblk m c 2 t (ix2 b k) : EReal) = m ((c.tc : Thread nD τ).loc main_arg2) (ix2 b k) := by
  rw [← V_main_arg2 m c]
  blk_ext [iblk, idx0 t]

theorem blk_w (t : Fin grid0.N) (k : Fin 1024) (col : Fin 5376) :
    (iblk m c 3 t (ix2 k col) : EReal) = m ((c.tc : Thread nD τ).loc main_arg3) (ix2 k col) := by
  have e : (V m c main_v0 (ix2 k col) : EReal) = m ((c.tc : Thread nD τ).loc main_arg3) (ix2 k col) := by
    unfold V; after_reads_at
  rw [← e]
  blk_ext [iblk, idx0 t]

theorem blk_cw (t : Fin grid0.N) (j : Fin 3) (d : Fin 2688) :
    (iblk m c 4 t (ix2 j d) : EReal) = m ((c.tc : Thread nD τ).loc main_arg4) (ix2 j d) := by
  rw [← V_main_arg4 m c]
  blk_ext [iblk, idx0 t]

set_option maxHeartbeats 1000000 in
theorem blk_cb (t : Fin grid0.N) (d : Fin 2688) :
    (iblk m c 5 t (ix2 0 d) : EReal) = m ((c.tc : Thread nD τ).loc main_arg5) (ix1 d) := by
  have e : (V m c main_v1 (ix2 0 d) : EReal) = m ((c.tc : Thread nD τ).loc main_arg5) (ix1 d) := by
    unfold V; after_reads_at
  rw [← e]
  blk_ext [iblk, idx0 t]

theorem blk_p (t : Fin grid0.N) (j : Fin 2) (b : Fin 128) (d : Fin 2688) :
    (iblk m c 6 t (ix3 j b d) : EReal) = m ((c.tc : Thread nD τ).loc main_arg6) (ix3 j b d) := by
  rw [← V_main_arg6 m c]
  blk_ext [iblk, idx0 t]

/-- A chunk's projection is the projection of the arguments. -/
theorem linB_eq (t : Fin grid0.N) (W : Vec Ideal S1024x896 .bf16) (b : Fin 128) (d : Fin 896) (col : Fin 5376)
    (hW : ∀ k, (W (ix2 k d) : EReal) = m ((c.tc : Thread nD τ).loc main_arg3) (ix2 k col)) :
    linB (iblk m c 0 t) (iblk m c 1 t) (iblk m c 2 t) W b d = linM m c b col := by
  unfold linB linM lin upOf
  refine Finset.sum_congr rfl fun k _ => ?_
  dsimp only
  rw [hW k, blk_x m c t b k, blk_sc m c t b k, blk_sh m c t b k]

/-- A chunk of the first result is the first result. -/
theorem outB_eq (t : Fin grid0.N) (W1 W2 : Vec Ideal S1024x896 .bf16) (P : Vec Ideal S2x128x896 .f32) (c0 c1 c2 cb : Vec Ideal S1x896 .f32)
    (b : Fin 128) (d : Fin 896) (dd : Fin 2688)
    (hW1 : ∀ k, (W1 (ix2 k d) : EReal) = m ((c.tc : Thread nD τ).loc main_arg3) (ix2 k ⟨dd.val, by omega⟩))
    (hW2 : ∀ k, (W2 (ix2 k d) : EReal) = m ((c.tc : Thread nD τ).loc main_arg3) (ix2 k ⟨2688 + dd.val, by omega⟩))
    (hP : ∀ j : Fin 2, (P (ix3 j b d) : EReal) = m ((c.tc : Thread nD τ).loc main_arg6) (ix3 j b dd))
    (h0 : (c0 (ix2 0 d) : EReal) = m ((c.tc : Thread nD τ).loc main_arg4) (ix2 0 dd))
    (h1 : (c1 (ix2 0 d) : EReal) = m ((c.tc : Thread nD τ).loc main_arg4) (ix2 1 dd))
    (h2 : (c2 (ix2 0 d) : EReal) = m ((c.tc : Thread nD τ).loc main_arg4) (ix2 2 dd))
    (hb : (cb (ix2 0 d) : EReal) = m ((c.tc : Thread nD τ).loc main_arg5) (ix1 dd)) :
    outB (iblk m c 0 t) (iblk m c 1 t) (iblk m c 2 t) W1 W2 P c0 c1 c2 cb b d = G7' m c (ix3 0 b dd) := by
  unfold outB
  rw [hP 0, hP 1, linB_eq m c t W1 b d ⟨dd.val, by omega⟩ hW1, linB_eq m c t W2 b d ⟨2688 + dd.val, by omega⟩ hW2, h0, h1, h2, hb]
  rfl

/-- A chunk of the kept rows is the second result. -/
theorem keepB_eq (t : Fin grid0.N) (W1 : Vec Ideal S1024x896 .bf16) (P : Vec Ideal S2x128x896 .f32) (s : Fin 2)
    (b : Fin 128) (d : Fin 896) (dd : Fin 2688)
    (hW1 : ∀ k, (W1 (ix2 k d) : EReal) = m ((c.tc : Thread nD τ).loc main_arg3) (ix2 k ⟨dd.val, by omega⟩))
    (hP : ∀ j : Fin 2, (P (ix3 j b d) : EReal) = m ((c.tc : Thread nD τ).loc main_arg6) (ix3 j b dd)) :
    keepB (iblk m c 0 t) (iblk m c 1 t) (iblk m c 2 t) W1 P s b d = G8' m c (ix3 s b dd) := by
  unfold keepB
  rw [hP 1, linB_eq m c t W1 b d ⟨dd.val, by omega⟩ hW1]
  rfl

/-- What the carried scratch holds of the two rows before. -/
theorem fill_eq (t : Fin grid0.N) (j : Fin 2) (b : Fin 128) (d : Fin 2688) :
    (k0_pay3 (iblk m c 6 t) (ix3 j b d) : EReal) = m ((c.tc : Thread nD τ).loc main_arg6) (ix3 j b d) :=
  (fill_at _ j b d).trans (blk_p m c t j b d)

theorem ld_w0 (t : Fin grid0.N) (k : Fin 1024) (d : Fin 896) (col : Fin 5376) (h : col.val = 0 + d.val) :
    (View.ld (iblk m c 3 t) (Rect.unit ![0, 0] ![1024, 896] inb_S1024x5376_S1024x896_0_0) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 0 + 1 * d.val = col.val; omega

theorem ld_v0 (t : Fin grid0.N) (k : Fin 1024) (d : Fin 896) (col : Fin 5376) (h : col.val = 2688 + d.val) :
    (View.ld (iblk m c 3 t) (Rect.unit ![0, 2688] ![1024, 896] inb_S1024x5376_S1024x896_0_2688) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 2688 + 1 * d.val = col.val; omega

theorem ld_b0 (t : Fin grid0.N) (d : Fin 896) (dd : Fin 2688) (h : dd.val = 0 + d.val) :
    (View.ld (iblk m c 5 t) (Rect.unit ![0, 0] ![1, 896] inb_S1x2688_S1x896_0_0) (ix2 0 d) : EReal)
      = m ((c.tc : Thread nD τ).loc main_arg5) (ix1 dd) := by
  rw [← blk_cb m c t dd]
  refine congrArg (iblk m c 5 t) ?_
  refine funext fun a => Fin.ext ?_
  fin_cases a
  · show 0 + 1 * 0 = 0; omega
  · show 0 + 1 * d.val = dd.val; omega

theorem ld_p0 (Y : Vec Ideal S2x128x2688 .f32) (j : Fin 2) (b : Fin 128) (d : Fin 896) (dd : Fin 2688) (h : dd.val = 0 + d.val) :
    (View.ld Y (Rect.unit ![0, 0, 0] ![2, 128, 896] inb_S2x128x2688_S2x128x896_0_0_0) (ix3 j b d) : EReal) = Y (ix3 j b dd) := by
  refine congrArg Y ?_
  refine funext fun a => Fin.ext ?_
  fin_cases a
  · show 0 + 1 * j.val = j.val; omega
  · show 0 + 1 * b.val = b.val; omega
  · show 0 + 1 * d.val = dd.val; omega

theorem ld_c0_0 (t : Fin grid0.N) (d : Fin 896) (dd : Fin 2688) (h : dd.val = 0 + d.val) :
    (View.ld (iblk m c 4 t) (Rect.unit ![0, 0] ![1, 896] inb_S3x2688_S1x896_0_0) (ix2 0 d) : EReal)
      = m ((c.tc : Thread nD τ).loc main_arg4) (ix2 0 dd) := by
  rw [← blk_cw m c t 0 dd]
  refine congrArg (iblk m c 4 t) ?_
  refine funext fun a => Fin.ext ?_
  fin_cases a
  · show 0 + 1 * 0 = 0; omega
  · show 0 + 1 * d.val = dd.val; omega

theorem ld_c1_0 (t : Fin grid0.N) (d : Fin 896) (dd : Fin 2688) (h : dd.val = 0 + d.val) :
    (View.ld (iblk m c 4 t) (Rect.unit ![1, 0] ![1, 896] inb_S3x2688_S1x896_1_0) (ix2 0 d) : EReal)
      = m ((c.tc : Thread nD τ).loc main_arg4) (ix2 1 dd) := by
  rw [← blk_cw m c t 1 dd]
  refine congrArg (iblk m c 4 t) ?_
  refine funext fun a => Fin.ext ?_
  fin_cases a
  · show 1 + 1 * 0 = 1; omega
  · show 0 + 1 * d.val = dd.val; omega

theorem ld_c2_0 (t : Fin grid0.N) (d : Fin 896) (dd : Fin 2688) (h : dd.val = 0 + d.val) :
    (View.ld (iblk m c 4 t) (Rect.unit ![2, 0] ![1, 896] inb_S3x2688_S1x896_2_0) (ix2 0 d) : EReal)
      = m ((c.tc : Thread nD τ).loc main_arg4) (ix2 2 dd) := by
  rw [← blk_cw m c t 2 dd]
  refine congrArg (iblk m c 4 t) ?_
  refine funext fun a => Fin.ext ?_
  fin_cases a
  · show 2 + 1 * 0 = 2; omega
  · show 0 + 1 * d.val = dd.val; omega

theorem ld_w1 (t : Fin grid0.N) (k : Fin 1024) (d : Fin 896) (col : Fin 5376) (h : col.val = 896 + d.val) :
    (View.ld (iblk m c 3 t) (Rect.unit ![0, 896] ![1024, 896] inb_S1024x5376_S1024x896_0_896) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 896 + 1 * d.val = col.val; omega

theorem ld_v1 (t : Fin grid0.N) (k : Fin 1024) (d : Fin 896) (col : Fin 5376) (h : col.val = 3584 + d.val) :
    (View.ld (iblk m c 3 t) (Rect.unit ![0, 3584] ![1024, 896] inb_S1024x5376_S1024x896_0_3584) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 3584 + 1 * d.val = col.val; omega

theorem ld_b1 (t : Fin grid0.N) (d : Fin 896) (dd : Fin 2688) (h : dd.val = 896 + d.val) :
    (View.ld (iblk m c 5 t) (Rect.unit ![0, 896] ![1, 896] inb_S1x2688_S1x896_0_896) (ix2 0 d) : EReal)
      = m ((c.tc : Thread nD τ).loc main_arg5) (ix1 dd) := by
  rw [← blk_cb m c t dd]
  refine congrArg (iblk m c 5 t) ?_
  refine funext fun a => Fin.ext ?_
  fin_cases a
  · show 0 + 1 * 0 = 0; omega
  · show 896 + 1 * d.val = dd.val; omega

theorem ld_p1 (Y : Vec Ideal S2x128x2688 .f32) (j : Fin 2) (b : Fin 128) (d : Fin 896) (dd : Fin 2688) (h : dd.val = 896 + d.val) :
    (View.ld Y (Rect.unit ![0, 0, 896] ![2, 128, 896] inb_S2x128x2688_S2x128x896_0_0_896) (ix3 j b d) : EReal) = Y (ix3 j b dd) := by
  refine congrArg Y ?_
  refine funext fun a => Fin.ext ?_
  fin_cases a
  · show 0 + 1 * j.val = j.val; omega
  · show 0 + 1 * b.val = b.val; omega
  · show 896 + 1 * d.val = dd.val; omega

theorem ld_c0_1 (t : Fin grid0.N) (d : Fin 896) (dd : Fin 2688) (h : dd.val = 896 + d.val) :
    (View.ld (iblk m c 4 t) (Rect.unit ![0, 896] ![1, 896] inb_S3x2688_S1x896_0_896) (ix2 0 d) : EReal)
      = m ((c.tc : Thread nD τ).loc main_arg4) (ix2 0 dd) := by
  rw [← blk_cw m c t 0 dd]
  refine congrArg (iblk m c 4 t) ?_
  refine funext fun a => Fin.ext ?_
  fin_cases a
  · show 0 + 1 * 0 = 0; omega
  · show 896 + 1 * d.val = dd.val; omega

theorem ld_c1_1 (t : Fin grid0.N) (d : Fin 896) (dd : Fin 2688) (h : dd.val = 896 + d.val) :
    (View.ld (iblk m c 4 t) (Rect.unit ![1, 896] ![1, 896] inb_S3x2688_S1x896_1_896) (ix2 0 d) : EReal)
      = m ((c.tc : Thread nD τ).loc main_arg4) (ix2 1 dd) := by
  rw [← blk_cw m c t 1 dd]
  refine congrArg (iblk m c 4 t) ?_
  refine funext fun a => Fin.ext ?_
  fin_cases a
  · show 1 + 1 * 0 = 1; omega
  · show 896 + 1 * d.val = dd.val; omega

theorem ld_c2_1 (t : Fin grid0.N) (d : Fin 896) (dd : Fin 2688) (h : dd.val = 896 + d.val) :
    (View.ld (iblk m c 4 t) (Rect.unit ![2, 896] ![1, 896] inb_S3x2688_S1x896_2_896) (ix2 0 d) : EReal)
      = m ((c.tc : Thread nD τ).loc main_arg4) (ix2 2 dd) := by
  rw [← blk_cw m c t 2 dd]
  refine congrArg (iblk m c 4 t) ?_
  refine funext fun a => Fin.ext ?_
  fin_cases a
  · show 2 + 1 * 0 = 2; omega
  · show 896 + 1 * d.val = dd.val; omega

theorem ld_w2 (t : Fin grid0.N) (k : Fin 1024) (d : Fin 896) (col : Fin 5376) (h : col.val = 1792 + d.val) :
    (View.ld (iblk m c 3 t) (Rect.unit ![0, 1792] ![1024, 896] inb_S1024x5376_S1024x896_0_1792) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 1792 + 1 * d.val = col.val; omega

theorem ld_v2 (t : Fin grid0.N) (k : Fin 1024) (d : Fin 896) (col : Fin 5376) (h : col.val = 4480 + d.val) :
    (View.ld (iblk m c 3 t) (Rect.unit ![0, 4480] ![1024, 896] inb_S1024x5376_S1024x896_0_4480) (ix2 k d) : EReal)
      = m ((c.tc : Thread nD τ).loc main_arg3) (ix2 k col) := by
  rw [← blk_w m c t k col]
  refine congrArg (iblk m c 3 t) ?_
  refine funext fun a => Fin.ext ?_
  fin_cases a
  · show 0 + 1 * k.val = k.val; omega
  · show 4480 + 1 * d.val = col.val; omega

theorem ld_b2 (t : Fin grid0.N) (d : Fin 896) (dd : Fin 2688) (h : dd.val = 1792 + d.val) :
    (View.ld (iblk m c 5 t) (Rect.unit ![0, 1792] ![1, 896] inb_S1x2688_S1x896_0_1792) (ix2 0 d) : EReal)
      = m ((c.tc : Thread nD τ).loc main_arg5) (ix1 dd) := by
  rw [← blk_cb m c t dd]
  refine congrArg (iblk m c 5 t) ?_
  refine funext fun a => Fin.ext ?_
  fin_cases a
  · show 0 + 1 * 0 = 0; omega
  · show 1792 + 1 * d.val = dd.val; omega

theorem ld_p2 (Y : Vec Ideal S2x128x2688 .f32) (j : Fin 2) (b : Fin 128) (d : Fin 896) (dd : Fin 2688) (h : dd.val = 1792 + d.val) :
    (View.ld Y (Rect.unit ![0, 0, 1792] ![2, 128, 896] inb_S2x128x2688_S2x128x896_0_0_1792) (ix3 j b d) : EReal) = Y (ix3 j b dd) := by
  refine congrArg Y ?_
  refine funext fun a => Fin.ext ?_
  fin_cases a
  · show 0 + 1 * j.val = j.val; omega
  · show 0 + 1 * b.val = b.val; omega
  · show 1792 + 1 * d.val = dd.val; omega

theorem ld_c0_2 (t : Fin grid0.N) (d : Fin 896) (dd : Fin 2688) (h : dd.val = 1792 + d.val) :
    (View.ld (iblk m c 4 t) (Rect.unit ![0, 1792] ![1, 896] inb_S3x2688_S1x896_0_1792) (ix2 0 d) : EReal)
      = m ((c.tc : Thread nD τ).loc main_arg4) (ix2 0 dd) := by
  rw [← blk_cw m c t 0 dd]
  refine congrArg (iblk m c 4 t) ?_
  refine funext fun a => Fin.ext ?_
  fin_cases a
  · show 0 + 1 * 0 = 0; omega
  · show 1792 + 1 * d.val = dd.val; omega

theorem ld_c1_2 (t : Fin grid0.N) (d : Fin 896) (dd : Fin 2688) (h : dd.val = 1792 + d.val) :
    (View.ld (iblk m c 4 t) (Rect.unit ![1, 1792] ![1, 896] inb_S3x2688_S1x896_1_1792) (ix2 0 d) : EReal)
      = m ((c.tc : Thread nD τ).loc main_arg4) (ix2 1 dd) := by
  rw [← blk_cw m c t 1 dd]
  refine congrArg (iblk m c 4 t) ?_
  refine funext fun a => Fin.ext ?_
  fin_cases a
  · show 1 + 1 * 0 = 1; omega
  · show 1792 + 1 * d.val = dd.val; omega

theorem ld_c2_2 (t : Fin grid0.N) (d : Fin 896) (dd : Fin 2688) (h : dd.val = 1792 + d.val) :
    (View.ld (iblk m c 4 t) (Rect.unit ![2, 1792] ![1, 896] inb_S3x2688_S1x896_2_1792) (ix2 0 d) : EReal)
      = m ((c.tc : Thread nD τ).loc main_arg4) (ix2 2 dd) := by
  rw [← blk_cw m c t 2 dd]
  refine congrArg (iblk m c 4 t) ?_
  refine funext fun a => Fin.ext ?_
  fin_cases a
  · show 2 + 1 * 0 = 2; omega
  · show 1792 + 1 * d.val = dd.val; omega

/-- Three chunks of columns, stored one beside another, hold `G` wherever each of them does. -/
theorem chunks2 {e : EltTy} (p0 p1 p2 : Vec Ideal S2x128x896 e) (G : Vec Ideal S2x128x2688 e) (L : List (View.Piece (Elt Ideal) S2x128x2688 e))
    (h0 : ∀ s b (d : Fin 896), p0 (ix3 s b d) = G (ix3 s b ⟨d.val, by omega⟩))
    (h1 : ∀ s b (d : Fin 896), p1 (ix3 s b d) = G (ix3 s b ⟨896 + d.val, by omega⟩))
    (h2 : ∀ s b (d : Fin 896), p2 (ix3 s b d) = G (ix3 s b ⟨1792 + d.val, by omega⟩)) (s : Fin 2) (b : Fin 128) (d : Fin 2688) :
    View.canon ((⟨Rect.unit ![0, 0, 1792] ![2, 128, 896] inb_S2x128x2688_S2x128x896_0_0_1792, p2⟩ : View.Piece (Elt Ideal) S2x128x2688 e) :: ⟨Rect.unit ![0, 0, 896] ![2, 128, 896] inb_S2x128x2688_S2x128x896_0_0_896, p1⟩ :: ⟨Rect.unit ![0, 0, 0] ![2, 128, 896] inb_S2x128x2688_S2x128x896_0_0_0, p0⟩ :: L) (ix3 s b d) = G (ix3 s b d) := by
  refine View.canon_append_of_pieces G L [⟨Rect.unit ![0, 0, 1792] ![2, 128, 896] inb_S2x128x2688_S2x128x896_0_0_1792, p2⟩, ⟨Rect.unit ![0, 0, 896] ![2, 128, 896] inb_S2x128x2688_S2x128x896_0_0_896, p1⟩, ⟨Rect.unit ![0, 0, 0] ![2, 128, 896] inb_S2x128x2688_S2x128x896_0_0_0, p0⟩] ?_ (ix3 s b d) ?_
  · intro pc hpc
    rcases List.mem_cons.mp hpc with rfl | hpc
    · intro (x : S2x128x896.Idx)
      idx_vars x
      refine (h2 x0 x1 x2).trans (congrArg G ?_)
      refine funext fun a => Fin.ext ?_
      fin_cases a
      · show x0.val = 0 + 1 * x0.val; omega
      · show x1.val = 0 + 1 * x1.val; omega
      · show 1792 + x2.val = 1792 + 1 * x2.val; omega
    rcases List.mem_cons.mp hpc with rfl | hpc
    · intro (x : S2x128x896.Idx)
      idx_vars x
      refine (h1 x0 x1 x2).trans (congrArg G ?_)
      refine funext fun a => Fin.ext ?_
      fin_cases a
      · show x0.val = 0 + 1 * x0.val; omega
      · show x1.val = 0 + 1 * x1.val; omega
      · show 896 + x2.val = 896 + 1 * x2.val; omega
    rcases List.mem_cons.mp hpc with rfl | hpc
    · intro (x : S2x128x896.Idx)
      idx_vars x
      refine (h0 x0 x1 x2).trans (congrArg G ?_)
      refine funext fun a => Fin.ext ?_
      fin_cases a
      · show x0.val = 0 + 1 * x0.val; omega
      · show x1.val = 0 + 1 * x1.val; omega
      · show x2.val = 0 + 1 * x2.val; omega
    nomatch hpc
  · by_cases l2 : 1792 ≤ d.val
    · refine ⟨_, List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 1792, by show d.val - 1792 < 896; omega, by show d.val = 1792 + 1 * (d.val - 1792); omega⟩
    by_cases l1 : 896 ≤ d.val
    · refine ⟨_, List.mem_cons_of_mem _ List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 896, by show d.val - 896 < 896; omega, by show d.val = 896 + 1 * (d.val - 896); omega⟩
    · refine ⟨_, List.mem_cons_of_mem _ (List.mem_cons_of_mem _ List.mem_cons_self), ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val, by show d.val < 896; omega, by show d.val = 0 + 1 * (d.val); omega⟩

/-- Three chunks of columns, stored one beside another, hold `G` wherever each of them does. -/
theorem chunks1 {e : EltTy} (p0 p1 p2 : Vec Ideal S1x128x896 e) (G : Vec Ideal S1x128x2688 e) (L : List (View.Piece (Elt Ideal) S1x128x2688 e))
    (h0 : ∀ s b (d : Fin 896), p0 (ix3 s b d) = G (ix3 s b ⟨d.val, by omega⟩))
    (h1 : ∀ s b (d : Fin 896), p1 (ix3 s b d) = G (ix3 s b ⟨896 + d.val, by omega⟩))
    (h2 : ∀ s b (d : Fin 896), p2 (ix3 s b d) = G (ix3 s b ⟨1792 + d.val, by omega⟩)) (s : Fin 1) (b : Fin 128) (d : Fin 2688) :
    View.canon ((⟨Rect.unit ![0, 0, 1792] ![1, 128, 896] inb_S1x128x2688_S1x128x896_0_0_1792, p2⟩ : View.Piece (Elt Ideal) S1x128x2688 e) :: ⟨Rect.unit ![0, 0, 896] ![1, 128, 896] inb_S1x128x2688_S1x128x896_0_0_896, p1⟩ :: ⟨Rect.unit ![0, 0, 0] ![1, 128, 896] inb_S1x128x2688_S1x128x896_0_0_0, p0⟩ :: L) (ix3 s b d) = G (ix3 s b d) := by
  refine View.canon_append_of_pieces G L [⟨Rect.unit ![0, 0, 1792] ![1, 128, 896] inb_S1x128x2688_S1x128x896_0_0_1792, p2⟩, ⟨Rect.unit ![0, 0, 896] ![1, 128, 896] inb_S1x128x2688_S1x128x896_0_0_896, p1⟩, ⟨Rect.unit ![0, 0, 0] ![1, 128, 896] inb_S1x128x2688_S1x128x896_0_0_0, p0⟩] ?_ (ix3 s b d) ?_
  · intro pc hpc
    rcases List.mem_cons.mp hpc with rfl | hpc
    · intro (x : S1x128x896.Idx)
      idx_vars x
      refine (h2 x0 x1 x2).trans (congrArg G ?_)
      refine funext fun a => Fin.ext ?_
      fin_cases a
      · show x0.val = 0 + 1 * x0.val; omega
      · show x1.val = 0 + 1 * x1.val; omega
      · show 1792 + x2.val = 1792 + 1 * x2.val; omega
    rcases List.mem_cons.mp hpc with rfl | hpc
    · intro (x : S1x128x896.Idx)
      idx_vars x
      refine (h1 x0 x1 x2).trans (congrArg G ?_)
      refine funext fun a => Fin.ext ?_
      fin_cases a
      · show x0.val = 0 + 1 * x0.val; omega
      · show x1.val = 0 + 1 * x1.val; omega
      · show 896 + x2.val = 896 + 1 * x2.val; omega
    rcases List.mem_cons.mp hpc with rfl | hpc
    · intro (x : S1x128x896.Idx)
      idx_vars x
      refine (h0 x0 x1 x2).trans (congrArg G ?_)
      refine funext fun a => Fin.ext ?_
      fin_cases a
      · show x0.val = 0 + 1 * x0.val; omega
      · show x1.val = 0 + 1 * x1.val; omega
      · show x2.val = 0 + 1 * x2.val; omega
    nomatch hpc
  · by_cases l2 : 1792 ≤ d.val
    · refine ⟨_, List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 1792, by show d.val - 1792 < 896; omega, by show d.val = 1792 + 1 * (d.val - 1792); omega⟩
    by_cases l1 : 896 ≤ d.val
    · refine ⟨_, List.mem_cons_of_mem _ List.mem_cons_self, ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val - 896, by show d.val - 896 < 896; omega, by show d.val = 896 + 1 * (d.val - 896); omega⟩
    · refine ⟨_, List.mem_cons_of_mem _ (List.mem_cons_of_mem _ List.mem_cons_self), ?_⟩
      refine (LoadRect.mem_set _).mpr fun a => ?_
      fin_cases a
      · exact ⟨s.val, s.isLt, by show s.val = 0 + 1 * s.val; omega⟩
      · exact ⟨b.val, b.isLt, by show b.val = 0 + 1 * b.val; omega⟩
      · exact ⟨d.val, by show d.val < 896; omega, by show d.val = 0 + 1 * (d.val); omega⟩

theorem kept_list (t : Fin grid0.N) (Y : Vec Ideal S2x128x2688 .f32)
    (hY : ∀ (j : Fin 2) (b : Fin 128) (d : Fin 2688), (Y (ix3 j b d) : EReal) = m ((c.tc : Thread nD τ).loc main_arg6) (ix3 j b d))
    (L : List (View.Piece (Elt Ideal) S2x128x2688 .f32)) (s : Fin 2) (b : Fin 128) (d : Fin 2688) :
    View.canon ((⟨Rect.unit ![0, 0, 1792] ![2, 128, 896] inb_S2x128x2688_S2x128x896_0_0_1792, k0_pay1 (k0_pay21 (k0_pay4 (iblk m c 0 t) (iblk m c 1 t) (iblk m c 2 t)) (View.ld (iblk m c 3 t) (Rect.unit ![0, 1792] ![1024, 896] inb_S1024x5376_S1024x896_0_1792)) (View.ld Y (Rect.unit ![0, 0, 1792] ![2, 128, 896] inb_S2x128x2688_S2x128x896_0_0_1792)))⟩ : View.Piece (Elt Ideal) S2x128x2688 .f32)
      :: ⟨Rect.unit ![0, 0, 896] ![2, 128, 896] inb_S2x128x2688_S2x128x896_0_0_896, k0_pay15 (k0_pay10 (k0_pay4 (iblk m c 0 t) (iblk m c 1 t) (iblk m c 2 t)) (View.ld (iblk m c 3 t) (Rect.unit ![0, 896] ![1024, 896] inb_S1024x5376_S1024x896_0_896))) (View.ld Y (Rect.unit ![0, 0, 896] ![2, 128, 896] inb_S2x128x2688_S2x128x896_0_0_896))⟩
      :: ⟨Rect.unit ![0, 0, 0] ![2, 128, 896] inb_S2x128x2688_S2x128x896_0_0_0, k0_pay8 (k0_pay6 (iblk m c 0 t) (iblk m c 1 t) (iblk m c 2 t) (View.ld (iblk m c 3 t) (Rect.unit ![0, 0] ![1024, 896] inb_S1024x5376_S1024x896_0_0)) (View.ld Y (Rect.unit ![0, 0, 0] ![2, 128, 896] inb_S2x128x2688_S2x128x896_0_0_0)))⟩ :: L) (ix3 s b d)
      = G8' m c (ix3 s b d) := by
  refine chunks2 _ _ _ (G8' m c) L (fun s b d => ?_) (fun s b d => ?_) (fun s b d => ?_) s b d
  · exact (keep0_at _ _ _ _ _ s b d).trans (keepB_eq m c t _ _ s b d _ (fun q => ld_w0 m c t q d _ (Nat.zero_add _).symm) (fun j => (ld_p0 Y j b d _ (Nat.zero_add _).symm).trans (hY j b _)))
  · exact (keep1_at _ _ _ _ _ s b d).trans (keepB_eq m c t _ _ s b d _ (fun q => ld_w1 m c t q d _ rfl) (fun j => (ld_p1 Y j b d _ rfl).trans (hY j b _)))
  · exact (keep2_at _ _ _ _ _ s b d).trans (keepB_eq m c t _ _ s b d _ (fun q => ld_w2 m c t q d _ rfl) (fun j => (ld_p2 Y j b d _ rfl).trans (hY j b _)))

theorem out_list (t : Fin grid0.N) (Y : Vec Ideal S2x128x2688 .f32)
    (hY : ∀ (j : Fin 2) (b : Fin 128) (d : Fin 2688), (Y (ix3 j b d) : EReal) = m ((c.tc : Thread nD τ).loc main_arg6) (ix3 j b d))
    (L : List (View.Piece (Elt Ideal) S1x128x2688 .bf16)) (s : Fin 1) (b : Fin 128) (d : Fin 2688) :
    View.canon ((⟨Rect.unit ![0, 0, 1792] ![1, 128, 896] inb_S1x128x2688_S1x128x896_0_0_1792, k0_pay2 (k0_pay18 (k0_pay4 (iblk m c 0 t) (iblk m c 1 t) (iblk m c 2 t)) (View.ld (iblk m c 3 t) (Rect.unit ![0, 4480] ![1024, 896] inb_S1024x5376_S1024x896_0_4480))) (k0_pay20 (k0_pay4 (iblk m c 0 t) (iblk m c 1 t) (iblk m c 2 t)) (View.ld (iblk m c 3 t) (Rect.unit ![0, 1792] ![1024, 896] inb_S1024x5376_S1024x896_0_1792)) (View.ld Y (Rect.unit ![0, 0, 1792] ![2, 128, 896] inb_S2x128x2688_S2x128x896_0_0_1792)) (View.ld (iblk m c 4 t) (Rect.unit ![0, 1792] ![1, 896] inb_S3x2688_S1x896_0_1792)) (View.ld (iblk m c 4 t) (Rect.unit ![1, 1792] ![1, 896] inb_S3x2688_S1x896_1_1792)) (View.ld (iblk m c 4 t) (Rect.unit ![2, 1792] ![1, 896] inb_S3x2688_S1x896_2_1792)) (View.ld (iblk m c 5 t) (Rect.unit ![0, 1792] ![1, 896] inb_S1x2688_S1x896_0_1792)))⟩ : View.Piece (Elt Ideal) S1x128x2688 .bf16)
      :: ⟨Rect.unit ![0, 0, 896] ![1, 128, 896] inb_S1x128x2688_S1x128x896_0_0_896, k0_pay17 (k0_pay12 (k0_pay11 (k0_pay4 (iblk m c 0 t) (iblk m c 1 t) (iblk m c 2 t)) (View.ld (iblk m c 3 t) (Rect.unit ![0, 3584] ![1024, 896] inb_S1024x5376_S1024x896_0_3584)))) (k0_pay14 (k0_pay10 (k0_pay4 (iblk m c 0 t) (iblk m c 1 t) (iblk m c 2 t)) (View.ld (iblk m c 3 t) (Rect.unit ![0, 896] ![1024, 896] inb_S1024x5376_S1024x896_0_896))) (View.ld Y (Rect.unit ![0, 0, 896] ![2, 128, 896] inb_S2x128x2688_S2x128x896_0_0_896)) (View.ld (iblk m c 4 t) (Rect.unit ![0, 896] ![1, 896] inb_S3x2688_S1x896_0_896)) (View.ld (iblk m c 4 t) (Rect.unit ![1, 896] ![1, 896] inb_S3x2688_S1x896_1_896)) (View.ld (iblk m c 4 t) (Rect.unit ![2, 896] ![1, 896] inb_S3x2688_S1x896_2_896)) (View.ld (iblk m c 5 t) (Rect.unit ![0, 896] ![1, 896] inb_S1x2688_S1x896_0_896))) (k0_pay16 (k0_pay10 (k0_pay4 (iblk m c 0 t) (iblk m c 1 t) (iblk m c 2 t)) (View.ld (iblk m c 3 t) (Rect.unit ![0, 896] ![1024, 896] inb_S1024x5376_S1024x896_0_896))) (View.ld Y (Rect.unit ![0, 0, 896] ![2, 128, 896] inb_S2x128x2688_S2x128x896_0_0_896)) (View.ld (iblk m c 4 t) (Rect.unit ![0, 896] ![1, 896] inb_S3x2688_S1x896_0_896)) (View.ld (iblk m c 4 t) (Rect.unit ![1, 896] ![1, 896] inb_S3x2688_S1x896_1_896)) (View.ld (iblk m c 4 t) (Rect.unit ![2, 896] ![1, 896] inb_S3x2688_S1x896_2_896)) (View.ld (iblk m c 5 t) (Rect.unit ![0, 896] ![1, 896] inb_S1x2688_S1x896_0_896)))⟩
      :: ⟨Rect.unit ![0, 0, 0] ![1, 128, 896] inb_S1x128x2688_S1x128x896_0_0_0, k0_pay9 (k0_pay5 (iblk m c 0 t) (iblk m c 1 t) (iblk m c 2 t) (View.ld (iblk m c 3 t) (Rect.unit ![0, 2688] ![1024, 896] inb_S1024x5376_S1024x896_0_2688))) (k0_pay6 (iblk m c 0 t) (iblk m c 1 t) (iblk m c 2 t) (View.ld (iblk m c 3 t) (Rect.unit ![0, 0] ![1024, 896] inb_S1024x5376_S1024x896_0_0)) (View.ld Y (Rect.unit ![0, 0, 0] ![2, 128, 896] inb_S2x128x2688_S2x128x896_0_0_0))) (k0_pay7 (iblk m c 0 t) (iblk m c 1 t) (iblk m c 2 t) (View.ld (iblk m c 3 t) (Rect.unit ![0, 0] ![1024, 896] inb_S1024x5376_S1024x896_0_0)) (View.ld Y (Rect.unit ![0, 0, 0] ![2, 128, 896] inb_S2x128x2688_S2x128x896_0_0_0)) (View.ld (iblk m c 4 t) (Rect.unit ![0, 0] ![1, 896] inb_S3x2688_S1x896_0_0)) (View.ld (iblk m c 4 t) (Rect.unit ![1, 0] ![1, 896] inb_S3x2688_S1x896_1_0))) (View.ld (iblk m c 4 t) (Rect.unit ![2, 0] ![1, 896] inb_S3x2688_S1x896_2_0)) (View.ld (iblk m c 5 t) (Rect.unit ![0, 0] ![1, 896] inb_S1x2688_S1x896_0_0))⟩ :: L) (ix3 s b d)
      = G7' m c (ix3 s b d) := by
  refine chunks1 _ _ _ (G7' m c) L (fun s b d => ?_) (fun s b d => ?_) (fun s b d => ?_) s b d
  · obtain rfl : s = 0 := Subsingleton.elim _ _
    exact (out0_at _ _ _ _ _ _ _ _ _ _ b d).trans (outB_eq m c t _ _ _ _ _ _ _ b d _ (fun q => ld_w0 m c t q d _ (Nat.zero_add _).symm)
      (fun q => ld_v0 m c t q d _ rfl) (fun j => (ld_p0 Y j b d _ (Nat.zero_add _).symm).trans (hY j b _))
      (ld_c0_0 m c t d _ (Nat.zero_add _).symm) (ld_c1_0 m c t d _ (Nat.zero_add _).symm) (ld_c2_0 m c t d _ (Nat.zero_add _).symm) (ld_b0 m c t d _ (Nat.zero_add _).symm))
  · obtain rfl : s = 0 := Subsingleton.elim _ _
    exact (out1_at _ _ _ _ _ _ _ _ _ _ b d).trans (outB_eq m c t _ _ _ _ _ _ _ b d _ (fun q => ld_w1 m c t q d _ rfl)
      (fun q => ld_v1 m c t q d _ (by show 2688 + (896 + d.val) = 3584 + d.val; omega)) (fun j => (ld_p1 Y j b d _ rfl).trans (hY j b _))
      (ld_c0_1 m c t d _ rfl) (ld_c1_1 m c t d _ rfl) (ld_c2_1 m c t d _ rfl) (ld_b1 m c t d _ rfl))
  · obtain rfl : s = 0 := Subsingleton.elim _ _
    exact (out2_at _ _ _ _ _ _ _ _ _ _ b d).trans (outB_eq m c t _ _ _ _ _ _ _ b d _ (fun q => ld_w2 m c t q d _ rfl)
      (fun q => ld_v2 m c t q d _ (by show 2688 + (1792 + d.val) = 4480 + d.val; omega)) (fun j => (ld_p2 Y j b d _ rfl).trans (hY j b _))
      (ld_c0_2 m c t d _ rfl) (ld_c1_2 m c t d _ rfl) (ld_c2_2 m c t d _ rfl) (ld_b2 m c t d _ rfl))

theorem arr7 : (dats m 0 c).arrAt 7 cfg0.N = G7' m c := by
  refine (dats m 0 c).arrAt_eq_of_covers 7 _ (by decide +kernel) fun t hf y => ?_
  rw [after0_7]
  unfold outsAt0
  frame_open
  simp (disch := decide) only [↓ View.readCov_skip, ↓ View.readCov_cons_toLoadRect, ↓ View.readCov_fill]
  frame_out
  blk_simp
  idx_vars y
  refine Eq.trans ?_ (congrArg (G7' m c) (?_ : ix3 y0 y1 y2 = _))
  · exact out_list m c t _ (fill_eq m c t) [] y0 y1 y2
  · blk_ext [idx0 t]

theorem arr8 : (dats m 0 c).arrAt 8 cfg0.N = G8' m c := by
  refine (dats m 0 c).arrAt_eq_of_covers 8 _ (by decide +kernel) fun t hf y => ?_
  rw [after0_8]
  unfold outsAt0
  frame_open
  simp (disch := decide) only [↓ View.readCov_skip, ↓ View.readCov_cons_toLoadRect, ↓ View.readCov_fill]
  frame_out
  blk_simp
  idx_vars y
  rw [View.readCov_eq_canon']
  refine Eq.trans ?_ (congrArg (G8' m c) (?_ : ix3 y0 y1 y2 = _))
  · refine Eq.trans (congrArg (View.canon _) (?_ : _ = ix3 y0 y1 y2)) (kept_list m c t _ (fill_eq m c t) _ y0 y1 y2)
    refine funext fun a => Fin.ext ?_
    fin_cases a
    · show 0 + 1 * y0.val = y0.val; omega
    · show 0 + 1 * y1.val = y1.val; omega
    · show 0 + 1 * y2.val = y2.val; omega
  · blk_ext [idx0 t]

end Blocks

/-- The reference runs, and its arguments end as they were. -/
theorem frame_ref : Cert.quiescent_FfnUpSRefIdeal := fun m ρ _ =>
  (θ_run Cert.FfnUpSRefIdeal.defs _ _).mono (fun r h => ⟨fun c => (h c).2.2, sem_eq_zero_of_no_sems (by decide) r.2⟩)
    (Cert.FfnUpSRefIdeal.Value.run (F := Ideal) m ρ)

theorem algebraic : Cert.algebraic_FfnUpSIdeal_FfnUpSRefIdeal := by
  intro m ρ m' ρ' _ hagree
  refine ⟨fun c => G7' m c, fun c => G8' m c, (θ_run _ _ _).mono (fun _ h c => ?_) (Value.run_blocks m ρ),
    (θ_run _ _ _).mono (fun _ h c => ?_) (Cert.FfnUpSRefIdeal.Value.run (F := Ideal) m' ρ')⟩
  · exact ⟨(h c).1.trans (arr7 m c), (h c).2.1.trans (arr8 m c), (h c).2.2⟩
  · obtain ⟨e0, e1, e2, e3, e4, e5, e6⟩ := hagree c
    refine ⟨(h c).1.trans ?_, (h c).2.1.trans ?_, (h c).2.2⟩
    · rw [val_main_v47_eq, e0, e1, e2, e3, e4, e5, e6]
      funext i
      idx_vars i
      obtain rfl : i0 = 0 := Subsingleton.elim _ _
      exact ref_out _ _ _ _ _ _ _ i1 i2
    · rw [val_main_v48_eq, e0, e1, e2, e3, e6]
      funext i
      idx_vars i
      exact ref_keep _ _ _ _ _ i0 i1 i2

end Cert.FfnUpSIdeal.Gen

end
-- ==== Proof.FfnDownSValue.lean ====
/- The down-projection of the sample batch with its residual and layer norm: what the block of the kernel holds, and the reference's result, are the
   same function of the arguments. -/
module

public import proofs.«01_k».proof.Proof.DeepNorm
public import proofs.«01_k».proof.Proof.Gen.FfnDownSIdeal.Value
public import proofs.«01_k».proof.Proof.Gen.FfnDownSRefIdeal.Read
public import Idealize.ShloMosaic.Lib.Pipeline.ValueKit
public import Idealize.ShloMosaic.Lib.StableHlo.ReadAt
public import Idealize.ShloMosaic.Lib.Claim
public import Idealize.ShloMosaic.Lib.Quiescent
public import proofs.«01_k».proof.Defs

@[expose] public section

set_option maxRecDepth 16384

noncomputable section

namespace Cert.FfnDownSIdeal.Gen

open Idealize.ShloMosaic Idealize.ShloMosaic.TcCoe Idealize.ShloMosaic.Tactic
open Cert.Layer Cert.FfnDownSRefIdeal.Read
open Idealize.SL.Sem

/-- The result of request `t` at column `d`. -/
def downAt (a : Vec Ideal S128x2688 .bf16) (w : Vec Ideal S2688x1024 .f32) (x : Vec Ideal S128x1024 .f32) (gate : Vec Ideal S1x128x1024 .f32)
    (g h : Vec Ideal S1024 .f32) (t : Fin 128) (d : Fin 1024) : EReal :=
  layerNorm (fun d => mixed (x (ix2 t d)) (gate (ix3 0 t d))
    (∑ k : Fin 2688, (a (ix2 t k) : EReal) * w (ix2 k d))) (g (ix1 d)) (h (ix1 d)) d

theorem pay_at (a : Vec Ideal S128x2688 .bf16) (w : Vec Ideal S2688x1024 .bf16) (x : Vec Ideal S128x1024 .f32) (gate : Vec Ideal S1x128x1024 .f32)
    (g h : Vec Ideal S1x1024 .f32) (r : Fin 128) (d : Fin 1024) :
    (k0_pay1 (k0_pay2 a w x gate g) (k0_pay3 h) (ix3 0 r d) : EReal)
      = layerNorm (fun d => mixed (x (ix2 r d)) (gate (ix3 0 r d)) (∑ k : Fin 2688, (a (ix2 r k) : EReal) * w (ix2 k d))) (g (ix2 0 d)) (h (ix2 0 d)) d := by
  pointwise [k0_pay1, k0_pay2, k0_pay3]
  rfl

theorem ref_at (a : Vec Ideal S128x2688 .bf16) (w : Vec Ideal S2688x1024 .f32) (x : Vec Ideal S128x1024 .f32) (gate : Vec Ideal S1x128x1024 .f32)
    (g h : Vec Ideal S1024 .f32) (t : Fin 128) (d : Fin 1024) :
    (val_main_v35 (F := Ideal) a w x gate g h (ix3 0 t d) : EReal) = downAt a w x gate g h t d := by
  pointwise [val_main_v0, val_main_v1, val_main_v2, val_main_v3, val_main_v4, val_main_v5, val_main_cst, val_main_v6, val_main_v7, val_main_cst_0, val_main_v8, val_main_v9, val_main_v10, val_main_v11, val_main_cst_1, val_main_v12, val_main_v13, val_main_cst_2, val_main_v14, val_main_v15, val_main_v16, val_main_v17, val_main_v18, val_main_cst_3, val_main_v19, val_main_v20, val_main_cst_4, val_main_v21, val_main_v22, val_main_v23, val_main_v24, val_main_cst_5, val_main_v25, val_main_v26, val_main_v27, val_main_v28, val_main_v29, val_main_v30, val_main_v31, val_main_v32, val_main_v33, val_main_v34, val_main_v35]
  rfl

theorem idx0 : ∀ t : Fin grid0.N, win0_0.index t = ![0, 0] ∧ win0_1.index t = ![0, 0] ∧ win0_2.index t = ![0, 0]
    ∧ win0_3.index t = ![0, 0, 0] ∧ win0_4.index t = ![0, 0] ∧ win0_5.index t = ![0, 0] ∧ win0_6.index t = ![0, 0, 0] := by decide +kernel

section

variable (m : (ℓ : Loc nD τ sig) → Buf (Elt Ideal) ℓ) (c : Dev nD)

/-- The result as one array. -/
def G : Vec Ideal S1x128x1024 .f32 := fun i =>
  downAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (i 1) (i 2)

theorem out_at (t : Fin grid0.N) (r : Fin 128) (d : Fin 1024) :
    (k0_pay1 (k0_pay2 (iblk m c 0 t) (iblk m c 1 t) (iblk m c 2 t) (iblk m c 3 t) (iblk m c 4 t)) (k0_pay3 (iblk m c 5 t)) (ix3 0 r d) : EReal)
      = G m c (ix3 0 r d) := by
  refine (pay_at _ _ _ _ _ _ r d).trans ?_
  simp only [G, downAt, layerNorm, mean, mixed]
  blk_point [iblk, V, idx0 t]

theorem arr : (dats m 0 c).arrAt 6 cfg0.N = G m c := by
  refine (dats m 0 c).arrAt_eq_of_covers 6 _ (by decide +kernel) fun t hf y => ?_
  rw [after0_6]
  frame_out
  blk_simp
  idx_vars y
  obtain rfl : y0 = 0 := Subsingleton.elim _ _
  refine (out_at m c t y1 y2).trans (congrArg (G m c) ?_)
  blk_ext [idx0 t]

end

/-- The reference runs, and its arguments end as they were. -/
theorem frame_ref : Cert.quiescent_FfnDownSRefIdeal := fun m ρ _ =>
  (θ_run Cert.FfnDownSRefIdeal.defs _ _).mono (fun r h => ⟨fun c => (h c).2, sem_eq_zero_of_no_sems (by decide) r.2⟩)
    (Cert.FfnDownSRefIdeal.Value.run (F := Ideal) m ρ)

theorem algebraic : Cert.algebraic_FfnDownSIdeal_FfnDownSRefIdeal := by
  intro m ρ m' ρ' _ hagree
  refine ⟨fun c => G m c, (θ_run _ _ _).mono (fun _ h c => ?_) (Value.run_blocks m ρ),
    (θ_run _ _ _).mono (fun _ h c => ?_) (Cert.FfnDownSRefIdeal.Value.run (F := Ideal) m' ρ')⟩
  · exact ⟨(h c).1.trans (arr m c), (h c).2⟩
  · obtain ⟨e0, e1, e2, e3, e4, e5⟩ := hagree c
    refine ⟨(h c).1.trans ?_, (h c).2⟩
    rw [val_main_v35_eq, e0, e1, e2, e3, e4, e5]
    funext i
    idx_vars i
    obtain rfl : i0 = 0 := Subsingleton.elim _ _
    exact ref_at _ _ _ _ _ _ i1 i2

end Cert.FfnDownSIdeal.Gen

end
-- ==== Proof.ProjAbSValue.lean ====
/- The modulated input projection of the sample batch: what the kernel's blocks hold, and the reference's results, are the same
   functions of the arguments. -/
module

public import proofs.«01_k».proof.Proof.Gen.ProjAbSIdeal.Value
public import proofs.«01_k».proof.Proof.Gen.ProjAbSRefIdeal.Read
public import Idealize.ShloMosaic.Lib.Pointwise
public import Idealize.ShloMosaic.Lib.Pipeline.ValueKit
public import Idealize.ShloMosaic.Lib.StableHlo.ReadAt
public import Idealize.ShloMosaic.Lib.Claim
public import Idealize.ShloMosaic.Lib.Quiescent
public import proofs.«01_k».proof.Defs

@[expose] public section

set_option maxRecDepth 16384

noncomputable section

namespace Cert.ProjAbSIdeal.Gen

open Idealize.ShloMosaic Idealize.ShloMosaic.TcCoe Idealize.ShloMosaic.Tactic
open Cert.ProjAbSRefIdeal.Read
open Idealize.SL.Sem

/-- The projected value of request `r` at column `j`: the row `x (1 + scale) + shift` against the weight's column. -/
def projAt (x sc sh : Vec Ideal S1x128x1024 .f32) (w : Vec Ideal S1x1024x2328 .f32) (r : Fin 128) (j : Fin 2328) : EReal :=
  ∑ k : Fin 1024, ((x (ix3 0 r k) : EReal) * (1 + sc (ix3 0 r k)) + sh (ix3 0 r k)) * w (ix3 0 k j)

/-- Result 0: the columns from 0 on. -/
def res0 (x sc sh : Vec Ideal S1x128x1024 .f32) (w : Vec Ideal S1x1024x2328 .f32) : Vec Ideal S1x128x512 .f32 := fun i =>
  projAt x sc sh w (i 1) ⟨0 + (i 2).val, by have h : (i 2).val < 512 := (i 2).isLt; omega⟩

/-- Result 1: the columns from 512 on. -/
def res1 (x sc sh : Vec Ideal S1x128x1024 .f32) (w : Vec Ideal S1x1024x2328 .f32) : Vec Ideal S1x128x256 .f32 := fun i =>
  projAt x sc sh w (i 1) ⟨512 + (i 2).val, by have h : (i 2).val < 256 := (i 2).isLt; omega⟩

/-- Result 2: the columns from 768 on. -/
def res2 (x sc sh : Vec Ideal S1x128x1024 .f32) (w : Vec Ideal S1x1024x2328 .f32) : Vec Ideal S1x128x256 .f32 := fun i =>
  projAt x sc sh w (i 1) ⟨768 + (i 2).val, by have h : (i 2).val < 256 := (i 2).isLt; omega⟩

/-- Result 3: the columns from 1024 on. -/
def res3 (x sc sh : Vec Ideal S1x128x1024 .f32) (w : Vec Ideal S1x1024x2328 .f32) : Vec Ideal S1x128x256 .f32 := fun i =>
  projAt x sc sh w (i 1) ⟨1024 + (i 2).val, by have h : (i 2).val < 256 := (i 2).isLt; omega⟩

/-- Result 4: the columns from 1280 on, padded with zeros to 128 columns. -/
def res4 (x sc sh : Vec Ideal S1x128x1024 .f32) (w : Vec Ideal S1x1024x2328 .f32) : Vec Ideal S1x128x128 .f32 := fun i =>
  if h : (i 2).val < 24 then projAt x sc sh w (i 1) ⟨1280 + (i 2).val, by omega⟩ else 0

/-- Result 5: the columns from 1304 on. -/
def res5 (x sc sh : Vec Ideal S1x128x1024 .f32) (w : Vec Ideal S1x1024x2328 .f32) : Vec Ideal S128x512 .f32 := fun i =>
  projAt x sc sh w (i 0) ⟨1304 + (i 1).val, by have h : (i 1).val < 512 := (i 1).isLt; omega⟩

/-- Result 6: the columns from 1816 on. -/
def res6 (x sc sh : Vec Ideal S1x128x1024 .f32) (w : Vec Ideal S1x1024x2328 .f32) : Vec Ideal S128x512 .f32 := fun i =>
  projAt x sc sh w (i 0) ⟨1816 + (i 1).val, by have h : (i 1).val < 512 := (i 1).isLt; omega⟩

theorem idx0 : ∀ t : Fin grid0.N, win0_0.index t = ![0, 0, 0]
    ∧ win0_1.index t = ![0, 0, 0]
    ∧ win0_2.index t = ![0, 0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0, 0]
    ∧ win0_11.index t = ![0, 0, 0]
    ∧ win0_12.index t = ![0, 0, 0]
    ∧ win0_13.index t = ![0, 0, 0]
    ∧ win0_14.index t = ![0, 0, 0]
    ∧ win0_15.index t = ![0, 0]
    ∧ win0_16.index t = ![0, 0] := by
  decide +kernel

theorem zero_f32 : (FloatOps.sitofp (F := Ideal) FTy.f32 0#32 : EReal) = 0 := by
  show (((0#32 : BitVec 32).toInt : ℝ) : EReal) = 0
  norm_num

theorem zero_bf16 : (FloatOps.sitofp (F := Ideal) FTy.bf16 0#32 : EReal) = 0 := zero_f32

theorem pay0 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 512) :
    (k0_pay7 x0 x1 x2 x3 (ix3 0 r j) : EReal)
      = ∑ k : Fin 1024, ((x0 (ix3 0 r k) : EReal) * (1 + x1 (ix3 0 r k)) + x2 (ix3 0 r k)) * x3 (ix2 k j) := by
  pointwise [k0_pay1, k0_pay2, k0_pay3, k0_pay4, k0_pay5, k0_pay6, k0_pay7, k0_pay8, k0_pay9, k0_pay10]

theorem pay1 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 256) :
    (k0_pay8 x0 x1 x2 x4 (ix3 0 r j) : EReal)
      = ∑ k : Fin 1024, ((x0 (ix3 0 r k) : EReal) * (1 + x1 (ix3 0 r k)) + x2 (ix3 0 r k)) * x4 (ix2 k j) := by
  pointwise [k0_pay1, k0_pay2, k0_pay3, k0_pay4, k0_pay5, k0_pay6, k0_pay7, k0_pay8, k0_pay9, k0_pay10]

theorem pay2 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 256) :
    (k0_pay1 (k0_pay9 x0 x1 x2 x5) (ix3 0 r j) : EReal)
      = ∑ k : Fin 1024, ((x0 (ix3 0 r k) : EReal) * (1 + x1 (ix3 0 r k)) + x2 (ix3 0 r k)) * x5 (ix2 k j) := by
  pointwise [k0_pay1, k0_pay2, k0_pay3, k0_pay4, k0_pay5, k0_pay6, k0_pay7, k0_pay8, k0_pay9, k0_pay10]

theorem pay3 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 256) :
    (k0_pay2 (k0_pay10 x0 x1 x2 x3 x4 x5 x6 x7 x8 x9) x6 (ix3 0 r j) : EReal)
      = ∑ k : Fin 1024, ((x0 (ix3 0 r k) : EReal) * (1 + x1 (ix3 0 r k)) + x2 (ix3 0 r k)) * x6 (ix2 k j) := by
  pointwise [k0_pay1, k0_pay2, k0_pay3, k0_pay4, k0_pay5, k0_pay6, k0_pay7, k0_pay8, k0_pay9, k0_pay10]

theorem pay4 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 128) :
    (k0_pay3 (k0_pay10 x0 x1 x2 x3 x4 x5 x6 x7 x8 x9) x7 (ix3 0 r j) : EReal)
      = ∑ k : Fin 1024, ((x0 (ix3 0 r k) : EReal) * (1 + x1 (ix3 0 r k)) + x2 (ix3 0 r k)) * x7 (ix2 k j) := by
  pointwise [k0_pay1, k0_pay2, k0_pay3, k0_pay4, k0_pay5, k0_pay6, k0_pay7, k0_pay8, k0_pay9, k0_pay10]

theorem pay5 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 512) :
    (k0_pay4 (k0_pay10 x0 x1 x2 x3 x4 x5 x6 x7 x8 x9) x8 (ix2 r j) : EReal)
      = ∑ k : Fin 1024, ((x0 (ix3 0 r k) : EReal) * (1 + x1 (ix3 0 r k)) + x2 (ix3 0 r k)) * x8 (ix2 k j) := by
  pointwise [k0_pay1, k0_pay2, k0_pay3, k0_pay4, k0_pay5, k0_pay6, k0_pay7, k0_pay8, k0_pay9, k0_pay10]

theorem pay6 (x0 : Vec Ideal S1x128x1024 .f32) (x1 : Vec Ideal S1x128x1024 .f32) (x2 : Vec Ideal S1x128x1024 .f32) (x3 : Vec Ideal S1024x512 .bf16) (x4 : Vec Ideal S1024x256 .bf16) (x5 : Vec Ideal S1024x256 .bf16) (x6 : Vec Ideal S1024x256 .bf16) (x7 : Vec Ideal S1024x128 .bf16) (x8 : Vec Ideal S1024x512 .bf16) (x9 : Vec Ideal S1024x512 .bf16) (r : Fin 128) (j : Fin 512) :
    (k0_pay5 (k0_pay10 x0 x1 x2 x3 x4 x5 x6 x7 x8 x9) x9 (ix2 r j) : EReal)
      = ∑ k : Fin 1024, ((x0 (ix3 0 r k) : EReal) * (1 + x1 (ix3 0 r k)) + x2 (ix3 0 r k)) * x9 (ix2 k j) := by
  pointwise [k0_pay1, k0_pay2, k0_pay3, k0_pay4, k0_pay5, k0_pay6, k0_pay7, k0_pay8, k0_pay9, k0_pay10]

section

variable (m : (ℓ : Loc nD τ sig) → Buf (Elt Ideal) ℓ) (c : Dev nD)

/-- Result 0 of the program's arguments. -/
def G0 : Vec Ideal S1x128x512 .f32 := res0 (m ((c.tc : Thread nD τ).loc main_arg0)) (m ((c.tc : Thread nD τ).loc main_arg1)) (m ((c.tc : Thread nD τ).loc main_arg2)) (m ((c.tc : Thread nD τ).loc main_arg3))

/-- Result 1 of the program's arguments. -/
def G1 : Vec Ideal S1x128x256 .f32 := res1 (m ((c.tc : Thread nD τ).loc main_arg0)) (m ((c.tc : Thread nD τ).loc main_arg1)) (m ((c.tc : Thread nD τ).loc main_arg2)) (m ((c.tc : Thread nD τ).loc main_arg3))

/-- Result 2 of the program's arguments. -/
def G2 : Vec Ideal S1x128x256 .f32 := res2 (m ((c.tc : Thread nD τ).loc main_arg0)) (m ((c.tc : Thread nD τ).loc main_arg1)) (m ((c.tc : Thread nD τ).loc main_arg2)) (m ((c.tc : Thread nD τ).loc main_arg3))

/-- Result 3 of the program's arguments. -/
def G3 : Vec Ideal S1x128x256 .f32 := res3 (m ((c.tc : Thread nD τ).loc main_arg0)) (m ((c.tc : Thread nD τ).loc main_arg1)) (m ((c.tc : Thread nD τ).loc main_arg2)) (m ((c.tc : Thread nD τ).loc main_arg3))

/-- Result 4 of the program's arguments. -/
def G4 : Vec Ideal S1x128x128 .f32 := res4 (m ((c.tc : Thread nD τ).loc main_arg0)) (m ((c.tc : Thread nD τ).loc main_arg1)) (m ((c.tc : Thread nD τ).loc main_arg2)) (m ((c.tc : Thread nD τ).loc main_arg3))

/-- Result 5 of the program's arguments. -/
def G5 : Vec Ideal S128x512 .f32 := res5 (m ((c.tc : Thread nD τ).loc main_arg0)) (m ((c.tc : Thread nD τ).loc main_arg1)) (m ((c.tc : Thread nD τ).loc main_arg2)) (m ((c.tc : Thread nD τ).loc main_arg3))

/-- Result 6 of the program's arguments. -/
def G6 : Vec Ideal S128x512 .f32 := res6 (m ((c.tc : Thread nD τ).loc main_arg0)) (m ((c.tc : Thread nD τ).loc main_arg1)) (m ((c.tc : Thread nD τ).loc main_arg2)) (m ((c.tc : Thread nD τ).loc main_arg3))

theorem blk_sum (t : Fin grid0.N) (r : Fin 128) (col : Fin 2328) (B : Fin 1024 → EReal)
    (X S H : Vec Ideal S1x128x1024 .f32) (hX : X = iblk m c 0 t) (hS : S = iblk m c 1 t) (hH : H = iblk m c 2 t)
    (hB : ∀ k, B k = (m ((c.tc : Thread nD τ).loc main_arg3) (ix3 0 k col) : EReal)) :
    ∑ k : Fin 1024, ((X (ix3 0 r k) : EReal) * (1 + S (ix3 0 r k)) + H (ix3 0 r k)) * B k
      = projAt (m ((c.tc : Thread nD τ).loc main_arg0)) (m ((c.tc : Thread nD τ).loc main_arg1)) (m ((c.tc : Thread nD τ).loc main_arg2)) (m ((c.tc : Thread nD τ).loc main_arg3)) r col := by
  refine Finset.sum_congr rfl fun k _ => ?_
  have eX : (X (ix3 0 r k) : EReal) = m ((c.tc : Thread nD τ).loc main_arg0) (ix3 0 r k) := by
    subst hX
    rw [← V_main_arg0 m c]
    blk_ext [iblk, idx0 t]
  have eS : (S (ix3 0 r k) : EReal) = m ((c.tc : Thread nD τ).loc main_arg1) (ix3 0 r k) := by
    subst hS
    rw [← V_main_arg1 m c]
    blk_ext [iblk, idx0 t]
  have eH : (H (ix3 0 r k) : EReal) = m ((c.tc : Thread nD τ).loc main_arg2) (ix3 0 r k) := by
    subst hH
    rw [← V_main_arg2 m c]
    blk_ext [iblk, idx0 t]
  rw [eX, eS, eH, hB k]

theorem blk_w0 (t : Fin grid0.N) (j : Fin 512) (col : Fin 2328) (h : col.val = j.val) (k : Fin 1024) :
    (iblk m c 3 t (ix2 k j) : EReal) = m ((c.tc : Thread nD τ).loc main_arg3) (ix3 0 k col) := by
  have lc : j.val < 2328 := by clear h; omega
  obtain rfl : col = ⟨j.val, lc⟩ := Fin.ext h
  have e : (V m c main_v4 (ix2 k j) : EReal) = m ((c.tc : Thread nD τ).loc main_arg3) (ix3 0 k ⟨j.val, by omega⟩) := by
    unfold V; after_reads_at
  rw [← e]
  blk_ext [iblk, idx0 t]

theorem blk_w1 (t : Fin grid0.N) (j : Fin 256) (col : Fin 2328) (h : col.val = 512 + j.val) (k : Fin 1024) :
    (iblk m c 4 t (ix2 k j) : EReal) = m ((c.tc : Thread nD τ).loc main_arg3) (ix3 0 k col) := by
  have lc : 512 + j.val < 2328 := by clear h; omega
  obtain rfl : col = ⟨512 + j.val, lc⟩ := Fin.ext h
  have e : (V m c main_v5 (ix2 k j) : EReal) = m ((c.tc : Thread nD τ).loc main_arg3) (ix3 0 k ⟨512 + j.val, by omega⟩) := by
    unfold V; after_reads_at
  rw [← e]
  blk_ext [iblk, idx0 t]

theorem blk_w2 (t : Fin grid0.N) (j : Fin 256) (col : Fin 2328) (h : col.val = 768 + j.val) (k : Fin 1024) :
    (iblk m c 5 t (ix2 k j) : EReal) = m ((c.tc : Thread nD τ).loc main_arg3) (ix3 0 k col) := by
  have lc : 768 + j.val < 2328 := by clear h; omega
  obtain rfl : col = ⟨768 + j.val, lc⟩ := Fin.ext h
  have e : (V m c main_v6 (ix2 k j) : EReal) = m ((c.tc : Thread nD τ).loc main_arg3) (ix3 0 k ⟨768 + j.val, by omega⟩) := by
    unfold V; after_reads_at
  rw [← e]
  blk_ext [iblk, idx0 t]

theorem blk_w3 (t : Fin grid0.N) (j : Fin 256) (col : Fin 2328) (h : col.val = 1024 + j.val) (k : Fin 1024) :
    (iblk m c 6 t (ix2 k j) : EReal) = m ((c.tc : Thread nD τ).loc main_arg3) (ix3 0 k col) := by
  have lc : 1024 + j.val < 2328 := by clear h; omega
  obtain rfl : col = ⟨1024 + j.val, lc⟩ := Fin.ext h
  have e : (V m c main_v7 (ix2 k j) : EReal) = m ((c.tc : Thread nD τ).loc main_arg3) (ix3 0 k ⟨1024 + j.val, by omega⟩) := by
    unfold V; after_reads_at
  rw [← e]
  blk_ext [iblk, idx0 t]

theorem blk_w4 (t : Fin grid0.N) (j : Fin 128) (col : Fin 2328) (h : col.val = 1280 + j.val) (hj : j.val < 24) (k : Fin 1024) :
    (iblk m c 7 t (ix2 k j) : EReal) = m ((c.tc : Thread nD τ).loc main_arg3) (ix3 0 k col) := by
  have lc : 1280 + j.val < 2328 := by clear h; omega
  obtain rfl : col = ⟨1280 + j.val, lc⟩ := Fin.ext h
  have e : (V m c main_v3 (ix2 k j) : EReal) = m ((c.tc : Thread nD τ).loc main_arg3) (ix3 0 k ⟨1280 + j.val, by omega⟩) := by
    unfold V; after_reads_at
    simp [hj]
  rw [← e]
  blk_ext [iblk, idx0 t]

theorem blk_w5 (t : Fin grid0.N) (j : Fin 512) (col : Fin 2328) (h : col.val = 1304 + j.val) (k : Fin 1024) :
    (iblk m c 8 t (ix2 k j) : EReal) = m ((c.tc : Thread nD τ).loc main_arg3) (ix3 0 k col) := by
  have lc : 1304 + j.val < 2328 := by clear h; omega
  obtain rfl : col = ⟨1304 + j.val, lc⟩ := Fin.ext h
  have e : (V m c main_v8 (ix2 k j) : EReal) = m ((c.tc : Thread nD τ).loc main_arg3) (ix3 0 k ⟨1304 + j.val, by omega⟩) := by
    unfold V; after_reads_at
  rw [← e]
  blk_ext [iblk, idx0 t]

theorem blk_w6 (t : Fin grid0.N) (j : Fin 512) (col : Fin 2328) (h : col.val = 1816 + j.val) (k : Fin 1024) :
    (iblk m c 9 t (ix2 k j) : EReal) = m ((c.tc : Thread nD τ).loc main_arg3) (ix3 0 k col) := by
  have lc : 1816 + j.val < 2328 := by clear h; omega
  obtain rfl : col = ⟨1816 + j.val, lc⟩ := Fin.ext h
  have e : (V m c main_v9 (ix2 k j) : EReal) = m ((c.tc : Thread nD τ).loc main_arg3) (ix3 0 k ⟨1816 + j.val, by omega⟩) := by
    unfold V; after_reads_at
  rw [← e]
  blk_ext [iblk, idx0 t]

/-- The padding columns of the padded weight are zero. -/
theorem blk_pad (t : Fin grid0.N) (j : Fin 128) (hj : ¬ j.val < 24) (k : Fin 1024) : (iblk m c 7 t (ix2 k j) : EReal) = (0 : EReal) := by
  have e : (V m c main_v3 (ix2 k j) : EReal) = (0 : EReal) := by
    unfold V; after_reads_at
    simp only [hj, dite_false]
    exact zero_bf16
  rw [← e]
  blk_ext [iblk, idx0 t]

theorem arr0 : (dats m 0 c).arrAt 10 cfg0.N = G0 m c := by
  refine (dats m 0 c).arrAt_eq_of_covers 10 _ (by decide +kernel) fun t hf y => ?_
  rw [after0_10]
  frame_out
  blk_simp
  idx_vars y
  obtain rfl : y0 = 0 := Subsingleton.elim _ _
  refine Eq.trans ?_ (congrArg (G0 m c) (?_ : ix3 0 y1 y2 = _))
  · exact (pay0 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ rfl rfl rfl fun k => blk_w0 m c t y2 _ (Nat.zero_add _) k)
  · blk_ext [idx0 t]

theorem arr1 : (dats m 0 c).arrAt 11 cfg0.N = G1 m c := by
  refine (dats m 0 c).arrAt_eq_of_covers 11 _ (by decide +kernel) fun t hf y => ?_
  rw [after0_11]
  frame_out
  blk_simp
  idx_vars y
  obtain rfl : y0 = 0 := Subsingleton.elim _ _
  refine Eq.trans ?_ (congrArg (G1 m c) (?_ : ix3 0 y1 y2 = _))
  · exact (pay1 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ rfl rfl rfl fun k => blk_w1 m c t y2 _ rfl k)
  · blk_ext [idx0 t]

theorem arr2 : (dats m 0 c).arrAt 12 cfg0.N = G2 m c := by
  refine (dats m 0 c).arrAt_eq_of_covers 12 _ (by decide +kernel) fun t hf y => ?_
  rw [after0_12]
  frame_out
  blk_simp
  idx_vars y
  obtain rfl : y0 = 0 := Subsingleton.elim _ _
  refine Eq.trans ?_ (congrArg (G2 m c) (?_ : ix3 0 y1 y2 = _))
  · exact (pay2 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ rfl rfl rfl fun k => blk_w2 m c t y2 _ rfl k)
  · blk_ext [idx0 t]

theorem arr3 : (dats m 0 c).arrAt 13 cfg0.N = G3 m c := by
  refine (dats m 0 c).arrAt_eq_of_covers 13 _ (by decide +kernel) fun t hf y => ?_
  rw [after0_13]
  frame_out
  blk_simp
  idx_vars y
  obtain rfl : y0 = 0 := Subsingleton.elim _ _
  refine Eq.trans ?_ (congrArg (G3 m c) (?_ : ix3 0 y1 y2 = _))
  · exact (pay3 (iblk m c 0 t) (iblk m c 1 t) (iblk m c 2 t) (iblk m c 3 t) (iblk m c 4 t) (iblk m c 5 t) (iblk m c 6 t) (iblk m c 7 t) (iblk m c 8 t) (iblk m c 9 t) y1 y2).trans (blk_sum m c t y1 _ _ _ _ _ rfl rfl rfl fun k => blk_w3 m c t y2 _ rfl k)
  · blk_ext [idx0 t]

theorem arr4 : (dats m 0 c).arrAt 14 cfg0.N = G4 m c := by
  refine (dats m 0 c).arrAt_eq_of_covers 14 _ (by decide +kernel) fun t hf y => ?_
  rw [after0_14]
  frame_out
  blk_simp
  idx_vars y
  obtain rfl : y0 = 0 := Subsingleton.elim _ _
  refine Eq.trans ?_ (congrArg (G4 m c) (?_ : ix3 0 y1 y2 = _))
  · refine (pay4 (iblk m c 0 t) (iblk m c 1 t) (iblk m c 2 t) (iblk m c 3 t) (iblk m c 4 t) (iblk m c 5 t) (iblk m c 6 t) (iblk m c 7 t) (iblk m c 8 t) (iblk m c 9 t) y1 y2).trans ?_
    by_cases hj : y2.val < 24
    · refine (blk_sum m c t y1 ⟨1280 + y2.val, by omega⟩ _ _ _ _ rfl rfl rfl fun k => blk_w4 m c t y2 _ rfl hj k).trans ?_
      unfold G4 res4
      split
      · rfl
      · rename_i hn
        exact absurd hj hn
    · unfold G4 res4
      split
      · rename_i hn
        exact absurd hn hj
      · refine Finset.sum_eq_zero fun k _ => ?_
        rw [blk_pad m c t y2 hj k, mul_zero]
  · blk_ext [idx0 t]

theorem arr5 : (dats m 0 c).arrAt 15 cfg0.N = G5 m c := by
  refine (dats m 0 c).arrAt_eq_of_covers 15 _ (by decide +kernel) fun t hf y => ?_
  rw [after0_15]
  frame_out
  blk_simp
  idx_vars y
  refine Eq.trans ?_ (congrArg (G5 m c) (?_ : ix2 y0 y1 = _))
  · exact (pay5 (iblk m c 0 t) (iblk m c 1 t) (iblk m c 2 t) (iblk m c 3 t) (iblk m c 4 t) (iblk m c 5 t) (iblk m c 6 t) (iblk m c 7 t) (iblk m c 8 t) (iblk m c 9 t) y0 y1).trans (blk_sum m c t y0 _ _ _ _ _ rfl rfl rfl fun k => blk_w5 m c t y1 _ rfl k)
  · blk_ext [idx0 t]

theorem arr6 : (dats m 0 c).arrAt 16 cfg0.N = G6 m c := by
  refine (dats m 0 c).arrAt_eq_of_covers 16 _ (by decide +kernel) fun t hf y => ?_
  rw [after0_16]
  frame_out
  blk_simp
  idx_vars y
  refine Eq.trans ?_ (congrArg (G6 m c) (?_ : ix2 y0 y1 = _))
  · exact (pay6 (iblk m c 0 t) (iblk m c 1 t) (iblk m c 2 t) (iblk m c 3 t) (iblk m c 4 t) (iblk m c 5 t) (iblk m c 6 t) (iblk m c 7 t) (iblk m c 8 t) (iblk m c 9 t) y0 y1).trans (blk_sum m c t y0 _ _ _ _ _ rfl rfl rfl fun k => blk_w6 m c t y1 _ rfl k)
  · blk_ext [idx0 t]

end

theorem ref0 (x sc sh : Vec Ideal S1x128x1024 .f32) (w : Vec Ideal S1x1024x2328 .f32) :
    val_main_v8 (F := Ideal) x sc sh w = res0 x sc sh w := by
  funext i
  idx_vars i
  unfold res0 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]

theorem ref1 (x sc sh : Vec Ideal S1x128x1024 .f32) (w : Vec Ideal S1x1024x2328 .f32) :
    val_main_v9 (F := Ideal) x sc sh w = res1 x sc sh w := by
  funext i
  idx_vars i
  unfold res1 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]

theorem ref2 (x sc sh : Vec Ideal S1x128x1024 .f32) (w : Vec Ideal S1x1024x2328 .f32) :
    val_main_v10 (F := Ideal) x sc sh w = res2 x sc sh w := by
  funext i
  idx_vars i
  unfold res2 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]

theorem ref3 (x sc sh : Vec Ideal S1x128x1024 .f32) (w : Vec Ideal S1x1024x2328 .f32) :
    val_main_v11 (F := Ideal) x sc sh w = res3 x sc sh w := by
  funext i
  idx_vars i
  unfold res3 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]

theorem ref4 (x sc sh : Vec Ideal S1x128x1024 .f32) (w : Vec Ideal S1x1024x2328 .f32) :
    val_main_v7 (F := Ideal) x sc sh w = res4 x sc sh w := by
  funext i
  idx_vars i
  unfold res4 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]
  rw [zero_f32]

theorem ref5 (x sc sh : Vec Ideal S1x128x1024 .f32) (w : Vec Ideal S1x1024x2328 .f32) :
    val_main_v13 (F := Ideal) x sc sh w = res5 x sc sh w := by
  funext i
  idx_vars i
  unfold res5 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]

theorem ref6 (x sc sh : Vec Ideal S1x128x1024 .f32) (w : Vec Ideal S1x1024x2328 .f32) :
    val_main_v15 (F := Ideal) x sc sh w = res6 x sc sh w := by
  funext i
  idx_vars i
  unfold res6 projAt
  pointwise [val_main_cst, val_main_c, val_main_call0_v0, val_main_v0, val_main_v1, val_main_v2, val_main_v3, val_main_v4, val_main_v5, val_main_v6, val_main_v7, val_main_v8, val_main_v9, val_main_v10, val_main_v11, val_main_v12, val_main_v13, val_main_v14, val_main_v15]

/-- The reference runs, and its arguments end as they were. -/
theorem frame_ref : Cert.quiescent_ProjAbSRefIdeal := fun m ρ _ =>
  (θ_run Cert.ProjAbSRefIdeal.defs _ _).mono (fun r h => ⟨fun c => (h c).2.2.2.2.2.2.2, sem_eq_zero_of_no_sems (by decide) r.2⟩)
    (Cert.ProjAbSRefIdeal.Value.run (F := Ideal) m ρ)

theorem algebraic : Cert.algebraic_ProjAbSIdeal_ProjAbSRefIdeal := by
  intro m ρ m' ρ' _ hagree
  refine ⟨fun c => G0 m c, fun c => G1 m c, fun c => G2 m c, fun c => G3 m c, fun c => G4 m c, fun c => G5 m c, fun c => G6 m c, (θ_run _ _ _).mono (fun _ h c => ?_) (Value.run_blocks m ρ),
    (θ_run _ _ _).mono (fun _ h c => ?_) (Cert.ProjAbSRefIdeal.Value.run (F := Ideal) m' ρ')⟩
  · obtain ⟨h0, h1, h2, h3, h4, h5, h6, k⟩ := h c
    exact ⟨h0.trans (arr0 m c), h1.trans (arr1 m c), h2.trans (arr2 m c), h3.trans (arr3 m c), h4.trans (arr4 m c), h5.trans (arr5 m c), h6.trans (arr6 m c), k⟩
  · obtain ⟨h0, h1, h2, h3, h4, h5, h6, k⟩ := h c
    obtain ⟨e0, e1, e2, e3⟩ := hagree c
    refine ⟨h0.trans ?_, h1.trans ?_, h2.trans ?_, h3.trans ?_, h4.trans ?_, h5.trans ?_, h6.trans ?_, k⟩
    · rw [e0, e1, e2, e3]
      exact (val_main_v8_eq _ _ _ _).trans (ref0 _ _ _ _)
    · rw [e0, e1, e2, e3]
      exact (val_main_v9_eq _ _ _ _).trans (ref1 _ _ _ _)
    · rw [e0, e1, e2, e3]
      exact (val_main_v10_eq _ _ _ _).trans (ref2 _ _ _ _)
    · rw [e0, e1, e2, e3]
      exact (val_main_v11_eq _ _ _ _).trans (ref3 _ _ _ _)
    · rw [e0, e1, e2, e3]
      exact (val_main_v7_eq _ _ _ _).trans (ref4 _ _ _ _)
    · rw [e0, e1, e2, e3]
      exact (val_main_v13_eq _ _ _ _).trans (ref5 _ _ _ _)
    · rw [e0, e1, e2, e3]
      exact (val_main_v15_eq _ _ _ _).trans (ref6 _ _ _ _)

end Cert.ProjAbSIdeal.Gen

end
-- ==== Proof.RglruSValue.lean ====
/- One step of the gated recurrence for the sample batch: what the kernel leaves, and the reference's results, are the
   same functions of the arguments. -/
module

public import proofs.«01_k».proof.Proof.Gen.RglruSIdeal.Value
public import proofs.«01_k».proof.Proof.Gen.RglruSRefIdeal.Read
public import Idealize.ShloMosaic.Lib.Pipeline.ValueKit
public import Idealize.ShloMosaic.Lib.StableHlo.ReadAt
public import Idealize.ShloMosaic.Lib.Pipeline.ReadBack
public import Idealize.ShloMosaic.Lib.Claim
public import Idealize.ShloMosaic.Lib.Quiescent
public import proofs.«01_k».proof.Proof.RglruMath
public import proofs.«01_k».proof.Defs

@[expose] public section

set_option maxRecDepth 16384

noncomputable section

namespace Cert.RglruSIdeal.Gen

open Idealize.ShloMosaic Idealize.ShloMosaic.TcCoe Idealize.ShloMosaic.Tactic
open Cert.RglruSRefIdeal.Read
open Idealize.SL.Sem
open Cert.Rglru

variable (x : Vec Ideal S1x128x512 .f32) (p : Vec Ideal S3x128x512 .f32) (cw : Vec Ideal S1x4x512 .f32) (cb br bi lam : Vec Ideal S1x512 .f32)
  (wr wi : Vec Ideal S1x8x64x64 .f32) (h0 : Vec Ideal S128x512 .f32) (g : Vec Ideal S1x128x512 .f32)

/-- The convolution with its bias. -/
def convAt (b : Fin 128) (w : Fin 512) : EReal :=
  p (ix3 0 b w) * cw (ix3 0 0 w) + p (ix3 1 b w) * cw (ix3 0 1 w) + p (ix3 2 b w) * cw (ix3 0 2 w) + x (ix3 0 b w) * cw (ix3 0 3 w)
    + cb (ix2 0 w)

/-- What a gate's logistic is taken of. -/
def gate (w4 : Vec Ideal S1x8x64x64 .f32) (bias : Vec Ideal S1x512 .f32) (b : Fin 128) (w : Fin 512) : EReal :=
  ∑ i : Fin 64, w4 (ix4 0 (⟨w.val / 64, by omega⟩ : Fin 8) i (⟨w.val % 64, by omega⟩ : Fin 64)) * convAt x p cw cb b ⟨w.val / 64 * 64 + i.val, by omega⟩ + bias (ix2 0 w)

/-- The logarithm of the decay. -/
def logAt (b : Fin 128) (w : Fin 512) : EReal := logDecay (gate x p cw cb wr br b w) (lam (ix2 0 w))

/-- The state after the step. -/
def newAt (b : Fin 128) (w : Fin 512) : EReal :=
  Ideal.exp (logAt x p cw cb br lam wr b w) * h0 (ix2 b w)
    + scaled (logAt x p cw cb br lam wr b w) (Ideal.logistic (gate x p cw cb wi bi b w)) (convAt x p cw cb b w)

/-- The Gaussian error linear unit. -/
def gelu (y : EReal) : EReal :=
  y * (Ideal.ofBits FTy.f32 1056964608#32 * (1 + Ideal.tanh (Ideal.ofBits FTy.f32 1061962282#32 * (y + Ideal.ofBits FTy.f32 1027024659#32 * (y * y * y)))))

/-- The rows kept for the next step. -/
def rowAt (i : Fin 3) (b : Fin 128) (w : Fin 512) : EReal :=
  if h : i.val < 2 then p (ix3 ⟨1 + i.val, by omega⟩ b w) else x (ix3 0 b w)

/-! ## The reference -/

theorem ref_conv (b : Fin 128) (w : Fin 512) : (val_main_v36 x p cw cb (ix2 b w) : EReal) = convAt x p cw cb b w := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_v22, val_main_v23, val_main_v24, val_main_v25, val_main_v26,
    val_main_v27, val_main_v28, val_main_v29, val_main_v30, val_main_v31, val_main_v32, val_main_v33, val_main_v34, val_main_v35,
    val_main_v36]
  rfl

theorem ref_r (b : Fin 128) (w : Fin 512) : (val_main_v51 x p cw cb wr br (ix2 b w) : EReal) = Ideal.logistic (gate x p cw cb wr br b w) := by
  pointwise [val_main_v37, val_main_v38, val_main_v39, val_main_v40, val_main_v41, val_main_v42, val_main_v43, val_main_v44,
    val_main_v45, val_main_v46, val_main_v47, val_main_cst, val_main_cst_apply, val_main_v48, val_main_v49, val_main_cst_0,
    val_main_cst_0_apply, val_main_v50, val_main_v51]
  unfold Ideal.logistic gate
  simp only [ref_conv]

theorem ref_i (b : Fin 128) (w : Fin 512) : (val_main_v65 x p cw cb wi bi (ix2 b w) : EReal) = Ideal.logistic (gate x p cw cb wi bi b w) := by
  pointwise [val_main_v37, val_main_v52, val_main_v53, val_main_v54, val_main_v55, val_main_v56, val_main_v57, val_main_v58,
    val_main_v59, val_main_v60, val_main_v61, val_main_cst_1, val_main_cst_1_apply, val_main_v62, val_main_v63, val_main_cst_2,
    val_main_cst_2_apply, val_main_v64, val_main_v65]
  unfold Ideal.logistic gate
  simp only [ref_conv]

theorem ref_log (b : Fin 128) (w : Fin 512) : (val_main_v73 x p cw cb wr br lam (ix2 b w) : EReal) = logAt x p cw cb br lam wr b w := by
  pointwise [val_main_cst_3, val_main_cst_3_apply, val_main_v66, val_main_v67, val_main_v68, val_main_v69, val_main_call0_cst,
    val_main_call0_cst_apply, val_main_call0_v0, val_main_call0_v1, val_main_call0_v2, val_main_call0_v3, val_main_call0_v4,
    val_main_call0_v5, val_main_call0_v6, val_main_call0_v7, val_main_call0_v8, val_main_call0_v9, val_main_call0_v10,
    val_main_call0_v11, val_main_v70, val_main_v71, val_main_v72, val_main_v73]
  rw [ref_r]
  rw [if_neg (by simp)]
  unfold logAt logDecay softplus
  rw [ofBits_neg_eight, Ideal.absf_def]

theorem ref_new (b : Fin 128) (w : Fin 512) :
    (val_main_v83 x p h0 cw cb wr br wi bi lam (ix2 b w) : EReal) = newAt x p cw cb br bi lam wr wi h0 b w := by
  pointwise [val_main_v74, val_main_v75, val_main_cst_4, val_main_cst_4_apply, val_main_v76, val_main_v77, val_main_v78,
    val_main_v79, val_main_v80, val_main_v81, val_main_v82, val_main_v83]
  rw [ref_log, ref_i, ref_conv, ofBits_two]; rfl

theorem ref_out (b : Fin 128) (w : Fin 512) :
    (val_main_v99 x g p h0 cw cb wr br wi bi lam (ix3 0 b w) : EReal) = newAt x p cw cb br bi lam wr wi h0 b w * gelu (g (ix3 0 b w)) := by
  pointwise [val_main_v84, val_main_v85, val_main_v86, val_main_cst_5, val_main_cst_5_apply, val_main_v87, val_main_v88,
    val_main_v89, val_main_cst_6, val_main_cst_6_apply, val_main_v90, val_main_v91, val_main_v92, val_main_cst_7,
    val_main_cst_7_apply, val_main_v93, val_main_v94, val_main_cst_8, val_main_cst_8_apply, val_main_v95, val_main_v96,
    val_main_v97, val_main_v98, val_main_v99]
  rw [ref_new]; rfl

theorem ref_rows (i : Fin 3) (b : Fin 128) (w : Fin 512) : (val_main_v100 x p (ix3 i b w) : EReal) = rowAt x p i b w := by
  pointwise [val_main_v100, val_main_v1]
  unfold rowAt
  fin_cases i <;> rfl

/-! ## The kernel -/

/-- A gate's matrix is block diagonal. -/
def IsDiag (W : Vec Ideal S512x512 .bf16) (w4 : Vec Ideal S1x8x64x64 .f32) : Prop :=
  ∀ r l : Fin 512, W (ix2 r l) = if r.val / 64 = l.val / 64 then
    w4 (ix4 0 (⟨r.val / 64, by omega⟩ : Fin 8) (⟨r.val % 64, by omega⟩ : Fin 64) (⟨l.val % 64, by omega⟩ : Fin 64)) else (0 : EReal)

theorem gate_sum (W : Vec Ideal S512x512 .bf16) (w4 : Vec Ideal S1x8x64x64 .f32) (hW : IsDiag W w4) (f : Fin 512 → EReal) (l : Fin 512) :
    ∑ r : Fin 512, f r * (W (ix2 r l) : EReal)
      = ∑ i : Fin 64, w4 (ix4 0 (⟨l.val / 64, by omega⟩ : Fin 8) i (⟨l.val % 64, by omega⟩ : Fin 64)) * f ⟨l.val / 64 * 64 + i.val, by omega⟩ := by
  rw [block_sum (fun r => f r * (W (ix2 r l) : EReal)) (⟨l.val / 64, by omega⟩ : Fin 8)]
  · refine Finset.sum_congr rfl fun i _ => ?_
    show f _ * W (ix2 _ l) = _
    rw [hW, if_pos (by show (l.val / 64 * 64 + i.val) / 64 = l.val / 64; omega), mul_comm]
    have e1 : (⟨(l.val / 64 * 64 + i.val) / 64, by omega⟩ : Fin 8) = ⟨l.val / 64, by omega⟩ := Fin.ext (by show (l.val / 64 * 64 + i.val) / 64 = l.val / 64; omega)
    have e2 : (⟨(l.val / 64 * 64 + i.val) % 64, by omega⟩ : Fin 64) = i := Fin.ext (by show (l.val / 64 * 64 + i.val) % 64 = i.val; omega)
    show w4 (ix4 0 ⟨(l.val / 64 * 64 + i.val) / 64, _⟩ ⟨(l.val / 64 * 64 + i.val) % 64, _⟩ _) * _ = _
    rw [e1, e2]
  · intro r hr
    show f r * (W (ix2 r l) : EReal) = 0
    rw [hW, if_neg hr, mul_zero]

section block

variable {x p cw cb br bi lam wr wi h0 g}
variable {X : Vec Ideal S1x128x512 .f32} {P : Vec Ideal S3x128x512 .f32} {c0 c1 c2 c3 x5 x7 x9 x10 : Vec Ideal S1x512 .f32}
  {x6 x8 : Vec Ideal S512x512 .bf16} {C : FVec Ideal S1x128x512 .f32} {H : Vec Ideal S128x512 .f32} {G : Vec Ideal S1x128x512 .f32}

theorem ker_conv (hx : ∀ b w, (X (ix3 0 b w) : EReal) = x (ix3 0 b w)) (hp : ∀ i b w, (P (ix3 i b w) : EReal) = p (ix3 i b w))
    (q0 : ∀ w, (c0 (ix2 0 w) : EReal) = cw (ix3 0 0 w)) (q1 : ∀ w, (c1 (ix2 0 w) : EReal) = cw (ix3 0 1 w))
    (q2 : ∀ w, (c2 (ix2 0 w) : EReal) = cw (ix3 0 2 w)) (q3 : ∀ w, (c3 (ix2 0 w) : EReal) = cw (ix3 0 3 w))
    (h5 : ∀ w, (x5 (ix2 0 w) : EReal) = cb (ix2 0 w)) (b : Fin 128) (w : Fin 512) :
    (k0_pay4 X (k0_pay1 P) c0 c1 c2 c3 x5 (ix3 0 b w) : EReal) = convAt x p cw cb b w := by
  unfold convAt
  rw [← hx, ← hp, ← hp, ← hp, ← q0, ← q1, ← q2, ← q3, ← h5]
  pointwise [k0_pay4, k0_pay3, k0_pay1]

theorem ker_rows (hx : ∀ b w, (X (ix3 0 b w) : EReal) = x (ix3 0 b w)) (hp : ∀ i b w, (P (ix3 i b w) : EReal) = p (ix3 i b w))
    (i : Fin 3) (b : Fin 128) (w : Fin 512) :
    (k0_pay6 (k0_pay5 X (k0_pay1 P)) (ix3 i b w) : EReal) = rowAt x p i b w := by
  pointwise [k0_pay6, k0_pay5, k0_pay3, k0_pay1]
  unfold rowAt
  fin_cases i
  · exact hp 1 b w
  · exact hp 2 b w
  · exact hx b w

theorem flat_row (b : Fin 128) (w : Fin 512) : (k0_pay8 C (ix2 b w) : EReal) = C (ix3 0 b w) := by
  pointwise [k0_pay8, k0_pay7]

theorem ker_gate (hC : ∀ b w, (C (ix3 0 b w) : EReal) = convAt x p cw cb b w)
    {W : Vec Ideal S512x512 .bf16} {w4 : Vec Ideal S1x8x64x64 .f32} (hW : IsDiag W w4) {v bias : Vec Ideal S1x512 .f32}
    (hv : ∀ w, (v (ix2 0 w) : EReal) = bias (ix2 0 w)) (b : Fin 128) (l : Fin 512) :
    ∑ r : Fin 512, (k0_pay8 C (ix2 b r) : EReal) * (W (ix2 r l) : EReal) + v (ix2 0 l) = gate x p cw cb w4 bias b l := by
  unfold gate
  rw [gate_sum W w4 hW, hv]
  simp only [flat_row, hC]

theorem ker_log (hC : ∀ b w, (C (ix3 0 b w) : EReal) = convAt x p cw cb b w)
    (h6 : IsDiag x6 wr) (h7 : ∀ w, (x7 (ix2 0 w) : EReal) = br (ix2 0 w)) (h10 : ∀ w, (x10 (ix2 0 w) : EReal) = lam (ix2 0 w))
    (b : Fin 128) (l : Fin 512) : (k0_pay10 C x6 x7 x10 (ix2 b l) : EReal) = logAt x p cw cb br lam wr b l := by
  pointwise [k0_pay10]
  rw [ker_gate hC h6 h7, h10]
  unfold logAt logDecay softplus
  rw [ofBits_neg_eight, Ideal.absf_def, zero_sub, zero_sub]

theorem ker_i (hC : ∀ b w, (C (ix3 0 b w) : EReal) = convAt x p cw cb b w)
    (h8 : IsDiag x8 wi) (h9 : ∀ w, (x9 (ix2 0 w) : EReal) = bi (ix2 0 w))
    (b : Fin 128) (l : Fin 512) : (k0_pay9 C x8 x9 (ix2 b l) : EReal) = Ideal.logistic (gate x p cw cb wi bi b l) := by
  pointwise [k0_pay9]
  rw [ker_gate hC h8 h9]

theorem ker_input (hC : ∀ b w, (C (ix3 0 b w) : EReal) = convAt x p cw cb b w)
    (h6 : IsDiag x6 wr) (h7 : ∀ w, (x7 (ix2 0 w) : EReal) = br (ix2 0 w)) (h8 : IsDiag x8 wi) (h9 : ∀ w, (x9 (ix2 0 w) : EReal) = bi (ix2 0 w))
    (h10 : ∀ w, (x10 (ix2 0 w) : EReal) = lam (ix2 0 w)) (b : Fin 128) (l : Fin 512) :
    (k0_pay13 (k0_pay7 C) (k0_pay9 C x8 x9) (k0_pay10 C x6 x7 x10) (ix3 0 b l) : EReal)
      = scaled (logAt x p cw cb br lam wr b l) (Ideal.logistic (gate x p cw cb wi bi b l)) (convAt x p cw cb b l) := by
  pointwise [k0_pay13, k0_pay7]
  rw [ker_log hC h6 h7 h10, ker_i hC h8 h9, hC]
  unfold scaled
  rw [zero_sub, ofBits_two, ofBits_neg_one]
  refine congrArg₂ (· * ·) (congrArg (fun q => Ideal.sqrt (-q)) ?_) rfl
  exact guarded_eq _ (two_logDecay_nonpos _ _)

theorem ker_new (hC : ∀ b w, (C (ix3 0 b w) : EReal) = convAt x p cw cb b w)
    (h6 : IsDiag x6 wr) (h7 : ∀ w, (x7 (ix2 0 w) : EReal) = br (ix2 0 w)) (h8 : IsDiag x8 wi) (h9 : ∀ w, (x9 (ix2 0 w) : EReal) = bi (ix2 0 w))
    (h10 : ∀ w, (x10 (ix2 0 w) : EReal) = lam (ix2 0 w)) (hH : ∀ b w, (H (ix2 b w) : EReal) = h0 (ix2 b w)) (b : Fin 128) (l : Fin 512) :
    (k0_pay15 (k0_pay14 (k0_pay2 H) (k0_pay12 (k0_pay11 C x6 x7 x10)))
      (k0_pay13 (k0_pay7 C) (k0_pay9 C x8 x9) (k0_pay10 C x6 x7 x10)) (ix2 b l) : EReal) = newAt x p cw cb br bi lam wr wi h0 b l := by
  pointwise [k0_pay15, k0_pay14, k0_pay12, k0_pay11, k0_pay2]
  rw [ker_input hC h6 h7 h8 h9 h10, ker_log hC h6 h7 h10, hH]
  rfl

theorem ker_out (A : FVec Ideal S128x512 .f32) (U : Vec Ideal S1x128x512 .f32) (hg : ∀ b w, (G (ix3 0 b w) : EReal) = g (ix3 0 b w))
    (b : Fin 128) (l : Fin 512) :
    (k0_pay18 (k0_pay16 A U) G (ix3 0 b l) : EReal) = (k0_pay15 A U (ix2 b l) : EReal) * gelu (g (ix3 0 b l)) := by
  rw [← hg]
  pointwise [k0_pay18, k0_pay16]
  rfl

end block

section Blocks

variable (m : (ℓ : Loc nD τ sig) → Buf (Elt Ideal) ℓ) (c : Dev nD)

theorem idx0 : ∀ t : Fin grid0.N, win0_0.index t = ![0, 0, 0] ∧ win0_1.index t = ![0, 0, 0] ∧ win0_2.index t = ![0, 0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0, 0] ∧ win0_12.index t = ![0, 0, 0]
    ∧ win0_13.index t = ![0, 0] := by decide +kernel

abbrev xA : Vec Ideal S1x128x512 .f32 := m ((c.tc : Thread nD τ).loc main_arg0)
abbrev gA : Vec Ideal S1x128x512 .f32 := m ((c.tc : Thread nD τ).loc main_arg1)
abbrev pA : Vec Ideal S3x128x512 .f32 := m ((c.tc : Thread nD τ).loc main_arg2)
abbrev hA : Vec Ideal S128x512 .f32 := m ((c.tc : Thread nD τ).loc main_arg3)
abbrev cwA : Vec Ideal S1x4x512 .f32 := m ((c.tc : Thread nD τ).loc main_arg4)
abbrev cbA : Vec Ideal S1x512 .f32 := m ((c.tc : Thread nD τ).loc main_arg5)
abbrev wrA : Vec Ideal S1x8x64x64 .f32 := m ((c.tc : Thread nD τ).loc main_arg6)
abbrev brA : Vec Ideal S1x512 .f32 := m ((c.tc : Thread nD τ).loc main_arg7)
abbrev wiA : Vec Ideal S1x8x64x64 .f32 := m ((c.tc : Thread nD τ).loc main_arg8)
abbrev biA : Vec Ideal S1x512 .f32 := m ((c.tc : Thread nD τ).loc main_arg9)
abbrev lamA : Vec Ideal S1x512 .f32 := m ((c.tc : Thread nD τ).loc main_arg10)

theorem in0 (t : Fin cfg0.N) (b : Fin 128) (w : Fin 512) : (iblk m c 0 t (ix3 0 b w) : EReal) = xA m c (ix3 0 b w) := by
  blk_ext [iblk, V, idx0 t]

theorem in1 (t : Fin cfg0.N) (b : Fin 128) (w : Fin 512) : (iblk m c 1 t (ix3 0 b w) : EReal) = gA m c (ix3 0 b w) := by
  blk_ext [iblk, V, idx0 t]

theorem in2 (t : Fin cfg0.N) (k : Fin 3) (b : Fin 128) (w : Fin 512) : (iblk m c 2 t (ix3 k b w) : EReal) = pA m c (ix3 k b w) := by
  blk_ext [iblk, V, idx0 t]

theorem in3 (t : Fin cfg0.N) (b : Fin 128) (w : Fin 512) : (iblk m c 3 t (ix2 b w) : EReal) = hA m c (ix2 b w) := by
  blk_ext [iblk, V, idx0 t]

theorem in4 (t : Fin cfg0.N) (i : Fin 4) (w : Fin 512) : (iblk m c 4 t (ix2 i w) : EReal) = cwA m c (ix3 0 i w) := by
  have e : (V m c main_v0 (ix2 i w) : EReal) = cwA m c (ix3 0 i w) := by
    unfold V; after_reads_at
  rw [← e]
  blk_ext [iblk, idx0 t]

theorem in5 (t : Fin cfg0.N) (w : Fin 512) : (iblk m c 5 t (ix2 0 w) : EReal) = cbA m c (ix2 0 w) := by
  have e : (V m c main_v2 (ix2 0 w) : EReal) = cbA m c (ix2 0 w) := by
    unfold V; after_reads_at
  rw [← e]
  blk_ext [iblk, idx0 t]

theorem in7 (t : Fin cfg0.N) (w : Fin 512) : (iblk m c 7 t (ix2 0 w) : EReal) = brA m c (ix2 0 w) := by
  have e : (V m c main_v18 (ix2 0 w) : EReal) = brA m c (ix2 0 w) := by
    unfold V; after_reads_at
  rw [← e]
  blk_ext [iblk, idx0 t]

theorem in9 (t : Fin cfg0.N) (w : Fin 512) : (iblk m c 9 t (ix2 0 w) : EReal) = biA m c (ix2 0 w) := by
  have e : (V m c main_v34 (ix2 0 w) : EReal) = biA m c (ix2 0 w) := by
    unfold V; after_reads_at
  rw [← e]
  blk_ext [iblk, idx0 t]

theorem in10 (t : Fin cfg0.N) (w : Fin 512) : (iblk m c 10 t (ix2 0 w) : EReal) = lamA m c (ix2 0 w) := by
  have e : (V m c main_v36 (ix2 0 w) : EReal) = lamA m c (ix2 0 w) := by
    unfold V; after_reads_at
  rw [← e]
  blk_ext [iblk, idx0 t]

theorem tap0 (t : Fin cfg0.N) (w : Fin 512) :
    (View.ld (iblk m c 4 t) (Rect.unit ![0, 0] ![1, 512] inb_S4x512_S1x512_0_0) (ix2 0 w) : EReal) = cwA m c (ix3 0 0 w) := by
  rw [← in4 m c t 0 w]
  refine congrArg (iblk m c 4 t) ?_
  refine funext fun a => Fin.ext ?_
  fin_cases a
  · show 0 + 1 * 0 = 0; omega
  · show 0 + 1 * w.val = w.val; omega

theorem tap1 (t : Fin cfg0.N) (w : Fin 512) :
    (View.ld (iblk m c 4 t) (Rect.unit ![1, 0] ![1, 512] inb_S4x512_S1x512_1_0) (ix2 0 w) : EReal) = cwA m c (ix3 0 1 w) := by
  rw [← in4 m c t 1 w]
  refine congrArg (iblk m c 4 t) ?_
  refine funext fun a => Fin.ext ?_
  fin_cases a
  · show 1 + 1 * 0 = 1; omega
  · show 0 + 1 * w.val = w.val; omega

theorem tap2 (t : Fin cfg0.N) (w : Fin 512) :
    (View.ld (iblk m c 4 t) (Rect.unit ![2, 0] ![1, 512] inb_S4x512_S1x512_2_0) (ix2 0 w) : EReal) = cwA m c (ix3 0 2 w) := by
  rw [← in4 m c t 2 w]
  refine congrArg (iblk m c 4 t) ?_
  refine funext fun a => Fin.ext ?_
  fin_cases a
  · show 2 + 1 * 0 = 2; omega
  · show 0 + 1 * w.val = w.val; omega

theorem tap3 (t : Fin cfg0.N) (w : Fin 512) :
    (View.ld (iblk m c 4 t) (Rect.unit ![3, 0] ![1, 512] inb_S4x512_S1x512_3_0) (ix2 0 w) : EReal) = cwA m c (ix3 0 3 w) := by
  rw [← in4 m c t 3 w]
  refine congrArg (iblk m c 4 t) ?_
  refine funext fun a => Fin.ext ?_
  fin_cases a
  · show 3 + 1 * 0 = 3; omega
  · show 0 + 1 * w.val = w.val; omega

theorem diag_value (w4 : Vec Ideal S1x8x64x64 .f32) (r l : Fin 512) :
    (w4 (ix4 0 (⟨r.val / 64, by omega⟩ : Fin 8) (⟨r.val % 64, by omega⟩ : Fin 64) (⟨l.val % 64, by omega⟩ : Fin 64)) : EReal)
      * (FloatOps.uitofp (F := Ideal) FTy.f32 (IntOp.cmpi CmpIPredicate.eq (IntOp.addi (BitVec.ofNat 32 (r.val / 64)) 0#32) (BitVec.ofNat 32 (l.val / 64))) : EReal)
      = if r.val / 64 = l.val / 64 then w4 (ix4 0 (⟨r.val / 64, by omega⟩ : Fin 8) (⟨r.val % 64, by omega⟩ : Fin 64) (⟨l.val % 64, by omega⟩ : Fin 64)) else (0 : EReal) := by
  rw [diag_entry (⟨r.val / 64, by omega⟩ : Fin 8) (⟨l.val / 64, by omega⟩ : Fin 8)]
  simp only [Fin.mk.injEq]

theorem in6 (t : Fin cfg0.N) : IsDiag (iblk m c 6 t) (wrA m c) := by
  intro r l
  rw [← diag_value]
  have e : (iblk m c 6 t (ix2 r l) : EReal) = V m c main_v16 (ix2 r l) := by
    blk_ext [iblk, idx0 t]
  refine e.trans ?_
  unfold V; after_reads_at

theorem in8 (t : Fin cfg0.N) : IsDiag (iblk m c 8 t) (wiA m c) := by
  intro r l
  rw [← diag_value]
  have e : (iblk m c 8 t (ix2 r l) : EReal) = V m c main_v32 (ix2 r l) := by
    blk_ext [iblk, idx0 t]
  refine e.trans ?_
  unfold V; after_reads_at

theorem conv_at (t : Fin cfg0.N) (b : Fin 128) (w : Fin 512) :
    (k0_pay4 (iblk m c 0 t) (k0_pay1 (iblk m c 2 t))
      (View.ld (iblk m c 4 t) (Rect.unit ![0, 0] ![1, 512] inb_S4x512_S1x512_0_0))
      (View.ld (iblk m c 4 t) (Rect.unit ![1, 0] ![1, 512] inb_S4x512_S1x512_1_0))
      (View.ld (iblk m c 4 t) (Rect.unit ![2, 0] ![1, 512] inb_S4x512_S1x512_2_0))
      (View.ld (iblk m c 4 t) (Rect.unit ![3, 0] ![1, 512] inb_S4x512_S1x512_3_0)) (iblk m c 5 t) (ix3 0 b w) : EReal)
      = convAt (xA m c) (pA m c) (cwA m c) (cbA m c) b w :=
  ker_conv (in0 m c t) (in2 m c t) (tap0 m c t) (tap1 m c t) (tap2 m c t) (tap3 m c t) (in5 m c t) b w

/-- The first result of the program's arguments. -/
def G11' : Vec Ideal S1x128x512 .f32 := fun i => newAt (xA m c) (pA m c) (cwA m c) (cbA m c) (brA m c) (biA m c) (lamA m c) (wrA m c) (wiA m c) (hA m c) (i 1) (i 2) * gelu (gA m c (ix3 0 (i 1) (i 2)))

/-- The second result of the program's arguments. -/
def G12' : Vec Ideal S3x128x512 .f32 := fun i => rowAt (xA m c) (pA m c) (i 0) (i 1) (i 2)

/-- The third result of the program's arguments. -/
def G13' : Vec Ideal S128x512 .f32 := fun i => newAt (xA m c) (pA m c) (cwA m c) (cbA m c) (brA m c) (biA m c) (lamA m c) (wrA m c) (wiA m c) (hA m c) (i 0) (i 1)

theorem arr11 : (dats m 0 c).arrAt 11 cfg0.N = G11' m c := by
  refine (dats m 0 c).arrAt_eq_of_covers 11 _ (by decide +kernel) fun t hf y => ?_
  rw [after0_11]
  unfold outsAt0
  frame_open
  simp (disch := decide) only [↓ View.readCov_skip, ↓ View.readCov_cons_toLoadRect, ↓ View.readCov_fill]
  frame_out
  blk_simp
  idx_vars y
  obtain rfl : y0 = 0 := Subsingleton.elim _ _
  refine Eq.trans ?_ (congrArg (G11' m c) (?_ : ix3 0 y1 y2 = _))
  · refine (ker_out _ _ (in1 m c t) y1 y2).trans (congrArg (· * _) ?_)
    exact ker_new (conv_at m c t) (in6 m c t) (in7 m c t) (in8 m c t) (in9 m c t) (in10 m c t) (in3 m c t) y1 y2
  · blk_ext [idx0 t]

theorem arr12 : (dats m 0 c).arrAt 12 cfg0.N = G12' m c := by
  refine (dats m 0 c).arrAt_eq_of_covers 12 _ (by decide +kernel) fun t hf y => ?_
  rw [after0_12]
  unfold outsAt0
  frame_open
  simp (disch := decide) only [↓ View.readCov_skip, ↓ View.readCov_cons_toLoadRect, ↓ View.readCov_fill]
  frame_out
  blk_simp
  idx_vars y
  refine Eq.trans ?_ (congrArg (G12' m c) (?_ : ix3 y0 y1 y2 = _))
  · exact ker_rows (in0 m c t) (in2 m c t) y0 y1 y2
  · blk_ext [idx0 t]

theorem arr13 : (dats m 0 c).arrAt 13 cfg0.N = G13' m c := by
  refine (dats m 0 c).arrAt_eq_of_covers 13 _ (by decide +kernel) fun t hf y => ?_
  rw [after0_13]
  unfold outsAt0
  frame_open
  simp (disch := decide) only [↓ View.readCov_skip, ↓ View.readCov_cons_toLoadRect, ↓ View.readCov_fill]
  frame_out
  blk_simp
  idx_vars y
  refine Eq.trans ?_ (congrArg (G13' m c) (?_ : ix2 y0 y1 = _))
  · exact ker_new (conv_at m c t) (in6 m c t) (in7 m c t) (in8 m c t) (in9 m c t) (in10 m c t) (in3 m c t) y0 y1
  · blk_ext [idx0 t]

end Blocks

/-- The reference runs, and its arguments end as they were. -/
theorem frame_ref : Cert.quiescent_RglruSRefIdeal := fun m ρ _ =>
  (θ_run Cert.RglruSRefIdeal.defs _ _).mono (fun r h => ⟨fun c => (h c).2.2.2, sem_eq_zero_of_no_sems (by decide) r.2⟩)
    (Cert.RglruSRefIdeal.Value.run (F := Ideal) m ρ)

theorem algebraic : Cert.algebraic_RglruSIdeal_RglruSRefIdeal := by
  intro m ρ m' ρ' _ hagree
  refine ⟨fun c => G11' m c, fun c => G12' m c, fun c => G13' m c, (θ_run _ _ _).mono (fun _ h c => ?_) (Value.run_blocks m ρ),
    (θ_run _ _ _).mono (fun _ h c => ?_) (Cert.RglruSRefIdeal.Value.run (F := Ideal) m' ρ')⟩
  · exact ⟨(h c).1.trans (arr11 m c), (h c).2.1.trans (arr12 m c), (h c).2.2.1.trans (arr13 m c), (h c).2.2.2⟩
  · obtain ⟨e0, e1, e2, e3, e4, e5, e6, e7, e8, e9, e10⟩ := hagree c
    refine ⟨(h c).1.trans ?_, (h c).2.1.trans ?_, (h c).2.2.1.trans ?_, (h c).2.2.2⟩
    · rw [val_main_v99_eq, e0, e1, e2, e3, e4, e5, e6, e7, e8, e9, e10]
      funext i
      idx_vars i
      obtain rfl : i0 = 0 := Subsingleton.elim _ _
      exact ref_out _ _ _ _ _ _ _ _ _ _ _ i1 i2
    · rw [val_main_v100_eq, e0, e2]
      funext i
      idx_vars i
      exact ref_rows _ _ i0 i1 i2
    · rw [val_main_v83_eq, e0, e2, e3, e4, e5, e6, e7, e8, e9, e10]
      funext i
      idx_vars i
      exact ref_new _ _ _ _ _ _ _ _ _ _ i0 i1

end Cert.RglruSIdeal.Gen
-- ==== Proof.S5SValue.lean ====
/- One step of the diagonal state space layer for the sample batch: what the kernel leaves, and the reference's results, are
   the same functions of the arguments. -/
module

public import proofs.«01_k».proof.Proof.Gen.S5SIdeal.Value
public import proofs.«01_k».proof.Proof.Gen.S5SRefIdeal.Read
public import Idealize.ShloMosaic.Lib.Pipeline.ValueKit
public import Idealize.ShloMosaic.Lib.StableHlo.ReadAt
public import Idealize.ShloMosaic.Lib.Pipeline.ReadBack
public import Idealize.ShloMosaic.Lib.Claim
public import Idealize.ShloMosaic.Lib.Quiescent
public import proofs.«01_k».proof.Proof.RglruMath
public import proofs.«01_k».proof.Defs

@[expose] public section

set_option maxRecDepth 16384

noncomputable section

namespace Cert.S5SIdeal.Gen

open Idealize.ShloMosaic Idealize.ShloMosaic.TcCoe Idealize.ShloMosaic.Tactic
open Cert.S5SRefIdeal.Read
open Idealize.SL.Sem

variable (u : Vec Ideal S1x128x512 .f32) (hr hi : Vec Ideal S128x2048 .f32) (a e : Vec Ideal S32x64 .f32) (br bi : Vec Ideal S32x1024 .f32)
  (cr ci : Vec Ideal S32x16x64 .f32) (d : Vec Ideal S512 .f32) (wg : Vec Ideal S512x512 .f32) (bg : Vec Ideal S512 .f32)

/-- A group's channels, taken to one of its states. -/
def inAt (bb : Vec Ideal S32x1024 .f32) (b : Fin 128) (g : Fin 32) (p : Fin 64) : EReal :=
  ∑ i : Fin 16, bb (ix2 g (⟨p.val * 16 + i.val, by omega⟩ : Fin 1024)) * u (ix3 0 b (⟨g.val * 16 + i.val, by omega⟩ : Fin 512))

/-- The real part of a state after the step. -/
def newRe (b : Fin 128) (g : Fin 32) (p : Fin 64) : EReal :=
  a (ix2 g p) * hr (ix2 b (⟨g.val * 64 + p.val, by omega⟩ : Fin 2048)) - e (ix2 g p) * hi (ix2 b (⟨g.val * 64 + p.val, by omega⟩ : Fin 2048)) + inAt u br b g p

/-- The imaginary part of a state after the step. -/
def newIm (b : Fin 128) (g : Fin 32) (p : Fin 64) : EReal :=
  a (ix2 g p) * hi (ix2 b (⟨g.val * 64 + p.val, by omega⟩ : Fin 2048)) + e (ix2 g p) * hr (ix2 b (⟨g.val * 64 + p.val, by omega⟩ : Fin 2048)) + inAt u bi b g p

/-- What a channel reads of its group's states. -/
def readAt (b : Fin 128) (g : Fin 32) (ch : Fin 16) : EReal :=
  ∑ p : Fin 64, cr (ix3 g ch p) * newRe u hr hi a e br b g p - ∑ p : Fin 64, ci (ix3 g ch p) * newIm u hr hi a e bi b g p

/-- The Gaussian error linear unit. -/
def gelu (y : EReal) : EReal :=
  y * (Ideal.ofBits FTy.f32 1056964608#32 * (1 + Ideal.tanh (Ideal.ofBits FTy.f32 1061962282#32 * (y + Ideal.ofBits FTy.f32 1027024659#32 * (y * y * y)))))

/-- A channel before its gate. -/
def actAt (b : Fin 128) (w : Fin 512) : EReal :=
  gelu (readAt u hr hi a e br bi cr ci b (⟨w.val / 16, by omega⟩ : Fin 32) (⟨w.val % 16, by omega⟩ : Fin 16) + d (ix1 w) * u (ix3 0 b w))

/-- A channel of the first result. -/
def outAt (b : Fin 128) (w : Fin 512) : EReal :=
  actAt u hr hi a e br bi cr ci d b w
    * Ideal.logistic (∑ r : Fin 512, actAt u hr hi a e br bi cr ci d b r * wg (ix2 r w) + bg (ix1 w))

/-! ## The reference -/

theorem ref_in_re (b : Fin 128) (g : Fin 32) (p : Fin 64) : (val_main_v4 u br (ix3 b g p) : EReal) = inAt u br b g p := by
  pointwise [val_main_v0, val_main_v1, val_main_v2, val_main_v3, val_main_v4]
  unfold inAt
  exact Finset.sum_congr rfl fun i _ => rfl

theorem ref_in_im (b : Fin 128) (g : Fin 32) (p : Fin 64) : (val_main_v7 u bi (ix3 b g p) : EReal) = inAt u bi b g p := by
  pointwise [val_main_v0, val_main_v1, val_main_v5, val_main_v6, val_main_v7]
  unfold inAt
  exact Finset.sum_congr rfl fun i _ => rfl

theorem ref_re (b : Fin 128) (g : Fin 32) (p : Fin 64) :
    (val_main_v17 u hr hi a e br (ix3 b g p) : EReal) = newRe u hr hi a e br b g p := by
  pointwise [val_main_v8, val_main_v9, val_main_v10, val_main_v11, val_main_v12, val_main_v13, val_main_v14, val_main_v15,
    val_main_v16, val_main_v17]
  rw [ref_in_re]
  rfl

theorem ref_im (b : Fin 128) (g : Fin 32) (p : Fin 64) :
    (val_main_v25 u hr hi a e bi (ix3 b g p) : EReal) = newIm u hr hi a e bi b g p := by
  pointwise [val_main_v8, val_main_v9, val_main_v18, val_main_v19, val_main_v20, val_main_v21, val_main_v22, val_main_v23,
    val_main_v24, val_main_v25]
  rw [ref_in_im]
  rfl

theorem ref_read (b : Fin 128) (g : Fin 32) (ch : Fin 16) :
    (val_main_v30 u hr hi a e br bi cr ci (ix3 b g ch) : EReal) = readAt u hr hi a e br bi cr ci b g ch := by
  pointwise [val_main_v26, val_main_v27, val_main_v28, val_main_v29, val_main_v30]
  simp only [ref_re, ref_im]
  rfl

theorem ref_act (b : Fin 128) (w : Fin 512) :
    (val_main_v49 u hr hi a e br bi cr ci d (ix2 b w) : EReal) = actAt u hr hi a e br bi cr ci d b w := by
  pointwise [val_main_v31, val_main_v32, val_main_v33, val_main_v34, val_main_v35, val_main_v36, val_main_v37, val_main_v38,
    val_main_cst, val_main_cst_apply, val_main_v39, val_main_v40, val_main_v41, val_main_cst_0, val_main_cst_0_apply,
    val_main_v42, val_main_v43, val_main_v44, val_main_cst_1, val_main_cst_1_apply, val_main_v45, val_main_v46, val_main_cst_2,
    val_main_cst_2_apply, val_main_v47, val_main_v48, val_main_v49]
  rw [ref_read]; rfl

theorem ref_out (b : Fin 128) (w : Fin 512) :
    (val_main_v61 u hr hi a e br bi cr ci d wg bg (ix3 0 b w) : EReal) = outAt u hr hi a e br bi cr ci d wg bg b w := by
  pointwise [val_main_v50, val_main_v51, val_main_v52, val_main_v53, val_main_v54, val_main_v55, val_main_cst_3, val_main_cst_3_apply,
    val_main_v56, val_main_v57, val_main_cst_4, val_main_cst_4_apply, val_main_v58, val_main_v59, val_main_v60, val_main_v61]
  unfold outAt Ideal.logistic
  simp only [ref_act]

theorem ref_out_re (b : Fin 128) (q : Fin 2048) :
    (val_main_v62 u hr hi a e br (ix2 b q) : EReal)
      = newRe u hr hi a e br b (⟨q.val / 64, by omega⟩ : Fin 32) (⟨q.val % 64, by omega⟩ : Fin 64) := by
  pointwise [val_main_v62]
  exact ref_re _ _ _ _ _ _ _ _ _

theorem ref_out_im (b : Fin 128) (q : Fin 2048) :
    (val_main_v63 u hr hi a e bi (ix2 b q) : EReal)
      = newIm u hr hi a e bi b (⟨q.val / 64, by omega⟩ : Fin 32) (⟨q.val % 64, by omega⟩ : Fin 64) := by
  pointwise [val_main_v63]
  exact ref_im _ _ _ _ _ _ _ _ _

/-! ## The packed matrices -/

/-- A chunk of the packed input matrix: block diagonal, a block a group. -/
def IsIn (k : ℕ) (hk : k < 4) (B : Vec Ideal S1x128x512 .bf16) (bb : Vec Ideal S32x1024 .f32) : Prop :=
  ∀ (r : Fin 128) (l : Fin 512), B (ix3 0 r l) = if r.val / 16 = l.val / 64 then
    bb (ix2 (⟨k * 8 + r.val / 16, by omega⟩ : Fin 32) (⟨l.val % 64 * 16 + r.val % 16, by omega⟩ : Fin 1024)) else (0 : EReal)

/-- A chunk of the packed output matrix: block diagonal, a block a group. -/
def IsOut (k : ℕ) (hk : k < 4) (C : Vec Ideal S1x512x128 .bf16) (cc : Vec Ideal S32x16x64 .f32) : Prop :=
  ∀ (l : Fin 512) (r : Fin 128), C (ix3 0 l r) = if l.val / 64 = r.val / 16 then
    cc (ix3 (⟨k * 8 + l.val / 64, by omega⟩ : Fin 32) (⟨r.val % 16, by omega⟩ : Fin 16) (⟨l.val % 64, by omega⟩ : Fin 64)) else (0 : EReal)

/-- A sum over the channels of a chunk that vanishes off one group. -/
theorem group_sum (f : Fin 128 → EReal) (q : Fin 8) (hf : ∀ x : Fin 128, x.val / 16 ≠ q.val → f x = 0) :
    ∑ x, f x = ∑ i : Fin 16, f ⟨q.val * 16 + i.val, by omega⟩ := by
  have e : ∑ x, f x = ∑ p : Fin 8 × Fin 16, f (finProdFinEquiv p) := (Equiv.sum_comp (finProdFinEquiv : Fin 8 × Fin 16 ≃ Fin 128) f).symm
  rw [e, Fintype.sum_prod_type, Finset.sum_eq_single q]
  · refine Finset.sum_congr rfl fun i _ => congrArg f (Fin.ext ?_)
    show i.val + 16 * q.val = q.val * 16 + i.val
    omega
  · intro b _ hb
    refine Finset.sum_eq_zero fun i _ => hf _ ?_
    show (i.val + 16 * b.val) / 16 ≠ _
    have : b.val ≠ q.val := fun h => hb (Fin.ext h)
    omega
  · intro h; exact absurd (Finset.mem_univ q) h

theorem in_sum {k : ℕ} {hk : k < 4} {B : Vec Ideal S1x128x512 .bf16} {bb : Vec Ideal S32x1024 .f32} (hB : IsIn k hk B bb) (b : Fin 128) (l : Fin 512) :
    ∑ r : Fin 128, (u (ix3 0 b (⟨k * 128 + r.val, by omega⟩ : Fin 512)) : EReal) * B (ix3 0 r l)
      = inAt u bb b (⟨k * 8 + l.val / 64, by omega⟩ : Fin 32) (⟨l.val % 64, by omega⟩ : Fin 64) := by
  rw [group_sum (fun r => (u (ix3 0 b (⟨k * 128 + r.val, by omega⟩ : Fin 512)) : EReal) * B (ix3 0 r l)) (⟨l.val / 64, by omega⟩ : Fin 8)]
  · refine Finset.sum_congr rfl fun i _ => ?_
    show (u _ : EReal) * B (ix3 0 _ l) = _
    rw [hB, if_pos (by show (l.val / 64 * 16 + i.val) / 16 = l.val / 64; omega), mul_comm]
    refine congrArg₂ (· * ·) (congrArg bb (congrArg₂ ix2 (Fin.ext ?_) (Fin.ext ?_))) (congrArg u (congrArg (ix3 0 b) (Fin.ext ?_)))
    · show k * 8 + (l.val / 64 * 16 + i.val) / 16 = k * 8 + l.val / 64; omega
    · show l.val % 64 * 16 + (l.val / 64 * 16 + i.val) % 16 = l.val % 64 * 16 + i.val; omega
    · show k * 128 + (l.val / 64 * 16 + i.val) = (k * 8 + l.val / 64) * 16 + i.val; omega
  · intro r hr
    show (u _ : EReal) * B (ix3 0 r l) = 0
    rw [hB, if_neg hr, mul_zero]

theorem out_sum {k : ℕ} {hk : k < 4} {C : Vec Ideal S1x512x128 .bf16} {cc : Vec Ideal S32x16x64 .f32} (hC : IsOut k hk C cc)
    (R : Vec Ideal S1x128x512 .f32) (b : Fin 128) (F : Fin 32 → Fin 64 → EReal)
    (hR : ∀ l : Fin 512, (R (ix3 0 b l) : EReal) = F (⟨k * 8 + l.val / 64, by omega⟩ : Fin 32) (⟨l.val % 64, by omega⟩ : Fin 64)) (r : Fin 128) :
    ∑ l : Fin 512, (R (ix3 0 b l) : EReal) * C (ix3 0 l r)
      = ∑ p : Fin 64, cc (ix3 (⟨k * 8 + r.val / 16, by omega⟩ : Fin 32) (⟨r.val % 16, by omega⟩ : Fin 16) p)
          * F (⟨k * 8 + r.val / 16, by omega⟩ : Fin 32) p := by
  rw [Cert.Rglru.block_sum (fun l => (R (ix3 0 b l) : EReal) * C (ix3 0 l r)) (⟨r.val / 16, by omega⟩ : Fin 8)]
  · refine Finset.sum_congr rfl fun p _ => ?_
    show (R (ix3 0 b _) : EReal) * C (ix3 0 _ r) = _
    have e1 : (⟨k * 8 + (r.val / 16 * 64 + p.val) / 64, by omega⟩ : Fin 32) = ⟨k * 8 + r.val / 16, by omega⟩ :=
      Fin.ext (by show k * 8 + (r.val / 16 * 64 + p.val) / 64 = k * 8 + r.val / 16; omega)
    have e2 : (⟨(r.val / 16 * 64 + p.val) % 64, by omega⟩ : Fin 64) = p :=
      Fin.ext (by show (r.val / 16 * 64 + p.val) % 64 = p.val; omega)
    rw [hC, hR, if_pos (by show (r.val / 16 * 64 + p.val) / 64 = r.val / 16; omega), mul_comm]
    show (cc (ix3 ⟨k * 8 + (r.val / 16 * 64 + p.val) / 64, _⟩ _ ⟨(r.val / 16 * 64 + p.val) % 64, _⟩) : EReal)
      * F ⟨k * 8 + (r.val / 16 * 64 + p.val) / 64, _⟩ ⟨(r.val / 16 * 64 + p.val) % 64, _⟩ = _
    rw [e1, e2]
  · intro l hl
    show (R _ : EReal) * C (ix3 0 l r) = 0
    rw [hC, if_neg hl, mul_zero]

/-! ## The kernel, a chunk at a time -/

section Chunk

variable (U : Vec Ideal S1x128x512 .f32) (A E : Vec Ideal S1x512 .f32) (P Q : Vec Ideal S128x512 .f32) (Z R I : Vec Ideal S1x128x512 .f32)
  (B : Vec Ideal S1x128x512 .bf16) (C D : Vec Ideal S1x512x128 .bf16)

theorem in_re0 (b : Fin 128) (l : Fin 512) : (k0_pay6 U B (ix3 0 b l) : EReal)
    = ∑ r : Fin 128, (U (ix3 0 b (⟨0 * 128 + r.val, by omega⟩ : Fin 512)) : EReal) * B (ix3 0 r l) := by
  pointwise [k0_pay6, k0_pay5, k0_pay4]

theorem in_im0 (b : Fin 128) (l : Fin 512) : (k0_pay7 U B (ix3 0 b l) : EReal)
    = ∑ r : Fin 128, (U (ix3 0 b (⟨0 * 128 + r.val, by omega⟩ : Fin 512)) : EReal) * B (ix3 0 r l) := by
  pointwise [k0_pay7, k0_pay5, k0_pay4]

theorem st_re0 (b : Fin 128) (l : Fin 512) : (k0_pay14 (k0_pay8 A) (k0_pay9 E) P Q Z (ix2 b l) : EReal)
    = (A (ix2 0 l) : EReal) * P (ix2 b l) - E (ix2 0 l) * Q (ix2 b l) + Z (ix3 0 b l) := by
  pointwise [k0_pay14, k0_pay10, k0_pay8, k0_pay9]

theorem row_re0 (b : Fin 128) (l : Fin 512) : (k0_pay12 (k0_pay8 A) (k0_pay9 E) P Q Z (ix3 0 b l) : EReal)
    = (A (ix2 0 l) : EReal) * P (ix2 b l) - E (ix2 0 l) * Q (ix2 b l) + Z (ix3 0 b l) := by
  pointwise [k0_pay12, k0_pay10, k0_pay8, k0_pay9]

theorem st_im0 (b : Fin 128) (l : Fin 512) : (k0_pay15 (k0_pay8 A) (k0_pay9 E) P Q Z (ix2 b l) : EReal)
    = (A (ix2 0 l) : EReal) * Q (ix2 b l) + E (ix2 0 l) * P (ix2 b l) + Z (ix3 0 b l) := by
  pointwise [k0_pay15, k0_pay11, k0_pay8, k0_pay9]

theorem row_im0 (b : Fin 128) (l : Fin 512) : (k0_pay13 (k0_pay8 A) (k0_pay9 E) P Q Z (ix3 0 b l) : EReal)
    = (A (ix2 0 l) : EReal) * Q (ix2 b l) + E (ix2 0 l) * P (ix2 b l) + Z (ix3 0 b l) := by
  pointwise [k0_pay13, k0_pay11, k0_pay8, k0_pay9]

theorem in_re1 (b : Fin 128) (l : Fin 512) : (k0_pay20 (k0_pay4 U) B (ix3 0 b l) : EReal)
    = ∑ r : Fin 128, (U (ix3 0 b (⟨1 * 128 + r.val, by omega⟩ : Fin 512)) : EReal) * B (ix3 0 r l) := by
  pointwise [k0_pay20, k0_pay19, k0_pay4]

theorem in_im1 (b : Fin 128) (l : Fin 512) : (k0_pay21 (k0_pay4 U) B (ix3 0 b l) : EReal)
    = ∑ r : Fin 128, (U (ix3 0 b (⟨1 * 128 + r.val, by omega⟩ : Fin 512)) : EReal) * B (ix3 0 r l) := by
  pointwise [k0_pay21, k0_pay19, k0_pay4]

theorem st_re1 (b : Fin 128) (l : Fin 512) : (k0_pay28 (k0_pay22 A) (k0_pay23 E) P Q Z (ix2 b l) : EReal)
    = (A (ix2 0 l) : EReal) * P (ix2 b l) - E (ix2 0 l) * Q (ix2 b l) + Z (ix3 0 b l) := by
  pointwise [k0_pay28, k0_pay24, k0_pay22, k0_pay23]

theorem row_re1 (b : Fin 128) (l : Fin 512) : (k0_pay26 (k0_pay22 A) (k0_pay23 E) P Q Z (ix3 0 b l) : EReal)
    = (A (ix2 0 l) : EReal) * P (ix2 b l) - E (ix2 0 l) * Q (ix2 b l) + Z (ix3 0 b l) := by
  pointwise [k0_pay26, k0_pay24, k0_pay22, k0_pay23]

theorem st_im1 (b : Fin 128) (l : Fin 512) : (k0_pay29 (k0_pay22 A) (k0_pay23 E) P Q Z (ix2 b l) : EReal)
    = (A (ix2 0 l) : EReal) * Q (ix2 b l) + E (ix2 0 l) * P (ix2 b l) + Z (ix3 0 b l) := by
  pointwise [k0_pay29, k0_pay25, k0_pay22, k0_pay23]

theorem row_im1 (b : Fin 128) (l : Fin 512) : (k0_pay27 (k0_pay22 A) (k0_pay23 E) P Q Z (ix3 0 b l) : EReal)
    = (A (ix2 0 l) : EReal) * Q (ix2 b l) + E (ix2 0 l) * P (ix2 b l) + Z (ix3 0 b l) := by
  pointwise [k0_pay27, k0_pay25, k0_pay22, k0_pay23]

theorem in_re2 (b : Fin 128) (l : Fin 512) : (k0_pay33 (k0_pay4 U) B (ix3 0 b l) : EReal)
    = ∑ r : Fin 128, (U (ix3 0 b (⟨2 * 128 + r.val, by omega⟩ : Fin 512)) : EReal) * B (ix3 0 r l) := by
  pointwise [k0_pay33, k0_pay32, k0_pay4]

theorem in_im2 (b : Fin 128) (l : Fin 512) : (k0_pay34 (k0_pay4 U) B (ix3 0 b l) : EReal)
    = ∑ r : Fin 128, (U (ix3 0 b (⟨2 * 128 + r.val, by omega⟩ : Fin 512)) : EReal) * B (ix3 0 r l) := by
  pointwise [k0_pay34, k0_pay32, k0_pay4]

theorem st_re2 (b : Fin 128) (l : Fin 512) : (k0_pay42 (k0_pay35 A) (k0_pay36 E) P Q Z (ix2 b l) : EReal)
    = (A (ix2 0 l) : EReal) * P (ix2 b l) - E (ix2 0 l) * Q (ix2 b l) + Z (ix3 0 b l) := by
  pointwise [k0_pay42, k0_pay38, k0_pay35, k0_pay36, k0_pay37]

theorem row_re2 (b : Fin 128) (l : Fin 512) : (k0_pay40 (k0_pay35 A) (k0_pay36 E) P Q Z (ix3 0 b l) : EReal)
    = (A (ix2 0 l) : EReal) * P (ix2 b l) - E (ix2 0 l) * Q (ix2 b l) + Z (ix3 0 b l) := by
  pointwise [k0_pay40, k0_pay38, k0_pay35, k0_pay36, k0_pay37]

theorem st_im2 (b : Fin 128) (l : Fin 512) : (k0_pay43 (k0_pay35 A) (k0_pay36 E) P Q Z (ix2 b l) : EReal)
    = (A (ix2 0 l) : EReal) * Q (ix2 b l) + E (ix2 0 l) * P (ix2 b l) + Z (ix3 0 b l) := by
  pointwise [k0_pay43, k0_pay39, k0_pay35, k0_pay36, k0_pay37]

theorem row_im2 (b : Fin 128) (l : Fin 512) : (k0_pay41 (k0_pay35 A) (k0_pay36 E) P Q Z (ix3 0 b l) : EReal)
    = (A (ix2 0 l) : EReal) * Q (ix2 b l) + E (ix2 0 l) * P (ix2 b l) + Z (ix3 0 b l) := by
  pointwise [k0_pay41, k0_pay39, k0_pay35, k0_pay36, k0_pay37]

theorem in_re3 (b : Fin 128) (l : Fin 512) : (k0_pay47 (k0_pay4 U) B (ix3 0 b l) : EReal)
    = ∑ r : Fin 128, (U (ix3 0 b (⟨3 * 128 + r.val, by omega⟩ : Fin 512)) : EReal) * B (ix3 0 r l) := by
  pointwise [k0_pay47, k0_pay46, k0_pay4]

theorem in_im3 (b : Fin 128) (l : Fin 512) : (k0_pay48 (k0_pay4 U) B (ix3 0 b l) : EReal)
    = ∑ r : Fin 128, (U (ix3 0 b (⟨3 * 128 + r.val, by omega⟩ : Fin 512)) : EReal) * B (ix3 0 r l) := by
  pointwise [k0_pay48, k0_pay46, k0_pay4]

theorem st_re3 (b : Fin 128) (l : Fin 512) : (k0_pay55 (k0_pay49 A) E P Q Z (ix2 b l) : EReal)
    = (A (ix2 0 l) : EReal) * P (ix2 b l) - E (ix2 0 l) * Q (ix2 b l) + Z (ix3 0 b l) := by
  pointwise [k0_pay55, k0_pay51, k0_pay49, k0_pay50]

theorem row_re3 (b : Fin 128) (l : Fin 512) : (k0_pay53 (k0_pay49 A) E P Q Z (ix3 0 b l) : EReal)
    = (A (ix2 0 l) : EReal) * P (ix2 b l) - E (ix2 0 l) * Q (ix2 b l) + Z (ix3 0 b l) := by
  pointwise [k0_pay53, k0_pay51, k0_pay49, k0_pay50]

theorem st_im3 (b : Fin 128) (l : Fin 512) : (k0_pay56 (k0_pay49 A) E P Q Z (ix2 b l) : EReal)
    = (A (ix2 0 l) : EReal) * Q (ix2 b l) + E (ix2 0 l) * P (ix2 b l) + Z (ix3 0 b l) := by
  pointwise [k0_pay56, k0_pay52, k0_pay49, k0_pay50]

theorem row_im3 (b : Fin 128) (l : Fin 512) : (k0_pay54 (k0_pay49 A) E P Q Z (ix3 0 b l) : EReal)
    = (A (ix2 0 l) : EReal) * Q (ix2 b l) + E (ix2 0 l) * P (ix2 b l) + Z (ix3 0 b l) := by
  pointwise [k0_pay54, k0_pay52, k0_pay49, k0_pay50]

theorem rd0 (b r : Fin 128) : (k0_pay18 (k0_pay16 R) (k0_pay17 I) C D (ix2 b r) : EReal)
    = ∑ l : Fin 512, (R (ix3 0 b l) : EReal) * C (ix3 0 l r) - ∑ l : Fin 512, (I (ix3 0 b l) : EReal) * D (ix3 0 l r) := by
  pointwise [k0_pay18, k0_pay16, k0_pay17]

theorem rd1 (b r : Fin 128) : (k0_pay31 (k0_pay30 R) I C D (ix2 b r) : EReal)
    = ∑ l : Fin 512, (R (ix3 0 b l) : EReal) * C (ix3 0 l r) - ∑ l : Fin 512, (I (ix3 0 b l) : EReal) * D (ix3 0 l r) := by
  pointwise [k0_pay31, k0_pay30]

theorem rd2 (b r : Fin 128) : (k0_pay45 (k0_pay44 R) I C D (ix2 b r) : EReal)
    = ∑ l : Fin 512, (R (ix3 0 b l) : EReal) * C (ix3 0 l r) - ∑ l : Fin 512, (I (ix3 0 b l) : EReal) * D (ix3 0 l r) := by
  pointwise [k0_pay45, k0_pay44]

theorem act_of (y0 y1 y2 : FVec Ideal S128x128 .f32) (dd : Vec Ideal S1x512 .f32) (b : Fin 128) (Y : Fin 512 → EReal)
    (h0 : ∀ r : Fin 128, (y0 (ix2 b r) : EReal) = Y ⟨r.val, by omega⟩) (h1 : ∀ r : Fin 128, (y1 (ix2 b r) : EReal) = Y ⟨128 + r.val, by omega⟩)
    (h2 : ∀ r : Fin 128, (y2 (ix2 b r) : EReal) = Y ⟨256 + r.val, by omega⟩)
    (h3 : ∀ r : Fin 128, ∑ l : Fin 512, (R (ix3 0 b l) : EReal) * C (ix3 0 l r) - ∑ l : Fin 512, (I (ix3 0 b l) : EReal) * D (ix3 0 l r) = Y ⟨384 + r.val, by omega⟩)
    (w : Fin 512) :
    (k0_pay57 (k0_pay4 U) y0 y1 y2 R I C D dd (ix2 b w) : EReal) = gelu (Y w + dd (ix2 0 w) * U (ix3 0 b w)) := by
  pointwise [k0_pay57, k0_pay4]
  by_cases c0 : w.val < 128
  · have q := h0 ⟨w.val, c0⟩
    simp only [dif_pos c0]
    rw [q]; rfl
  by_cases c1 : w.val - 128 < 128
  · have q := (h1 ⟨w.val - 128, c1⟩).trans (congrArg Y (Fin.ext (by show 128 + (w.val - 128) = w.val; omega) : _ = w))
    simp only [dif_neg c0, dif_pos c1]
    rw [q]; rfl
  by_cases c2 : w.val - 128 - 128 < 128
  · have q := (h2 ⟨w.val - 128 - 128, c2⟩).trans (congrArg Y (Fin.ext (by show 256 + (w.val - 128 - 128) = w.val; omega) : _ = w))
    simp only [dif_neg c0, dif_neg c1, dif_pos c2]
    rw [q]; rfl
  · have q := (h3 ⟨w.val - 128 - 128 - 128, by omega⟩).trans (congrArg Y (Fin.ext (by show 384 + (w.val - 128 - 128 - 128) = w.val; omega) : _ = w))
    simp only [dif_neg c0, dif_neg c1, dif_neg c2]
    rw [q]; rfl

theorem out_of (y0 y1 y2 : FVec Ideal S128x128 .f32) (dd bb : Vec Ideal S1x512 .f32) (G : Vec Ideal S512x512 .bf16) (b : Fin 128) (w : Fin 512) :
    (k0_pay1 (k0_pay57 (k0_pay4 U) y0 y1 y2 R I C D dd) (k0_pay58 (k0_pay4 U) y0 y1 y2 R I C D dd G) (k0_pay59 bb) (ix3 0 b w) : EReal)
      = k0_pay57 (k0_pay4 U) y0 y1 y2 R I C D dd (ix2 b w)
        * Ideal.logistic (∑ r : Fin 512, (k0_pay57 (k0_pay4 U) y0 y1 y2 R I C D dd (ix2 b r) : EReal) * G (ix2 r w) + bb (ix2 0 w)) := by
  pointwise [k0_pay1, k0_pay58, k0_pay59]

end Chunk

/-- Four chunks of columns, stored one beside another, hold `G` wherever each of them does. -/
theorem chunks4 (p0 p1 p2 p3 : Vec Ideal S128x512 .f32) (G : Vec Ideal S128x2048 .f32) (L : List (View.Piece (Elt Ideal) S128x2048 .f32))
    (h0 : ∀ b (l : Fin 512), p0 (ix2 b l) = G (ix2 b ⟨0 * 512 + l.val, by omega⟩))
    (h1 : ∀ b (l : Fin 512), p1 (ix2 b l) = G (ix2 b ⟨1 * 512 + l.val, by omega⟩))
    (h2 : ∀ b (l : Fin 512), p2 (ix2 b l) = G (ix2 b ⟨2 * 512 + l.val, by omega⟩))
    (h3 : ∀ b (l : Fin 512), p3 (ix2 b l) = G (ix2 b ⟨3 * 512 + l.val, by omega⟩)) (b : Fin 128) (l : Fin 2048) :
    View.canon ((⟨Rect.unit ![0, 1536] ![128, 512] inb_S128x2048_S128x512_0_1536, p3⟩ : View.Piece (Elt Ideal) S128x2048 .f32) :: ⟨Rect.unit ![0, 1024] ![128, 512] inb_S128x2048_S128x512_0_1024, p2⟩ :: ⟨Rect.unit ![0, 512] ![128, 512] inb_S128x2048_S128x512_0_512, p1⟩ :: ⟨Rect.unit ![0, 0] ![128, 512] inb_S128x2048_S128x512_0_0, p0⟩ :: L) (ix2 b l) = G (ix2 b l) := by
  refine View.canon_append_of_pieces G L [⟨Rect.unit ![0, 1536] ![128, 512] inb_S128x2048_S128x512_0_1536, p3⟩, ⟨Rect.unit ![0, 1024] ![128, 512] inb_S128x2048_S128x512_0_1024, p2⟩, ⟨Rect.unit ![0, 512] ![128, 512] inb_S128x2048_S128x512_0_512, p1⟩, ⟨Rect.unit ![0, 0] ![128, 512] inb_S128x2048_S128x512_0_0, p0⟩] ?_ (ix2 b l) ?_
  · intro pc hpc
    rcases List.mem_cons.mp hpc with rfl | hpc
    · intro (x : S128x512.Idx)
      idx_vars x
      refine (h3 x0 x1).trans (congrArg G ?_)
      refine funext fun a => Fin.ext ?_
      fin_cases a
      · show x0.val = 0 + 1 * x0.val; omega
      · show 3 * 512 + x1.val = 1536 + 1 * x1.val; omega
    rcases List.mem_cons.mp hpc with rfl | hpc
    · intro (x : S128x512.Idx)
      idx_vars x
      refine (h2 x0 x1).trans (congrArg G ?_)
      refine funext fun a => Fin.ext ?_
      fin_cases a
      · show x0.val = 0 + 1 * x0.val; omega
      · show 2 * 512 + x1.val = 1024 + 1 * x1.val; omega
    rcases List.mem_cons.mp hpc with rfl | hpc
    · intro (x : S128x512.Idx)
      idx_vars x
      refine (h1 x0 x1).trans (congrArg G ?_)
      refine funext fun a => Fin.ext ?_
      fin_cases a
      · show x0.val = 0 + 1 * x0.val; omega
      · show 1 * 512 + x1.val = 512 + 1 * x1.val; omega
    rcases List.mem_cons.mp hpc with rfl | hpc
    · intro (x : S128x512.Idx)
      idx_vars x
      refine (h0 x0 x1).trans (congrArg G ?_)
      refine funext fun a => Fin.ext ?_
      fin_cases a
      · show x0.val = 0 + 1 * x0.val; omega
      · show 0 * 512 + x1.val = 0 + 1 * x1.val; omega
    nomatch hpc
  · by_cases l3 : 1536 ≤ l.val
    · refine ⟨_, List.mem_cons_self, ?_⟩
      refine (LoadRect.mem_set _).mpr fun a => ?_
      fin_cases a
      · exact ⟨b.val, b.isLt, by show b.val = 0 + 1 * b.val; omega⟩
      · exact ⟨l.val - 1536, by show l.val - 1536 < 512; omega, by show l.val = 1536 + 1 * (l.val - 1536); omega⟩
    by_cases l2 : 1024 ≤ l.val
    · refine ⟨_, List.mem_cons_of_mem _ List.mem_cons_self, ?_⟩
      refine (LoadRect.mem_set _).mpr fun a => ?_
      fin_cases a
      · exact ⟨b.val, b.isLt, by show b.val = 0 + 1 * b.val; omega⟩
      · exact ⟨l.val - 1024, by show l.val - 1024 < 512; omega, by show l.val = 1024 + 1 * (l.val - 1024); omega⟩
    by_cases l1 : 512 ≤ l.val
    · refine ⟨_, List.mem_cons_of_mem _ (List.mem_cons_of_mem _ List.mem_cons_self), ?_⟩
      refine (LoadRect.mem_set _).mpr fun a => ?_
      fin_cases a
      · exact ⟨b.val, b.isLt, by show b.val = 0 + 1 * b.val; omega⟩
      · exact ⟨l.val - 512, by show l.val - 512 < 512; omega, by show l.val = 512 + 1 * (l.val - 512); omega⟩
    · refine ⟨_, List.mem_cons_of_mem _ (List.mem_cons_of_mem _ (List.mem_cons_of_mem _ List.mem_cons_self)), ?_⟩
      refine (LoadRect.mem_set _).mpr fun a => ?_
      fin_cases a
      · exact ⟨b.val, b.isLt, by show b.val = 0 + 1 * b.val; omega⟩
      · exact ⟨l.val - 0, by show l.val - 0 < 512; omega, by show l.val = 0 + 1 * (l.val - 0); omega⟩

section Blocks

variable (m : (ℓ : Loc nD τ sig) → Buf (Elt Ideal) ℓ) (c : Dev nD)

theorem idx0 : ∀ t : Fin grid0.N, win0_0.index t = ![0, 0, 0] ∧ win0_1.index t = ![0, 0] ∧ win0_2.index t = ![0, 0] ∧ win0_3.index t = ![0, 0]
    ∧ win0_4.index t = ![0, 0] ∧ win0_5.index t = ![0, 0, 0] ∧ win0_6.index t = ![0, 0, 0] ∧ win0_7.index t = ![0, 0, 0] ∧ win0_8.index t = ![0, 0, 0]
    ∧ win0_9.index t = ![0, 0] ∧ win0_10.index t = ![0, 0] ∧ win0_11.index t = ![0, 0] ∧ win0_12.index t = ![0, 0, 0]
    ∧ win0_13.index t = ![0, 0] ∧ win0_14.index t = ![0, 0] := by decide +kernel

abbrev uA : Vec Ideal S1x128x512 .f32 := m ((c.tc : Thread nD τ).loc main_arg0)
abbrev hrA : Vec Ideal S128x2048 .f32 := m ((c.tc : Thread nD τ).loc main_arg1)
abbrev hiA : Vec Ideal S128x2048 .f32 := m ((c.tc : Thread nD τ).loc main_arg2)
abbrev aA : Vec Ideal S32x64 .f32 := m ((c.tc : Thread nD τ).loc main_arg3)
abbrev eA : Vec Ideal S32x64 .f32 := m ((c.tc : Thread nD τ).loc main_arg4)
abbrev brA : Vec Ideal S32x1024 .f32 := m ((c.tc : Thread nD τ).loc main_arg5)
abbrev biA : Vec Ideal S32x1024 .f32 := m ((c.tc : Thread nD τ).loc main_arg6)
abbrev crA : Vec Ideal S32x16x64 .f32 := m ((c.tc : Thread nD τ).loc main_arg7)
abbrev ciA : Vec Ideal S32x16x64 .f32 := m ((c.tc : Thread nD τ).loc main_arg8)
abbrev dA : Vec Ideal S512 .f32 := m ((c.tc : Thread nD τ).loc main_arg9)
abbrev wgA : Vec Ideal S512x512 .f32 := m ((c.tc : Thread nD τ).loc main_arg10)
abbrev bgA : Vec Ideal S512 .f32 := m ((c.tc : Thread nD τ).loc main_arg11)

theorem in0 (t : Fin cfg0.N) (b : Fin 128) (w : Fin 512) : (iblk m c 0 t (ix3 0 b w) : EReal) = uA m c (ix3 0 b w) := by
  blk_ext [iblk, V, idx0 t]

theorem fill_re (t : Fin cfg0.N) (b : Fin 128) (q : Fin 2048) : (k0_pay2 (iblk m c 1 t) (ix2 b q) : EReal) = hrA m c (ix2 b q) := by
  pointwise [k0_pay2]
  blk_ext [iblk, V, idx0 t]

theorem fill_im (t : Fin cfg0.N) (b : Fin 128) (q : Fin 2048) : (k0_pay3 (iblk m c 2 t) (ix2 b q) : EReal) = hiA m c (ix2 b q) := by
  pointwise [k0_pay3]
  blk_ext [iblk, V, idx0 t]

theorem in3 (t : Fin cfg0.N) (q : Fin 2048) :
    (iblk m c 3 t (ix2 0 q) : EReal) = aA m c (ix2 (⟨q.val / 64, by omega⟩ : Fin 32) (⟨q.val % 64, by omega⟩ : Fin 64)) := by
  have h : (V m c main_v6 (ix2 0 q) : EReal) = aA m c (ix2 (⟨q.val / 64, by omega⟩ : Fin 32) (⟨q.val % 64, by omega⟩ : Fin 64)) := by
    unfold V; after_reads_at

  rw [← h]
  blk_ext [iblk, idx0 t]

theorem in4 (t : Fin cfg0.N) (q : Fin 2048) :
    (iblk m c 4 t (ix2 0 q) : EReal) = eA m c (ix2 (⟨q.val / 64, by omega⟩ : Fin 32) (⟨q.val % 64, by omega⟩ : Fin 64)) := by
  have h : (V m c main_v7 (ix2 0 q) : EReal) = eA m c (ix2 (⟨q.val / 64, by omega⟩ : Fin 32) (⟨q.val % 64, by omega⟩ : Fin 64)) := by
    unfold V; after_reads_at

  rw [← h]
  blk_ext [iblk, idx0 t]

theorem in9 (t : Fin cfg0.N) (q : Fin 512) : (iblk m c 9 t (ix2 0 q) : EReal) = dA m c (ix1 q) := by
  have h : (V m c main_v44 (ix2 0 q) : EReal) = dA m c (ix1 q) := by
    unfold V; after_reads_at

  rw [← h]
  blk_ext [iblk, idx0 t]

theorem in11 (t : Fin cfg0.N) (q : Fin 512) : (iblk m c 11 t (ix2 0 q) : EReal) = bgA m c (ix1 q) := by
  have h : (V m c main_v46 (ix2 0 q) : EReal) = bgA m c (ix1 q) := by
    unfold V; after_reads_at

  rw [← h]
  blk_ext [iblk, idx0 t]

theorem in10 (t : Fin cfg0.N) (r w : Fin 512) : (iblk m c 10 t (ix2 r w) : EReal) = wgA m c (ix2 r w) := by
  have h : (V m c main_v45 (ix2 r w) : EReal) = wgA m c (ix2 r w) := by
    unfold V; after_reads_at
  rw [← h]
  blk_ext [iblk, idx0 t]

theorem in5 (t : Fin cfg0.N) (k : Fin 4) (r : Fin 128) (l : Fin 512) :
    (iblk m c 5 t (ix3 k r l) : EReal) = if r.val / 16 = l.val / 64 then
      brA m c (ix2 (⟨k.val * 8 + r.val / 16, by omega⟩ : Fin 32) (⟨l.val % 64 * 16 + r.val % 16, by omega⟩ : Fin 1024)) else (0 : EReal) := by
  have h : (iblk m c 5 t (ix3 k r l) : EReal) = V m c main_v16 (ix3 k r l) := by
    blk_ext [iblk, idx0 t]
  refine h.trans ?_
  unfold V; after_reads_at
  exact (Cert.Rglru.diag_entry (⟨r.val / 16, by omega⟩ : Fin 8) (⟨l.val / 64, by omega⟩ : Fin 8) _).trans (by simp only [Fin.mk.injEq])

theorem in6 (t : Fin cfg0.N) (k : Fin 4) (r : Fin 128) (l : Fin 512) :
    (iblk m c 6 t (ix3 k r l) : EReal) = if r.val / 16 = l.val / 64 then
      biA m c (ix2 (⟨k.val * 8 + r.val / 16, by omega⟩ : Fin 32) (⟨l.val % 64 * 16 + r.val % 16, by omega⟩ : Fin 1024)) else (0 : EReal) := by
  have h : (iblk m c 6 t (ix3 k r l) : EReal) = V m c main_v25 (ix3 k r l) := by
    blk_ext [iblk, idx0 t]
  refine h.trans ?_
  unfold V; after_reads_at
  exact (Cert.Rglru.diag_entry (⟨r.val / 16, by omega⟩ : Fin 8) (⟨l.val / 64, by omega⟩ : Fin 8) _).trans (by simp only [Fin.mk.injEq])

theorem in7 (t : Fin cfg0.N) (k : Fin 4) (l : Fin 512) (r : Fin 128) :
    (iblk m c 7 t (ix3 k l r) : EReal) = if l.val / 64 = r.val / 16 then
      crA m c (ix3 (⟨k.val * 8 + l.val / 64, by omega⟩ : Fin 32) (⟨r.val % 16, by omega⟩ : Fin 16) (⟨l.val % 64, by omega⟩ : Fin 64)) else (0 : EReal) := by
  have h : (iblk m c 7 t (ix3 k l r) : EReal) = V m c main_v34 (ix3 k l r) := by
    blk_ext [iblk, idx0 t]
  refine h.trans ?_
  unfold V; after_reads_at
  exact (Cert.Rglru.diag_entry (⟨l.val / 64, by omega⟩ : Fin 8) (⟨r.val / 16, by omega⟩ : Fin 8) _).trans (by simp only [Fin.mk.injEq])

theorem in8 (t : Fin cfg0.N) (k : Fin 4) (l : Fin 512) (r : Fin 128) :
    (iblk m c 8 t (ix3 k l r) : EReal) = if l.val / 64 = r.val / 16 then
      ciA m c (ix3 (⟨k.val * 8 + l.val / 64, by omega⟩ : Fin 32) (⟨r.val % 16, by omega⟩ : Fin 16) (⟨l.val % 64, by omega⟩ : Fin 64)) else (0 : EReal) := by
  have h : (iblk m c 8 t (ix3 k l r) : EReal) = V m c main_v43 (ix3 k l r) := by
    blk_ext [iblk, idx0 t]
  refine h.trans ?_
  unfold V; after_reads_at
  exact (Cert.Rglru.diag_entry (⟨l.val / 64, by omega⟩ : Fin 8) (⟨r.val / 16, by omega⟩ : Fin 8) _).trans (by simp only [Fin.mk.injEq])

theorem ld3_0 (t : Fin cfg0.N) (l : Fin 512) :
    ((View.ld (iblk m c 3 t) (Rect.unit ![0, 0] ![1, 512] inb_S1x2048_S1x512_0_0)) (ix2 0 l) : EReal)
      = aA m c (ix2 (⟨0 * 8 + l.val / 64, by omega⟩ : Fin 32) (⟨l.val % 64, by omega⟩ : Fin 64)) := by
  refine (congrArg (iblk m c 3 t) (?_ : _ = ix2 0 (⟨0 * 512 + l.val, by omega⟩ : Fin 2048))).trans ((in3 m c t _).trans (congrArg (aA m c) (congrArg₂ ix2 (Fin.ext ?_) (Fin.ext ?_))))
  · refine funext fun a => Fin.ext ?_
    fin_cases a
    · show 0 + 1 * 0 = 0; omega
    · show 0 + 1 * l.val = 0 * 512 + l.val; omega
  · show (0 * 512 + l.val) / 64 = 0 * 8 + l.val / 64; omega
  · show (0 * 512 + l.val) % 64 = l.val % 64; omega

theorem ld4_0 (t : Fin cfg0.N) (l : Fin 512) :
    ((View.ld (iblk m c 4 t) (Rect.unit ![0, 0] ![1, 512] inb_S1x2048_S1x512_0_0)) (ix2 0 l) : EReal)
      = eA m c (ix2 (⟨0 * 8 + l.val / 64, by omega⟩ : Fin 32) (⟨l.val % 64, by omega⟩ : Fin 64)) := by
  refine (congrArg (iblk m c 4 t) (?_ : _ = ix2 0 (⟨0 * 512 + l.val, by omega⟩ : Fin 2048))).trans ((in4 m c t _).trans (congrArg (eA m c) (congrArg₂ ix2 (Fin.ext ?_) (Fin.ext ?_))))
  · refine funext fun a => Fin.ext ?_
    fin_cases a
    · show 0 + 1 * 0 = 0; omega
    · show 0 + 1 * l.val = 0 * 512 + l.val; omega
  · show (0 * 512 + l.val) / 64 = 0 * 8 + l.val / 64; omega
  · show (0 * 512 + l.val) % 64 = l.val % 64; omega

theorem ld5_0 (t : Fin cfg0.N) : IsIn 0 (by omega) (View.ld (iblk m c 5 t) (Rect.unit ![0, 0, 0] ![1, 128, 512] inb_S4x128x512_S1x128x512_0_0_0)) (brA m c) := by
  intro r l
  refine (congrArg (iblk m c 5 t) (?_ : _ = ix3 (0 : Fin 4) r l)).trans (in5 m c t 0 r l)
  refine funext fun a => Fin.ext ?_
  fin_cases a
  · rfl
  · show 0 + 1 * r.val = r.val; omega
  · show 0 + 1 * l.val = l.val; omega

theorem ld6_0 (t : Fin cfg0.N) : IsIn 0 (by omega) (View.ld (iblk m c 6 t) (Rect.unit ![0, 0, 0] ![1, 128, 512] inb_S4x128x512_S1x128x512_0_0_0)) (biA m c) := by
  intro r l
  refine (congrArg (iblk m c 6 t) (?_ : _ = ix3 (0 : Fin 4) r l)).trans (in6 m c t 0 r l)
  refine funext fun a => Fin.ext ?_
  fin_cases a
  · rfl
  · show 0 + 1 * r.val = r.val; omega
  · show 0 + 1 * l.val = l.val; omega

theorem ld7_0 (t : Fin cfg0.N) : IsOut 0 (by omega) (View.ld (iblk m c 7 t) (Rect.unit ![0, 0, 0] ![1, 512, 128] inb_S4x512x128_S1x512x128_0_0_0)) (crA m c) := by
  intro l r
  refine (congrArg (iblk m c 7 t) (?_ : _ = ix3 (0 : Fin 4) l r)).trans (in7 m c t 0 l r)
  refine funext fun a => Fin.ext ?_
  fin_cases a
  · rfl
  · show 0 + 1 * l.val = l.val; omega
  · show 0 + 1 * r.val = r.val; omega

theorem ld8_0 (t : Fin cfg0.N) : IsOut 0 (by omega) (View.ld (iblk m c 8 t) (Rect.unit ![0, 0, 0] ![1, 512, 128] inb_S4x512x128_S1x512x128_0_0_0)) (ciA m c) := by
  intro l r
  refine (congrArg (iblk m c 8 t) (?_ : _ = ix3 (0 : Fin 4) l r)).trans (in8 m c t 0 l r)
  refine funext fun a => Fin.ext ?_
  fin_cases a
  · rfl
  · show 0 + 1 * l.val = l.val; omega
  · show 0 + 1 * r.val = r.val; omega

theorem ldh_0 {Y h : Vec Ideal S128x2048 .f32} (hY : ∀ (b : Fin 128) (q : Fin 2048), (Y (ix2 b q) : EReal) = h (ix2 b q)) (b : Fin 128) (l : Fin 512) :
    ((View.ld Y (Rect.unit ![0, 0] ![128, 512] inb_S128x2048_S128x512_0_0)) (ix2 b l) : EReal)
      = h (ix2 b (⟨(0 * 8 + l.val / 64) * 64 + l.val % 64, by omega⟩ : Fin 2048)) := by
  refine (congrArg Y (?_ : _ = ix2 b (⟨(0 * 8 + l.val / 64) * 64 + l.val % 64, by omega⟩ : Fin 2048))).trans (hY b _)
  refine funext fun a => Fin.ext ?_
  fin_cases a
  · show 0 + 1 * b.val = b.val; omega
  · show 0 + 1 * l.val = (0 * 8 + l.val / 64) * 64 + l.val % 64; omega

theorem ld3_1 (t : Fin cfg0.N) (l : Fin 512) :
    ((View.ld (iblk m c 3 t) (Rect.unit ![0, 512] ![1, 512] inb_S1x2048_S1x512_0_512)) (ix2 0 l) : EReal)
      = aA m c (ix2 (⟨1 * 8 + l.val / 64, by omega⟩ : Fin 32) (⟨l.val % 64, by omega⟩ : Fin 64)) := by
  refine (congrArg (iblk m c 3 t) (?_ : _ = ix2 0 (⟨1 * 512 + l.val, by omega⟩ : Fin 2048))).trans ((in3 m c t _).trans (congrArg (aA m c) (congrArg₂ ix2 (Fin.ext ?_) (Fin.ext ?_))))
  · refine funext fun a => Fin.ext ?_
    fin_cases a
    · show 0 + 1 * 0 = 0; omega
    · show 512 + 1 * l.val = 1 * 512 + l.val; omega
  · show (1 * 512 + l.val) / 64 = 1 * 8 + l.val / 64; omega
  · show (1 * 512 + l.val) % 64 = l.val % 64; omega

theorem ld4_1 (t : Fin cfg0.N) (l : Fin 512) :
    ((View.ld (iblk m c 4 t) (Rect.unit ![0, 512] ![1, 512] inb_S1x2048_S1x512_0_512)) (ix2 0 l) : EReal)
      = eA m c (ix2 (⟨1 * 8 + l.val / 64, by omega⟩ : Fin 32) (⟨l.val % 64, by omega⟩ : Fin 64)) := by
  refine (congrArg (iblk m c 4 t) (?_ : _ = ix2 0 (⟨1 * 512 + l.val, by omega⟩ : Fin 2048))).trans ((in4 m c t _).trans (congrArg (eA m c) (congrArg₂ ix2 (Fin.ext ?_) (Fin.ext ?_))))
  · refine funext fun a => Fin.ext ?_
    fin_cases a
    · show 0 + 1 * 0 = 0; omega
    · show 512 + 1 * l.val = 1 * 512 + l.val; omega
  · show (1 * 512 + l.val) / 64 = 1 * 8 + l.val / 64; omega
  · show (1 * 512 + l.val) % 64 = l.val % 64; omega

theorem ld5_1 (t : Fin cfg0.N) : IsIn 1 (by omega) (View.ld (iblk m c 5 t) (Rect.unit ![1, 0, 0] ![1, 128, 512] inb_S4x128x512_S1x128x512_1_0_0)) (brA m c) := by
  intro r l
  refine (congrArg (iblk m c 5 t) (?_ : _ = ix3 (1 : Fin 4) r l)).trans (in5 m c t 1 r l)
  refine funext fun a => Fin.ext ?_
  fin_cases a
  · rfl
  · show 0 + 1 * r.val = r.val; omega
  · show 0 + 1 * l.val = l.val; omega

theorem ld6_1 (t : Fin cfg0.N) : IsIn 1 (by omega) (View.ld (iblk m c 6 t) (Rect.unit ![1, 0, 0] ![1, 128, 512] inb_S4x128x512_S1x128x512_1_0_0)) (biA m c) := by
  intro r l
  refine (congrArg (iblk m c 6 t) (?_ : _ = ix3 (1 : Fin 4) r l)).trans (in6 m c t 1 r l)
  refine funext fun a => Fin.ext ?_
  fin_cases a
  · rfl
  · show 0 + 1 * r.val = r.val; omega
  · show 0 + 1 * l.val = l.val; omega

theorem ld7_1 (t : Fin cfg0.N) : IsOut 1 (by omega) (View.ld (iblk m c 7 t) (Rect.unit ![1, 0, 0] ![1, 512, 128] inb_S4x512x128_S1x512x128_1_0_0)) (crA m c) := by
  intro l r
  refine (congrArg (iblk m c 7 t) (?_ : _ = ix3 (1 : Fin 4) l r)).trans (in7 m c t 1 l r)
  refine funext fun a => Fin.ext ?_
  fin_cases a
  · rfl
  · show 0 + 1 * l.val = l.val; omega
  · show 0 + 1 * r.val = r.val; omega

theorem ld8_1 (t : Fin cfg0.N) : IsOut 1 (by omega) (View.ld (iblk m c 8 t) (Rect.unit ![1, 0, 0] ![1, 512, 128] inb_S4x512x128_S1x512x128_1_0_0)) (ciA m c) := by
  intro l r
  refine (congrArg (iblk m c 8 t) (?_ : _ = ix3 (1 : Fin 4) l r)).trans (in8 m c t 1 l r)
  refine funext fun a => Fin.ext ?_
  fin_cases a
  · rfl
  · show 0 + 1 * l.val = l.val; omega
  · show 0 + 1 * r.val = r.val; omega

theorem ldh_1 {Y h : Vec Ideal S128x2048 .f32} (hY : ∀ (b : Fin 128) (q : Fin 2048), (Y (ix2 b q) : EReal) = h (ix2 b q)) (b : Fin 128) (l : Fin 512) :
    ((View.ld Y (Rect.unit ![0, 512] ![128, 512] inb_S128x2048_S128x512_0_512)) (ix2 b l) : EReal)
      = h (ix2 b (⟨(1 * 8 + l.val / 64) * 64 + l.val % 64, by omega⟩ : Fin 2048)) := by
  refine (congrArg Y (?_ : _ = ix2 b (⟨(1 * 8 + l.val / 64) * 64 + l.val % 64, by omega⟩ : Fin 2048))).trans (hY b _)
  refine funext fun a => Fin.ext ?_
  fin_cases a
  · show 0 + 1 * b.val = b.val; omega
  · show 512 + 1 * l.val = (1 * 8 + l.val / 64) * 64 + l.val % 64; omega

theorem ld3_2 (t : Fin cfg0.N) (l : Fin 512) :
    ((View.ld (iblk m c 3 t) (Rect.unit ![0, 1024] ![1, 512] inb_S1x2048_S1x512_0_1024)) (ix2 0 l) : EReal)
      = aA m c (ix2 (⟨2 * 8 + l.val / 64, by omega⟩ : Fin 32) (⟨l.val % 64, by omega⟩ : Fin 64)) := by
  refine (congrArg (iblk m c 3 t) (?_ : _ = ix2 0 (⟨2 * 512 + l.val, by omega⟩ : Fin 2048))).trans ((in3 m c t _).trans (congrArg (aA m c) (congrArg₂ ix2 (Fin.ext ?_) (Fin.ext ?_))))
  · refine funext fun a => Fin.ext ?_
    fin_cases a
    · show 0 + 1 * 0 = 0; omega
    · show 1024 + 1 * l.val = 2 * 512 + l.val; omega
  · show (2 * 512 + l.val) / 64 = 2 * 8 + l.val / 64; omega
  · show (2 * 512 + l.val) % 64 = l.val % 64; omega

theorem ld4_2 (t : Fin cfg0.N) (l : Fin 512) :
    ((View.ld (iblk m c 4 t) (Rect.unit ![0, 1024] ![1, 512] inb_S1x2048_S1x512_0_1024)) (ix2 0 l) : EReal)
      = eA m c (ix2 (⟨2 * 8 + l.val / 64, by omega⟩ : Fin 32) (⟨l.val % 64, by omega⟩ : Fin 64)) := by
  refine (congrArg (iblk m c 4 t) (?_ : _ = ix2 0 (⟨2 * 512 + l.val, by omega⟩ : Fin 2048))).trans ((in4 m c t _).trans (congrArg (eA m c) (congrArg₂ ix2 (Fin.ext ?_) (Fin.ext ?_))))
  · refine funext fun a => Fin.ext ?_
    fin_cases a
    · show 0 + 1 * 0 = 0; omega
    · show 1024 + 1 * l.val = 2 * 512 + l.val; omega
  · show (2 * 512 + l.val) / 64 = 2 * 8 + l.val / 64; omega
  · show (2 * 512 + l.val) % 64 = l.val % 64; omega

theorem ld5_2 (t : Fin cfg0.N) : IsIn 2 (by omega) (View.ld (iblk m c 5 t) (Rect.unit ![2, 0, 0] ![1, 128, 512] inb_S4x128x512_S1x128x512_2_0_0)) (brA m c) := by
  intro r l
  refine (congrArg (iblk m c 5 t) (?_ : _ = ix3 (2 : Fin 4) r l)).trans (in5 m c t 2 r l)
  refine funext fun a => Fin.ext ?_
  fin_cases a
  · rfl
  · show 0 + 1 * r.val = r.val; omega
  · show 0 + 1 * l.val = l.val; omega

theorem ld6_2 (t : Fin cfg0.N) : IsIn 2 (by omega) (View.ld (iblk m c 6 t) (Rect.unit ![2, 0, 0] ![1, 128, 512] inb_S4x128x512_S1x128x512_2_0_0)) (biA m c) := by
  intro r l
  refine (congrArg (iblk m c 6 t) (?_ : _ = ix3 (2 : Fin 4) r l)).trans (in6 m c t 2 r l)
  refine funext fun a => Fin.ext ?_
  fin_cases a
  · rfl
  · show 0 + 1 * r.val = r.val; omega
  · show 0 + 1 * l.val = l.val; omega

theorem ld7_2 (t : Fin cfg0.N) : IsOut 2 (by omega) (View.ld (iblk m c 7 t) (Rect.unit ![2, 0, 0] ![1, 512, 128] inb_S4x512x128_S1x512x128_2_0_0)) (crA m c) := by
  intro l r
  refine (congrArg (iblk m c 7 t) (?_ : _ = ix3 (2 : Fin 4) l r)).trans (in7 m c t 2 l r)
  refine funext fun a => Fin.ext ?_
  fin_cases a
  · rfl
  · show 0 + 1 * l.val = l.val; omega
  · show 0 + 1 * r.val = r.val; omega

theorem ld8_2 (t : Fin cfg0.N) : IsOut 2 (by omega) (View.ld (iblk m c 8 t) (Rect.unit ![2, 0, 0] ![1, 512, 128] inb_S4x512x128_S1x512x128_2_0_0)) (ciA m c) := by
  intro l r
  refine (congrArg (iblk m c 8 t) (?_ : _ = ix3 (2 : Fin 4) l r)).trans (in8 m c t 2 l r)
  refine funext fun a => Fin.ext ?_
  fin_cases a
  · rfl
  · show 0 + 1 * l.val = l.val; omega
  · show 0 + 1 * r.val = r.val; omega

theorem ldh_2 {Y h : Vec Ideal S128x2048 .f32} (hY : ∀ (b : Fin 128) (q : Fin 2048), (Y (ix2 b q) : EReal) = h (ix2 b q)) (b : Fin 128) (l : Fin 512) :
    ((View.ld Y (Rect.unit ![0, 1024] ![128, 512] inb_S128x2048_S128x512_0_1024)) (ix2 b l) : EReal)
      = h (ix2 b (⟨(2 * 8 + l.val / 64) * 64 + l.val % 64, by omega⟩ : Fin 2048)) := by
  refine (congrArg Y (?_ : _ = ix2 b (⟨(2 * 8 + l.val / 64) * 64 + l.val % 64, by omega⟩ : Fin 2048))).trans (hY b _)
  refine funext fun a => Fin.ext ?_
  fin_cases a
  · show 0 + 1 * b.val = b.val; omega
  · show 1024 + 1 * l.val = (2 * 8 + l.val / 64) * 64 + l.val % 64; omega

theorem ld3_3 (t : Fin cfg0.N) (l : Fin 512) :
    ((View.ld (iblk m c 3 t) (Rect.unit ![0, 1536] ![1, 512] inb_S1x2048_S1x512_0_1536)) (ix2 0 l) : EReal)
      = aA m c (ix2 (⟨3 * 8 + l.val / 64, by omega⟩ : Fin 32) (⟨l.val % 64, by omega⟩ : Fin 64)) := by
  refine (congrArg (iblk m c 3 t) (?_ : _ = ix2 0 (⟨3 * 512 + l.val, by omega⟩ : Fin 2048))).trans ((in3 m c t _).trans (congrArg (aA m c) (congrArg₂ ix2 (Fin.ext ?_) (Fin.ext ?_))))
  · refine funext fun a => Fin.ext ?_
    fin_cases a
    · show 0 + 1 * 0 = 0; omega
    · show 1536 + 1 * l.val = 3 * 512 + l.val; omega
  · show (3 * 512 + l.val) / 64 = 3 * 8 + l.val / 64; omega
  · show (3 * 512 + l.val) % 64 = l.val % 64; omega

theorem ld4_3 (t : Fin cfg0.N) (l : Fin 512) :
    ((View.ld (iblk m c 4 t) (Rect.unit ![0, 1536] ![1, 512] inb_S1x2048_S1x512_0_1536)) (ix2 0 l) : EReal)
      = eA m c (ix2 (⟨3 * 8 + l.val / 64, by omega⟩ : Fin 32) (⟨l.val % 64, by omega⟩ : Fin 64)) := by
  refine (congrArg (iblk m c 4 t) (?_ : _ = ix2 0 (⟨3 * 512 + l.val, by omega⟩ : Fin 2048))).trans ((in4 m c t _).trans (congrArg (eA m c) (congrArg₂ ix2 (Fin.ext ?_) (Fin.ext ?_))))
  · refine funext fun a => Fin.ext ?_
    fin_cases a
    · show 0 + 1 * 0 = 0; omega
    · show 1536 + 1 * l.val = 3 * 512 + l.val; omega
  · show (3 * 512 + l.val) / 64 = 3 * 8 + l.val / 64; omega
  · show (3 * 512 + l.val) % 64 = l.val % 64; omega

theorem ld5_3 (t : Fin cfg0.N) : IsIn 3 (by omega) (View.ld (iblk m c 5 t) (Rect.unit ![3, 0, 0] ![1, 128, 512] inb_S4x128x512_S1x128x512_3_0_0)) (brA m c) := by
  intro r l
  refine (congrArg (iblk m c 5 t) (?_ : _ = ix3 (3 : Fin 4) r l)).trans (in5 m c t 3 r l)
  refine funext fun a => Fin.ext ?_
  fin_cases a
  · rfl
  · show 0 + 1 * r.val = r.val; omega
  · show 0 + 1 * l.val = l.val; omega

theorem ld6_3 (t : Fin cfg0.N) : IsIn 3 (by omega) (View.ld (iblk m c 6 t) (Rect.unit ![3, 0, 0] ![1, 128, 512] inb_S4x128x512_S1x128x512_3_0_0)) (biA m c) := by
  intro r l
  refine (congrArg (iblk m c 6 t) (?_ : _ = ix3 (3 : Fin 4) r l)).trans (in6 m c t 3 r l)
  refine funext fun a => Fin.ext ?_
  fin_cases a
  · rfl
  · show 0 + 1 * r.val = r.val; omega
  · show 0 + 1 * l.val = l.val; omega

theorem ld7_3 (t : Fin cfg0.N) : IsOut 3 (by omega) (View.ld (iblk m c 7 t) (Rect.unit ![3, 0, 0] ![1, 512, 128] inb_S4x512x128_S1x512x128_3_0_0)) (crA m c) := by
  intro l r
  refine (congrArg (iblk m c 7 t) (?_ : _ = ix3 (3 : Fin 4) l r)).trans (in7 m c t 3 l r)
  refine funext fun a => Fin.ext ?_
  fin_cases a
  · rfl
  · show 0 + 1 * l.val = l.val; omega
  · show 0 + 1 * r.val = r.val; omega

theorem ld8_3 (t : Fin cfg0.N) : IsOut 3 (by omega) (View.ld (iblk m c 8 t) (Rect.unit ![3, 0, 0] ![1, 512, 128] inb_S4x512x128_S1x512x128_3_0_0)) (ciA m c) := by
  intro l r
  refine (congrArg (iblk m c 8 t) (?_ : _ = ix3 (3 : Fin 4) l r)).trans (in8 m c t 3 l r)
  refine funext fun a => Fin.ext ?_
  fin_cases a
  · rfl
  · show 0 + 1 * l.val = l.val; omega
  · show 0 + 1 * r.val = r.val; omega

theorem ldh_3 {Y h : Vec Ideal S128x2048 .f32} (hY : ∀ (b : Fin 128) (q : Fin 2048), (Y (ix2 b q) : EReal) = h (ix2 b q)) (b : Fin 128) (l : Fin 512) :
    ((View.ld Y (Rect.unit ![0, 1536] ![128, 512] inb_S128x2048_S128x512_0_1536)) (ix2 b l) : EReal)
      = h (ix2 b (⟨(3 * 8 + l.val / 64) * 64 + l.val % 64, by omega⟩ : Fin 2048)) := by
  refine (congrArg Y (?_ : _ = ix2 b (⟨(3 * 8 + l.val / 64) * 64 + l.val % 64, by omega⟩ : Fin 2048))).trans (hY b _)
  refine funext fun a => Fin.ext ?_
  fin_cases a
  · show 0 + 1 * b.val = b.val; omega
  · show 1536 + 1 * l.val = (3 * 8 + l.val / 64) * 64 + l.val % 64; omega

variable {Y T : Vec Ideal S128x2048 .f32} (hY : ∀ (b : Fin 128) (q : Fin 2048), (Y (ix2 b q) : EReal) = hrA m c (ix2 b q))
  (hT : ∀ (b : Fin 128) (q : Fin 2048), (T (ix2 b q) : EReal) = hiA m c (ix2 b q))

include hY hT in
theorem st_re0_at (t : Fin cfg0.N) (b : Fin 128) (l : Fin 512) :
    (k0_pay14 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0))) (ix2 b l) : EReal)
      = newRe (uA m c) (hrA m c) (hiA m c) (aA m c) (eA m c) (brA m c) b (⟨0 * 8 + l.val / 64, by omega⟩ : Fin 32) (⟨l.val % 64, by omega⟩ : Fin 64) := by
  have hU : (k0_pay6 (iblk m c 0 t) (View.ld (iblk m c 5 t) (Rect.unit ![0, 0, 0] ![1, 128, 512] inb_S4x128x512_S1x128x512_0_0_0)) (ix3 0 b l) : EReal) = inAt (uA m c) (brA m c) b (⟨0 * 8 + l.val / 64, by omega⟩ : Fin 32) (⟨l.val % 64, by omega⟩ : Fin 64) := by
    rw [in_re0]
    simp only [in0 m c t]
    exact in_sum (uA m c) (ld5_0 m c t) b l
  rw [st_re0, hU, ld3_0, ld4_0, ldh_0 hY, ldh_0 hT]
  rfl

include hY hT in
theorem row_re0_at (t : Fin cfg0.N) (b : Fin 128) (l : Fin 512) :
    (k0_pay12 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0))) (ix3 0 b l) : EReal)
      = newRe (uA m c) (hrA m c) (hiA m c) (aA m c) (eA m c) (brA m c) b (⟨0 * 8 + l.val / 64, by omega⟩ : Fin 32) (⟨l.val % 64, by omega⟩ : Fin 64) := by
  have hU : (k0_pay6 (iblk m c 0 t) (View.ld (iblk m c 5 t) (Rect.unit ![0, 0, 0] ![1, 128, 512] inb_S4x128x512_S1x128x512_0_0_0)) (ix3 0 b l) : EReal) = inAt (uA m c) (brA m c) b (⟨0 * 8 + l.val / 64, by omega⟩ : Fin 32) (⟨l.val % 64, by omega⟩ : Fin 64) := by
    rw [in_re0]
    simp only [in0 m c t]
    exact in_sum (uA m c) (ld5_0 m c t) b l
  rw [row_re0, hU, ld3_0, ld4_0, ldh_0 hY, ldh_0 hT]
  rfl

include hY hT in
theorem st_im0_at (t : Fin cfg0.N) (b : Fin 128) (l : Fin 512) :
    (k0_pay15 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0))) (ix2 b l) : EReal)
      = newIm (uA m c) (hrA m c) (hiA m c) (aA m c) (eA m c) (biA m c) b (⟨0 * 8 + l.val / 64, by omega⟩ : Fin 32) (⟨l.val % 64, by omega⟩ : Fin 64) := by
  have hU : (k0_pay7 (iblk m c 0 t) (View.ld (iblk m c 6 t) (Rect.unit ![0, 0, 0] ![1, 128, 512] inb_S4x128x512_S1x128x512_0_0_0)) (ix3 0 b l) : EReal) = inAt (uA m c) (biA m c) b (⟨0 * 8 + l.val / 64, by omega⟩ : Fin 32) (⟨l.val % 64, by omega⟩ : Fin 64) := by
    rw [in_im0]
    simp only [in0 m c t]
    exact in_sum (uA m c) (ld6_0 m c t) b l
  rw [st_im0, hU, ld3_0, ld4_0, ldh_0 hT, ldh_0 hY]
  rfl

include hY hT in
theorem row_im0_at (t : Fin cfg0.N) (b : Fin 128) (l : Fin 512) :
    (k0_pay13 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0))) (ix3 0 b l) : EReal)
      = newIm (uA m c) (hrA m c) (hiA m c) (aA m c) (eA m c) (biA m c) b (⟨0 * 8 + l.val / 64, by omega⟩ : Fin 32) (⟨l.val % 64, by omega⟩ : Fin 64) := by
  have hU : (k0_pay7 (iblk m c 0 t) (View.ld (iblk m c 6 t) (Rect.unit ![0, 0, 0] ![1, 128, 512] inb_S4x128x512_S1x128x512_0_0_0)) (ix3 0 b l) : EReal) = inAt (uA m c) (biA m c) b (⟨0 * 8 + l.val / 64, by omega⟩ : Fin 32) (⟨l.val % 64, by omega⟩ : Fin 64) := by
    rw [in_im0]
    simp only [in0 m c t]
    exact in_sum (uA m c) (ld6_0 m c t) b l
  rw [row_im0, hU, ld3_0, ld4_0, ldh_0 hT, ldh_0 hY]
  rfl

include hY hT in
theorem st_re1_at (t : Fin cfg0.N) (b : Fin 128) (l : Fin 512) :
    (k0_pay28 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0))) (ix2 b l) : EReal)
      = newRe (uA m c) (hrA m c) (hiA m c) (aA m c) (eA m c) (brA m c) b (⟨1 * 8 + l.val / 64, by omega⟩ : Fin 32) (⟨l.val % 64, by omega⟩ : Fin 64) := by
  have hU : (k0_pay20 (k0_pay4 (iblk m c 0 t)) (View.ld (iblk m c 5 t) (Rect.unit ![1, 0, 0] ![1, 128, 512] inb_S4x128x512_S1x128x512_1_0_0)) (ix3 0 b l) : EReal) = inAt (uA m c) (brA m c) b (⟨1 * 8 + l.val / 64, by omega⟩ : Fin 32) (⟨l.val % 64, by omega⟩ : Fin 64) := by
    rw [in_re1]
    simp only [in0 m c t]
    exact in_sum (uA m c) (ld5_1 m c t) b l
  rw [st_re1, hU, ld3_1, ld4_1, ldh_1 hY, ldh_1 hT]
  rfl

include hY hT in
theorem row_re1_at (t : Fin cfg0.N) (b : Fin 128) (l : Fin 512) :
    (k0_pay26 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0))) (ix3 0 b l) : EReal)
      = newRe (uA m c) (hrA m c) (hiA m c) (aA m c) (eA m c) (brA m c) b (⟨1 * 8 + l.val / 64, by omega⟩ : Fin 32) (⟨l.val % 64, by omega⟩ : Fin 64) := by
  have hU : (k0_pay20 (k0_pay4 (iblk m c 0 t)) (View.ld (iblk m c 5 t) (Rect.unit ![1, 0, 0] ![1, 128, 512] inb_S4x128x512_S1x128x512_1_0_0)) (ix3 0 b l) : EReal) = inAt (uA m c) (brA m c) b (⟨1 * 8 + l.val / 64, by omega⟩ : Fin 32) (⟨l.val % 64, by omega⟩ : Fin 64) := by
    rw [in_re1]
    simp only [in0 m c t]
    exact in_sum (uA m c) (ld5_1 m c t) b l
  rw [row_re1, hU, ld3_1, ld4_1, ldh_1 hY, ldh_1 hT]
  rfl

include hY hT in
theorem st_im1_at (t : Fin cfg0.N) (b : Fin 128) (l : Fin 512) :
    (k0_pay29 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0))) (ix2 b l) : EReal)
      = newIm (uA m c) (hrA m c) (hiA m c) (aA m c) (eA m c) (biA m c) b (⟨1 * 8 + l.val / 64, by omega⟩ : Fin 32) (⟨l.val % 64, by omega⟩ : Fin 64) := by
  have hU : (k0_pay21 (k0_pay4 (iblk m c 0 t)) (View.ld (iblk m c 6 t) (Rect.unit ![1, 0, 0] ![1, 128, 512] inb_S4x128x512_S1x128x512_1_0_0)) (ix3 0 b l) : EReal) = inAt (uA m c) (biA m c) b (⟨1 * 8 + l.val / 64, by omega⟩ : Fin 32) (⟨l.val % 64, by omega⟩ : Fin 64) := by
    rw [in_im1]
    simp only [in0 m c t]
    exact in_sum (uA m c) (ld6_1 m c t) b l
  rw [st_im1, hU, ld3_1, ld4_1, ldh_1 hT, ldh_1 hY]
  rfl

include hY hT in
theorem row_im1_at (t : Fin cfg0.N) (b : Fin 128) (l : Fin 512) :
    (k0_pay27 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0))) (ix3 0 b l) : EReal)
      = newIm (uA m c) (hrA m c) (hiA m c) (aA m c) (eA m c) (biA m c) b (⟨1 * 8 + l.val / 64, by omega⟩ : Fin 32) (⟨l.val % 64, by omega⟩ : Fin 64) := by
  have hU : (k0_pay21 (k0_pay4 (iblk m c 0 t)) (View.ld (iblk m c 6 t) (Rect.unit ![1, 0, 0] ![1, 128, 512] inb_S4x128x512_S1x128x512_1_0_0)) (ix3 0 b l) : EReal) = inAt (uA m c) (biA m c) b (⟨1 * 8 + l.val / 64, by omega⟩ : Fin 32) (⟨l.val % 64, by omega⟩ : Fin 64) := by
    rw [in_im1]
    simp only [in0 m c t]
    exact in_sum (uA m c) (ld6_1 m c t) b l
  rw [row_im1, hU, ld3_1, ld4_1, ldh_1 hT, ldh_1 hY]
  rfl

include hY hT in
theorem st_re2_at (t : Fin cfg0.N) (b : Fin 128) (l : Fin 512) :
    (k0_pay42 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0))) (ix2 b l) : EReal)
      = newRe (uA m c) (hrA m c) (hiA m c) (aA m c) (eA m c) (brA m c) b (⟨2 * 8 + l.val / 64, by omega⟩ : Fin 32) (⟨l.val % 64, by omega⟩ : Fin 64) := by
  have hU : (k0_pay33 (k0_pay4 (iblk m c 0 t)) (View.ld (iblk m c 5 t) (Rect.unit ![2, 0, 0] ![1, 128, 512] inb_S4x128x512_S1x128x512_2_0_0)) (ix3 0 b l) : EReal) = inAt (uA m c) (brA m c) b (⟨2 * 8 + l.val / 64, by omega⟩ : Fin 32) (⟨l.val % 64, by omega⟩ : Fin 64) := by
    rw [in_re2]
    simp only [in0 m c t]
    exact in_sum (uA m c) (ld5_2 m c t) b l
  rw [st_re2, hU, ld3_2, ld4_2, ldh_2 hY, ldh_2 hT]
  rfl

include hY hT in
theorem row_re2_at (t : Fin cfg0.N) (b : Fin 128) (l : Fin 512) :
    (k0_pay40 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0))) (ix3 0 b l) : EReal)
      = newRe (uA m c) (hrA m c) (hiA m c) (aA m c) (eA m c) (brA m c) b (⟨2 * 8 + l.val / 64, by omega⟩ : Fin 32) (⟨l.val % 64, by omega⟩ : Fin 64) := by
  have hU : (k0_pay33 (k0_pay4 (iblk m c 0 t)) (View.ld (iblk m c 5 t) (Rect.unit ![2, 0, 0] ![1, 128, 512] inb_S4x128x512_S1x128x512_2_0_0)) (ix3 0 b l) : EReal) = inAt (uA m c) (brA m c) b (⟨2 * 8 + l.val / 64, by omega⟩ : Fin 32) (⟨l.val % 64, by omega⟩ : Fin 64) := by
    rw [in_re2]
    simp only [in0 m c t]
    exact in_sum (uA m c) (ld5_2 m c t) b l
  rw [row_re2, hU, ld3_2, ld4_2, ldh_2 hY, ldh_2 hT]
  rfl

include hY hT in
theorem st_im2_at (t : Fin cfg0.N) (b : Fin 128) (l : Fin 512) :
    (k0_pay43 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0))) (ix2 b l) : EReal)
      = newIm (uA m c) (hrA m c) (hiA m c) (aA m c) (eA m c) (biA m c) b (⟨2 * 8 + l.val / 64, by omega⟩ : Fin 32) (⟨l.val % 64, by omega⟩ : Fin 64) := by
  have hU : (k0_pay34 (k0_pay4 (iblk m c 0 t)) (View.ld (iblk m c 6 t) (Rect.unit ![2, 0, 0] ![1, 128, 512] inb_S4x128x512_S1x128x512_2_0_0)) (ix3 0 b l) : EReal) = inAt (uA m c) (biA m c) b (⟨2 * 8 + l.val / 64, by omega⟩ : Fin 32) (⟨l.val % 64, by omega⟩ : Fin 64) := by
    rw [in_im2]
    simp only [in0 m c t]
    exact in_sum (uA m c) (ld6_2 m c t) b l
  rw [st_im2, hU, ld3_2, ld4_2, ldh_2 hT, ldh_2 hY]
  rfl

include hY hT in
theorem row_im2_at (t : Fin cfg0.N) (b : Fin 128) (l : Fin 512) :
    (k0_pay41 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0))) (ix3 0 b l) : EReal)
      = newIm (uA m c) (hrA m c) (hiA m c) (aA m c) (eA m c) (biA m c) b (⟨2 * 8 + l.val / 64, by omega⟩ : Fin 32) (⟨l.val % 64, by omega⟩ : Fin 64) := by
  have hU : (k0_pay34 (k0_pay4 (iblk m c 0 t)) (View.ld (iblk m c 6 t) (Rect.unit ![2, 0, 0] ![1, 128, 512] inb_S4x128x512_S1x128x512_2_0_0)) (ix3 0 b l) : EReal) = inAt (uA m c) (biA m c) b (⟨2 * 8 + l.val / 64, by omega⟩ : Fin 32) (⟨l.val % 64, by omega⟩ : Fin 64) := by
    rw [in_im2]
    simp only [in0 m c t]
    exact in_sum (uA m c) (ld6_2 m c t) b l
  rw [row_im2, hU, ld3_2, ld4_2, ldh_2 hT, ldh_2 hY]
  rfl

include hY hT in
theorem st_re3_at (t : Fin cfg0.N) (b : Fin 128) (l : Fin 512) :
    (k0_pay55 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0))) (ix2 b l) : EReal)
      = newRe (uA m c) (hrA m c) (hiA m c) (aA m c) (eA m c) (brA m c) b (⟨3 * 8 + l.val / 64, by omega⟩ : Fin 32) (⟨l.val % 64, by omega⟩ : Fin 64) := by
  have hU : (k0_pay47 (k0_pay4 (iblk m c 0 t)) (View.ld (iblk m c 5 t) (Rect.unit ![3, 0, 0] ![1, 128, 512] inb_S4x128x512_S1x128x512_3_0_0)) (ix3 0 b l) : EReal) = inAt (uA m c) (brA m c) b (⟨3 * 8 + l.val / 64, by omega⟩ : Fin 32) (⟨l.val % 64, by omega⟩ : Fin 64) := by
    rw [in_re3]
    simp only [in0 m c t]
    exact in_sum (uA m c) (ld5_3 m c t) b l
  rw [st_re3, hU, ld3_3, ld4_3, ldh_3 hY, ldh_3 hT]
  rfl

include hY hT in
theorem row_re3_at (t : Fin cfg0.N) (b : Fin 128) (l : Fin 512) :
    (k0_pay53 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0))) (ix3 0 b l) : EReal)
      = newRe (uA m c) (hrA m c) (hiA m c) (aA m c) (eA m c) (brA m c) b (⟨3 * 8 + l.val / 64, by omega⟩ : Fin 32) (⟨l.val % 64, by omega⟩ : Fin 64) := by
  have hU : (k0_pay47 (k0_pay4 (iblk m c 0 t)) (View.ld (iblk m c 5 t) (Rect.unit ![3, 0, 0] ![1, 128, 512] inb_S4x128x512_S1x128x512_3_0_0)) (ix3 0 b l) : EReal) = inAt (uA m c) (brA m c) b (⟨3 * 8 + l.val / 64, by omega⟩ : Fin 32) (⟨l.val % 64, by omega⟩ : Fin 64) := by
    rw [in_re3]
    simp only [in0 m c t]
    exact in_sum (uA m c) (ld5_3 m c t) b l
  rw [row_re3, hU, ld3_3, ld4_3, ldh_3 hY, ldh_3 hT]
  rfl

include hY hT in
theorem st_im3_at (t : Fin cfg0.N) (b : Fin 128) (l : Fin 512) :
    (k0_pay56 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0))) (ix2 b l) : EReal)
      = newIm (uA m c) (hrA m c) (hiA m c) (aA m c) (eA m c) (biA m c) b (⟨3 * 8 + l.val / 64, by omega⟩ : Fin 32) (⟨l.val % 64, by omega⟩ : Fin 64) := by
  have hU : (k0_pay48 (k0_pay4 (iblk m c 0 t)) (View.ld (iblk m c 6 t) (Rect.unit ![3, 0, 0] ![1, 128, 512] inb_S4x128x512_S1x128x512_3_0_0)) (ix3 0 b l) : EReal) = inAt (uA m c) (biA m c) b (⟨3 * 8 + l.val / 64, by omega⟩ : Fin 32) (⟨l.val % 64, by omega⟩ : Fin 64) := by
    rw [in_im3]
    simp only [in0 m c t]
    exact in_sum (uA m c) (ld6_3 m c t) b l
  rw [st_im3, hU, ld3_3, ld4_3, ldh_3 hT, ldh_3 hY]
  rfl

include hY hT in
theorem row_im3_at (t : Fin cfg0.N) (b : Fin 128) (l : Fin 512) :
    (k0_pay54 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0))) (ix3 0 b l) : EReal)
      = newIm (uA m c) (hrA m c) (hiA m c) (aA m c) (eA m c) (biA m c) b (⟨3 * 8 + l.val / 64, by omega⟩ : Fin 32) (⟨l.val % 64, by omega⟩ : Fin 64) := by
  have hU : (k0_pay48 (k0_pay4 (iblk m c 0 t)) (View.ld (iblk m c 6 t) (Rect.unit ![3, 0, 0] ![1, 128, 512] inb_S4x128x512_S1x128x512_3_0_0)) (ix3 0 b l) : EReal) = inAt (uA m c) (biA m c) b (⟨3 * 8 + l.val / 64, by omega⟩ : Fin 32) (⟨l.val % 64, by omega⟩ : Fin 64) := by
    rw [in_im3]
    simp only [in0 m c t]
    exact in_sum (uA m c) (ld6_3 m c t) b l
  rw [row_im3, hU, ld3_3, ld4_3, ldh_3 hT, ldh_3 hY]
  rfl

/-- The first result of the program's arguments. -/
def G12' : Vec Ideal S1x128x512 .f32 := fun i => outAt (uA m c) (hrA m c) (hiA m c) (aA m c) (eA m c) (brA m c) (biA m c) (crA m c) (ciA m c) (dA m c) (wgA m c) (bgA m c) (i 1) (i 2)

/-- The second result of the program's arguments. -/
def G13' : Vec Ideal S128x2048 .f32 := fun i =>
  newRe (uA m c) (hrA m c) (hiA m c) (aA m c) (eA m c) (brA m c) (i 0) (⟨(i 1).val / 64, Nat.div_lt_of_lt_mul (i 1).isLt⟩ : Fin 32) (⟨(i 1).val % 64, Nat.mod_lt _ (by decide)⟩ : Fin 64)

include hY hT in
theorem list13 (t : Fin cfg0.N) (L : List (View.Piece (Elt Ideal) S128x2048 .f32)) (b : Fin 128) (l : Fin 2048) :
    View.canon ((⟨Rect.unit ![0, 1536] ![128, 512] inb_S128x2048_S128x512_0_1536, k0_pay55 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0)))⟩ : View.Piece (Elt Ideal) S128x2048 .f32)
      :: ⟨Rect.unit ![0, 1024] ![128, 512] inb_S128x2048_S128x512_0_1024, k0_pay42 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0)))⟩
      :: ⟨Rect.unit ![0, 512] ![128, 512] inb_S128x2048_S128x512_0_512, k0_pay28 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0)))⟩
      :: ⟨Rect.unit ![0, 0] ![128, 512] inb_S128x2048_S128x512_0_0, k0_pay14 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0)))⟩ :: L) (ix2 b l) = G13' m c (ix2 b l) := by
  refine chunks4 _ _ _ _ (G13' m c) L (fun b l => ?_) (fun b l => ?_) (fun b l => ?_) (fun b l => ?_) b l
  · refine (st_re0_at m c hY hT t b l).trans (congrArg₂ (newRe (uA m c) (hrA m c) (hiA m c) (aA m c) (eA m c) (brA m c) b) (Fin.ext ?_) (Fin.ext ?_))
    · show 0 * 8 + l.val / 64 = (0 * 512 + l.val) / 64; omega
    · show l.val % 64 = (0 * 512 + l.val) % 64; omega
  · refine (st_re1_at m c hY hT t b l).trans (congrArg₂ (newRe (uA m c) (hrA m c) (hiA m c) (aA m c) (eA m c) (brA m c) b) (Fin.ext ?_) (Fin.ext ?_))
    · show 1 * 8 + l.val / 64 = (1 * 512 + l.val) / 64; omega
    · show l.val % 64 = (1 * 512 + l.val) % 64; omega
  · refine (st_re2_at m c hY hT t b l).trans (congrArg₂ (newRe (uA m c) (hrA m c) (hiA m c) (aA m c) (eA m c) (brA m c) b) (Fin.ext ?_) (Fin.ext ?_))
    · show 2 * 8 + l.val / 64 = (2 * 512 + l.val) / 64; omega
    · show l.val % 64 = (2 * 512 + l.val) % 64; omega
  · refine (st_re3_at m c hY hT t b l).trans (congrArg₂ (newRe (uA m c) (hrA m c) (hiA m c) (aA m c) (eA m c) (brA m c) b) (Fin.ext ?_) (Fin.ext ?_))
    · show 3 * 8 + l.val / 64 = (3 * 512 + l.val) / 64; omega
    · show l.val % 64 = (3 * 512 + l.val) % 64; omega

/-- The third result of the program's arguments. -/
def G14' : Vec Ideal S128x2048 .f32 := fun i =>
  newIm (uA m c) (hrA m c) (hiA m c) (aA m c) (eA m c) (biA m c) (i 0) (⟨(i 1).val / 64, Nat.div_lt_of_lt_mul (i 1).isLt⟩ : Fin 32) (⟨(i 1).val % 64, Nat.mod_lt _ (by decide)⟩ : Fin 64)

include hY hT in
theorem list14 (t : Fin cfg0.N) (L : List (View.Piece (Elt Ideal) S128x2048 .f32)) (b : Fin 128) (l : Fin 2048) :
    View.canon ((⟨Rect.unit ![0, 1536] ![128, 512] inb_S128x2048_S128x512_0_1536, k0_pay56 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0)))⟩ : View.Piece (Elt Ideal) S128x2048 .f32)
      :: ⟨Rect.unit ![0, 1024] ![128, 512] inb_S128x2048_S128x512_0_1024, k0_pay43 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0)))⟩
      :: ⟨Rect.unit ![0, 512] ![128, 512] inb_S128x2048_S128x512_0_512, k0_pay29 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0)))⟩
      :: ⟨Rect.unit ![0, 0] ![128, 512] inb_S128x2048_S128x512_0_0, k0_pay15 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0)))⟩ :: L) (ix2 b l) = G14' m c (ix2 b l) := by
  refine chunks4 _ _ _ _ (G14' m c) L (fun b l => ?_) (fun b l => ?_) (fun b l => ?_) (fun b l => ?_) b l
  · refine (st_im0_at m c hY hT t b l).trans (congrArg₂ (newIm (uA m c) (hrA m c) (hiA m c) (aA m c) (eA m c) (biA m c) b) (Fin.ext ?_) (Fin.ext ?_))
    · show 0 * 8 + l.val / 64 = (0 * 512 + l.val) / 64; omega
    · show l.val % 64 = (0 * 512 + l.val) % 64; omega
  · refine (st_im1_at m c hY hT t b l).trans (congrArg₂ (newIm (uA m c) (hrA m c) (hiA m c) (aA m c) (eA m c) (biA m c) b) (Fin.ext ?_) (Fin.ext ?_))
    · show 1 * 8 + l.val / 64 = (1 * 512 + l.val) / 64; omega
    · show l.val % 64 = (1 * 512 + l.val) % 64; omega
  · refine (st_im2_at m c hY hT t b l).trans (congrArg₂ (newIm (uA m c) (hrA m c) (hiA m c) (aA m c) (eA m c) (biA m c) b) (Fin.ext ?_) (Fin.ext ?_))
    · show 2 * 8 + l.val / 64 = (2 * 512 + l.val) / 64; omega
    · show l.val % 64 = (2 * 512 + l.val) % 64; omega
  · refine (st_im3_at m c hY hT t b l).trans (congrArg₂ (newIm (uA m c) (hrA m c) (hiA m c) (aA m c) (eA m c) (biA m c) b) (Fin.ext ?_) (Fin.ext ?_))
    · show 3 * 8 + l.val / 64 = (3 * 512 + l.val) / 64; omega
    · show l.val % 64 = (3 * 512 + l.val) % 64; omega

include hY hT in
theorem read0_at (t : Fin cfg0.N) (b r : Fin 128) :
    ∑ l : Fin 512, ((k0_pay12 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0)))) (ix3 0 b l) : EReal) * (View.ld (iblk m c 7 t) (Rect.unit ![0, 0, 0] ![1, 512, 128] inb_S4x512x128_S1x512x128_0_0_0)) (ix3 0 l r)
      - ∑ l : Fin 512, ((k0_pay13 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0)))) (ix3 0 b l) : EReal) * (View.ld (iblk m c 8 t) (Rect.unit ![0, 0, 0] ![1, 512, 128] inb_S4x512x128_S1x512x128_0_0_0)) (ix3 0 l r)
      = readAt (uA m c) (hrA m c) (hiA m c) (aA m c) (eA m c) (brA m c) (biA m c) (crA m c) (ciA m c) b (⟨(r.val) / 16, by omega⟩ : Fin 32) (⟨(r.val) % 16, by omega⟩ : Fin 16) := by
  rw [out_sum (ld7_0 m c t) _ b (newRe (uA m c) (hrA m c) (hiA m c) (aA m c) (eA m c) (brA m c) b) (row_re0_at m c hY hT t b) r,
    out_sum (ld8_0 m c t) _ b (newIm (uA m c) (hrA m c) (hiA m c) (aA m c) (eA m c) (biA m c) b) (row_im0_at m c hY hT t b) r]
  refine congrArg₂ (readAt (uA m c) (hrA m c) (hiA m c) (aA m c) (eA m c) (brA m c) (biA m c) (crA m c) (ciA m c) b) (Fin.ext ?_) (Fin.ext ?_)
  · show 0 * 8 + r.val / 16 = (r.val) / 16; omega
  · show r.val % 16 = (r.val) % 16; omega

include hY hT in
theorem read1_at (t : Fin cfg0.N) (b r : Fin 128) :
    ∑ l : Fin 512, ((k0_pay26 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0)))) (ix3 0 b l) : EReal) * (View.ld (iblk m c 7 t) (Rect.unit ![1, 0, 0] ![1, 512, 128] inb_S4x512x128_S1x512x128_1_0_0)) (ix3 0 l r)
      - ∑ l : Fin 512, ((k0_pay27 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0)))) (ix3 0 b l) : EReal) * (View.ld (iblk m c 8 t) (Rect.unit ![1, 0, 0] ![1, 512, 128] inb_S4x512x128_S1x512x128_1_0_0)) (ix3 0 l r)
      = readAt (uA m c) (hrA m c) (hiA m c) (aA m c) (eA m c) (brA m c) (biA m c) (crA m c) (ciA m c) b (⟨(128 + r.val) / 16, by omega⟩ : Fin 32) (⟨(128 + r.val) % 16, by omega⟩ : Fin 16) := by
  rw [out_sum (ld7_1 m c t) _ b (newRe (uA m c) (hrA m c) (hiA m c) (aA m c) (eA m c) (brA m c) b) (row_re1_at m c hY hT t b) r,
    out_sum (ld8_1 m c t) _ b (newIm (uA m c) (hrA m c) (hiA m c) (aA m c) (eA m c) (biA m c) b) (row_im1_at m c hY hT t b) r]
  refine congrArg₂ (readAt (uA m c) (hrA m c) (hiA m c) (aA m c) (eA m c) (brA m c) (biA m c) (crA m c) (ciA m c) b) (Fin.ext ?_) (Fin.ext ?_)
  · show 1 * 8 + r.val / 16 = (128 + r.val) / 16; omega
  · show r.val % 16 = (128 + r.val) % 16; omega

include hY hT in
theorem read2_at (t : Fin cfg0.N) (b r : Fin 128) :
    ∑ l : Fin 512, ((k0_pay40 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0)))) (ix3 0 b l) : EReal) * (View.ld (iblk m c 7 t) (Rect.unit ![2, 0, 0] ![1, 512, 128] inb_S4x512x128_S1x512x128_2_0_0)) (ix3 0 l r)
      - ∑ l : Fin 512, ((k0_pay41 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0)))) (ix3 0 b l) : EReal) * (View.ld (iblk m c 8 t) (Rect.unit ![2, 0, 0] ![1, 512, 128] inb_S4x512x128_S1x512x128_2_0_0)) (ix3 0 l r)
      = readAt (uA m c) (hrA m c) (hiA m c) (aA m c) (eA m c) (brA m c) (biA m c) (crA m c) (ciA m c) b (⟨(256 + r.val) / 16, by omega⟩ : Fin 32) (⟨(256 + r.val) % 16, by omega⟩ : Fin 16) := by
  rw [out_sum (ld7_2 m c t) _ b (newRe (uA m c) (hrA m c) (hiA m c) (aA m c) (eA m c) (brA m c) b) (row_re2_at m c hY hT t b) r,
    out_sum (ld8_2 m c t) _ b (newIm (uA m c) (hrA m c) (hiA m c) (aA m c) (eA m c) (biA m c) b) (row_im2_at m c hY hT t b) r]
  refine congrArg₂ (readAt (uA m c) (hrA m c) (hiA m c) (aA m c) (eA m c) (brA m c) (biA m c) (crA m c) (ciA m c) b) (Fin.ext ?_) (Fin.ext ?_)
  · show 2 * 8 + r.val / 16 = (256 + r.val) / 16; omega
  · show r.val % 16 = (256 + r.val) % 16; omega

include hY hT in
theorem read3_at (t : Fin cfg0.N) (b r : Fin 128) :
    ∑ l : Fin 512, ((k0_pay53 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0)))) (ix3 0 b l) : EReal) * (View.ld (iblk m c 7 t) (Rect.unit ![3, 0, 0] ![1, 512, 128] inb_S4x512x128_S1x512x128_3_0_0)) (ix3 0 l r)
      - ∑ l : Fin 512, ((k0_pay54 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0)))) (ix3 0 b l) : EReal) * (View.ld (iblk m c 8 t) (Rect.unit ![3, 0, 0] ![1, 512, 128] inb_S4x512x128_S1x512x128_3_0_0)) (ix3 0 l r)
      = readAt (uA m c) (hrA m c) (hiA m c) (aA m c) (eA m c) (brA m c) (biA m c) (crA m c) (ciA m c) b (⟨(384 + r.val) / 16, by omega⟩ : Fin 32) (⟨(384 + r.val) % 16, by omega⟩ : Fin 16) := by
  rw [out_sum (ld7_3 m c t) _ b (newRe (uA m c) (hrA m c) (hiA m c) (aA m c) (eA m c) (brA m c) b) (row_re3_at m c hY hT t b) r,
    out_sum (ld8_3 m c t) _ b (newIm (uA m c) (hrA m c) (hiA m c) (aA m c) (eA m c) (biA m c) b) (row_im3_at m c hY hT t b) r]
  refine congrArg₂ (readAt (uA m c) (hrA m c) (hiA m c) (aA m c) (eA m c) (brA m c) (biA m c) (crA m c) (ciA m c) b) (Fin.ext ?_) (Fin.ext ?_)
  · show 3 * 8 + r.val / 16 = (384 + r.val) / 16; omega
  · show r.val % 16 = (384 + r.val) % 16; omega

include hY hT in
theorem act_at (t : Fin cfg0.N) (b : Fin 128) (w : Fin 512) :
    (k0_pay57 (k0_pay4 (iblk m c 0 t))
      (k0_pay18 (k0_pay16 (k0_pay12 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0))))) (k0_pay17 (k0_pay13 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0))))) (View.ld (iblk m c 7 t) (Rect.unit ![0, 0, 0] ![1, 512, 128] inb_S4x512x128_S1x512x128_0_0_0)) (View.ld (iblk m c 8 t) (Rect.unit ![0, 0, 0] ![1, 512, 128] inb_S4x512x128_S1x512x128_0_0_0)))
      (k0_pay31 (k0_pay30 (k0_pay26 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0))))) (k0_pay27 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0)))) (View.ld (iblk m c 7 t) (Rect.unit ![1, 0, 0] ![1, 512, 128] inb_S4x512x128_S1x512x128_1_0_0)) (View.ld (iblk m c 8 t) (Rect.unit ![1, 0, 0] ![1, 512, 128] inb_S4x512x128_S1x512x128_1_0_0)))
      (k0_pay45 (k0_pay44 (k0_pay40 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0))))) (k0_pay41 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0)))) (View.ld (iblk m c 7 t) (Rect.unit ![2, 0, 0] ![1, 512, 128] inb_S4x512x128_S1x512x128_2_0_0)) (View.ld (iblk m c 8 t) (Rect.unit ![2, 0, 0] ![1, 512, 128] inb_S4x512x128_S1x512x128_2_0_0)))
      (k0_pay53 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0)))) (k0_pay54 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0)))) (View.ld (iblk m c 7 t) (Rect.unit ![3, 0, 0] ![1, 512, 128] inb_S4x512x128_S1x512x128_3_0_0)) (View.ld (iblk m c 8 t) (Rect.unit ![3, 0, 0] ![1, 512, 128] inb_S4x512x128_S1x512x128_3_0_0)) (iblk m c 9 t) (ix2 b w) : EReal)
      = actAt (uA m c) (hrA m c) (hiA m c) (aA m c) (eA m c) (brA m c) (biA m c) (crA m c) (ciA m c) (dA m c) b w := by
  refine (act_of _ _ _ _ _ _ _ _ _ b (fun w => readAt (uA m c) (hrA m c) (hiA m c) (aA m c) (eA m c) (brA m c) (biA m c) (crA m c) (ciA m c) b (⟨w.val / 16, by omega⟩ : Fin 32) (⟨w.val % 16, by omega⟩ : Fin 16))
    (fun r => (rd0 _ _ _ _ b r).trans (read0_at m c hY hT t b r))
    (fun r => (rd1 _ _ _ _ b r).trans (read1_at m c hY hT t b r))
    (fun r => (rd2 _ _ _ _ b r).trans (read2_at m c hY hT t b r))
    (fun r => read3_at m c hY hT t b r) w).trans ?_
  rw [in9, in0]
  rfl

include hY hT in
theorem out_at (t : Fin cfg0.N) (b : Fin 128) (w : Fin 512) :
    (k0_pay1 (k0_pay57 (k0_pay4 (iblk m c 0 t))
      (k0_pay18 (k0_pay16 (k0_pay12 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0))))) (k0_pay17 (k0_pay13 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0))))) (View.ld (iblk m c 7 t) (Rect.unit ![0, 0, 0] ![1, 512, 128] inb_S4x512x128_S1x512x128_0_0_0)) (View.ld (iblk m c 8 t) (Rect.unit ![0, 0, 0] ![1, 512, 128] inb_S4x512x128_S1x512x128_0_0_0)))
      (k0_pay31 (k0_pay30 (k0_pay26 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0))))) (k0_pay27 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0)))) (View.ld (iblk m c 7 t) (Rect.unit ![1, 0, 0] ![1, 512, 128] inb_S4x512x128_S1x512x128_1_0_0)) (View.ld (iblk m c 8 t) (Rect.unit ![1, 0, 0] ![1, 512, 128] inb_S4x512x128_S1x512x128_1_0_0)))
      (k0_pay45 (k0_pay44 (k0_pay40 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0))))) (k0_pay41 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0)))) (View.ld (iblk m c 7 t) (Rect.unit ![2, 0, 0] ![1, 512, 128] inb_S4x512x128_S1x512x128_2_0_0)) (View.ld (iblk m c 8 t) (Rect.unit ![2, 0, 0] ![1, 512, 128] inb_S4x512x128_S1x512x128_2_0_0)))
      (k0_pay53 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0)))) (k0_pay54 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0)))) (View.ld (iblk m c 7 t) (Rect.unit ![3, 0, 0] ![1, 512, 128] inb_S4x512x128_S1x512x128_3_0_0)) (View.ld (iblk m c 8 t) (Rect.unit ![3, 0, 0] ![1, 512, 128] inb_S4x512x128_S1x512x128_3_0_0)) (iblk m c 9 t))
      (k0_pay58 (k0_pay4 (iblk m c 0 t))
      (k0_pay18 (k0_pay16 (k0_pay12 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay6 (iblk m c 0 t) (View.ld (iblk m c 5 t) (Rect.unit ![0, 0, 0] ![1, 128, 512] inb_S4x128x512_S1x128x512_0_0_0))))) (k0_pay17 (k0_pay13 (k0_pay8 (View.ld (iblk m c 3 t) (Rect.unit ![0, 0] ![1, 512] inb_S1x2048_S1x512_0_0))) (k0_pay9 (View.ld (iblk m c 4 t) (Rect.unit ![0, 0] ![1, 512] inb_S1x2048_S1x512_0_0))) (View.ld Y (Rect.unit ![0, 0] ![128, 512] inb_S128x2048_S128x512_0_0)) (View.ld T (Rect.unit ![0, 0] ![128, 512] inb_S128x2048_S128x512_0_0)) (k0_pay7 (iblk m c 0 t) (View.ld (iblk m c 6 t) (Rect.unit ![0, 0, 0] ![1, 128, 512] inb_S4x128x512_S1x128x512_0_0_0))))) (View.ld (iblk m c 7 t) (Rect.unit ![0, 0, 0] ![1, 512, 128] inb_S4x512x128_S1x512x128_0_0_0)) (View.ld (iblk m c 8 t) (Rect.unit ![0, 0, 0] ![1, 512, 128] inb_S4x512x128_S1x512x128_0_0_0)))
      (k0_pay31 (k0_pay30 (k0_pay26 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay20 (k0_pay4 (iblk m c 0 t)) (View.ld (iblk m c 5 t) (Rect.unit ![1, 0, 0] ![1, 128, 512] inb_S4x128x512_S1x128x512_1_0_0))))) (k0_pay27 (k0_pay22 (View.ld (iblk m c 3 t) (Rect.unit ![0, 512] ![1, 512] inb_S1x2048_S1x512_0_512))) (k0_pay23 (View.ld (iblk m c 4 t) (Rect.unit ![0, 512] ![1, 512] inb_S1x2048_S1x512_0_512))) (View.ld Y (Rect.unit ![0, 512] ![128, 512] inb_S128x2048_S128x512_0_512)) (View.ld T (Rect.unit ![0, 512] ![128, 512] inb_S128x2048_S128x512_0_512)) (k0_pay21 (k0_pay4 (iblk m c 0 t)) (View.ld (iblk m c 6 t) (Rect.unit ![1, 0, 0] ![1, 128, 512] inb_S4x128x512_S1x128x512_1_0_0)))) (View.ld (iblk m c 7 t) (Rect.unit ![1, 0, 0] ![1, 512, 128] inb_S4x512x128_S1x512x128_1_0_0)) (View.ld (iblk m c 8 t) (Rect.unit ![1, 0, 0] ![1, 512, 128] inb_S4x512x128_S1x512x128_1_0_0)))
      (k0_pay45 (k0_pay44 (k0_pay40 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay33 (k0_pay4 (iblk m c 0 t)) (View.ld (iblk m c 5 t) (Rect.unit ![2, 0, 0] ![1, 128, 512] inb_S4x128x512_S1x128x512_2_0_0))))) (k0_pay41 (k0_pay35 (View.ld (iblk m c 3 t) (Rect.unit ![0, 1024] ![1, 512] inb_S1x2048_S1x512_0_1024))) (k0_pay36 (View.ld (iblk m c 4 t) (Rect.unit ![0, 1024] ![1, 512] inb_S1x2048_S1x512_0_1024))) (View.ld Y (Rect.unit ![0, 1024] ![128, 512] inb_S128x2048_S128x512_0_1024)) (View.ld T (Rect.unit ![0, 1024] ![128, 512] inb_S128x2048_S128x512_0_1024)) (k0_pay34 (k0_pay4 (iblk m c 0 t)) (View.ld (iblk m c 6 t) (Rect.unit ![2, 0, 0] ![1, 128, 512] inb_S4x128x512_S1x128x512_2_0_0)))) (View.ld (iblk m c 7 t) (Rect.unit ![2, 0, 0] ![1, 512, 128] inb_S4x512x128_S1x512x128_2_0_0)) (View.ld (iblk m c 8 t) (Rect.unit ![2, 0, 0] ![1, 512, 128] inb_S4x512x128_S1x512x128_2_0_0)))
      (k0_pay53 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay47 (k0_pay4 (iblk m c 0 t)) (View.ld (iblk m c 5 t) (Rect.unit ![3, 0, 0] ![1, 128, 512] inb_S4x128x512_S1x128x512_3_0_0)))) (k0_pay54 (k0_pay49 (View.ld (iblk m c 3 t) (Rect.unit ![0, 1536] ![1, 512] inb_S1x2048_S1x512_0_1536))) (View.ld (iblk m c 4 t) (Rect.unit ![0, 1536] ![1, 512] inb_S1x2048_S1x512_0_1536)) (View.ld Y (Rect.unit ![0, 1536] ![128, 512] inb_S128x2048_S128x512_0_1536)) (View.ld T (Rect.unit ![0, 1536] ![128, 512] inb_S128x2048_S128x512_0_1536)) (k0_pay48 (k0_pay4 (iblk m c 0 t)) (View.ld (iblk m c 6 t) (Rect.unit ![3, 0, 0] ![1, 128, 512] inb_S4x128x512_S1x128x512_3_0_0)))) (View.ld (iblk m c 7 t) (Rect.unit ![3, 0, 0] ![1, 512, 128] inb_S4x512x128_S1x512x128_3_0_0)) (View.ld (iblk m c 8 t) (Rect.unit ![3, 0, 0] ![1, 512, 128] inb_S4x512x128_S1x512x128_3_0_0)) (iblk m c 9 t) (iblk m c 10 t)) (k0_pay59 (iblk m c 11 t)) (ix3 0 b w) : EReal)
      = G12' m c (ix3 0 b w) := by
  refine (out_of _ _ _ _ _ _ _ _ _ _ _ b w).trans ?_
  simp only [act_at m c hY hT t, in10, in11]
  rfl

theorem arr12 : (dats m 0 c).arrAt 12 cfg0.N = G12' m c := by
  refine (dats m 0 c).arrAt_eq_of_covers 12 _ (by decide +kernel) fun t hf y => ?_
  rw [after0_12]
  unfold outsAt0
  frame_open
  simp (disch := decide) only [↓ View.readCov_skip, ↓ View.readCov_cons_toLoadRect, ↓ View.readCov_fill]
  frame_out
  blk_simp
  idx_vars y
  obtain rfl : y0 = 0 := Subsingleton.elim _ _
  refine Eq.trans ?_ (congrArg (G12' m c) (?_ : ix3 0 y1 y2 = _))
  · exact out_at m c (fill_re m c t) (fill_im m c t) t y1 y2
  · blk_ext [idx0 t]

theorem arr13 : (dats m 0 c).arrAt 13 cfg0.N = G13' m c := by
  refine (dats m 0 c).arrAt_eq_of_covers 13 _ (by decide +kernel) fun t hf y => ?_
  rw [after0_13]
  unfold outsAt0
  frame_open
  simp (disch := decide) only [↓ View.readCov_skip, ↓ View.readCov_cons_toLoadRect, ↓ View.readCov_fill]
  frame_out
  blk_simp
  idx_vars y
  rw [View.readCov_eq_canon']
  refine Eq.trans ?_ (congrArg (G13' m c) (?_ : ix2 y0 y1 = _))
  · refine Eq.trans (congrArg (View.canon _) (?_ : _ = ix2 y0 y1)) (list13 m c (fill_re m c t) (fill_im m c t) t _ y0 y1)
    refine funext fun a => Fin.ext ?_
    fin_cases a
    · show 0 + 1 * y0.val = y0.val; omega
    · show 0 + 1 * y1.val = y1.val; omega
  · blk_ext [idx0 t]

theorem arr14 : (dats m 0 c).arrAt 14 cfg0.N = G14' m c := by
  refine (dats m 0 c).arrAt_eq_of_covers 14 _ (by decide +kernel) fun t hf y => ?_
  rw [after0_14]
  unfold outsAt0
  frame_open
  simp (disch := decide) only [↓ View.readCov_skip, ↓ View.readCov_cons_toLoadRect, ↓ View.readCov_fill]
  frame_out
  blk_simp
  idx_vars y
  rw [View.readCov_eq_canon']
  refine Eq.trans ?_ (congrArg (G14' m c) (?_ : ix2 y0 y1 = _))
  · refine Eq.trans (congrArg (View.canon _) (?_ : _ = ix2 y0 y1)) (list14 m c (fill_re m c t) (fill_im m c t) t _ y0 y1)
    refine funext fun a => Fin.ext ?_
    fin_cases a
    · show 0 + 1 * y0.val = y0.val; omega
    · show 0 + 1 * y1.val = y1.val; omega
  · blk_ext [idx0 t]

end Blocks

/-- The reference runs, and its arguments end as they were. -/
theorem frame_ref : Cert.quiescent_S5SRefIdeal := fun m ρ _ =>
  (θ_run Cert.S5SRefIdeal.defs _ _).mono (fun r h => ⟨fun c => (h c).2.2.2, sem_eq_zero_of_no_sems (by decide) r.2⟩)
    (Cert.S5SRefIdeal.Value.run (F := Ideal) m ρ)

theorem algebraic : Cert.algebraic_S5SIdeal_S5SRefIdeal := by
  intro m ρ m' ρ' _ hagree
  refine ⟨fun c => G12' m c, fun c => G13' m c, fun c => G14' m c, (θ_run _ _ _).mono (fun _ h c => ?_) (Value.run_blocks m ρ),
    (θ_run _ _ _).mono (fun _ h c => ?_) (Cert.S5SRefIdeal.Value.run (F := Ideal) m' ρ')⟩
  · exact ⟨(h c).1.trans (arr12 m c), (h c).2.1.trans (arr13 m c), (h c).2.2.1.trans (arr14 m c), (h c).2.2.2⟩
  · obtain ⟨e0, e1, e2, e3, e4, e5, e6, e7, e8, e9, e10, e11⟩ := hagree c
    refine ⟨(h c).1.trans ?_, (h c).2.1.trans ?_, (h c).2.2.1.trans ?_, (h c).2.2.2⟩
    · rw [val_main_v61_eq, e0, e1, e2, e3, e4, e5, e6, e7, e8, e9, e10, e11]
      funext i
      idx_vars i
      obtain rfl : i0 = 0 := Subsingleton.elim _ _
      exact ref_out _ _ _ _ _ _ _ _ _ _ _ _ i1 i2
    · rw [val_main_v62_eq, e0, e1, e2, e3, e4, e5]
      funext i
      idx_vars i
      exact ref_out_re _ _ _ _ _ _ i0 i1
    · rw [val_main_v63_eq, e0, e1, e2, e3, e4, e6]
      funext i
      idx_vars i
      exact ref_out_im _ _ _ _ _ _ i0 i1

end Cert.S5SIdeal.Gen
-- ==== Proof.lean ====
module

public import proofs.«01_k».proof.Defs
public import proofs.«01_k».proof.Proof.KernelRun
public import proofs.«01_k».proof.Proof.KernelIdealRun
public import proofs.«01_k».proof.Proof.RglruAlg
public import proofs.«01_k».proof.Proof.Gen.FfnUp.Frame
public import proofs.«01_k».proof.Proof.FfnUpValue
public import proofs.«01_k».proof.Proof.Gen.FfnDown.Frame
public import proofs.«01_k».proof.Proof.FfnDownValue
public import proofs.«01_k».proof.Proof.Gen.OutProj.Frame
public import proofs.«01_k».proof.Proof.OutProjValue
public import proofs.«01_k».proof.Proof.Gen.ProjAb.Frame
public import proofs.«01_k».proof.Proof.ProjAbValue
public import proofs.«01_k».proof.Proof.Gen.ProjCd.Frame
public import proofs.«01_k».proof.Proof.ProjCdValue
public import proofs.«01_k».proof.Proof.Gen.FfnUpS.Frame
public import proofs.«01_k».proof.Proof.FfnUpSValue
public import proofs.«01_k».proof.Proof.Gen.FfnDownS.Frame
public import proofs.«01_k».proof.Proof.FfnDownSValue
public import proofs.«01_k».proof.Proof.Gen.ProjAbS.Frame
public import proofs.«01_k».proof.Proof.ProjAbSValue
public import proofs.«01_k».proof.Proof.Gen.RglruS.Frame
public import proofs.«01_k».proof.Proof.RglruSValue
public import proofs.«01_k».proof.Proof.Gen.S5S.Frame
public import proofs.«01_k».proof.Proof.S5SValue
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.FfnUp.Gen.facts, Cert.FfnUpIdeal.Gen.facts, Cert.FfnUpRefIdeal.Gen.facts,
  Cert.FfnDown.Gen.facts, Cert.FfnDownIdeal.Gen.facts, Cert.FfnDownRefIdeal.Gen.facts,
  Cert.OutProj.Gen.facts, Cert.OutProjIdeal.Gen.facts, Cert.OutProjRefIdeal.Gen.facts,
  Cert.ProjAb.Gen.facts, Cert.ProjAbIdeal.Gen.facts, Cert.ProjAbRefIdeal.Gen.facts,
  Cert.ProjCd.Gen.facts, Cert.ProjCdIdeal.Gen.facts, Cert.ProjCdRefIdeal.Gen.facts,
  Cert.FfnUpS.Gen.facts, Cert.FfnUpSIdeal.Gen.facts, Cert.FfnUpSRefIdeal.Gen.facts,
  Cert.FfnDownS.Gen.facts, Cert.FfnDownSIdeal.Gen.facts, Cert.FfnDownSRefIdeal.Gen.facts,
  Cert.ProjAbS.Gen.facts, Cert.ProjAbSIdeal.Gen.facts, Cert.ProjAbSRefIdeal.Gen.facts,
  Cert.RglruS.Gen.facts, Cert.RglruSIdeal.Gen.facts, Cert.RglruSRefIdeal.Gen.facts,
  Cert.S5S.Gen.facts, Cert.S5SIdeal.Gen.facts, Cert.S5SRefIdeal.Gen.facts,
  fun m ρ _ => Cert.Kernel.Gen.frame m ρ, fun m ρ _ => Cert.KernelIdeal.Gen.frame m ρ, Cert.Rglru.frame_ref,
  fun m ρ _ => Cert.FfnUp.Gen.frame m ρ, fun m ρ _ => Cert.FfnUpIdeal.Gen.frame m ρ, Cert.FfnUpIdeal.Gen.frame_ref,
  fun m ρ _ => Cert.FfnDown.Gen.frame m ρ, fun m ρ _ => Cert.FfnDownIdeal.Gen.frame m ρ, Cert.FfnDownIdeal.Gen.frame_ref,
  fun m ρ _ => Cert.OutProj.Gen.frame m ρ, fun m ρ _ => Cert.OutProjIdeal.Gen.frame m ρ, Cert.OutProjIdeal.Gen.frame_ref,
  fun m ρ _ => Cert.ProjAb.Gen.frame m ρ, fun m ρ _ => Cert.ProjAbIdeal.Gen.frame m ρ, Cert.ProjAbIdeal.Gen.frame_ref,
  fun m ρ _ => Cert.ProjCd.Gen.frame m ρ, fun m ρ _ => Cert.ProjCdIdeal.Gen.frame m ρ, Cert.ProjCdIdeal.Gen.frame_ref,
  fun m ρ _ => Cert.FfnUpS.Gen.frame m ρ, fun m ρ _ => Cert.FfnUpSIdeal.Gen.frame m ρ, Cert.FfnUpSIdeal.Gen.frame_ref,
  fun m ρ _ => Cert.FfnDownS.Gen.frame m ρ, fun m ρ _ => Cert.FfnDownSIdeal.Gen.frame m ρ, Cert.FfnDownSIdeal.Gen.frame_ref,
  fun m ρ _ => Cert.ProjAbS.Gen.frame m ρ, fun m ρ _ => Cert.ProjAbSIdeal.Gen.frame m ρ, Cert.ProjAbSIdeal.Gen.frame_ref,
  fun m ρ _ => Cert.RglruS.Gen.frame m ρ, fun m ρ _ => Cert.RglruSIdeal.Gen.frame m ρ, Cert.RglruSIdeal.Gen.frame_ref,
  fun m ρ _ => Cert.S5S.Gen.frame m ρ, fun m ρ _ => Cert.S5SIdeal.Gen.frame m ρ, Cert.S5SIdeal.Gen.frame_ref,
  trivial, Cert.Rglru.algebraic,
  trivial, Cert.FfnUpIdeal.Gen.algebraic,
  trivial, Cert.FfnDownIdeal.Gen.algebraic,
  trivial, Cert.OutProjIdeal.Gen.algebraic,
  trivial, Cert.ProjAbIdeal.Gen.algebraic,
  trivial, Cert.ProjCdIdeal.Gen.algebraic,
  trivial, Cert.FfnUpSIdeal.Gen.algebraic,
  trivial, Cert.FfnDownSIdeal.Gen.algebraic,
  trivial, Cert.ProjAbSIdeal.Gen.algebraic,
  trivial, Cert.RglruSIdeal.Gen.algebraic,
  trivial, Cert.S5SIdeal.Gen.algebraic⟩

end Cert.Proof

end
